-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v309_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v309_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v47) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_v40) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v20) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v19) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2)) (v1 : (c : Dev Cert.Kernel13Ideal.nD) → Buf (Elt Ideal) ((c.tc : Thread Cert.Kernel13Ideal.nD Cert.Kernel13Ideal.τ).loc Cert.Kernel13Ideal.main_v0_0)) (v2 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_v0_0) = v1 c
          ∧ r.2.mem ((c.tc : Thread Cert.Kernel13Ideal.nD Cert.Kernel13Ideal.τ).loc Cert.Kernel13Ideal.main_v0_1) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_v18) = v1 c
          ∧ r.2.mem ((c.tc : Thread Cert.Reference13Ideal.nD Cert.Reference13Ideal.τ).loc Cert.Reference13Ideal.main_v19) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8192x8192 : Shape := ⟨2, ![8192, 8192]⟩
abbrev S1x16x513 : Shape := ⟨3, ![1, 16, 513]⟩
abbrev S1x128 : Shape := ⟨2, ![1, 128]⟩
abbrev S8192x2048 : Shape := ⟨2, ![8192, 2048]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S1x16x513 : S_.BroadcastsInDim S1x16x513 (![] : Fin 0 → Fin S1x16x513.rank)
  reducesTo_S1x16x513_S_d0_1_2 : S1x16x513.ReducesTo [0, 1, 2] S_
  bcast_S_S1x128 : S_.BroadcastsInDim S1x128 (![] : Fin 0 → Fin S1x128.rank)
  reducesTo_S1x128_S_d0_1 : S1x128.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S8192x2048 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  main_v23

def fn {F : FTy → Type} [FloatOps F] (main_arg0 : FVec F S8192x8192 .f32) (main_arg1 : FVec F S1x16x513 .f32) (main_arg2 : FVec F S1x128 .f32) (main_arg3 : FVec F S1x128 .f32) (main_arg4 : FVec F S8192x2048 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S1x16x513 .f32 := Host.absf main_arg1
  let main_cst_0 : FVec F S_ .f32 := constant S_ .f32 0x7F800000#32
  let main_v5 : FVec F S1x16x513 .f32 := broadcastInDim S1x16x513 ![] bcast_S_S1x16x513 main_cst_0
  let main_v6 : IVec S1x16x513 1 := cmpf .olt main_v4 main_v5
  let main_c_1 : IVec S_ 1 := constantI S_ 1 1#1
  let main_v7 : IVec S_ 1 := (fun x v => Host.reduce IntOp.andi x v reducesTo_S1x16x513_S_d0_1_2 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_v13 main_v16
-- ==== Kernel.lean ====
abbrev S8192x8192 : Shape := ⟨2, ![8192, 8192]⟩
abbrev S1x16x513 : Shape := ⟨3, ![1, 16, 513]⟩
abbrev S1x128 : Shape := ⟨2, ![1, 128]⟩
abbrev S8192x2048 : Shape := ⟨2, ![8192, 2048]⟩
abbrev S16x513 : Shape := ⟨2, ![16, 513]⟩
abbrev S16x1 : Shape := ⟨2, ![16, 1]⟩
abbrev S16x384 : Shape := ⟨2, ![16, 384]⟩
abbrev S16x383 : Shape := ⟨2, ![16, 383]⟩
abbrev S16x767 : Shape := ⟨2, ![16, 767]⟩
abbrev S16x640 : Shape := ⟨2, ![16, 640]⟩
abbrev S16x1x640 : Shape := ⟨3, ![16, 1, 640]⟩
abbrev S16x16x640 : Shape := ⟨3, ![16, 16, 640]⟩
abbrev S16x128x640 : Shape := ⟨3, ![16, 128, 640]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S1x1x640 : Shape := ⟨3, ![1, 1, 640]⟩
abbrev S4 : Shape := ⟨1, ![4]⟩
abbrev S4x1x1 : Shape := ⟨3, ![4, 1, 1]⟩
abbrev S4x1x640 : Shape := ⟨3, ![4, 1, 640]⟩
abbrev S1x128x640 : Shape := ⟨3, ![1, 128, 640]⟩
abbrev S4x128x640 : Shape := ⟨3, ![4, 128, 640]⟩
abbrev S1x4x128x640 : Shape := ⟨4, ![1, 4, 128, 640]⟩
abbrev S16x1x128x640 : Shape := ⟨4, ![16, 1, 128, 640]⟩
abbrev S16x4x128x640 : Shape := ⟨4, ![16, 4, 128, 640]⟩
abbrev S1x1x128x640 : Shape := ⟨4, ![1, 1, 128, 640]⟩
abbrev S2x8192x2048 : Shape := ⟨3, ![2, 8192, 2048]⟩
abbrev S16x1x128 : Shape := ⟨3, ![16, 1, 128]⟩
abbrev S1024x128 : Shape := ⟨2, ![1024, 128]⟩
abbrev S8192x128 : Shape := ⟨2, ![8192, 128]⟩
abbrev S2x1024x128 : Shape := ⟨3, ![2, 1024, 128]⟩
abbrev S2x8192x128 : Shape := ⟨3, ![2, 8192, 128]⟩
abbrev S1x1x128 : Shape := ⟨3, ![1, 1, 128]⟩
abbrev S8704x128 : Shape := ⟨2, ![8704, 128]⟩
abbrev S512x128 : Shape := ⟨2, ![512, 128]⟩
abbrev S512 : Shape := ⟨1, ![512]⟩
abbrev S512x1 : Shape := ⟨2, ![512, 1]⟩
abbrev S4x128x128 : Shape := ⟨3, ![4, 128, 128]⟩
abbrev S640x128 : Shape := ⟨2, ![640, 128]⟩
abbrev S1x640x128 : Shape := ⟨3, ![1, 640, 128]⟩
abbrev S4x640x128 : Shape := ⟨3, ![4, 640, 128]⟩
abbrev S4x128 : Shape := ⟨2, ![4, 128]⟩
abbrev S4x128x1 : Shape := ⟨3, ![4, 128, 1]⟩
abbrev S128x128 : Shape := ⟨2, ![128, 128]⟩
abbrev S1x512x128 : Shape := ⟨3, ![1, 512, 128]⟩

abbrev nBuf : Space → Nat
  | .hbm => 353
  | .vmem => 30
  | .smem => 0
  | _ => 0

abbrev hbmTy0_0 (i : Nat) : BufTy := match i % 128 with
  | 0 => ⟨S8192x8192, .f32⟩
  | 1 => ⟨S1x16x513, .f32⟩
  | 2 => ⟨S1x128, .f32⟩
  | 3 => ⟨S1x128, .f32⟩
  | 4 => ⟨S8192x2048, .f32⟩
  | 5 => ⟨S16x513, .f32⟩
  | 6 => ⟨S16x1, .f32⟩
  | 7 => ⟨S16x384, .f32⟩
  | 8 => ⟨S16x383, .f32⟩
  | 9 => ⟨S16x383, .f32⟩
  | 10 => ⟨S16x767, .f32⟩
  | 11 => ⟨S16x640, .f32⟩
  | 12 => ⟨S16x640, .f32⟩
  | 13 => ⟨S16x640, .f32⟩
  | 14 => ⟨S16x640, .f32⟩
  | 15 => ⟨S16x640, .f32⟩
  | 16 => ⟨S16x640, .f32⟩
  | 17 => ⟨S16x640, .f32⟩
  | 18 => ⟨S16x640, .f32⟩
  | 19 => ⟨S16x640, .f32⟩
  | 20 => ⟨S16x640, .f32⟩
  | 21 => ⟨S16x640, .f32⟩
  | 22 => ⟨S16x640, .f32⟩
  | 23 => ⟨S16x640, .f32⟩
  | 24 => ⟨S16x640, .f32⟩
  | 25 => ⟨S16x640, .f32⟩
  | 26 => ⟨S16x640, .f32⟩
  | 27 => ⟨S16x640, .f32⟩
  | 28 => ⟨S16x640, .f32⟩
  | 29 => ⟨S16x640, .f32⟩
  | 30 => ⟨S16x640, .f32⟩
  | 31 => ⟨S16x640, .f32⟩
  | 32 => ⟨S16x640, .f32⟩
  | 33 => ⟨S16x640, .f32⟩
  | 34 => ⟨S16x640, .f32⟩
  | 35 => ⟨S16x640, .f32⟩
  | 36 => ⟨S16x640, .f32⟩
  | 37 => ⟨S16x640, .f32⟩
  | 38 => ⟨S16x640, .f32⟩
  | 39 => ⟨S16x640, .f32⟩
  | 40 => ⟨S16x640, .f32⟩
  | 41 => ⟨S16x640, .f32⟩
  | 42 => ⟨S16x640, .f32⟩
  | 43 => ⟨S16x640, .f32⟩
  | 44 => ⟨S16x640, .f32⟩
  | 45 => ⟨S16x640, .f32⟩
  | 46 => ⟨S16x640, .f32⟩
  | 47 => ⟨S16x640, .f32⟩
  | 48 => ⟨S16x640, .f32⟩
  | 49 => ⟨S16x640, .f32⟩
  | 50 => ⟨S16x640, .f32⟩
  | 51 => ⟨S16x640, .f32⟩
  | 52 => ⟨S16x640, .f32⟩
  | 53 => ⟨S16x640, .f32⟩
  | 54 => ⟨S16x640, .f32⟩
  | 55 => ⟨S16x640, .f32⟩
  | 56 => ⟨S16x640, .f32⟩
  | 57 => ⟨S16x640, .f32⟩
  | 58 => ⟨S16x640, .f32⟩
  | 59 => ⟨S16x640, .f32⟩
  | 60 => ⟨S16x640, .f32⟩
  | 61 => ⟨S16x640, .f32⟩
  | 62 => ⟨S16x640, .f32⟩
  | 63 => ⟨S16x640, .f32⟩
  | 64 => ⟨S16x640, .f32⟩
  | 65 => ⟨S16x640, .f32⟩
  | 66 => ⟨S16x640, .f32⟩
  | 67 => ⟨S16x640, .f32⟩
  | 68 => ⟨S16x640, .f32⟩
  | 69 => ⟨S16x640, .f32⟩
  | 70 => ⟨S16x640, .f32⟩
  | 71 => ⟨S16x640, .f32⟩
  | 72 => ⟨S16x640, .f32⟩
  | 73 => ⟨S16x640, .f32⟩
  | 74 => ⟨S16x640, .f32⟩
  | 75 => ⟨S16x640, .f32⟩
  | 76 => ⟨S16x640, .f32⟩
  | 77 => ⟨S16x640, .f32⟩
  | 78 => ⟨S16x640, .f32⟩
  | 79 => ⟨S16x640, .f32⟩
  | 80 => ⟨S16x640, .f32⟩
  | 81 => ⟨S16x640, .f32⟩
  | 82 => ⟨S16x640, .f32⟩
  | 83 => ⟨S16x640, .f32⟩
  | 84 => ⟨S16x640, .f32⟩
  | 85 => ⟨S16x640, .f32⟩
  | 86 => ⟨S16x640, .f32⟩
  | 87 => ⟨S16x640, .f32⟩
  | 88 => ⟨S16x640, .f32⟩
  | 89 => ⟨S16x640, .f32⟩
  | 90 => ⟨S16x640, .f32⟩
  | 91 => ⟨S16x640, .f32⟩
  | 92 => ⟨S16x640, .f32⟩
  | 93 => ⟨S16x640, .f32⟩
  | 94 => ⟨S16x640, .f32⟩
  | 95 => ⟨S16x640, .f32⟩
  | 96 => ⟨S16x640, .f32⟩
  | 97 => ⟨S16x640, .f32⟩
  | 98 => ⟨S16x640, .f32⟩
  | 99 => ⟨S16x640, .f32⟩
  | 100 => ⟨S16x640, .f32⟩
  | 101 => ⟨S16x640, .f32⟩
  | 102 => ⟨S16x640, .f32⟩
  | 103 => ⟨S16x640, .f32⟩
  | 104 => ⟨S16x640, .f32⟩
  | 105 => ⟨S16x640, .f32⟩
  | 106 => ⟨S16x640, .f32⟩
  | 107 => ⟨S16x640, .f32⟩
  | 108 => ⟨S16x640, .f32⟩
  | 109 => ⟨S16x640, .f32⟩
  | 110 => ⟨S16x640, .f32⟩
  | 111 => ⟨S16x640, .f32⟩
  | 112 => ⟨S16x640, .f32⟩
  | 113 => ⟨S16x640, .f32⟩
  | 114 => ⟨S16x640, .f32⟩
  | 115 => ⟨S16x640, .f32⟩
  | 116 => ⟨S16x640, .f32⟩
  | 117 => ⟨S16x640, .f32⟩
  | 118 => ⟨S16x640, .f32⟩
  | 119 => ⟨S16x640, .f32⟩
  | 120 => ⟨S16x640, .f32⟩
  | 121 => ⟨S16x640, .f32⟩
  | 122 => ⟨S16x640, .f32⟩
  | 123 => ⟨S16x640, .f32⟩
  | 124 => ⟨S16x640, .f32⟩
  | 125 => ⟨S16x640, .f32⟩
  | 126 => ⟨S16x640, .f32⟩
  | 127 => ⟨S16x640, .f32⟩
  | _ => ⟨S8192x8192, .f32⟩

abbrev hbmTy0_1 (i : Nat) : BufTy := match i % 128 with
  | 0 => ⟨S16x640, .f32⟩
  | 1 => ⟨S16x640, .f32⟩
  | 2 => ⟨S16x640, .f32⟩
  | 3 => ⟨S16x640, .f32⟩
  | 4 => ⟨S16x640, .f32⟩
  | 5 => ⟨S16x640, .f32⟩
  | 6 => ⟨S16x640, .f32⟩
  | 7 => ⟨S16x640, .f32⟩
  | 8 => ⟨S16x640, .f32⟩
  | 9 => ⟨S16x640, .f32⟩
  | 10 => ⟨S16x640, .f32⟩
  | 11 => ⟨S16x1x640, .f32⟩
  | 12 => ⟨S16x1x640, .f32⟩
  | 13 => ⟨S16x1x640, .f32⟩
  | 14 => ⟨S16x1x640, .f32⟩
  | 15 => ⟨S16x1x640, .f32⟩
  | 16 => ⟨S16x1x640, .f32⟩
  | 17 => ⟨S16x1x640, .f32⟩
  | 18 => ⟨S16x1x640, .f32⟩
  | 19 => ⟨S16x1x640, .f32⟩
  | 20 => ⟨S16x1x640, .f32⟩
  | 21 => ⟨S16x1x640, .f32⟩
  | 22 => ⟨S16x1x640, .f32⟩
  | 23 => ⟨S16x1x640, .f32⟩
  | 24 => ⟨S16x1x640, .f32⟩
  | 25 => ⟨S16x1x640, .f32⟩
  | 26 => ⟨S16x1x640, .f32⟩
  | 27 => ⟨S16x1x640, .f32⟩
  | 28 => ⟨S16x1x640, .f32⟩
  | 29 => ⟨S16x1x640, .f32⟩
  | 30 => ⟨S16x1x640, .f32⟩
  | 31 => ⟨S16x1x640, .f32⟩
  | 32 => ⟨S16x1x640, .f32⟩
  | 33 => ⟨S16x1x640, .f32⟩
  | 34 => ⟨S16x1x640, .f32⟩
  | 35 => ⟨S16x1x640, .f32⟩
  | 36 => ⟨S16x1x640, .f32⟩
  | 37 => ⟨S16x1x640, .f32⟩
  | 38 => ⟨S16x1x640, .f32⟩
  | 39 => ⟨S16x1x640, .f32⟩
  | 40 => ⟨S16x1x640, .f32⟩
  | 41 => ⟨S16x1x640, .f32⟩
  | 42 => ⟨S16x1x640, .f32⟩
  | 43 => ⟨S16x1x640, .f32⟩
  | 44 => ⟨S16x1x640, .f32⟩
  | 45 => ⟨S16x1x640, .f32⟩
  | 46 => ⟨S16x1x640, .f32⟩
  | 47 => ⟨S16x1x640, .f32⟩
  | 48 => ⟨S16x1x640, .f32⟩
  | 49 => ⟨S16x1x640, .f32⟩
  | 50 => ⟨S16x1x640, .f32⟩
  | 51 => ⟨S16x1x640, .f32⟩
  | 52 => ⟨S16x1x640, .f32⟩
  | 53 => ⟨S16x1x640, .f32⟩
  | 54 => ⟨S16x1x640, .f32⟩
  | 55 => ⟨S16x1x640, .f32⟩
  | 56 => ⟨S16x1x640, .f32⟩
  | 57 => ⟨S16x1x640, .f32⟩
  | 58 => ⟨S16x1x640, .f32⟩
  | 59 => ⟨S16x1x640, .f32⟩
  | 60 => ⟨S16x1x640, .f32⟩
  | 61 => ⟨S16x1x640, .f32⟩
  | 62 => ⟨S16x1x640, .f32⟩
  | 63 => ⟨S16x1x640, .f32⟩
  | 64 => ⟨S16x1x640, .f32⟩
  | 65 => ⟨S16x1x640, .f32⟩
  | 66 => ⟨S16x1x640, .f32⟩
  | 67 => ⟨S16x1x640, .f32⟩
  | 68 => ⟨S16x1x640, .f32⟩
  | 69 => ⟨S16x1x640, .f32⟩
  | 70 => ⟨S16x1x640, .f32⟩
  | 71 => ⟨S16x1x640, .f32⟩
  | 72 => ⟨S16x1x640, .f32⟩
  | 73 => ⟨S16x1x640, .f32⟩
  | 74 => ⟨S16x1x640, .f32⟩
  | 75 => ⟨S16x1x640, .f32⟩
  | 76 => ⟨S16x1x640, .f32⟩
  | 77 => ⟨S16x1x640, .f32⟩
  | 78 => ⟨S16x1x640, .f32⟩
  | 79 => ⟨S16x1x640, .f32⟩
  | 80 => ⟨S16x1x640, .f32⟩
  | 81 => ⟨S16x1x640, .f32⟩
  | 82 => ⟨S16x1x640, .f32⟩
  | 83 => ⟨S16x1x640, .f32⟩
  | 84 => ⟨S16x1x640, .f32⟩
  | 85 => ⟨S16x1x640, .f32⟩
  | 86 => ⟨S16x1x640, .f32⟩
  | 87 => ⟨S16x1x640, .f32⟩
  | 88 => ⟨S16x1x640, .f32⟩
  | 89 => ⟨S16x1x640, .f32⟩
  | 90 => ⟨S16x1x640, .f32⟩
  | 91 => ⟨S16x1x640, .f32⟩
  | 92 => ⟨S16x1x640, .f32⟩
  | 93 => ⟨S16x1x640, .f32⟩
  | 94 => ⟨S16x1x640, .f32⟩
  | 95 => ⟨S16x1x640, .f32⟩
  | 96 => ⟨S16x1x640, .f32⟩
  | 97 => ⟨S16x1x640, .f32⟩
  | 98 => ⟨S16x1x640, .f32⟩
  | 99 => ⟨S16x1x640, .f32⟩
  | 100 => ⟨S16x1x640, .f32⟩
  | 101 => ⟨S16x1x640, .f32⟩
  | 102 => ⟨S16x1x640, .f32⟩
  | 103 => ⟨S16x1x640, .f32⟩
  | 104 => ⟨S16x1x640, .f32⟩
  | 105 => ⟨S16x1x640, .f32⟩
  | 106 => ⟨S16x1x640, .f32⟩
  | 107 => ⟨S16x1x640, .f32⟩
  | 108 => ⟨S16x1x640, .f32⟩
  | 109 => ⟨S16x1x640, .f32⟩
  | 110 => ⟨S16x1x640, .f32⟩
  | 111 => ⟨S16x1x640, .f32⟩
  | 112 => ⟨S16x1x640, .f32⟩
  | 113 => ⟨S16x1x640, .f32⟩
  | 114 => ⟨S16x1x640, .f32⟩
  | 115 => ⟨S16x1x640, .f32⟩
  | 116 => ⟨S16x1x640, .f32⟩
  | 117 => ⟨S16x1x640, .f32⟩
  | 118 => ⟨S16x1x640, .f32⟩
  | 119 => ⟨S16x1x640, .f32⟩
  | 120 => ⟨S16x1x640, .f32⟩
  | 121 => ⟨S16x1x640, .f32⟩
  | 122 => ⟨S16x1x640, .f32⟩
  | 123 => ⟨S16x1x640, .f32⟩
  | 124 => ⟨S16x1x640, .f32⟩
  | 125 => ⟨S16x1x640, .f32⟩
  | 126 => ⟨S16x1x640, .f32⟩
  | 127 => ⟨S16x1x640, .f32⟩
  | _ => ⟨S8192x8192, .f32⟩

abbrev hbmTy0_2 (i : Nat) : BufTy := match i % 128 with
  | 0 => ⟨S16x1x640, .f32⟩
  | 1 => ⟨S16x1x640, .f32⟩
  | 2 => ⟨S16x1x640, .f32⟩
  | 3 => ⟨S16x1x640, .f32⟩
  | 4 => ⟨S16x1x640, .f32⟩
  | 5 => ⟨S16x1x640, .f32⟩
  | 6 => ⟨S16x1x640, .f32⟩
  | 7 => ⟨S16x1x640, .f32⟩
  | 8 => ⟨S16x1x640, .f32⟩
  | 9 => ⟨S16x1x640, .f32⟩
  | 10 => ⟨S16x1x640, .f32⟩
  | 11 => ⟨S16x16x640, .f32⟩
  | 12 => ⟨S16x16x640, .f32⟩
  | 13 => ⟨S16x16x640, .f32⟩
  | 14 => ⟨S16x16x640, .f32⟩
  | 15 => ⟨S16x16x640, .f32⟩
  | 16 => ⟨S16x16x640, .f32⟩
  | 17 => ⟨S16x16x640, .f32⟩
  | 18 => ⟨S16x16x640, .f32⟩
  | 19 => ⟨S16x128x640, .f32⟩
  | 20 => ⟨S128, .i32⟩
  | 21 => ⟨S128x1, .i32⟩
  | 22 => ⟨S640, .i32⟩
  | 23 => ⟨S1x640, .i32⟩
  | 24 => ⟨S_, .i32⟩
  | 25 => ⟨S_, .i32⟩
  | 26 => ⟨S128x1, .i32⟩
  | 27 => ⟨S128x1, .i32⟩
  | 28 => ⟨S128x1, .i32⟩
  | 29 => ⟨S_, .i32⟩
  | 30 => ⟨S128x1, .i32⟩
  | 31 => ⟨S128x1, .i1⟩
  | 32 => ⟨S128x1, .i32⟩
  | 33 => ⟨S128x1, .i32⟩
  | 34 => ⟨S_, .i32⟩
  | 35 => ⟨S128x1, .i32⟩
  | 36 => ⟨S128x1, .i1⟩
  | 37 => ⟨S128x1, .i1⟩
  | 38 => ⟨S_, .i32⟩
  | 39 => ⟨S128x1, .i32⟩
  | 40 => ⟨S128x1, .i32⟩
  | 41 => ⟨S128x1, .i32⟩
  | 42 => ⟨S_, .i32⟩
  | 43 => ⟨S128x1, .i32⟩
  | 44 => ⟨S128x1, .i32⟩
  | 45 => ⟨S128x640, .i32⟩
  | 46 => ⟨S128x640, .i32⟩
  | 47 => ⟨S128x640, .i1⟩
  | 48 => ⟨S_, .i32⟩
  | 49 => ⟨S128x1, .i32⟩
  | 50 => ⟨S128x1, .i32⟩
  | 51 => ⟨S128x640, .i32⟩
  | 52 => ⟨S128x640, .i32⟩
  | 53 => ⟨S128x640, .i1⟩
  | 54 => ⟨S128x640, .i1⟩
  | 55 => ⟨S1x1x640, .i32⟩
  | 56 => ⟨S4, .i32⟩
  | 57 => ⟨S4x1x1, .i32⟩
  | 58 => ⟨S_, .i32⟩
  | 59 => ⟨S4x1x1, .i32⟩
  | 60 => ⟨S4x1x1, .i32⟩
  | 61 => ⟨S_, .i32⟩
  | 62 => ⟨S4x1x1, .i32⟩
  | 63 => ⟨S4x1x1, .i32⟩
  | 64 => ⟨S4x1x640, .i32⟩
  | 65 => ⟨S4x1x640, .i32⟩
  | 66 => ⟨S4x1x640, .i1⟩
  | 67 => ⟨S1x128x640, .i1⟩
  | 68 => ⟨S4x128x640, .i1⟩
  | 69 => ⟨S4x128x640, .i1⟩
  | 70 => ⟨S4x128x640, .i1⟩
  | 71 => ⟨S1x4x128x640, .i1⟩
  | 72 => ⟨S16x1x128x640, .f32⟩
  | 73 => ⟨S_, .f32⟩
  | 74 => ⟨S_, .f32⟩
  | 75 => ⟨S16x4x128x640, .i1⟩
  | 76 => ⟨S16x4x128x640, .f32⟩
  | 77 => ⟨S16x4x128x640, .f32⟩
  | 78 => ⟨S16x4x128x640, .f32⟩
  | 79 => ⟨S1x1x128x640, .i1⟩
  | 80 => ⟨S16x1x128x640, .f32⟩
  | 81 => ⟨S_, .f32⟩
  | 82 => ⟨S_, .f32⟩
  | 83 => ⟨S16x1x128x640, .i1⟩
  | 84 => ⟨S16x1x128x640, .f32⟩
  | 85 => ⟨S16x1x128x640, .f32⟩
  | 86 => ⟨S_, .i32⟩
  | 87 => ⟨S_, .f32⟩
  | 88 => ⟨S1x128, .f32⟩
  | 89 => ⟨S_, .i32⟩
  | 90 => ⟨S_, .f32⟩
  | 91 => ⟨S1x128, .f32⟩
  | 92 => ⟨S2x8192x2048, .bf16⟩
  | 93 => ⟨S2x8192x2048, .bf16⟩
  | 94 => ⟨S16x128x640, .f32⟩
  | 95 => ⟨S16x1x128, .f32⟩
  | 96 => ⟨S16x1x128, .f32⟩
  | _ => ⟨S8192x8192, .f32⟩

abbrev hbmTy (i : Nat) : BufTy := match i / 128 with
  | 0 => hbmTy0_0 i
  | 1 => hbmTy0_1 i
  | 2 => hbmTy0_2 i
  | _ => ⟨S8192x8192, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1024x128, .f32⟩
  | .local _ .vmem, ⟨7, _⟩ => ⟨S1024x128, .f32⟩
  | .local _ .vmem, ⟨8, _⟩ => ⟨S1x4x128x640, .f32⟩
  | .local _ .vmem, ⟨9, _⟩ => ⟨S1x4x128x640, .f32⟩
  | .local _ .vmem, ⟨10, _⟩ => ⟨S1x1x128x640, .f32⟩
  | .local _ .vmem, ⟨11, _⟩ => ⟨S1x1x128x640, .f32⟩
  | .local _ .vmem, ⟨12, _⟩ => ⟨S1x128, .f32⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S2x1024x128, .bf16⟩
  | .local _ .vmem, ⟨17, _⟩ => ⟨S2x1024x128, .bf16⟩
  | .local _ .vmem, ⟨18, _⟩ => ⟨S2x8192x128, .bf16⟩
  | .local _ .vmem, ⟨19, _⟩ => ⟨S2x8192x128, .bf16⟩
  | .local _ .vmem, ⟨20, _⟩ => ⟨S1x128x640, .f32⟩
  | .local _ .vmem, ⟨21, _⟩ => ⟨S1x128x640, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S8704x128, .bf16⟩
  | .local _ .vmem, ⟨27, _⟩ => ⟨S8704x128, .bf16⟩
  | .local _ .vmem, ⟨28, _⟩ => ⟨S8704x128, .f32⟩
  | .local _ .vmem, ⟨29, _⟩ => ⟨S8704x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩
abbrev main_v223 : Ref sig .tc := ⟨.hbm, 228, rfl⟩
abbrev main_v224 : Ref sig .tc := ⟨.hbm, 229, rfl⟩
abbrev main_v225 : Ref sig .tc := ⟨.hbm, 230, rfl⟩
abbrev main_v226 : Ref sig .tc := ⟨.hbm, 231, rfl⟩
abbrev main_v227 : Ref sig .tc := ⟨.hbm, 232, rfl⟩
abbrev main_v228 : Ref sig .tc := ⟨.hbm, 233, rfl⟩
abbrev main_v229 : Ref sig .tc := ⟨.hbm, 234, rfl⟩
abbrev main_v230 : Ref sig .tc := ⟨.hbm, 235, rfl⟩
abbrev main_v231 : Ref sig .tc := ⟨.hbm, 236, rfl⟩
abbrev main_v232 : Ref sig .tc := ⟨.hbm, 237, rfl⟩
abbrev main_v233 : Ref sig .tc := ⟨.hbm, 238, rfl⟩
abbrev main_v234 : Ref sig .tc := ⟨.hbm, 239, rfl⟩
abbrev main_v235 : Ref sig .tc := ⟨.hbm, 240, rfl⟩
abbrev main_v236 : Ref sig .tc := ⟨.hbm, 241, rfl⟩
abbrev main_v237 : Ref sig .tc := ⟨.hbm, 242, rfl⟩
abbrev main_v238 : Ref sig .tc := ⟨.hbm, 243, rfl⟩
abbrev main_v239 : Ref sig .tc := ⟨.hbm, 244, rfl⟩
abbrev main_v240 : Ref sig .tc := ⟨.hbm, 245, rfl⟩
abbrev main_v241 : Ref sig .tc := ⟨.hbm, 246, rfl⟩
abbrev main_v242 : Ref sig .tc := ⟨.hbm, 247, rfl⟩
abbrev main_v243 : Ref sig .tc := ⟨.hbm, 248, rfl⟩
abbrev main_v244 : Ref sig .tc := ⟨.hbm, 249, rfl⟩
abbrev main_v245 : Ref sig .tc := ⟨.hbm, 250, rfl⟩
abbrev main_v246 : Ref sig .tc := ⟨.hbm, 251, rfl⟩
abbrev main_v247 : Ref sig .tc := ⟨.hbm, 252, rfl⟩
abbrev main_v248 : Ref sig .tc := ⟨.hbm, 253, rfl⟩
abbrev main_v249 : Ref sig .tc := ⟨.hbm, 254, rfl⟩
abbrev main_v250 : Ref sig .tc := ⟨.hbm, 255, rfl⟩
abbrev main_v251 : Ref sig .tc := ⟨.hbm, 256, rfl⟩
abbrev main_v252 : Ref sig .tc := ⟨.hbm, 257, rfl⟩
abbrev main_v253 : Ref sig .tc := ⟨.hbm, 258, rfl⟩
abbrev main_v254 : Ref sig .tc := ⟨.hbm, 259, rfl⟩
abbrev main_v255 : Ref sig .tc := ⟨.hbm, 260, rfl⟩
abbrev main_v256 : Ref sig .tc := ⟨.hbm, 261, rfl⟩
abbrev main_v257 : Ref sig .tc := ⟨.hbm, 262, rfl⟩
abbrev main_v258 : Ref sig .tc := ⟨.hbm, 263, rfl⟩
abbrev main_v259 : Ref sig .tc := ⟨.hbm, 264, rfl⟩
abbrev main_v260 : Ref sig .tc := ⟨.hbm, 265, rfl⟩
abbrev main_v261 : Ref sig .tc := ⟨.hbm, 266, rfl⟩
abbrev main_v262 : Ref sig .tc := ⟨.hbm, 267, rfl⟩
abbrev main_v263 : Ref sig .tc := ⟨.hbm, 268, rfl⟩
abbrev main_v264 : Ref sig .tc := ⟨.hbm, 269, rfl⟩
abbrev main_v265 : Ref sig .tc := ⟨.hbm, 270, rfl⟩
abbrev main_v266 : Ref sig .tc := ⟨.hbm, 271, rfl⟩
abbrev main_v267 : Ref sig .tc := ⟨.hbm, 272, rfl⟩
abbrev main_v268 : Ref sig .tc := ⟨.hbm, 273, rfl⟩
abbrev main_v269 : Ref sig .tc := ⟨.hbm, 274, rfl⟩
abbrev main_v270 : Ref sig .tc := ⟨.hbm, 275, rfl⟩
abbrev main_v271 : Ref sig .tc := ⟨.hbm, 276, rfl⟩
abbrev main_v272 : Ref sig .tc := ⟨.hbm, 277, rfl⟩
abbrev main_v273 : Ref sig .tc := ⟨.hbm, 278, rfl⟩
abbrev main_v274 : Ref sig .tc := ⟨.hbm, 279, rfl⟩
abbrev main_c : Ref sig .tc := ⟨.hbm, 280, rfl⟩
abbrev main_call0_v0 : Ref sig .tc := ⟨.hbm, 281, rfl⟩
abbrev main_call0_v1 : Ref sig .tc := ⟨.hbm, 282, rfl⟩
abbrev main_call0_v2 : Ref sig .tc := ⟨.hbm, 283, rfl⟩
abbrev main_call0_v3 : Ref sig .tc := ⟨.hbm, 284, rfl⟩
abbrev main_call0_v4 : Ref sig .tc := ⟨.hbm, 285, rfl⟩
abbrev main_call0_v5 : Ref sig .tc := ⟨.hbm, 286, rfl⟩
abbrev main_call0_v6 : Ref sig .tc := ⟨.hbm, 287, rfl⟩
abbrev main_call0_v7 : Ref sig .tc := ⟨.hbm, 288, rfl⟩
abbrev main_call0_v8 : Ref sig .tc := ⟨.hbm, 289, rfl⟩
abbrev main_call0_c : Ref sig .tc := ⟨.hbm, 290, rfl⟩
abbrev main_call0_v9 : Ref sig .tc := ⟨.hbm, 291, rfl⟩
abbrev main_call0_v10 : Ref sig .tc := ⟨.hbm, 292, rfl⟩
abbrev main_call0_v11 : Ref sig .tc := ⟨.hbm, 293, rfl⟩
abbrev main_call0_c_0 : Ref sig .tc := ⟨.hbm, 294, rfl⟩
abbrev main_call0_v12 : Ref sig .tc := ⟨.hbm, 295, rfl⟩
abbrev main_call0_v13 : Ref sig .tc := ⟨.hbm, 296, rfl⟩
abbrev main_v275 : Ref sig .tc := ⟨.hbm, 297, rfl⟩
abbrev main_c_0 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_v280 : Ref sig .tc := ⟨.hbm, 303, rfl⟩
abbrev main_c_1 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_c_2 : Ref sig .tc := ⟨.hbm, 314, rfl⟩
abbrev main_v290 : Ref sig .tc := ⟨.hbm, 315, rfl⟩
abbrev main_v291 : Ref sig .tc := ⟨.hbm, 316, rfl⟩
abbrev main_c_3 : Ref sig .tc := ⟨.hbm, 317, rfl⟩
abbrev main_v292 : Ref sig .tc := ⟨.hbm, 318, rfl⟩
abbrev main_v293 : Ref sig .tc := ⟨.hbm, 319, rfl⟩
abbrev main_v294 : Ref sig .tc := ⟨.hbm, 320, rfl⟩
abbrev main_v295 : Ref sig .tc := ⟨.hbm, 321, rfl⟩
abbrev main_v296 : Ref sig .tc := ⟨.hbm, 322, rfl⟩
abbrev main_v297 : Ref sig .tc := ⟨.hbm, 323, rfl⟩
abbrev main_v298 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_cst : Ref sig .tc := ⟨.hbm, 329, rfl⟩
abbrev main_call1_v0 : Ref sig .tc := ⟨.hbm, 330, rfl⟩
abbrev main_call1_v1 : Ref sig .tc := ⟨.hbm, 331, rfl⟩
abbrev main_call1_v2 : Ref sig .tc := ⟨.hbm, 332, rfl⟩
abbrev main_call1_v3 : Ref sig .tc := ⟨.hbm, 333, rfl⟩
abbrev main_v303 : Ref sig .tc := ⟨.hbm, 334, rfl⟩
abbrev main_v304 : Ref sig .tc := ⟨.hbm, 335, rfl⟩
abbrev main_v305 : Ref sig .tc := ⟨.hbm, 336, rfl⟩
abbrev main_cst_4 : Ref sig .tc := ⟨.hbm, 337, rfl⟩
abbrev main_call2_v0 : Ref sig .tc := ⟨.hbm, 338, rfl⟩
abbrev main_call2_v1 : Ref sig .tc := ⟨.hbm, 339, rfl⟩
abbrev main_call2_v2 : Ref sig .tc := ⟨.hbm, 340, rfl⟩
abbrev main_v306 : Ref sig .tc := ⟨.hbm, 341, rfl⟩
abbrev main_c_5 : Ref sig .tc := ⟨.hbm, 342, rfl⟩
abbrev main_call3_v0 : Ref sig .tc := ⟨.hbm, 343, rfl⟩
abbrev main_v307 : Ref sig .tc := ⟨.hbm, 344, rfl⟩
abbrev main_c_6 : Ref sig .tc := ⟨.hbm, 345, rfl⟩
abbrev main_call4_v0 : Ref sig .tc := ⟨.hbm, 346, rfl⟩
abbrev main_v308 : Ref sig .tc := ⟨.hbm, 347, rfl⟩
abbrev main_v309_0 : Ref sig .tc := ⟨.hbm, 348, rfl⟩
abbrev main_v309_1 : Ref sig .tc := ⟨.hbm, 349, rfl⟩
abbrev main_v309_2 : Ref sig .tc := ⟨.hbm, 350, rfl⟩
abbrev main_v309_3 : Ref sig .tc := ⟨.hbm, 351, rfl⟩
abbrev main_v309_4 : Ref sig .tc := ⟨.hbm, 352, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10 : BitVec 32 := 0#32
  let c16_i32 : BitVec 32 := 16#32
  let v20 : BitVec 32 := Scalar.addi c0_i32_10 c16_i32
  let c1_i32 : BitVec 32 := 1#32
  ⟨c0_i32_10, v20, c1_i32⟩
def k0_mult1 (k0_t1 : Fin k0_t1_loop.trips) : BitVec 32 :=
  let c0_i32_10 : BitVec 32 := 0#32
  let c1_i32 : BitVec 32 := 1#32
  let arg20 : BitVec 32 := Scf.iv c0_i32_10 c1_i32 k0_t1
  let c512_i32 : BitVec 32 := 512#32
  let v33 : BitVec 32 := Scalar.muli arg20 c512_i32
  v33
def k0_mult2 (k0_t1 : Fin k0_t1_loop.trips) : BitVec 32 :=
  let c512_i32_27 : BitVec 32 := 512#32
  let c0_i32_10 : BitVec 32 := 0#32
  let c1_i32 : BitVec 32 := 1#32
  let arg20 : BitVec 32 := Scf.iv c0_i32_10 c1_i32 k0_t1
  let c512_i32_26 : BitVec 32 := 512#32
  let v35 : BitVec 32 := Scalar.muli arg20 c512_i32_26
  let v36 : BitVec 32 := Scalar.addi c512_i32_27 v35
  v36
def k0_off1 (k0_t1 : Fin k0_t1_loop.trips) : Fin 2 → Nat :=
  let c0_i32_10 : BitVec 32 := 0#32
  let c1_i32 : BitVec 32 := 1#32
  let arg20 : BitVec 32 := Scf.iv c0_i32_10 c1_i32 k0_t1
  let c512_i32 : BitVec 32 := 512#32
  let v33 : BitVec 32 := Scalar.muli arg20 c512_i32
  let v34 : BitVec 32 := v33
  let v38 : Index := Scalar.indexCast v34
  let c0_28 : Index := 0#32
  ![v38.toNat, 0]
def k0_off2 (k0_t1 : Fin k0_t1_loop.trips) : Fin 2 → Nat :=
  let c512_i32_27 : BitVec 32 := 512#32
  let c0_i32_10 : BitVec 32 := 0#32
  let c1_i32 : BitVec 32 := 1#32
  let arg20 : BitVec 32 := Scf.iv c0_i32_10 c1_i32 k0_t1
  let c512_i32_26 : BitVec 32 := 512#32
  let v35 : BitVec 32 := Scalar.muli arg20 c512_i32_26
  let v36 : BitVec 32 := Scalar.addi c512_i32_27 v35
  let v37 : BitVec 32 := v36
  let v55 : Index := Scalar.indexCast v37
  let c0_34 : Index := 0#32
  ![v55.toNat, 0]
def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_mult3 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c0_i32_10 : BitVec 32 := 0#32
  let v18 : BitVec 32 := Scalar.addi v13 c0_i32_10
  v18
def k0_off3 (i : grid0.Coords) (c0_i32_6 : BitVec 32) (c0_i32_10 : BitVec 32) : Fin 2 → Nat :=
  let arg1 : BitVec 32 := BitVec.ofNat 32 (i 1).val
  let c1024_i32 : BitVec 32 := 1024#32
  let v12 : BitVec 32 := Scalar.muli arg1 c1024_i32
  let v13 : BitVec 32 := Scalar.addi v12 c0_i32_6
  let v18 : BitVec 32 := Scalar.addi v13 c0_i32_10
  let v19 : BitVec 32 := v18
  let v20 : Index := Scalar.indexCast v19
  let c0_11 : Index := 0#32
  ![v20.toNat, 0]
def k0_mult4 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c128_i32 : BitVec 32 := 128#32
  let v22 : BitVec 32 := Scalar.addi v13 c128_i32
  v22
def k0_mult5 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c256_i32 : BitVec 32 := 256#32
  let v26 : BitVec 32 := Scalar.addi v13 c256_i32
  v26
def k0_mult6 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c384_i32 : BitVec 32 := 384#32
  let v30 : BitVec 32 := Scalar.addi v13 c384_i32
  v30
def k0_mult7 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c0_i32_15 : BitVec 32 := 0#32
  let v39 : BitVec 32 := Scalar.addi v13 c0_i32_15
  v39
def k0_mult8 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c128_i32_17 : BitVec 32 := 128#32
  let v43 : BitVec 32 := Scalar.addi v13 c128_i32_17
  v43
def k0_mult9 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c256_i32_19 : BitVec 32 := 256#32
  let v47 : BitVec 32 := Scalar.addi v13 c256_i32_19
  v47
def k0_mult10 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c384_i32_21 : BitVec 32 := 384#32
  let v51 : BitVec 32 := Scalar.addi v13 c384_i32_21
  v51
def k0_mult11 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c0_i32_57 : BitVec 32 := 0#32
  let v150 : BitVec 32 := Scalar.addi v13 c0_i32_57
  v150
def k0_mult12 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c128_i32_62 : BitVec 32 := 128#32
  let v170 : BitVec 32 := Scalar.addi v13 c128_i32_62
  v170
def k0_mult13 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c256_i32_67 : BitVec 32 := 256#32
  let v190 : BitVec 32 := Scalar.addi v13 c256_i32_67
  v190
def k0_mult14 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c384_i32_72 : BitVec 32 := 384#32
  let v210 : BitVec 32 := Scalar.addi v13 c384_i32_72
  v210
def k0_mult15 (i : grid0.Coords) : BitVec 32 :=
  let arg1 : BitVec 32 := BitVec.ofNat 32 (i 1).val
  let c1024_i32_89 : BitVec 32 := 1024#32
  let v242 : BitVec 32 := Scalar.muli arg1 c1024_i32_89
  let c512_i32 : BitVec 32 := 512#32
  let v243 : BitVec 32 := Scalar.addi v242 c512_i32
  let c0_i32_93 : BitVec 32 := 0#32
  let v248 : BitVec 32 := Scalar.addi v243 c0_i32_93
  v248
def k0_mult16 (i : grid0.Coords) : BitVec 32 :=
  let arg1 : BitVec 32 := BitVec.ofNat 32 (i 1).val
  let c1024_i32_89 : BitVec 32 := 1024#32
  let v242 : BitVec 32 := Scalar.muli arg1 c1024_i32_89
  let c512_i32 : BitVec 32 := 512#32
  let v243 : BitVec 32 := Scalar.addi v242 c512_i32
  let c128_i32_95 : BitVec 32 := 128#32
  let v252 : BitVec 32 := Scalar.addi v243 c128_i32_95
  v252
def k0_mult17 (i : grid0.Coords) : BitVec 32 :=
  let arg1 : BitVec 32 := BitVec.ofNat 32 (i 1).val
  let c1024_i32_89 : BitVec 32 := 1024#32
  let v242 : BitVec 32 := Scalar.muli arg1 c1024_i32_89
  let c512_i32 : BitVec 32 := 512#32
  let v243 : BitVec 32 := Scalar.addi v242 c512_i32
  let c256_i32_97 : BitVec 32 := 256#32
  let v256 : BitVec 32 := Scalar.addi v243 c256_i32_97
  v256
def k0_mult18 (i : grid0.Coords) : BitVec 32 :=
  let arg1 : BitVec 32 := BitVec.ofNat 32 (i 1).val
  let c1024_i32_89 : BitVec 32 := 1024#32
  let v242 : BitVec 32 := Scalar.muli arg1 c1024_i32_89
  let c512_i32 : BitVec 32 := 512#32
  let v243 : BitVec 32 := Scalar.addi v242 c512_i32
  let c384_i32_99 : BitVec 32 := 384#32
  let v260 : BitVec 32 := Scalar.addi v243 c384_i32_99
  v260
def k0_mult19 (i : grid0.Coords) : BitVec 32 :=
  let arg1 : BitVec 32 := BitVec.ofNat 32 (i 1).val
  let c1024_i32_89 : BitVec 32 := 1024#32
  let v242 : BitVec 32 := Scalar.muli arg1 c1024_i32_89
  let c512_i32 : BitVec 32 := 512#32
  let v243 : BitVec 32 := Scalar.addi v242 c512_i32
  let c0_i32_101 : BitVec 32 := 0#32
  let v269 : BitVec 32 := Scalar.addi v243 c0_i32_101
  v269
def k0_mult20 (i : grid0.Coords) : BitVec 32 :=
  let arg1 : BitVec 32 := BitVec.ofNat 32 (i 1).val
  let c1024_i32_89 : BitVec 32 := 1024#32
  let v242 : BitVec 32 := Scalar.muli arg1 c1024_i32_89
  let c512_i32 : BitVec 32 := 512#32
  let v243 : BitVec 32 := Scalar.addi v242 c512_i32
  let c128_i32_103 : BitVec 32 := 128#32
  let v273 : BitVec 32 := Scalar.addi v243 c128_i32_103
  v273
def k0_mult21 (i : grid0.Coords) : BitVec 32 :=
  let arg1 : BitVec 32 := BitVec.ofNat 32 (i 1).val
  let c1024_i32_89 : BitVec 32 := 1024#32
  let v242 : BitVec 32 := Scalar.muli arg1 c1024_i32_89
  let c512_i32 : BitVec 32 := 512#32
  let v243 : BitVec 32 := Scalar.addi v242 c512_i32
  let c256_i32_105 : BitVec 32 := 256#32
  let v277 : BitVec 32 := Scalar.addi v243 c256_i32_105
  v277
def k0_mult22 (i : grid0.Coords) : BitVec 32 :=
  let arg1 : BitVec 32 := BitVec.ofNat 32 (i 1).val
  let c1024_i32_89 : BitVec 32 := 1024#32
  let v242 : BitVec 32 := Scalar.muli arg1 c1024_i32_89
  let c512_i32 : BitVec 32 := 512#32
  let v243 : BitVec 32 := Scalar.addi v242 c512_i32
  let c384_i32_107 : BitVec 32 := 384#32
  let v281 : BitVec 32 := Scalar.addi v243 c384_i32_107
  v281
def k0_mult23 (i : grid0.Coords) : BitVec 32 :=
  let arg1 : BitVec 32 := BitVec.ofNat 32 (i 1).val
  let c1024_i32_89 : BitVec 32 := 1024#32
  let v242 : BitVec 32 := Scalar.muli arg1 c1024_i32_89
  let c512_i32 : BitVec 32 := 512#32
  let v243 : BitVec 32 := Scalar.addi v242 c512_i32
  let c0_i32_145 : BitVec 32 := 0#32
  let v381 : BitVec 32 := Scalar.addi v243 c0_i32_145
  v381
def k0_mult24 (i : grid0.Coords) : BitVec 32 :=
  let arg1 : BitVec 32 := BitVec.ofNat 32 (i 1).val
  let c1024_i32_89 : BitVec 32 := 1024#32
  let v242 : BitVec 32 := Scalar.muli arg1 c1024_i32_89
  let c512_i32 : BitVec 32 := 512#32
  let v243 : BitVec 32 := Scalar.addi v242 c512_i32
  let c128_i32_150 : BitVec 32 := 128#32
  let v401 : BitVec 32 := Scalar.addi v243 c128_i32_150
  v401
def k0_mult25 (i : grid0.Coords) : BitVec 32 :=
  let arg1 : BitVec 32 := BitVec.ofNat 32 (i 1).val
  let c1024_i32_89 : BitVec 32 := 1024#32
  let v242 : BitVec 32 := Scalar.muli arg1 c1024_i32_89
  let c512_i32 : BitVec 32 := 512#32
  let v243 : BitVec 32 := Scalar.addi v242 c512_i32
  let c256_i32_155 : BitVec 32 := 256#32
  let v421 : BitVec 32 := Scalar.addi v243 c256_i32_155
  v421
def k0_mult26 (i : grid0.Coords) : BitVec 32 :=
  let arg1 : BitVec 32 := BitVec.ofNat 32 (i 1).val
  let c1024_i32_89 : BitVec 32 := 1024#32
  let v242 : BitVec 32 := Scalar.muli arg1 c1024_i32_89
  let c512_i32 : BitVec 32 := 512#32
  let v243 : BitVec 32 := Scalar.addi v242 c512_i32
  let c384_i32_160 : BitVec 32 := 384#32
  let v441 : BitVec 32 := Scalar.addi v243 c384_i32_160
  v441
def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let v7 : BitVec 32 := Scalar.extui v6
  let c0_i32_4 : BitVec 32 := 0#32
  let v8 : BitVec 1 := Scalar.cmpi .ne v7 c0_i32_4
  v8

def k0_mult27 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c0_i32_10 : BitVec 32 := 0#32
  let v18 : BitVec 32 := Scalar.addi v13 c0_i32_10
  v18
def k0_off4 (i : grid0.Coords) (c0_i32_6 : BitVec 32) (c0_i32_10 : BitVec 32) : Fin 2 → Nat :=
  let arg1 : BitVec 32 := BitVec.ofNat 32 (i 1).val
  let c1024_i32 : BitVec 32 := 1024#32
  let v12 : BitVec 32 := Scalar.muli arg1 c1024_i32
  let v13 : BitVec 32 := Scalar.addi v12 c0_i32_6
  let v18 : BitVec 32 := Scalar.addi v13 c0_i32_10
  let v19 : BitVec 32 := v18
  let v20 : Index := Scalar.indexCast v19
  let c0_11 : Index := 0#32
  ![v20.toNat, 0]
def k0_mult28 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c128_i32 : BitVec 32 := 128#32
  let v22 : BitVec 32 := Scalar.addi v13 c128_i32
  v22
def k0_mult29 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c256_i32 : BitVec 32 := 256#32
  let v26 : BitVec 32 := Scalar.addi v13 c256_i32
  v26
def k0_mult30 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c384_i32 : BitVec 32 := 384#32
  let v30 : BitVec 32 := Scalar.addi v13 c384_i32
  v30
def k0_mult31 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c0_i32_15 : BitVec 32 := 0#32
  let v39 : BitVec 32 := Scalar.addi v13 c0_i32_15
  v39
def k0_mult32 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c128_i32_17 : BitVec 32 := 128#32
  let v43 : BitVec 32 := Scalar.addi v13 c128_i32_17
  v43
def k0_mult33 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c256_i32_19 : BitVec 32 := 256#32
  let v47 : BitVec 32 := Scalar.addi v13 c256_i32_19
  v47
def k0_mult34 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c384_i32_21 : BitVec 32 := 384#32
  let v51 : BitVec 32 := Scalar.addi v13 c384_i32_21
  v51
def k0_mult35 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c0_i32_57 : BitVec 32 := 0#32
  let v151 : BitVec 32 := Scalar.addi v13 c0_i32_57
  v151
def k0_mult36 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c128_i32_62 : BitVec 32 := 128#32
  let v171 : BitVec 32 := Scalar.addi v13 c128_i32_62
  v171
def k0_mult37 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c256_i32_67 : BitVec 32 := 256#32
  let v191 : BitVec 32 := Scalar.addi v13 c256_i32_67
  v191
def k0_mult38 (i : grid0.Coords) : BitVec 32 :=
  let arg1 : BitVec 32 := BitVec.ofNat 32 (i 1).val
  let c1024_i32 : BitVec 32 := 1024#32
  let v12 : BitVec 32 := Scalar.muli arg1 c1024_i32
  let c0_i32_6 : BitVec 32 := 0#32
  let v13 : BitVec 32 := Scalar.addi v12 c0_i32_6
  let c384_i32_72 : BitVec 32 := 384#32
  let v211 : BitVec 32 := Scalar.addi v13 c384_i32_72
  v211
def k0_mult39 (i : grid0.Coords) : BitVec 32 :=
  let arg1 : BitVec 32 := BitVec.ofNat 32 (i 1).val
  let c1024_i32_89 : BitVec 32 := 1024#32
  let v243 : BitVec 32 := Scalar.muli arg1 c1024_i32_89
  let c512_i32 : BitVec 32 := 512#32
  let v244 : BitVec 32 := Scalar.addi v243 c512_i32
  let c0_i32_93 : BitVec 32 := 0#32
  let v249 : BitVec 32 := Scalar.addi v244 c0_i32_93
  v249
def k0_mult40 (i : grid0.Coords) : BitVec 32 :=
  let arg1 : BitVec 32 := BitVec.ofNat 32 (i 1).val
  let c1024_i32_89 : BitVec 32 := 1024#32
  let v243 : BitVec 32 := Scalar.muli arg1 c1024_i32_89
  let c512_i32 : BitVec 32 := 512#32
  let v244 : BitVec 32 := Scalar.addi v243 c512_i32
  let c128_i32_95 : BitVec 32 := 128#32
  let v253 : BitVec 32 := Scalar.addi v244 c128_i32_95
  v253
def k0_mult41 (i : grid0.Coords) : BitVec 32 :=
  let arg1 : BitVec 32 := BitVec.ofNat 32 (i 1).val
  let c1024_i32_89 : BitVec 32 := 1024#32
  let v243 : BitVec 32 := Scalar.muli arg1 c1024_i32_89
  let c512_i32 : BitVec 32 := 512#32
  let v244 : BitVec 32 := Scalar.addi v243 c512_i32
  let c256_i32_97 : BitVec 32 := 256#32
  let v257 : BitVec 32 := Scalar.addi v244 c256_i32_97
  v257
def k0_mult42 (i : grid0.Coords) : BitVec 32 :=
  let arg1 : BitVec 32 := BitVec.ofNat 32 (i 1).val
  let c1024_i32_89 : BitVec 32 := 1024#32
  let v243 : BitVec 32 := Scalar.muli arg1 c1024_i32_89
  let c512_i32 : BitVec 32 := 512#32
  let v244 : BitVec 32 := Scalar.addi v243 c512_i32
  let c384_i32_99 : BitVec 32 := 384#32
  let v261 : BitVec 32 := Scalar.addi v244 c384_i32_99
  v261
def k0_mult43 (i : grid0.Coords) : BitVec 32 :=
  let arg1 : BitVec 32 := BitVec.ofNat 32 (i 1).val
  let c1024_i32_89 : BitVec 32 := 1024#32
  let v243 : BitVec 32 := Scalar.muli arg1 c1024_i32_89
  let c512_i32 : BitVec 32 := 512#32
  let v244 : BitVec 32 := Scalar.addi v243 c512_i32
  let c0_i32_101 : BitVec 32 := 0#32
  let v270 : BitVec 32 := Scalar.addi v244 c0_i32_101
  v270
def k0_mult44 (i : grid0.Coords) : BitVec 32 :=
  let arg1 : BitVec 32 := BitVec.ofNat 32 (i 1).val
  let c1024_i32_89 : BitVec 32 := 1024#32
  let v243 : BitVec 32 := Scalar.muli arg1 c1024_i32_89
  let c512_i32 : BitVec 32 := 512#32
  let v244 : BitVec 32 := Scalar.addi v243 c512_i32
  let c128_i32_103 : BitVec 32 := 128#32
  let v274 : BitVec 32 := Scalar.addi v244 c128_i32_103
  v274
def k0_mult45 (i : grid0.Coords) : BitVec 32 :=
  let arg1 : BitVec 32 := BitVec.ofNat 32 (i 1).val
  let c1024_i32_89 : BitVec 32 := 1024#32
  let v243 : BitVec 32 := Scalar.muli arg1 c1024_i32_89
  let c512_i32 : BitVec 32 := 512#32
  let v244 : BitVec 32 := Scalar.addi v243 c512_i32
  let c256_i32_105 : BitVec 32 := 256#32
  let v278 : BitVec 32 := Scalar.addi v244 c256_i32_105
  v278
def k0_mult46 (i : grid0.Coords) : BitVec 32 :=
  let arg1 : BitVec 32 := BitVec.ofNat 32 (i 1).val
  let c1024_i32_89 : BitVec 32 := 1024#32
  let v243 : BitVec 32 := Scalar.muli arg1 c1024_i32_89
  let c512_i32 : BitVec 32 := 512#32
  let v244 : BitVec 32 := Scalar.addi v243 c512_i32
  let c384_i32_107 : BitVec 32 := 384#32
  let v282 : BitVec 32 := Scalar.addi v244 c384_i32_107
  v282
def k0_mult47 (i : grid0.Coords) : BitVec 32 :=
  let arg1 : BitVec 32 := BitVec.ofNat 32 (i 1).val
  let c1024_i32_89 : BitVec 32 := 1024#32
  let v243 : BitVec 32 := Scalar.muli arg1 c1024_i32_89
  let c512_i32 : BitVec 32 := 512#32
  let v244 : BitVec 32 := Scalar.addi v243 c512_i32
  let c0_i32_145 : BitVec 32 := 0#32
  let v382 : BitVec 32 := Scalar.addi v244 c0_i32_145
  v382
def k0_mult48 (i : grid0.Coords) : BitVec 32 :=
  let arg1 : BitVec 32 := BitVec.ofNat 32 (i 1).val
  let c1024_i32_89 : BitVec 32 := 1024#32
  let v243 : BitVec 32 := Scalar.muli arg1 c1024_i32_89
  let c512_i32 : BitVec 32 := 512#32
  let v244 : BitVec 32 := Scalar.addi v243 c512_i32
  let c128_i32_150 : BitVec 32 := 128#32
  let v402 : BitVec 32 := Scalar.addi v244 c128_i32_150
  v402
def k0_mult49 (i : grid0.Coords) : BitVec 32 :=
  let arg1 : BitVec 32 := BitVec.ofNat 32 (i 1).val
  let c1024_i32_89 : BitVec 32 := 1024#32
  let v243 : BitVec 32 := Scalar.muli arg1 c1024_i32_89
  let c512_i32 : BitVec 32 := 512#32
  let v244 : BitVec 32 := Scalar.addi v243 c512_i32
  let c256_i32_155 : BitVec 32 := 256#32
  let v422 : BitVec 32 := Scalar.addi v244 c256_i32_155
  v422
def k0_mult50 (i : grid0.Coords) : BitVec 32 :=
  let arg1 : BitVec 32 := BitVec.ofNat 32 (i 1).val
  let c1024_i32_89 : BitVec 32 := 1024#32
  let v243 : BitVec 32 := Scalar.muli arg1 c1024_i32_89
  let c512_i32 : BitVec 32 := 512#32
  let v244 : BitVec 32 := Scalar.addi v243 c512_i32
  let c384_i32_160 : BitVec 32 := 384#32
  let v442 : BitVec 32 := Scalar.addi v244 c384_i32_160
  v442
def k0_cond4 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_5 : BitVec 32 := 0#32
  let v11 : BitVec 1 := Scalar.cmpi .ne v10 c0_i32_5
  v11

@[reducible] def k0_t2_loop : Scf.Loop 32 :=
  let c0_i32_6 : BitVec 32 := 0#32
  let c16_i32 : BitVec 32 := 16#32
  let v13 : BitVec 32 := Scalar.addi c0_i32_6 c16_i32
  let c1_i32 : BitVec 32 := 1#32
  ⟨c0_i32_6, v13, c1_i32⟩
def k0_mult51 (k0_t2 : Fin k0_t2_loop.trips) : BitVec 32 :=
  let c0_i32_6 : BitVec 32 := 0#32
  let c1_i32 : BitVec 32 := 1#32
  let arg20 : BitVec 32 := Scf.iv c0_i32_6 c1_i32 k0_t2
  let c512_i32 : BitVec 32 := 512#32
  let v18 : BitVec 32 := Scalar.muli arg20 c512_i32
  v18
def k0_mult52 (k0_t2 : Fin k0_t2_loop.trips) : BitVec 32 :=
  let c512_i32_11 : BitVec 32 := 512#32
  let c0_i32_6 : BitVec 32 := 0#32
  let c1_i32 : BitVec 32 := 1#32
  let arg20 : BitVec 32 := Scf.iv c0_i32_6 c1_i32 k0_t2
  let c512_i32_10 : BitVec 32 := 512#32
  let v20 : BitVec 32 := Scalar.muli arg20 c512_i32_10
  let v21 : BitVec 32 := Scalar.addi c512_i32_11 v20
  v21
def k0_off5 (k0_t2 : Fin k0_t2_loop.trips) : Fin 2 → Nat :=
  let c0_i32_6 : BitVec 32 := 0#32
  let c1_i32 : BitVec 32 := 1#32
  let arg20 : BitVec 32 := Scf.iv c0_i32_6 c1_i32 k0_t2
  let c512_i32 : BitVec 32 := 512#32
  let v18 : BitVec 32 := Scalar.muli arg20 c512_i32
  let v19 : BitVec 32 := v18
  let v23 : Index := Scalar.indexCast v19
  let c0_12 : Index := 0#32
  ![v23.toNat, 0]
def k0_off6 (k0_t2 : Fin k0_t2_loop.trips) : Fin 2 → Nat :=
  let c512_i32_11 : BitVec 32 := 512#32
  let c0_i32_6 : BitVec 32 := 0#32
  let c1_i32 : BitVec 32 := 1#32
  let arg20 : BitVec 32 := Scf.iv c0_i32_6 c1_i32 k0_t2
  let c512_i32_10 : BitVec 32 := 512#32
  let v20 : BitVec 32 := Scalar.muli arg20 c512_i32_10
  let v21 : BitVec 32 := Scalar.addi c512_i32_11 v20
  let v22 : BitVec 32 := v21
  let v40 : Index := Scalar.indexCast v22
  let c0_19 : Index := 0#32
  ![v40.toNat, 0]
def k0_off7 (k0_t2 : Fin k0_t2_loop.trips) : Fin 3 → Nat :=
  let c0_24 : Index := 0#32
  let c0_i32_6 : BitVec 32 := 0#32
  let c1_i32 : BitVec 32 := 1#32
  let arg20 : BitVec 32 := Scf.iv c0_i32_6 c1_i32 k0_t2
  let c512_i32 : BitVec 32 := 512#32
  let v18 : BitVec 32 := Scalar.muli arg20 c512_i32
  let v19 : BitVec 32 := v18
  let v63 : Index := Scalar.indexCast v19
  let c0_25 : Index := 0#32
  ![0, v63.toNat, 0]
def k0_off8 (k0_t2 : Fin k0_t2_loop.trips) : Fin 3 → Nat :=
  let c1 : Index := 1#32
  let c0_i32_6 : BitVec 32 := 0#32
  let c1_i32 : BitVec 32 := 1#32
  let arg20 : BitVec 32 := Scf.iv c0_i32_6 c1_i32 k0_t2
  let c512_i32 : BitVec 32 := 512#32
  let v18 : BitVec 32 := Scalar.muli arg20 c512_i32
  let v19 : BitVec 32 := v18
  let v70 : Index := Scalar.indexCast v19
  let c0_27 : Index := 0#32
  ![1, v70.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x8192x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S8192x8192 : Shape := ⟨2, ![8192, 8192]⟩
abbrev S1x16x513 : Shape := ⟨3, ![1, 16, 513]⟩
abbrev S1x128 : Shape := ⟨2, ![1, 128]⟩
abbrev S8192x2048 : Shape := ⟨2, ![8192, 2048]⟩
abbrev S8192x16x128 : Shape := ⟨3, ![8192, 16, 128]⟩
abbrev S128 : Shape := ⟨1, ![128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S8704x16x128 : Shape := ⟨3, ![8704, 16, 128]⟩
abbrev S136x64x16x128 : Shape := ⟨4, ![136, 64, 16, 128]⟩
abbrev S128x64x16x128 : Shape := ⟨4, ![128, 64, 16, 128]⟩
abbrev S128x576x16x128 : Shape := ⟨4, ![128, 576, 16, 128]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S16x513 : Shape := ⟨2, ![16, 513]⟩
abbrev S64x576x1 : Shape := ⟨3, ![64, 576, 1]⟩
abbrev S16x64x576 : Shape := ⟨3, ![16, 64, 576]⟩
abbrev S128x1 : Shape := ⟨2, ![128, 1]⟩
abbrev S128x576 : Shape := ⟨2, ![128, 576]⟩
abbrev S128x16x64x576 : Shape := ⟨4, ![128, 16, 64, 576]⟩
abbrev S1x16x64x576 : Shape := ⟨4, ![1, 16, 64, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S128x16x128x64 : Shape := ⟨4, ![128, 16, 128, 64]⟩
abbrev S128x16x64x128 : Shape := ⟨4, ![128, 16, 64, 128]⟩
abbrev S1x8192x2048 : Shape := ⟨3, ![1, 8192, 2048]⟩
abbrev S2x8192x2048 : Shape := ⟨3, ![2, 8192, 2048]⟩

abbrev nBuf : Space → Nat
  | .hbm => 251
  | .vmem => 0
  | .smem => 0
  | _ => 0

abbrev hbmTy0_0 (i : Nat) : BufTy := match i % 128 with
  | 0 => ⟨S8192x8192, .f32⟩
  | 1 => ⟨S1x16x513, .f32⟩
  | 2 => ⟨S1x128, .f32⟩
  | 3 => ⟨S1x128, .f32⟩
  | 4 => ⟨S8192x2048, .f32⟩
  | 5 => ⟨S8192x2048, .f32⟩
  | 6 => ⟨S8192x16x128, .f32⟩
  | 7 => ⟨S128, .f32⟩
  | 8 => ⟨S8192x16x128, .f32⟩
  | 9 => ⟨S_, .f32⟩
  | 10 => ⟨S8192x16, .f32⟩
  | 11 => ⟨S8192x16x1, .f32⟩
  | 12 => ⟨S_, .f32⟩
  | 13 => ⟨S8192x16x1, .f32⟩
  | 14 => ⟨S8192x16x1, .f32⟩
  | 15 => ⟨S_, .f32⟩
  | 16 => ⟨S8192x16x1, .f32⟩
  | 17 => ⟨S8192x16x1, .f32⟩
  | 18 => ⟨S8192x16x1, .f32⟩
  | 19 => ⟨S8192x16x128, .f32⟩
  | 20 => ⟨S8192x16x128, .f32⟩
  | 21 => ⟨S1x1x128, .f32⟩
  | 22 => ⟨S8192x16x128, .f32⟩
  | 23 => ⟨S8192x16x128, .f32⟩
  | 24 => ⟨S8192x2048, .f32⟩
  | 25 => ⟨S8192x16x128, .f32⟩
  | 26 => ⟨S_, .i32⟩
  | 27 => ⟨S_, .f32⟩
  | 28 => ⟨S8704x16x128, .f32⟩
  | 29 => ⟨S136x64x16x128, .f32⟩
  | 30 => ⟨S_, .i32⟩
  | 31 => ⟨S_, .f32⟩
  | 32 => ⟨S8704x16x128, .f32⟩
  | 33 => ⟨S136x64x16x128, .f32⟩
  | 34 => ⟨S128x64x16x128, .f32⟩
  | 35 => ⟨S128x64x16x128, .f32⟩
  | 36 => ⟨S128x64x16x128, .f32⟩
  | 37 => ⟨S128x64x16x128, .f32⟩
  | 38 => ⟨S128x64x16x128, .f32⟩
  | 39 => ⟨S128x64x16x128, .f32⟩
  | 40 => ⟨S128x64x16x128, .f32⟩
  | 41 => ⟨S128x64x16x128, .f32⟩
  | 42 => ⟨S128x64x16x128, .f32⟩
  | 43 => ⟨S128x576x16x128, .f32⟩
  | 44 => ⟨S128x64x16x128, .f32⟩
  | 45 => ⟨S128x64x16x128, .f32⟩
  | 46 => ⟨S128x64x16x128, .f32⟩
  | 47 => ⟨S128x64x16x128, .f32⟩
  | 48 => ⟨S128x64x16x128, .f32⟩
  | 49 => ⟨S128x64x16x128, .f32⟩
  | 50 => ⟨S128x64x16x128, .f32⟩
  | 51 => ⟨S128x64x16x128, .f32⟩
  | 52 => ⟨S128x64x16x128, .f32⟩
  | 53 => ⟨S128x576x16x128, .f32⟩
  | 54 => ⟨S64, .i32⟩
  | 55 => ⟨S576, .i32⟩
  | 56 => ⟨S64x1, .i32⟩
  | 57 => ⟨S_, .i32⟩
  | 58 => ⟨S64x1, .i32⟩
  | 59 => ⟨S64x1, .i32⟩
  | 60 => ⟨S1x576, .i32⟩
  | 61 => ⟨S64x576, .i32⟩
  | 62 => ⟨S64x576, .i32⟩
  | 63 => ⟨S64x576, .i32⟩
  | 64 => ⟨S_, .i32⟩
  | 65 => ⟨S_, .i32⟩
  | 66 => ⟨S_, .i32⟩
  | 67 => ⟨S64x576, .i32⟩
  | 68 => ⟨S64x576, .i32⟩
  | 69 => ⟨S_, .i32⟩
  | 70 => ⟨S64x576, .i32⟩
  | 71 => ⟨S64x576, .i32⟩
  | 72 => ⟨S_, .i32⟩
  | 73 => ⟨S64x576, .i32⟩
  | 74 => ⟨S64x576, .i32⟩
  | 75 => ⟨S16x513, .f32⟩
  | 76 => ⟨S_, .i32⟩
  | 77 => ⟨S64x576, .i32⟩
  | 78 => ⟨S64x576, .i1⟩
  | 79 => ⟨S_, .i32⟩
  | 80 => ⟨S64x576, .i32⟩
  | 81 => ⟨S64x576, .i32⟩
  | 82 => ⟨S64x576, .i32⟩
  | 83 => ⟨S64x576x1, .i32⟩
  | 84 => ⟨S16x64x576, .f32⟩
  | 85 => ⟨S128, .i32⟩
  | 86 => ⟨S128x1, .i32⟩
  | 87 => ⟨S_, .i32⟩
  | 88 => ⟨S128x1, .i32⟩
  | 89 => ⟨S128x1, .i32⟩
  | 90 => ⟨S_, .i32⟩
  | 91 => ⟨S128x1, .i32⟩
  | 92 => ⟨S128x1, .i32⟩
  | 93 => ⟨S1x576, .i32⟩
  | 94 => ⟨S128x576, .i32⟩
  | 95 => ⟨S128x576, .i32⟩
  | 96 => ⟨S128x576, .i32⟩
  | 97 => ⟨S_, .i32⟩
  | 98 => ⟨S128x576, .i32⟩
  | 99 => ⟨S128x576, .i1⟩
  | 100 => ⟨S8192x2048, .f32⟩
  | 101 => ⟨S8192x2048, .f32⟩
  | 102 => ⟨S8192x16x128, .f32⟩
  | 103 => ⟨S128, .f32⟩
  | 104 => ⟨S8192x16x128, .f32⟩
  | 105 => ⟨S_, .f32⟩
  | 106 => ⟨S8192x16, .f32⟩
  | 107 => ⟨S8192x16x1, .f32⟩
  | 108 => ⟨S_, .f32⟩
  | 109 => ⟨S8192x16x1, .f32⟩
  | 110 => ⟨S8192x16x1, .f32⟩
  | 111 => ⟨S_, .f32⟩
  | 112 => ⟨S8192x16x1, .f32⟩
  | 113 => ⟨S8192x16x1, .f32⟩
  | 114 => ⟨S8192x16x1, .f32⟩
  | 115 => ⟨S8192x16x1, .f32⟩
  | 116 => ⟨S_, .f32⟩
  | 117 => ⟨S8192x16x1, .f32⟩
  | 118 => ⟨S8192x16x1, .f32⟩
  | 119 => ⟨S8192x16x128, .f32⟩
  | 120 => ⟨S8192x16x128, .f32⟩
  | 121 => ⟨S1x1x128, .f32⟩
  | 122 => ⟨S8192x16x128, .f32⟩
  | 123 => ⟨S8192x16x128, .f32⟩
  | 124 => ⟨S128x64x16x128, .f32⟩
  | 125 => ⟨S128x16x64x576, .f32⟩
  | 126 => ⟨S_, .f32⟩
  | 127 => ⟨S128x16x64x576, .f32⟩
  | _ => ⟨S8192x8192, .f32⟩

abbrev hbmTy0_1 (i : Nat) : BufTy := match i % 128 with
  | 0 => ⟨S128x16x64x576, .f32⟩
  | 1 => ⟨S1x16x64x576, .f32⟩
  | 2 => ⟨S128x16x64x576, .f32⟩
  | 3 => ⟨S128x16x64x576, .f32⟩
  | 4 => ⟨S128x1x1x576, .i1⟩
  | 5 => ⟨S_, .f32⟩
  | 6 => ⟨S_, .f32⟩
  | 7 => ⟨S128x16x64x576, .i1⟩
  | 8 => ⟨S128x16x64x576, .f32⟩
  | 9 => ⟨S128x16x64x576, .f32⟩
  | 10 => ⟨S_, .f32⟩
  | 11 => ⟨S128x16x64x576, .f32⟩
  | 12 => ⟨S_, .f32⟩
  | 13 => ⟨S128x16x64, .f32⟩
  | 14 => ⟨S128x16x64x1, .f32⟩
  | 15 => ⟨S128x16x64x576, .f32⟩
  | 16 => ⟨S128x16x64x576, .i1⟩
  | 17 => ⟨S128x16x64x576, .f32⟩
  | 18 => ⟨S_, .f32⟩
  | 19 => ⟨S128x16x64, .f32⟩
  | 20 => ⟨S_, .f32⟩
  | 21 => ⟨S128x16x64, .f32⟩
  | 22 => ⟨S128x16x64, .f32⟩
  | 23 => ⟨S_, .f32⟩
  | 24 => ⟨S128x16x64, .f32⟩
  | 25 => ⟨S128x16x64, .i1⟩
  | 26 => ⟨S_, .f32⟩
  | 27 => ⟨S128x16x64, .f32⟩
  | 28 => ⟨S128x16x64, .i1⟩
  | 29 => ⟨S_, .f32⟩
  | 30 => ⟨S128x16x64, .f32⟩
  | 31 => ⟨S_, .f32⟩
  | 32 => ⟨S128x16x64, .f32⟩
  | 33 => ⟨S_, .f32⟩
  | 34 => ⟨S128x16x64, .f32⟩
  | 35 => ⟨S128x16x64, .f32⟩
  | 36 => ⟨S128x16x64, .f32⟩
  | 37 => ⟨S128x16x64x1, .f32⟩
  | 38 => ⟨S128x16x64x576, .f32⟩
  | 39 => ⟨S128x16x64x576, .f32⟩
  | 40 => ⟨S128x16x64x576, .f32⟩
  | 41 => ⟨S_, .f32⟩
  | 42 => ⟨S128x16x64, .f32⟩
  | 43 => ⟨S128x16x64x1, .f32⟩
  | 44 => ⟨S128x16x64x576, .f32⟩
  | 45 => ⟨S128x16x64x576, .f32⟩
  | 46 => ⟨S128x16x64x1, .f32⟩
  | 47 => ⟨S_, .f32⟩
  | 48 => ⟨S128x16x64x1, .f32⟩
  | 49 => ⟨S128x16x64x1, .f32⟩
  | 50 => ⟨S128x16x128x64, .f32⟩
  | 51 => ⟨S128x64x16x128, .f32⟩
  | 52 => ⟨S8192x2048, .f32⟩
  | 53 => ⟨S8192x2048, .f32⟩
  | 54 => ⟨S8192x2048, .f32⟩
  | 55 => ⟨S_, .f32⟩
  | 56 => ⟨S8192x2048, .f32⟩
  | 57 => ⟨S8192x2048, .f32⟩
  | 58 => ⟨S_, .f32⟩
  | 59 => ⟨S8192x2048, .f32⟩
  | 60 => ⟨S8192x2048, .f32⟩
  | 61 => ⟨S_, .f32⟩
  | 62 => ⟨S8192x2048, .f32⟩
  | 63 => ⟨S8192x2048, .f32⟩
  | 64 => ⟨S8192x2048, .f32⟩
  | 65 => ⟨S8192x2048, .f32⟩
  | 66 => ⟨S8192x2048, .f32⟩
  | 67 => ⟨S8192x2048, .f32⟩
  | 68 => ⟨S8192x2048, .f32⟩
  | 69 => ⟨S8192x2048, .f32⟩
  | 70 => ⟨S8192x2048, .f32⟩
  | 71 => ⟨S8192x2048, .f32⟩
  | 72 => ⟨S8192x2048, .f32⟩
  | 73 => ⟨S128x64x16x128, .f32⟩
  | 74 => ⟨S128x16x128x64, .f32⟩
  | 75 => ⟨S128x16x64x576, .f32⟩
  | 76 => ⟨S128x16x64x576, .f32⟩
  | 77 => ⟨S128x16x64x576, .f32⟩
  | 78 => ⟨S128x16x64x576, .f32⟩
  | 79 => ⟨S_, .f32⟩
  | 80 => ⟨S128x16x64, .f32⟩
  | 81 => ⟨S128x16x64x1, .f32⟩
  | 82 => ⟨S128x16x64x1, .f32⟩
  | 83 => ⟨S128x16x64x576, .f32⟩
  | 84 => ⟨S128x16x64x576, .f32⟩
  | 85 => ⟨S_, .f32⟩
  | 86 => ⟨S128x16x64, .f32⟩
  | 87 => ⟨S128x16x64x576, .f32⟩
  | 88 => ⟨S128x16x64x576, .f32⟩
  | 89 => ⟨S128x16x64x576, .f32⟩
  | 90 => ⟨S_, .f32⟩
  | 91 => ⟨S128x16x64x576, .f32⟩
  | 92 => ⟨S128x16x64x576, .f32⟩
  | 93 => ⟨S_, .f32⟩
  | 94 => ⟨S128x16x64x576, .f32⟩
  | 95 => ⟨S128x16x64x576, .f32⟩
  | 96 => ⟨S128x16x64x128, .f32⟩
  | 97 => ⟨S128x64x16x128, .f32⟩
  | 98 => ⟨S8192x16x128, .f32⟩
  | 99 => ⟨S8192x16x128, .f32⟩
  | 100 => ⟨S8192x16x128, .f32⟩
  | 101 => ⟨S8192x16x128, .f32⟩
  | 102 => ⟨S_, .f32⟩
  | 103 => ⟨S8192x16, .f32⟩
  | 104 => ⟨S8192x16x1, .f32⟩
  | 105 => ⟨S8192x16x128, .f32⟩
  | 106 => ⟨S8192x16x128, .f32⟩
  | 107 => ⟨S8192x16x1, .f32⟩
  | 108 => ⟨S_, .f32⟩
  | 109 => ⟨S8192x16x1, .f32⟩
  | 110 => ⟨S8192x16x1, .f32⟩
  | 111 => ⟨S_, .f32⟩
  | 112 => ⟨S8192x16, .f32⟩
  | 113 => ⟨S8192x16x128, .f32⟩
  | 114 => ⟨S8192x16x128, .f32⟩
  | 115 => ⟨S8192x16x128, .f32⟩
  | 116 => ⟨S8192x16x128, .f32⟩
  | 117 => ⟨S8192x16x128, .f32⟩
  | 118 => ⟨S8192x2048, .f32⟩
  | 119 => ⟨S1x8192x2048, .f32⟩
  | 120 => ⟨S1x8192x2048, .f32⟩
  | 121 => ⟨S2x8192x2048, .f32⟩
  | 122 => ⟨S2x8192x2048, .bf16⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_call1_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_3 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_4 : Ref sig .tc := ⟨.hbm, 64, rfl⟩
abbrev main_c_5 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v51 : Ref sig .tc := ⟨.hbm, 71, rfl⟩
abbrev main_c_6 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_7 : Ref sig .tc := ⟨.hbm, 76, rfl⟩
abbrev main_v55 : Ref sig .tc := ⟨.hbm, 77, rfl⟩
abbrev main_v56 : Ref sig .tc := ⟨.hbm, 78, rfl⟩
abbrev main_c_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_9 : Ref sig .tc := ⟨.hbm, 87, rfl⟩
abbrev main_v64 : Ref sig .tc := ⟨.hbm, 88, rfl⟩
abbrev main_v65 : Ref sig .tc := ⟨.hbm, 89, rfl⟩
abbrev main_c_10 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_cst_14 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_15 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_16 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_17 : Ref sig .tc := ⟨.hbm, 133, rfl⟩
abbrev main_call3_v0 : Ref sig .tc := ⟨.hbm, 134, rfl⟩
abbrev main_v102_1 : Ref sig .tc := ⟨.hbm, 135, rfl⟩
abbrev main_call3_v2 : Ref sig .tc := ⟨.hbm, 136, rfl⟩
abbrev main_v102_0 : Ref sig .tc := ⟨.hbm, 137, rfl⟩
abbrev main_call3_cst : Ref sig .tc := ⟨.hbm, 138, rfl⟩
abbrev main_v102_2 : Ref sig .tc := ⟨.hbm, 139, rfl⟩
abbrev main_cst_18 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_19 : Ref sig .tc := ⟨.hbm, 146, rfl⟩
abbrev main_v108 : Ref sig .tc := ⟨.hbm, 147, rfl⟩
abbrev main_cst_20 : Ref sig .tc := ⟨.hbm, 148, rfl⟩
abbrev main_v109 : Ref sig .tc := ⟨.hbm, 149, rfl⟩
abbrev main_v110 : Ref sig .tc := ⟨.hbm, 150, rfl⟩
abbrev main_cst_21 : Ref sig .tc := ⟨.hbm, 151, rfl⟩
abbrev main_v111 : Ref sig .tc := ⟨.hbm, 152, rfl⟩
abbrev main_v112 : Ref sig .tc := ⟨.hbm, 153, rfl⟩
abbrev main_cst_22 : Ref sig .tc := ⟨.hbm, 154, rfl⟩
abbrev main_v113 : Ref sig .tc := ⟨.hbm, 155, rfl⟩
abbrev main_v114 : Ref sig .tc := ⟨.hbm, 156, rfl⟩
abbrev main_cst_23 : Ref sig .tc := ⟨.hbm, 157, rfl⟩
abbrev main_v115 : Ref sig .tc := ⟨.hbm, 158, rfl⟩
abbrev main_cst_24 : Ref sig .tc := ⟨.hbm, 159, rfl⟩
abbrev main_v116 : Ref sig .tc := ⟨.hbm, 160, rfl⟩
abbrev main_cst_25 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_26 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_27 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_call4_v0 : Ref sig .tc := ⟨.hbm, 181, rfl⟩
abbrev main_call4_v1 : Ref sig .tc := ⟨.hbm, 182, rfl⟩
abbrev main_call4_cst : Ref sig .tc := ⟨.hbm, 183, rfl⟩
abbrev main_call4_v2 : Ref sig .tc := ⟨.hbm, 184, rfl⟩
abbrev main_call4_v3 : Ref sig .tc := ⟨.hbm, 185, rfl⟩
abbrev main_call4_cst_0 : Ref sig .tc := ⟨.hbm, 186, rfl⟩
abbrev main_call4_v4 : Ref sig .tc := ⟨.hbm, 187, rfl⟩
abbrev main_v134_2 : Ref sig .tc := ⟨.hbm, 188, rfl⟩
abbrev main_call4_cst_1 : Ref sig .tc := ⟨.hbm, 189, rfl⟩
abbrev main_call4_v6 : Ref sig .tc := ⟨.hbm, 190, rfl⟩
abbrev main_call4_v7 : Ref sig .tc := ⟨.hbm, 191, rfl⟩
abbrev main_v134_1 : Ref sig .tc := ⟨.hbm, 192, rfl⟩
abbrev main_v134_0 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_call5_v0 : Ref sig .tc := ⟨.hbm, 197, rfl⟩
abbrev main_call5_v1 : Ref sig .tc := ⟨.hbm, 198, rfl⟩
abbrev main_call5_v2 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_cst_28 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_cst_29 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_call6_cst : Ref sig .tc := ⟨.hbm, 218, rfl⟩
abbrev main_call6_v0 : Ref sig .tc := ⟨.hbm, 219, rfl⟩
abbrev main_v154 : Ref sig .tc := ⟨.hbm, 220, rfl⟩
abbrev main_cst_30 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_cst_31 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_cst_32 : Ref sig .tc := ⟨.hbm, 236, rfl⟩
abbrev main_v168 : Ref sig .tc := ⟨.hbm, 237, rfl⟩
abbrev main_v169 : Ref sig .tc := ⟨.hbm, 238, rfl⟩
abbrev main_cst_33 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩

abbrev nD : Nat := 1
abbrev τ : Topo := Topo.v7x

variable {F : FTy → Type} [FloatOps F]
-- ==== Kernel2.lean ====
abbrev S2048x8192 : Shape := ⟨2, ![2048, 8192]⟩
abbrev S2x8192x2048 : Shape := ⟨3, ![2, 8192, 2048]⟩
abbrev S8192x2048 : Shape := ⟨2, ![8192, 2048]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S2x8192x2048, .bf16⟩
  | .hbm, ⟨2, _⟩ => ⟨S2x8192x2048, .bf16⟩
  | .hbm, ⟨3, _⟩ => ⟨S8192x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond4 (i : grid0.Coords) : BitVec 1 :=
  let arg2 : BitVec 32 := BitVec.ofNat 32 (i 2).val
  let c3_i32 : BitVec 32 := 3#32
  let v49 : BitVec 1 := Scalar.cmpi .eq arg2 c3_i32
  let v50 : BitVec 32 := Scalar.extui v49
  let c0_i32_21 : BitVec 32 := 0#32
  let v51 : BitVec 1 := Scalar.cmpi .ne v50 c0_i32_21
  v51

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.subi v16 c0_i32_5
  let c0_i32_6 : BitVec 32 := 0#32
  let v18 : BitVec 1 := Scalar.cmpi .sge v17 c0_i32_6
  let c2_i32 : BitVec 32 := 2#32
  let v19 : BitVec 1 := Scalar.cmpi .slt v17 c2_i32
  let v20 : BitVec 1 := Scalar.andi v18 v19
  let c0_i32_7 : BitVec 32 := 0#32
  let c1_i32_8 : BitVec 32 := 1#32
  let v21 : BitVec 32 := Scalar.maxsi c0_i32_7 v17
  let v22 : BitVec 32 := Scalar.minsi c1_i32_8 v21
  let c1_i32_9 : BitVec 32 := 1#32
  let c0_i32_10 : BitVec 32 := 0#32
  let v23 : BitVec 1 := Scalar.cmpi .eq c1_i32_9 c0_i32_10
  let c1_i32_11 : BitVec 32 := 1#32
  let v24 : BitVec 32 := Scalar.select v23 c1_i32_11 c1_i32_9
  let v25 : BitVec 32 := Scalar.remsi arg2 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c0_i32_15 : BitVec 32 := 0#32
  ![v22.toNat, arg0.toNat, v32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.subi v16 c2_i32
  let c0_i32_5 : BitVec 32 := 0#32
  let v18 : BitVec 1 := Scalar.cmpi .sge v17 c0_i32_5
  let c2_i32_6 : BitVec 32 := 2#32
  let v19 : BitVec 1 := Scalar.cmpi .slt v17 c2_i32_6
  let v20 : BitVec 1 := Scalar.andi v18 v19
  let c0_i32_7 : BitVec 32 := 0#32
  let c1_i32_8 : BitVec 32 := 1#32
  let v21 : BitVec 32 := Scalar.maxsi c0_i32_7 v17
  let v22 : BitVec 32 := Scalar.minsi c1_i32_8 v21
  let c1_i32_9 : BitVec 32 := 1#32
  let c0_i32_10 : BitVec 32 := 0#32
  let v23 : BitVec 1 := Scalar.cmpi .eq c1_i32_9 c0_i32_10
  let c1_i32_11 : BitVec 32 := 1#32
  let v24 : BitVec 32 := Scalar.select v23 c1_i32_11 c1_i32_9
  let v25 : BitVec 32 := Scalar.remsi arg2 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c0_i32_15 : BitVec 32 := 0#32
  ![v22.toNat, arg0.toNat, v32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c1_i32_5 : BitVec 32 := 1#32
  let c2_i32_6 : BitVec 32 := 2#32
  let v18 : BitVec 32 := Scalar.select v17 c1_i32_5 c2_i32_6
  let c1_i32_7 : BitVec 32 := 1#32
  let v19 : BitVec 1 := Scalar.cmpi .eq v16 c1_i32_7
  let c3_i32 : BitVec 32 := 3#32
  let v20 : BitVec 32 := Scalar.select v19 c3_i32 v18
  let c0_i32_8 : BitVec 32 := 0#32
  let v21 : BitVec 1 := Scalar.cmpi .eq v16 c0_i32_8
  let c0_i32_9 : BitVec 32 := 0#32
  let v22 : BitVec 32 := Scalar.select v21 c0_i32_9 v20
  let c1_i32_10 : BitVec 32 := 1#32
  let v23 : BitVec 32 := Scalar.muli v22 c1_i32_10
  let c1_i32_11 : BitVec 32 := 1#32
  let c0_i32_12 : BitVec 32 := 0#32
  let v24 : BitVec 1 := Scalar.cmpi .eq c1_i32_11 c0_i32_12
  let c1_i32_13 : BitVec 32 := 1#32
  let v25 : BitVec 32 := Scalar.select v24 c1_i32_13 c1_i32_11
  let v26 : BitVec 32 := Scalar.remsi arg2 v25
  let c0_i32_14 : BitVec 32 := 0#32
  let v27 : BitVec 1 := Scalar.cmpi .ne v26 c0_i32_14
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let v31 : BitVec 1 := Scalar.andi v30 v27
  let v32 : BitVec 32 := Scalar.addi v26 v25
  let v33 : BitVec 32 := Scalar.select v31 v32 v26
  let v34 : BitVec 32 := Scalar.addi v23 v33
  let c0_i32_17 : BitVec 32 := 0#32
  ![arg1.toNat, v34.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x8192 : Shape := ⟨2, ![2048, 8192]⟩
abbrev S2x8192x2048 : Shape := ⟨3, ![2, 8192, 2048]⟩
abbrev S1x8192x2048 : Shape := ⟨3, ![1, 8192, 2048]⟩
abbrev S8192x2048 : Shape := ⟨2, ![8192, 2048]⟩
abbrev S8192x8192 : Shape := ⟨2, ![8192, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2x8192x2048, .bf16⟩
  | .hbm, ⟨2, _⟩ => ⟨S2x8192x2048, .bf16⟩
  | .hbm, ⟨3, _⟩ => ⟨S2048x8192, .f32⟩
  | .hbm, ⟨4, _⟩ => ⟨S2x8192x2048, .f32⟩
  | .hbm, ⟨5, _⟩ => ⟨S2x8192x2048, .f32⟩
  | .hbm, ⟨6, _⟩ => ⟨S1x8192x2048, .f32⟩
  | .hbm, ⟨7, _⟩ => ⟨S8192x2048, .f32⟩
  | .hbm, ⟨8, _⟩ => ⟨S1x8192x2048, .f32⟩
  | .hbm, ⟨9, _⟩ => ⟨S8192x2048, .f32⟩
  | .hbm, ⟨10, _⟩ => ⟨S1x8192x2048, .f32⟩
  | .hbm, ⟨11, _⟩ => ⟨S8192x2048, .f32⟩
  | .hbm, ⟨12, _⟩ => ⟨S1x8192x2048, .f32⟩
  | .hbm, ⟨13, _⟩ => ⟨S8192x2048, .f32⟩
  | .hbm, ⟨14, _⟩ => ⟨S8192x8192, .f32⟩
  | .hbm, ⟨15, _⟩ => ⟨S_, .f32⟩
  | .hbm, ⟨16, _⟩ => ⟨S8192x2048, .f32⟩
  | .hbm, ⟨17, _⟩ => ⟨S8192x8192, .f32⟩
  | .hbm, ⟨18, _⟩ => ⟨S8192x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel3.lean ====
abbrev S8192x2048 : Shape := ⟨2, ![8192, 2048]⟩
abbrev S2x8192x2048 : Shape := ⟨3, ![2, 8192, 2048]⟩
abbrev S4x2048x2048 : Shape := ⟨3, ![4, 2048, 2048]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x8192x2048, .bf16⟩
  | .hbm, ⟨2, _⟩ => ⟨S2x8192x2048, .bf16⟩
  | .hbm, ⟨3, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

def k0_cond4 (i : grid0.Coords) : BitVec 1 :=
  let arg2 : BitVec 32 := BitVec.ofNat 32 (i 2).val
  let c3_i32 : BitVec 32 := 3#32
  let v49 : BitVec 1 := Scalar.cmpi .eq arg2 c3_i32
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.subi v16 c0_i32_4
  let c0_i32_5 : BitVec 32 := 0#32
  let v18 : BitVec 1 := Scalar.cmpi .sge v17 c0_i32_5
  let c2_i32_6 : BitVec 32 := 2#32
  let v19 : BitVec 1 := Scalar.cmpi .slt v17 c2_i32_6
  let v20 : BitVec 1 := Scalar.andi v18 v19
  let c0_i32_7 : BitVec 32 := 0#32
  let c1_i32_8 : BitVec 32 := 1#32
  let v21 : BitVec 32 := Scalar.maxsi c0_i32_7 v17
  let v22 : BitVec 32 := Scalar.minsi c1_i32_8 v21
  let c2_i32_9 : BitVec 32 := 2#32
  let c0_i32_10 : BitVec 32 := 0#32
  let v23 : BitVec 1 := Scalar.cmpi .eq c2_i32_9 c0_i32_10
  let c1_i32_11 : BitVec 32 := 1#32
  let v24 : BitVec 32 := Scalar.select v23 c1_i32_11 c2_i32_9
  let v25 : BitVec 32 := Scalar.remsi arg1 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c0_i32_15 : BitVec 32 := 0#32
  ![v22.toNat, arg2.toNat, v32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.subi v16 c2_i32_4
  let c0_i32_5 : BitVec 32 := 0#32
  let v18 : BitVec 1 := Scalar.cmpi .sge v17 c0_i32_5
  let c2_i32_6 : BitVec 32 := 2#32
  let v19 : BitVec 1 := Scalar.cmpi .slt v17 c2_i32_6
  let v20 : BitVec 1 := Scalar.andi v18 v19
  let c0_i32_7 : BitVec 32 := 0#32
  let c1_i32_8 : BitVec 32 := 1#32
  let v21 : BitVec 32 := Scalar.maxsi c0_i32_7 v17
  let v22 : BitVec 32 := Scalar.minsi c1_i32_8 v21
  let c2_i32_9 : BitVec 32 := 2#32
  let c0_i32_10 : BitVec 32 := 0#32
  let v23 : BitVec 1 := Scalar.cmpi .eq c2_i32_9 c0_i32_10
  let c1_i32_11 : BitVec 32 := 1#32
  let v24 : BitVec 32 := Scalar.select v23 c1_i32_11 c2_i32_9
  let v25 : BitVec 32 := Scalar.remsi arg1 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c0_i32_15 : BitVec 32 := 0#32
  ![v22.toNat, arg2.toNat, v32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 1 := Scalar.cmpi .eq v16 c2_i32_4
  let c1_i32_5 : BitVec 32 := 1#32
  let c2_i32_6 : BitVec 32 := 2#32
  let v18 : BitVec 32 := Scalar.select v17 c1_i32_5 c2_i32_6
  let c1_i32_7 : BitVec 32 := 1#32
  let v19 : BitVec 1 := Scalar.cmpi .eq v16 c1_i32_7
  let c3_i32 : BitVec 32 := 3#32
  let v20 : BitVec 32 := Scalar.select v19 c3_i32 v18
  let c0_i32_8 : BitVec 32 := 0#32
  let v21 : BitVec 1 := Scalar.cmpi .eq v16 c0_i32_8
  let c0_i32_9 : BitVec 32 := 0#32
  let v22 : BitVec 32 := Scalar.select v21 c0_i32_9 v20
  let c2_i32_10 : BitVec 32 := 2#32
  let v23 : BitVec 32 := Scalar.muli v22 c2_i32_10
  let c2_i32_11 : BitVec 32 := 2#32
  let c0_i32_12 : BitVec 32 := 0#32
  let v24 : BitVec 1 := Scalar.cmpi .eq c2_i32_11 c0_i32_12
  let c1_i32_13 : BitVec 32 := 1#32
  let v25 : BitVec 32 := Scalar.select v24 c1_i32_13 c2_i32_11
  let v26 : BitVec 32 := Scalar.remsi arg1 v25
  let c0_i32_14 : BitVec 32 := 0#32
  let v27 : BitVec 1 := Scalar.cmpi .ne v26 c0_i32_14
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let v31 : BitVec 1 := Scalar.andi v30 v27
  let v32 : BitVec 32 := Scalar.addi v26 v25
  let v33 : BitVec 32 := Scalar.select v31 v32 v26
  let v34 : BitVec 32 := Scalar.addi v23 v33
  let c2_i32_17 : BitVec 32 := 2#32
  let v35 : BitVec 32 := Scalar.divsi v34 c2_i32_17
  let c0_i32_18 : BitVec 32 := 0#32
  let v36 : BitVec 1 := Scalar.cmpi .sgt v34 c0_i32_18
  let v37 : BitVec 32 := Scalar.extui v36
  let c0_i32_19 : BitVec 32 := 0#32
  let v38 : BitVec 1 := Scalar.cmpi .slt v34 c0_i32_19
  let v39 : BitVec 32 := Scalar.extui v38
  let v40 : BitVec 32 := Scalar.subi v37 v39
  let c0_i32_20 : BitVec 32 := 0#32
  let v41 : BitVec 1 := Scalar.cmpi .sgt c2_i32_17 c0_i32_20
  let v42 : BitVec 32 := Scalar.extui v41
  let c0_i32_21 : BitVec 32 := 0#32
  let v43 : BitVec 1 := Scalar.cmpi .slt c2_i32_17 c0_i32_21
  let v44 : BitVec 32 := Scalar.extui v43
  let v45 : BitVec 32 := Scalar.subi v42 v44
  let v46 : BitVec 1 := Scalar.cmpi .ne v40 v45
  let v47 : BitVec 32 := Scalar.remsi v34 c2_i32_17
  let c0_i32_22 : BitVec 32 := 0#32
  let v48 : BitVec 1 := Scalar.cmpi .ne v47 c0_i32_22
  let v49 : BitVec 1 := Scalar.andi v46 v48
  let c1_i32_23 : BitVec 32 := 1#32
  let v50 : BitVec 32 := Scalar.subi v35 c1_i32_23
  let v51 : BitVec 32 := Scalar.select v49 v50 v35
  let c2_i32_24 : BitVec 32 := 2#32
  let v52 : BitVec 32 := Scalar.divsi arg1 c2_i32_24
  let c0_i32_25 : BitVec 32 := 0#32
  let v53 : BitVec 1 := Scalar.cmpi .sgt arg1 c0_i32_25
  let v54 : BitVec 32 := Scalar.extui v53
  let c0_i32_26 : BitVec 32 := 0#32
  let v55 : BitVec 1 := Scalar.cmpi .slt arg1 c0_i32_26
  let v56 : BitVec 32 := Scalar.extui v55
  let v57 : BitVec 32 := Scalar.subi v54 v56
  let c0_i32_27 : BitVec 32 := 0#32
  let v58 : BitVec 1 := Scalar.cmpi .sgt c2_i32_24 c0_i32_27
  let v59 : BitVec 32 := Scalar.extui v58
  let c0_i32_28 : BitVec 32 := 0#32
  let v60 : BitVec 1 := Scalar.cmpi .slt c2_i32_24 c0_i32_28
  let v61 : BitVec 32 := Scalar.extui v60
  let v62 : BitVec 32 := Scalar.subi v59 v61
  let v63 : BitVec 1 := Scalar.cmpi .ne v57 v62
  let v64 : BitVec 32 := Scalar.remsi arg1 c2_i32_24
  let c0_i32_29 : BitVec 32 := 0#32
  let v65 : BitVec 1 := Scalar.cmpi .ne v64 c0_i32_29
  let v66 : BitVec 1 := Scalar.andi v63 v65
  let c1_i32_30 : BitVec 32 := 1#32
  let v67 : BitVec 32 := Scalar.subi v52 c1_i32_30
  let v68 : BitVec 32 := Scalar.select v66 v67 v52
  let c2_i32_31 : BitVec 32 := 2#32
  let v69 : BitVec 1 := Scalar.cmpi .eq v68 c2_i32_31
  let c1_i32_32 : BitVec 32 := 1#32
  let c2_i32_33 : BitVec 32 := 2#32
  let v70 : BitVec 32 := Scalar.select v69 c1_i32_32 c2_i32_33
  let c1_i32_34 : BitVec 32 := 1#32
  let v71 : BitVec 1 := Scalar.cmpi .eq v68 c1_i32_34
  let c3_i32_35 : BitVec 32 := 3#32
  let v72 : BitVec 32 := Scalar.select v71 c3_i32_35 v70
  let c0_i32_36 : BitVec 32 := 0#32
  let v73 : BitVec 1 := Scalar.cmpi .eq v68 c0_i32_36
  let c0_i32_37 : BitVec 32 := 0#32
  let v74 : BitVec 32 := Scalar.select v73 c0_i32_37 v72
  let c2_i32_38 : BitVec 32 := 2#32
  let v75 : BitVec 32 := Scalar.muli v74 c2_i32_38
  let c2_i32_39 : BitVec 32 := 2#32
  let c0_i32_40 : BitVec 32 := 0#32
  let v76 : BitVec 1 := Scalar.cmpi .eq c2_i32_39 c0_i32_40
  let c1_i32_41 : BitVec 32 := 1#32
  let v77 : BitVec 32 := Scalar.select v76 c1_i32_41 c2_i32_39
  let v78 : BitVec 32 := Scalar.remsi arg1 v77
  let c0_i32_42 : BitVec 32 := 0#32
  let v79 : BitVec 1 := Scalar.cmpi .ne v78 c0_i32_42
  let c0_i32_43 : BitVec 32 := 0#32
  let v80 : BitVec 1 := Scalar.cmpi .slt v78 c0_i32_43
  let c0_i32_44 : BitVec 32 := 0#32
  let v81 : BitVec 1 := Scalar.cmpi .slt v77 c0_i32_44
  let v82 : BitVec 1 := Scalar.xori v80 v81
  let v83 : BitVec 1 := Scalar.andi v82 v79
  let v84 : BitVec 32 := Scalar.addi v78 v77
  let v85 : BitVec 32 := Scalar.select v83 v84 v78
  let v86 : BitVec 32 := Scalar.addi v75 v85
  let c2_i32_45 : BitVec 32 := 2#32
  let c0_i32_46 : BitVec 32 := 0#32
  let v87 : BitVec 1 := Scalar.cmpi .eq c2_i32_45 c0_i32_46
  let c1_i32_47 : BitVec 32 := 1#32
  let v88 : BitVec 32 := Scalar.select v87 c1_i32_47 c2_i32_45
  let v89 : BitVec 32 := Scalar.remsi v86 v88
  let c0_i32_48 : BitVec 32 := 0#32
  let v90 : BitVec 1 := Scalar.cmpi .ne v89 c0_i32_48
  let c0_i32_49 : BitVec 32 := 0#32
  let v91 : BitVec 1 := Scalar.cmpi .slt v89 c0_i32_49
  let c0_i32_50 : BitVec 32 := 0#32
  let v92 : BitVec 1 := Scalar.cmpi .slt v88 c0_i32_50
  let v93 : BitVec 1 := Scalar.xori v91 v92
  let v94 : BitVec 1 := Scalar.andi v93 v90
  let v95 : BitVec 32 := Scalar.addi v89 v88
  let v96 : BitVec 32 := Scalar.select v94 v95 v89
  let c0_i32_51 : BitVec 32 := 0#32
  ![v51.toNat, arg0.toNat, v96.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x2048 : Shape := ⟨2, ![8192, 2048]⟩
abbrev S2x8192x2048 : Shape := ⟨3, ![2, 8192, 2048]⟩
abbrev S1x8192x2048 : Shape := ⟨3, ![1, 8192, 2048]⟩
abbrev S8192x8192 : Shape := ⟨2, ![8192, 8192]⟩
abbrev S_ : Shape := ⟨0, ![]⟩
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x2048, .bf16⟩
  | .hbm, ⟨2, _⟩ => ⟨S2x8192x2048, .bf16⟩
  | .hbm, ⟨3, _⟩ => ⟨S8192x2048, .f32⟩
  | .hbm, ⟨4, _⟩ => ⟨S2x8192x2048, .f32⟩
  | .hbm, ⟨5, _⟩ => ⟨S2x8192x2048, .f32⟩
  | .hbm, ⟨6, _⟩ => ⟨S1x8192x2048, .f32⟩
  | .hbm, ⟨7, _⟩ => ⟨S8192x2048, .f32⟩
  | .hbm, ⟨8, _⟩ => ⟨S1x8192x2048, .f32⟩
  | .hbm, ⟨9, _⟩ => ⟨S8192x2048, .f32⟩
  | .hbm, ⟨10, _⟩ => ⟨S1x8192x2048, .f32⟩
  | .hbm, ⟨11, _⟩ => ⟨S8192x2048, .f32⟩
  | .hbm, ⟨12, _⟩ => ⟨S1x8192x2048, .f32⟩
  | .hbm, ⟨13, _⟩ => ⟨S8192x2048, .f32⟩
  | .hbm, ⟨14, _⟩ => ⟨S8192x8192, .f32⟩
  | .hbm, ⟨15, _⟩ => ⟨S_, .f32⟩
  | .hbm, ⟨16, _⟩ => ⟨S2048x8192, .f32⟩
  | .hbm, ⟨17, _⟩ => ⟨S8192x8192, .f32⟩
  | .hbm, ⟨18, _⟩ => ⟨S8192x2048, .f32⟩
  | .hbm, ⟨19, _⟩ => ⟨S2048x8192, .f32⟩
  | .hbm, ⟨20, _⟩ => ⟨S2048x4x2048, .f32⟩
  | .hbm, ⟨21, _⟩ => ⟨S4x2048x2048, .f32⟩
  | .hbm, ⟨22, _⟩ => ⟨S4x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel4.lean ====
abbrev S8192x2048 : Shape := ⟨2, ![8192, 2048]⟩
abbrev S2x2048 : Shape := ⟨2, ![2, 2048]⟩
abbrev S2048x8224 : Shape := ⟨2, ![2048, 8224]⟩
abbrev S8192x128 : Shape := ⟨2, ![8192, 128]⟩
abbrev S2048x32 : Shape := ⟨2, ![2048, 32]⟩
abbrev S_ : Shape := ⟨0, ![]⟩
abbrev S2048x128 : Shape := ⟨2, ![2048, 128]⟩
abbrev S1x2048 : Shape := ⟨2, ![1, 2048]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S2048 : Shape := ⟨1, ![2048]⟩

abbrev nBuf : Space → Nat
  | .hbm => 14
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x8224, .bf16⟩
  | .hbm, ⟨3, _⟩ => ⟨S8192x2048, .f32⟩
  | .hbm, ⟨4, _⟩ => ⟨S8192x128, .bf16⟩
  | .hbm, ⟨5, _⟩ => ⟨S8192x2048, .f32⟩
  | .hbm, ⟨6, _⟩ => ⟨S2048x32, .bf16⟩
  | .hbm, ⟨7, _⟩ => ⟨S_, .i32⟩
  | .hbm, ⟨8, _⟩ => ⟨S_, .bf16⟩
  | .hbm, ⟨9, _⟩ => ⟨S2048x128, .bf16⟩
  | .hbm, ⟨10, _⟩ => ⟨S1x2048, .f32⟩
  | .hbm, ⟨11, _⟩ => ⟨S8192x2048, .f32⟩
  | .hbm, ⟨12, _⟩ => ⟨S8192x2048, .bf16⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x128, .bf16⟩
  | .local _ .vmem, ⟨8, _⟩ => ⟨S256x128, .bf16⟩
  | .local _ .vmem, ⟨9, _⟩ => ⟨S2048x128, .bf16⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S8192x2048 : Shape := ⟨2, ![8192, 2048]⟩
abbrev S2x2048 : Shape := ⟨2, ![2, 2048]⟩
abbrev S2048x8224 : Shape := ⟨2, ![2048, 8224]⟩
abbrev S8192x128 : Shape := ⟨2, ![8192, 128]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x32 : Shape := ⟨2, ![2048, 32]⟩
abbrev S8192x32 : Shape := ⟨2, ![8192, 32]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x8224, .bf16⟩
  | .hbm, ⟨3, _⟩ => ⟨S8192x2048, .f32⟩
  | .hbm, ⟨4, _⟩ => ⟨S8192x128, .bf16⟩
  | .hbm, ⟨5, _⟩ => ⟨S8192x2048, .f32⟩
  | .hbm, ⟨6, _⟩ => ⟨S2048x8224, .f32⟩
  | .hbm, ⟨7, _⟩ => ⟨S8192x128, .f32⟩
  | .hbm, ⟨8, _⟩ => ⟨S1x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S2048x32, .f32⟩
  | .hbm, ⟨31, _⟩ => ⟨S8192x32, .f32⟩
  | .hbm, ⟨32, _⟩ => ⟨S8192x32, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .bf16⟩
  | .hbm, ⟨62, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel5.lean ====
abbrev S8192x2048 : Shape := ⟨2, ![8192, 2048]⟩
abbrev S2x2048 : Shape := ⟨2, ![2, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8192x2048 : Shape := ⟨2, ![8192, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .bf16⟩
  | .hbm, ⟨53, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel6.lean ====
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x2048 : Shape := ⟨2, ![8192, 2048]⟩
abbrev S2048x8224 : Shape := ⟨2, ![2048, 8224]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8224, .bf16⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x8224 : Shape := ⟨2, ![2048, 8224]⟩
abbrev S8192x8224 : Shape := ⟨2, ![8192, 8224]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8224, .bf16⟩
  | .hbm, ⟨2, _⟩ => ⟨S8192x2048, .f32⟩
  | .hbm, ⟨3, _⟩ => ⟨S2048x8224, .f32⟩
  | .hbm, ⟨4, _⟩ => ⟨S8192x8224, .f32⟩
  | .hbm, ⟨5, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8192x2048 : Shape := ⟨2, ![8192, 2048]⟩
abbrev S2x2048 : Shape := ⟨2, ![2, 2048]⟩
abbrev S2048x8224 : Shape := ⟨2, ![2048, 8224]⟩
abbrev S2048x32 : Shape := ⟨2, ![2048, 32]⟩
abbrev S_ : Shape := ⟨0, ![]⟩
abbrev S2048x128 : Shape := ⟨2, ![2048, 128]⟩
abbrev S1x2048 : Shape := ⟨2, ![1, 2048]⟩
abbrev S8192x128 : Shape := ⟨2, ![8192, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x8224, .bf16⟩
  | .hbm, ⟨3, _⟩ => ⟨S2048x32, .bf16⟩
  | .hbm, ⟨4, _⟩ => ⟨S_, .i32⟩
  | .hbm, ⟨5, _⟩ => ⟨S_, .bf16⟩
  | .hbm, ⟨6, _⟩ => ⟨S2048x128, .bf16⟩
  | .hbm, ⟨7, _⟩ => ⟨S1x2048, .f32⟩
  | .hbm, ⟨8, _⟩ => ⟨S8192x2048, .bf16⟩
  | .hbm, ⟨9, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S512x2048, .bf16⟩
  | .local _ .vmem, ⟨5, _⟩ => ⟨S512x2048, .bf16⟩
  | .local _ .vmem, ⟨6, _⟩ => ⟨S512x128, .f32⟩
  | .local _ .vmem, ⟨7, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8192x2048 : Shape := ⟨2, ![8192, 2048]⟩
abbrev S2x2048 : Shape := ⟨2, ![2, 2048]⟩
abbrev S2048x8224 : Shape := ⟨2, ![2048, 8224]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x32 : Shape := ⟨2, ![2048, 32]⟩
abbrev S8192x32 : Shape := ⟨2, ![8192, 32]⟩
abbrev S8192x128 : Shape := ⟨2, ![8192, 128]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x8224, .bf16⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .bf16⟩
  | .hbm, ⟨22, _⟩ => ⟨S8192x2048, .f32⟩
  | .hbm, ⟨23, _⟩ => ⟨S2048x8224, .f32⟩
  | .hbm, ⟨24, _⟩ => ⟨S2048x32, .f32⟩
  | .hbm, ⟨25, _⟩ => ⟨S8192x32, .f32⟩
  | .hbm, ⟨26, _⟩ => ⟨S_, .i32⟩
  | .hbm, ⟨27, _⟩ => ⟨S_, .f32⟩
  | .hbm, ⟨28, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S2x2048 : Shape := ⟨2, ![2, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S8192x2048 : Shape := ⟨2, ![8192, 2048]⟩
abbrev S2048x2048 : Shape := ⟨2, ![2048, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel12.lean ====
abbrev S512x2048 : Shape := ⟨2, ![512, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S512x2048 : Shape := ⟨2, ![512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S_, .f32⟩
  | .hbm, ⟨7, _⟩ => ⟨S512x2048, .f32⟩
  | .hbm, ⟨8, _⟩ => ⟨S512x2048, .f32⟩
  | .hbm, ⟨9, _⟩ => ⟨S_, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S2048x1024 : Shape := ⟨2, ![2048, 1024]⟩
abbrev S512x1024 : Shape := ⟨2, ![512, 1024]⟩
abbrev S1x1024 : Shape := ⟨2, ![1, 1024]⟩
abbrev S1024 : Shape := ⟨1, ![1024]⟩
abbrev S_ : Shape := ⟨0, ![]⟩

abbrev nBuf : Space → Nat
  | .hbm => 11
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference13Ideal.lean ====
abbrev S8192x2048 : Shape := ⟨2, ![8192, 2048]⟩
abbrev S2048x2048 : Shape := ⟨2, ![2048, 2048]⟩
abbrev S_ : Shape := ⟨0, ![]⟩
abbrev S8192 : Shape := ⟨1, ![8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x2048, .f32⟩
  | .hbm, ⟨30, _⟩ => ⟨S8192x2048, .f32⟩
  | .hbm, ⟨31, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Proof.Attn.Hoare.lean ====
/- A small logic of runs: what a program does to the contents of the buffers it holds, stated of pure functions on
   the buffers' contents (`VecWindow.window` for a load, `VecWindow.put` for a store). -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- From `P` the program `p` runs to the value `v` and to `P'`. -/
def Runs (c : Dev nD) {α : Type} (P : sProp 𝕄) (p : Prog (TpuEff nD τ sig (Elt F) Λ₀ .tc) α) (v : α) (P' : sProp 𝕄) : Prop :=
  ∀ Q : α → sProp 𝕄, iprop(P ∗ (P' -∗ Q v)) ⊢ wp frame (wpE (defs₀ (F := F)) Variants.none (c : Thread nD τ) none) Set.univ p Q

variable {c : Dev nD} {α β : Type}

theorem Runs.pure {P : sProp 𝕄} (v : α) : Runs c P (pure v) v P := fun Q => by
  rw [wp_pure]
  iintro ⟨HP, HQ⟩
  imodintro
  iapply HQ
  iexact HP

theorem Runs.bind {P P' P'' : sProp 𝕄} {p : Prog (TpuEff nD τ sig (Elt F) Λ₀ .tc) α} {v : α}
    {k : α → Prog (TpuEff nD τ sig (Elt F) Λ₀ .tc) β} {w : β}
    (h : Runs c P p v P') (hk : Runs c P' (k v) w P'') : Runs c P (p >>= k) w P'' := fun Q => by
  rw [wp_bind]
  refine BIBase.Entails.trans ?_ (h _)
  iintro ⟨HP, HQ⟩
  isplitl [HP]; · iexact HP
  iintro HP'
  iapply (hk Q)
  isplitl [HP']; · iexact HP'
  iexact HQ

/-- A load of a window of a buffer held whole. -/
theorem Runs.load {P : sProp 𝕄} {cs : CoreSpace} {s : Shape} {e : EltTy} {M : Memref sig .tc cs s e} {X : s.Idx → Elt F e}
    (hf : P ⊢ iprop(owns (c : Thread nD τ) M fullShare X ∗ (owns (c : Thread nD τ) M fullShare X -∗ P)))
    {off size : Fin s.rank → ℕ} (inb : ∀ a, off a + size a ≤ s.size a) (hl) :
    Runs c P (Prog.lift (.load M (Rect.unit off size inb).toLoadRect hl)) (VecWindow.window X off size inb) P := fun Q => by
  unfold owns at hf
  refine BIBase.Entails.trans (sep_mono_left hf) ?_
  iintro ⟨⟨⟨%f, %hX, HM⟩, HP⟩, HQ⟩
  iapply (wp_load (Q := Q) (k := Prog.ret) (r := (Rect.unit off size inb).toLoadRect) (hl := hl) Variants.none (c : Thread nD τ) none Set.univ
    (S := M.view.set) (q := fullShare) (f := f) (View.setOn_subset_set _ _)) $$ HM
  iintro HM
  rw [wp_ret]
  imodintro
  rw [View.readAt_unit M.view f inb rfl inb, hX]
  iapply HQ
  iapply HP
  iexists f
  isplitr
  · ipureintro; exact hX
  iexact HM

/-- A store of a window of a buffer held whole. -/
theorem Runs.store {P P' : sProp 𝕄} {cs : CoreSpace} {s : Shape} {e : EltTy} {M : Memref sig .tc cs s e} {X : s.Idx → Elt F e}
    {off size : Fin s.rank → ℕ} (inb : ∀ a, off a + size a ≤ s.size a) (w : (Rect.unit off size inb).shape.Idx → Elt F e)
    (hf : P ⊢ iprop(owns (c : Thread nD τ) M fullShare X ∗ (owns (c : Thread nD τ) M fullShare (VecWindow.put X off size w) -∗ P'))) (hx) (hm) :
    Runs c P (Prog.lift (.store M (Rect.unit off size inb) w Finset.univ hx hm)) ⟨⟩ P' := fun Q => by
  unfold owns at hf
  refine BIBase.Entails.trans (sep_mono_left hf) ?_
  have hS : (M.access (Rect.unit off size inb)).setOn Finset.univ ⊆ M.view.set := by
    rw [View.setOn_univ]; exact View.set_slice_subset _ _
  iintro ⟨⟨⟨%f, %hX, HM⟩, HP⟩, HQ⟩
  iapply (wp_store (Q := Q) (k := Prog.ret) (r := Rect.unit off size inb) (w := w) (hx := hx) (hm := hm) Variants.none (c : Thread nD τ) none Set.univ
    (S := M.view.set) (f := f) hS) $$ HM
  iintro HM
  rw [wp_ret]
  imodintro
  iapply HQ
  iapply HP
  iexists _
  isplitr
  swap; · iexact HM
  ipureintro
  rw [← hX]
  exact View.read_writes_cons_put M.view f inb w [] rfl

/-- A counted loop whose trip `k` takes `P k` to `P (k + 1)` and the value `v k` to `v (k + 1)`. -/
theorem Runs.loop {w : ℕ} (l : Scf.Loop w) (ok : l.OK) (body : Fin l.trips → α → Prog (TpuEff nD τ sig (Elt F) Λ₀ .tc) α)
    (P : ℕ → sProp 𝕄) (v : ℕ → α) (h : ∀ k : Fin l.trips, Runs c (P k.val) (body k (v k.val)) (v (k.val + 1)) (P (k.val + 1))) :
    Runs c (P 0) (Scf.Loop.for l ok (v 0) body) (v l.trips) (P l.trips) := fun Q => by
  refine BIBase.Entails.trans ?_ (Scf.wp_for frame (wpE (defs₀ (F := F)) Variants.none (c : Thread nD τ) none) Set.univ l.lb l.ub l.st ok (v 0) body
    (fun n x => iprop(⌜x = v n⌝ ∗ P n)) (fun k x => ?_))
  · iintro ⟨HP, HQ⟩
    isplitl [HP]
    · isplitr
      · ipureintro; rfl
      iexact HP
    iintro %x ⟨%hx, HP⟩
    rw [hx]
    iapply HQ
    iexact HP
  · iintro ⟨%hx, HP⟩
    rw [hx]
    iapply (h k _)
    isplitl [HP]; · iexact HP
    iintro HP
    isplitr
    · ipureintro; rfl
    iexact HP

end Cert.KernelIdeal.Attn

end
-- ==== Proof.Attn.State.lean ====
/- The buffers of the attention's backward body, their contents as one record, and the body's loads and stores as runs on it. -/
module

public import proofs.«01_k».proof.Proof.Attn.Hoare

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's operands. -/
structure Bufs where
  a2 : Memref sig .tc .vmem S1024x128 .f32
  h2 : a2.IsWhole
  a3 : Memref sig .tc .vmem S8192x128 .f32
  h3 : a3.IsWhole
  a4 : Memref sig .tc .vmem S8192x128 .f32
  h4 : a4.IsWhole
  a5 : Memref sig .tc .vmem S1024x128 .f32
  h5 : a5.IsWhole
  a6 : Memref sig .tc .vmem S1x4x128x640 .f32
  h6 : a6.IsWhole
  a7 : Memref sig .tc .vmem S1x1x128x640 .f32
  h7 : a7.IsWhole
  a8 : Memref sig .tc .vmem S1x128 .f32
  h8 : a8.IsWhole
  a9 : Memref sig .tc .vmem S1x128 .f32
  h9 : a9.IsWhole
  a10 : Memref sig .tc .vmem S1024x128 .f32
  h10 : a10.IsWhole
  a11 : Memref sig .tc .vmem S2x1024x128 .bf16
  h11 : a11.IsWhole
  a12 : Memref sig .tc .vmem S2x8192x128 .bf16
  h12 : a12.IsWhole
  a13 : Memref sig .tc .vmem S1x128x640 .f32
  h13 : a13.IsWhole
  a14 : Memref sig .tc .vmem S1x1x128 .f32
  h14 : a14.IsWhole
  a15 : Memref sig .tc .vmem S1x1x128 .f32
  h15 : a15.IsWhole
  a16 : Memref sig .tc .vmem S8704x128 .bf16
  h16 : a16.IsWhole
  a17 : Memref sig .tc .vmem S8704x128 .bf16
  h17 : a17.IsWhole
  a18 : Memref sig .tc .vmem S8704x128 .f32
  h18 : a18.IsWhole
  a19 : Memref sig .tc .vmem S8704x128 .f32
  h19 : a19.IsWhole

/-- What the body's operands hold. -/
@[ext] structure Cont (F : FTy → Type) [FloatOps F] where
  /-- the queries' block -/
  x2 : S1024x128.Idx → Elt F .f32
  /-- the head's keys -/
  x3 : S8192x128.Idx → Elt F .f32
  /-- the head's values -/
  x4 : S8192x128.Idx → Elt F .f32
  /-- the gates' block -/
  x5 : S1024x128.Idx → Elt F .f32
  /-- the first groups' biases -/
  x6 : S1x4x128x640.Idx → Elt F .f32
  /-- the later groups' bias -/
  x7 : S1x1x128x640.Idx → Elt F .f32
  /-- the query norm's weight -/
  x8 : S1x128.Idx → Elt F .f32
  /-- the key norm's weight -/
  x9 : S1x128.Idx → Elt F .f32
  /-- the incoming gradient's block -/
  x10 : S1024x128.Idx → Elt F .f32
  /-- the gradients of the queries and of the gates -/
  x11 : S2x1024x128.Idx → Elt F .bf16
  /-- the gradients of the keys and of the values -/
  x12 : S2x8192x128.Idx → Elt F .bf16
  /-- the gradient of the bias -/
  x13 : S1x128x640.Idx → Elt F .f32
  /-- the gradient of the query norm's weight -/
  x14 : S1x1x128.Idx → Elt F .f32
  /-- the gradient of the key norm's weight -/
  x15 : S1x1x128.Idx → Elt F .f32
  /-- the normed keys behind the padding -/
  x16 : S8704x128.Idx → Elt F .bf16
  /-- the values behind the padding -/
  x17 : S8704x128.Idx → Elt F .bf16
  /-- the gradient of the normed keys -/
  x18 : S8704x128.Idx → Elt F .f32
  /-- the gradient of the values -/
  x19 : S8704x128.Idx → Elt F .f32

/-- The operands held at the given contents. -/
def Own (c : Dev nD) (B : Bufs) (S : Cont F) : sProp 𝕄 :=
  iprop(owns (c : Thread nD τ) B.a2 fullShare S.x2
    ∗ owns (c : Thread nD τ) B.a3 fullShare S.x3
    ∗ owns (c : Thread nD τ) B.a4 fullShare S.x4
    ∗ owns (c : Thread nD τ) B.a5 fullShare S.x5
    ∗ owns (c : Thread nD τ) B.a6 fullShare S.x6
    ∗ owns (c : Thread nD τ) B.a7 fullShare S.x7
    ∗ owns (c : Thread nD τ) B.a8 fullShare S.x8
    ∗ owns (c : Thread nD τ) B.a9 fullShare S.x9
    ∗ owns (c : Thread nD τ) B.a10 fullShare S.x10
    ∗ owns (c : Thread nD τ) B.a11 fullShare S.x11
    ∗ owns (c : Thread nD τ) B.a12 fullShare S.x12
    ∗ owns (c : Thread nD τ) B.a13 fullShare S.x13
    ∗ owns (c : Thread nD τ) B.a14 fullShare S.x14
    ∗ owns (c : Thread nD τ) B.a15 fullShare S.x15
    ∗ owns (c : Thread nD τ) B.a16 fullShare S.x16
    ∗ owns (c : Thread nD τ) B.a17 fullShare S.x17
    ∗ owns (c : Thread nD τ) B.a18 fullShare S.x18
    ∗ owns (c : Thread nD τ) B.a19 fullShare S.x19)

variable {c : Dev nD} {B : Bufs} {S : Cont F}

theorem focus2 : Own c B S ⊢ iprop(owns (c : Thread nD τ) B.a2 fullShare S.x2
    ∗ (∀ Y, owns (c : Thread nD τ) B.a2 fullShare Y -∗ Own c B { S with x2 := Y })) := by
  unfold Own
  iintro ⟨H2, H3, H4, H5, H6, H7, H8, H9, H10, H11, H12, H13, H14, H15, H16, H17, H18, H19⟩
  isplitl [H2]; · iexact H2
  iintro %Y H2
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load2 {off size : Fin (S1024x128 : Shape).rank → ℕ} (inb : ∀ a, off a + size a ≤ (S1024x128 : Shape).size a) (hl) :
    Runs c (Own c B S) (Prog.lift (.load B.a2 (Rect.unit (s := S1024x128) off size inb).toLoadRect hl)) (VecWindow.window S.x2 off size inb) (Own c B S) :=
  Runs.load (focus2.trans (sep_mono_right (forall_elim S.x2))) inb hl

theorem focus3 : Own c B S ⊢ iprop(owns (c : Thread nD τ) B.a3 fullShare S.x3
    ∗ (∀ Y, owns (c : Thread nD τ) B.a3 fullShare Y -∗ Own c B { S with x3 := Y })) := by
  unfold Own
  iintro ⟨H2, H3, H4, H5, H6, H7, H8, H9, H10, H11, H12, H13, H14, H15, H16, H17, H18, H19⟩
  isplitl [H3]; · iexact H3
  iintro %Y H3
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load3 {off size : Fin (S8192x128 : Shape).rank → ℕ} (inb : ∀ a, off a + size a ≤ (S8192x128 : Shape).size a) (hl) :
    Runs c (Own c B S) (Prog.lift (.load B.a3 (Rect.unit (s := S8192x128) off size inb).toLoadRect hl)) (VecWindow.window S.x3 off size inb) (Own c B S) :=
  Runs.load (focus3.trans (sep_mono_right (forall_elim S.x3))) inb hl

theorem focus4 : Own c B S ⊢ iprop(owns (c : Thread nD τ) B.a4 fullShare S.x4
    ∗ (∀ Y, owns (c : Thread nD τ) B.a4 fullShare Y -∗ Own c B { S with x4 := Y })) := by
  unfold Own
  iintro ⟨H2, H3, H4, H5, H6, H7, H8, H9, H10, H11, H12, H13, H14, H15, H16, H17, H18, H19⟩
  isplitl [H4]; · iexact H4
  iintro %Y H4
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load4 {off size : Fin (S8192x128 : Shape).rank → ℕ} (inb : ∀ a, off a + size a ≤ (S8192x128 : Shape).size a) (hl) :
    Runs c (Own c B S) (Prog.lift (.load B.a4 (Rect.unit (s := S8192x128) off size inb).toLoadRect hl)) (VecWindow.window S.x4 off size inb) (Own c B S) :=
  Runs.load (focus4.trans (sep_mono_right (forall_elim S.x4))) inb hl

theorem focus5 : Own c B S ⊢ iprop(owns (c : Thread nD τ) B.a5 fullShare S.x5
    ∗ (∀ Y, owns (c : Thread nD τ) B.a5 fullShare Y -∗ Own c B { S with x5 := Y })) := by
  unfold Own
  iintro ⟨H2, H3, H4, H5, H6, H7, H8, H9, H10, H11, H12, H13, H14, H15, H16, H17, H18, H19⟩
  isplitl [H5]; · iexact H5
  iintro %Y H5
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load5 {off size : Fin (S1024x128 : Shape).rank → ℕ} (inb : ∀ a, off a + size a ≤ (S1024x128 : Shape).size a) (hl) :
    Runs c (Own c B S) (Prog.lift (.load B.a5 (Rect.unit (s := S1024x128) off size inb).toLoadRect hl)) (VecWindow.window S.x5 off size inb) (Own c B S) :=
  Runs.load (focus5.trans (sep_mono_right (forall_elim S.x5))) inb hl

theorem focus6 : Own c B S ⊢ iprop(owns (c : Thread nD τ) B.a6 fullShare S.x6
    ∗ (∀ Y, owns (c : Thread nD τ) B.a6 fullShare Y -∗ Own c B { S with x6 := Y })) := by
  unfold Own
  iintro ⟨H2, H3, H4, H5, H6, H7, H8, H9, H10, H11, H12, H13, H14, H15, H16, H17, H18, H19⟩
  isplitl [H6]; · iexact H6
  iintro %Y H6
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load6 {off size : Fin (S1x4x128x640 : Shape).rank → ℕ} (inb : ∀ a, off a + size a ≤ (S1x4x128x640 : Shape).size a) (hl) :
    Runs c (Own c B S) (Prog.lift (.load B.a6 (Rect.unit (s := S1x4x128x640) off size inb).toLoadRect hl)) (VecWindow.window S.x6 off size inb) (Own c B S) :=
  Runs.load (focus6.trans (sep_mono_right (forall_elim S.x6))) inb hl

theorem focus7 : Own c B S ⊢ iprop(owns (c : Thread nD τ) B.a7 fullShare S.x7
    ∗ (∀ Y, owns (c : Thread nD τ) B.a7 fullShare Y -∗ Own c B { S with x7 := Y })) := by
  unfold Own
  iintro ⟨H2, H3, H4, H5, H6, H7, H8, H9, H10, H11, H12, H13, H14, H15, H16, H17, H18, H19⟩
  isplitl [H7]; · iexact H7
  iintro %Y H7
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load7 {off size : Fin (S1x1x128x640 : Shape).rank → ℕ} (inb : ∀ a, off a + size a ≤ (S1x1x128x640 : Shape).size a) (hl) :
    Runs c (Own c B S) (Prog.lift (.load B.a7 (Rect.unit (s := S1x1x128x640) off size inb).toLoadRect hl)) (VecWindow.window S.x7 off size inb) (Own c B S) :=
  Runs.load (focus7.trans (sep_mono_right (forall_elim S.x7))) inb hl

theorem focus8 : Own c B S ⊢ iprop(owns (c : Thread nD τ) B.a8 fullShare S.x8
    ∗ (∀ Y, owns (c : Thread nD τ) B.a8 fullShare Y -∗ Own c B { S with x8 := Y })) := by
  unfold Own
  iintro ⟨H2, H3, H4, H5, H6, H7, H8, H9, H10, H11, H12, H13, H14, H15, H16, H17, H18, H19⟩
  isplitl [H8]; · iexact H8
  iintro %Y H8
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load8 {off size : Fin (S1x128 : Shape).rank → ℕ} (inb : ∀ a, off a + size a ≤ (S1x128 : Shape).size a) (hl) :
    Runs c (Own c B S) (Prog.lift (.load B.a8 (Rect.unit (s := S1x128) off size inb).toLoadRect hl)) (VecWindow.window S.x8 off size inb) (Own c B S) :=
  Runs.load (focus8.trans (sep_mono_right (forall_elim S.x8))) inb hl

theorem focus9 : Own c B S ⊢ iprop(owns (c : Thread nD τ) B.a9 fullShare S.x9
    ∗ (∀ Y, owns (c : Thread nD τ) B.a9 fullShare Y -∗ Own c B { S with x9 := Y })) := by
  unfold Own
  iintro ⟨H2, H3, H4, H5, H6, H7, H8, H9, H10, H11, H12, H13, H14, H15, H16, H17, H18, H19⟩
  isplitl [H9]; · iexact H9
  iintro %Y H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load9 {off size : Fin (S1x128 : Shape).rank → ℕ} (inb : ∀ a, off a + size a ≤ (S1x128 : Shape).size a) (hl) :
    Runs c (Own c B S) (Prog.lift (.load B.a9 (Rect.unit (s := S1x128) off size inb).toLoadRect hl)) (VecWindow.window S.x9 off size inb) (Own c B S) :=
  Runs.load (focus9.trans (sep_mono_right (forall_elim S.x9))) inb hl

theorem focus10 : Own c B S ⊢ iprop(owns (c : Thread nD τ) B.a10 fullShare S.x10
    ∗ (∀ Y, owns (c : Thread nD τ) B.a10 fullShare Y -∗ Own c B { S with x10 := Y })) := by
  unfold Own
  iintro ⟨H2, H3, H4, H5, H6, H7, H8, H9, H10, H11, H12, H13, H14, H15, H16, H17, H18, H19⟩
  isplitl [H10]; · iexact H10
  iintro %Y H10
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load10 {off size : Fin (S1024x128 : Shape).rank → ℕ} (inb : ∀ a, off a + size a ≤ (S1024x128 : Shape).size a) (hl) :
    Runs c (Own c B S) (Prog.lift (.load B.a10 (Rect.unit (s := S1024x128) off size inb).toLoadRect hl)) (VecWindow.window S.x10 off size inb) (Own c B S) :=
  Runs.load (focus10.trans (sep_mono_right (forall_elim S.x10))) inb hl

theorem focus11 : Own c B S ⊢ iprop(owns (c : Thread nD τ) B.a11 fullShare S.x11
    ∗ (∀ Y, owns (c : Thread nD τ) B.a11 fullShare Y -∗ Own c B { S with x11 := Y })) := by
  unfold Own
  iintro ⟨H2, H3, H4, H5, H6, H7, H8, H9, H10, H11, H12, H13, H14, H15, H16, H17, H18, H19⟩
  isplitl [H11]; · iexact H11
  iintro %Y H11
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load11 {off size : Fin (S2x1024x128 : Shape).rank → ℕ} (inb : ∀ a, off a + size a ≤ (S2x1024x128 : Shape).size a) (hl) :
    Runs c (Own c B S) (Prog.lift (.load B.a11 (Rect.unit (s := S2x1024x128) off size inb).toLoadRect hl)) (VecWindow.window S.x11 off size inb) (Own c B S) :=
  Runs.load (focus11.trans (sep_mono_right (forall_elim S.x11))) inb hl

theorem store11 {off size : Fin (S2x1024x128 : Shape).rank → ℕ} (inb : ∀ a, off a + size a ≤ (S2x1024x128 : Shape).size a)
    (w : (Rect.unit (s := S2x1024x128) off size inb).shape.Idx → Elt F .bf16) (hx) (hm) :
    Runs c (Own c B S) (Prog.lift (.store B.a11 (Rect.unit (s := S2x1024x128) off size inb) w Finset.univ hx hm)) ⟨⟩
      (Own c B { S with x11 := VecWindow.put S.x11 off size w }) :=
  Runs.store inb w (focus11.trans (sep_mono_right (forall_elim _))) hx hm

theorem focus12 : Own c B S ⊢ iprop(owns (c : Thread nD τ) B.a12 fullShare S.x12
    ∗ (∀ Y, owns (c : Thread nD τ) B.a12 fullShare Y -∗ Own c B { S with x12 := Y })) := by
  unfold Own
  iintro ⟨H2, H3, H4, H5, H6, H7, H8, H9, H10, H11, H12, H13, H14, H15, H16, H17, H18, H19⟩
  isplitl [H12]; · iexact H12
  iintro %Y H12
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load12 {off size : Fin (S2x8192x128 : Shape).rank → ℕ} (inb : ∀ a, off a + size a ≤ (S2x8192x128 : Shape).size a) (hl) :
    Runs c (Own c B S) (Prog.lift (.load B.a12 (Rect.unit (s := S2x8192x128) off size inb).toLoadRect hl)) (VecWindow.window S.x12 off size inb) (Own c B S) :=
  Runs.load (focus12.trans (sep_mono_right (forall_elim S.x12))) inb hl

theorem store12 {off size : Fin (S2x8192x128 : Shape).rank → ℕ} (inb : ∀ a, off a + size a ≤ (S2x8192x128 : Shape).size a)
    (w : (Rect.unit (s := S2x8192x128) off size inb).shape.Idx → Elt F .bf16) (hx) (hm) :
    Runs c (Own c B S) (Prog.lift (.store B.a12 (Rect.unit (s := S2x8192x128) off size inb) w Finset.univ hx hm)) ⟨⟩
      (Own c B { S with x12 := VecWindow.put S.x12 off size w }) :=
  Runs.store inb w (focus12.trans (sep_mono_right (forall_elim _))) hx hm

theorem focus13 : Own c B S ⊢ iprop(owns (c : Thread nD τ) B.a13 fullShare S.x13
    ∗ (∀ Y, owns (c : Thread nD τ) B.a13 fullShare Y -∗ Own c B { S with x13 := Y })) := by
  unfold Own
  iintro ⟨H2, H3, H4, H5, H6, H7, H8, H9, H10, H11, H12, H13, H14, H15, H16, H17, H18, H19⟩
  isplitl [H13]; · iexact H13
  iintro %Y H13
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load13 {off size : Fin (S1x128x640 : Shape).rank → ℕ} (inb : ∀ a, off a + size a ≤ (S1x128x640 : Shape).size a) (hl) :
    Runs c (Own c B S) (Prog.lift (.load B.a13 (Rect.unit (s := S1x128x640) off size inb).toLoadRect hl)) (VecWindow.window S.x13 off size inb) (Own c B S) :=
  Runs.load (focus13.trans (sep_mono_right (forall_elim S.x13))) inb hl

theorem store13 {off size : Fin (S1x128x640 : Shape).rank → ℕ} (inb : ∀ a, off a + size a ≤ (S1x128x640 : Shape).size a)
    (w : (Rect.unit (s := S1x128x640) off size inb).shape.Idx → Elt F .f32) (hx) (hm) :
    Runs c (Own c B S) (Prog.lift (.store B.a13 (Rect.unit (s := S1x128x640) off size inb) w Finset.univ hx hm)) ⟨⟩
      (Own c B { S with x13 := VecWindow.put S.x13 off size w }) :=
  Runs.store inb w (focus13.trans (sep_mono_right (forall_elim _))) hx hm

theorem focus14 : Own c B S ⊢ iprop(owns (c : Thread nD τ) B.a14 fullShare S.x14
    ∗ (∀ Y, owns (c : Thread nD τ) B.a14 fullShare Y -∗ Own c B { S with x14 := Y })) := by
  unfold Own
  iintro ⟨H2, H3, H4, H5, H6, H7, H8, H9, H10, H11, H12, H13, H14, H15, H16, H17, H18, H19⟩
  isplitl [H14]; · iexact H14
  iintro %Y H14
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load14 {off size : Fin (S1x1x128 : Shape).rank → ℕ} (inb : ∀ a, off a + size a ≤ (S1x1x128 : Shape).size a) (hl) :
    Runs c (Own c B S) (Prog.lift (.load B.a14 (Rect.unit (s := S1x1x128) off size inb).toLoadRect hl)) (VecWindow.window S.x14 off size inb) (Own c B S) :=
  Runs.load (focus14.trans (sep_mono_right (forall_elim S.x14))) inb hl

theorem store14 {off size : Fin (S1x1x128 : Shape).rank → ℕ} (inb : ∀ a, off a + size a ≤ (S1x1x128 : Shape).size a)
    (w : (Rect.unit (s := S1x1x128) off size inb).shape.Idx → Elt F .f32) (hx) (hm) :
    Runs c (Own c B S) (Prog.lift (.store B.a14 (Rect.unit (s := S1x1x128) off size inb) w Finset.univ hx hm)) ⟨⟩
      (Own c B { S with x14 := VecWindow.put S.x14 off size w }) :=
  Runs.store inb w (focus14.trans (sep_mono_right (forall_elim _))) hx hm

theorem focus15 : Own c B S ⊢ iprop(owns (c : Thread nD τ) B.a15 fullShare S.x15
    ∗ (∀ Y, owns (c : Thread nD τ) B.a15 fullShare Y -∗ Own c B { S with x15 := Y })) := by
  unfold Own
  iintro ⟨H2, H3, H4, H5, H6, H7, H8, H9, H10, H11, H12, H13, H14, H15, H16, H17, H18, H19⟩
  isplitl [H15]; · iexact H15
  iintro %Y H15
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load15 {off size : Fin (S1x1x128 : Shape).rank → ℕ} (inb : ∀ a, off a + size a ≤ (S1x1x128 : Shape).size a) (hl) :
    Runs c (Own c B S) (Prog.lift (.load B.a15 (Rect.unit (s := S1x1x128) off size inb).toLoadRect hl)) (VecWindow.window S.x15 off size inb) (Own c B S) :=
  Runs.load (focus15.trans (sep_mono_right (forall_elim S.x15))) inb hl

theorem store15 {off size : Fin (S1x1x128 : Shape).rank → ℕ} (inb : ∀ a, off a + size a ≤ (S1x1x128 : Shape).size a)
    (w : (Rect.unit (s := S1x1x128) off size inb).shape.Idx → Elt F .f32) (hx) (hm) :
    Runs c (Own c B S) (Prog.lift (.store B.a15 (Rect.unit (s := S1x1x128) off size inb) w Finset.univ hx hm)) ⟨⟩
      (Own c B { S with x15 := VecWindow.put S.x15 off size w }) :=
  Runs.store inb w (focus15.trans (sep_mono_right (forall_elim _))) hx hm

theorem focus16 : Own c B S ⊢ iprop(owns (c : Thread nD τ) B.a16 fullShare S.x16
    ∗ (∀ Y, owns (c : Thread nD τ) B.a16 fullShare Y -∗ Own c B { S with x16 := Y })) := by
  unfold Own
  iintro ⟨H2, H3, H4, H5, H6, H7, H8, H9, H10, H11, H12, H13, H14, H15, H16, H17, H18, H19⟩
  isplitl [H16]; · iexact H16
  iintro %Y H16
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load16 {off size : Fin (S8704x128 : Shape).rank → ℕ} (inb : ∀ a, off a + size a ≤ (S8704x128 : Shape).size a) (hl) :
    Runs c (Own c B S) (Prog.lift (.load B.a16 (Rect.unit (s := S8704x128) off size inb).toLoadRect hl)) (VecWindow.window S.x16 off size inb) (Own c B S) :=
  Runs.load (focus16.trans (sep_mono_right (forall_elim S.x16))) inb hl

theorem store16 {off size : Fin (S8704x128 : Shape).rank → ℕ} (inb : ∀ a, off a + size a ≤ (S8704x128 : Shape).size a)
    (w : (Rect.unit (s := S8704x128) off size inb).shape.Idx → Elt F .bf16) (hx) (hm) :
    Runs c (Own c B S) (Prog.lift (.store B.a16 (Rect.unit (s := S8704x128) off size inb) w Finset.univ hx hm)) ⟨⟩
      (Own c B { S with x16 := VecWindow.put S.x16 off size w }) :=
  Runs.store inb w (focus16.trans (sep_mono_right (forall_elim _))) hx hm

theorem focus17 : Own c B S ⊢ iprop(owns (c : Thread nD τ) B.a17 fullShare S.x17
    ∗ (∀ Y, owns (c : Thread nD τ) B.a17 fullShare Y -∗ Own c B { S with x17 := Y })) := by
  unfold Own
  iintro ⟨H2, H3, H4, H5, H6, H7, H8, H9, H10, H11, H12, H13, H14, H15, H16, H17, H18, H19⟩
  isplitl [H17]; · iexact H17
  iintro %Y H17
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load17 {off size : Fin (S8704x128 : Shape).rank → ℕ} (inb : ∀ a, off a + size a ≤ (S8704x128 : Shape).size a) (hl) :
    Runs c (Own c B S) (Prog.lift (.load B.a17 (Rect.unit (s := S8704x128) off size inb).toLoadRect hl)) (VecWindow.window S.x17 off size inb) (Own c B S) :=
  Runs.load (focus17.trans (sep_mono_right (forall_elim S.x17))) inb hl

theorem store17 {off size : Fin (S8704x128 : Shape).rank → ℕ} (inb : ∀ a, off a + size a ≤ (S8704x128 : Shape).size a)
    (w : (Rect.unit (s := S8704x128) off size inb).shape.Idx → Elt F .bf16) (hx) (hm) :
    Runs c (Own c B S) (Prog.lift (.store B.a17 (Rect.unit (s := S8704x128) off size inb) w Finset.univ hx hm)) ⟨⟩
      (Own c B { S with x17 := VecWindow.put S.x17 off size w }) :=
  Runs.store inb w (focus17.trans (sep_mono_right (forall_elim _))) hx hm

theorem focus18 : Own c B S ⊢ iprop(owns (c : Thread nD τ) B.a18 fullShare S.x18
    ∗ (∀ Y, owns (c : Thread nD τ) B.a18 fullShare Y -∗ Own c B { S with x18 := Y })) := by
  unfold Own
  iintro ⟨H2, H3, H4, H5, H6, H7, H8, H9, H10, H11, H12, H13, H14, H15, H16, H17, H18, H19⟩
  isplitl [H18]; · iexact H18
  iintro %Y H18
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load18 {off size : Fin (S8704x128 : Shape).rank → ℕ} (inb : ∀ a, off a + size a ≤ (S8704x128 : Shape).size a) (hl) :
    Runs c (Own c B S) (Prog.lift (.load B.a18 (Rect.unit (s := S8704x128) off size inb).toLoadRect hl)) (VecWindow.window S.x18 off size inb) (Own c B S) :=
  Runs.load (focus18.trans (sep_mono_right (forall_elim S.x18))) inb hl

theorem store18 {off size : Fin (S8704x128 : Shape).rank → ℕ} (inb : ∀ a, off a + size a ≤ (S8704x128 : Shape).size a)
    (w : (Rect.unit (s := S8704x128) off size inb).shape.Idx → Elt F .f32) (hx) (hm) :
    Runs c (Own c B S) (Prog.lift (.store B.a18 (Rect.unit (s := S8704x128) off size inb) w Finset.univ hx hm)) ⟨⟩
      (Own c B { S with x18 := VecWindow.put S.x18 off size w }) :=
  Runs.store inb w (focus18.trans (sep_mono_right (forall_elim _))) hx hm

theorem focus19 : Own c B S ⊢ iprop(owns (c : Thread nD τ) B.a19 fullShare S.x19
    ∗ (∀ Y, owns (c : Thread nD τ) B.a19 fullShare Y -∗ Own c B { S with x19 := Y })) := by
  unfold Own
  iintro ⟨H2, H3, H4, H5, H6, H7, H8, H9, H10, H11, H12, H13, H14, H15, H16, H17, H18, H19⟩
  isplitl [H19]; · iexact H19
  iintro %Y H19
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem load19 {off size : Fin (S8704x128 : Shape).rank → ℕ} (inb : ∀ a, off a + size a ≤ (S8704x128 : Shape).size a) (hl) :
    Runs c (Own c B S) (Prog.lift (.load B.a19 (Rect.unit (s := S8704x128) off size inb).toLoadRect hl)) (VecWindow.window S.x19 off size inb) (Own c B S) :=
  Runs.load (focus19.trans (sep_mono_right (forall_elim S.x19))) inb hl

theorem store19 {off size : Fin (S8704x128 : Shape).rank → ℕ} (inb : ∀ a, off a + size a ≤ (S8704x128 : Shape).size a)
    (w : (Rect.unit (s := S8704x128) off size inb).shape.Idx → Elt F .f32) (hx) (hm) :
    Runs c (Own c B S) (Prog.lift (.store B.a19 (Rect.unit (s := S8704x128) off size inb) w Finset.univ hx hm)) ⟨⟩
      (Own c B { S with x19 := VecWindow.put S.x19 off size w }) :=
  Runs.store inb w (focus19.trans (sep_mono_right (forall_elim _))) hx hm

end Cert.KernelIdeal.Attn

end
-- ==== Proof.Attn.First.lean ====
/- The block's work at the head of the sequence: each value it computes and each state of its buffers, as functions of
   the state it starts from; and that its program runs through them. Two halves of four groups of rows. -/
module

public import proofs.«01_k».proof.Proof.Attn.State

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

def p0_v14 (i : grid0.Coords) (h : k0_cond2 i = 1#1) (S : Cont F) : Vec F S512x128 .f32 :=
  VecWindow.window (s := S1024x128) S.x2 ![0, 0] S512x128.size inb_S1024x128_S512x128_0_0

def p0_v16 (i : grid0.Coords) (h : k0_cond2 i = 1#1) (S : Cont F) : Vec F S512x128 .f32 :=
  VecWindow.window (s := S1024x128) S.x5 ![0, 0] S512x128.size inb_S1024x128_S512x128_0_0

def p0_v21 (i : grid0.Coords) (h : k0_cond2 i = 1#1) (S : Cont F) : Vec F S640x128 .bf16 :=
  VecWindow.window (s := S8704x128) S.x16 (k0_off3 i 0#32 0#32) S640x128.size (k0_off3_inb i h 0 0)

def p0_v25 (i : grid0.Coords) (h : k0_cond2 i = 1#1) (S : Cont F) : Vec F S640x128 .bf16 :=
  VecWindow.window (s := S8704x128) S.x16 (k0_off3 i 0#32 128#32) S640x128.size (k0_off3_inb i h 0 1)

def p0_v29 (i : grid0.Coords) (h : k0_cond2 i = 1#1) (S : Cont F) : Vec F S640x128 .bf16 :=
  VecWindow.window (s := S8704x128) S.x16 (k0_off3 i 0#32 256#32) S640x128.size (k0_off3_inb i h 0 2)

def p0_v33 (i : grid0.Coords) (h : k0_cond2 i = 1#1) (S : Cont F) : Vec F S640x128 .bf16 :=
  VecWindow.window (s := S8704x128) S.x16 (k0_off3 i 0#32 384#32) S640x128.size (k0_off3_inb i h 0 3)

def p0_v42 (i : grid0.Coords) (h : k0_cond2 i = 1#1) (S : Cont F) : Vec F S640x128 .bf16 :=
  VecWindow.window (s := S8704x128) S.x17 (k0_off3 i 0#32 0#32) S640x128.size (k0_off3_inb i h 0 0)

def p0_v46 (i : grid0.Coords) (h : k0_cond2 i = 1#1) (S : Cont F) : Vec F S640x128 .bf16 :=
  VecWindow.window (s := S8704x128) S.x17 (k0_off3 i 0#32 128#32) S640x128.size (k0_off3_inb i h 0 1)

def p0_v50 (i : grid0.Coords) (h : k0_cond2 i = 1#1) (S : Cont F) : Vec F S640x128 .bf16 :=
  VecWindow.window (s := S8704x128) S.x17 (k0_off3 i 0#32 256#32) S640x128.size (k0_off3_inb i h 0 2)

def p0_v15 (i : grid0.Coords) (h : k0_cond2 i = 1#1) (S : Cont F) : FVec F S4x128x128 .f32 :=
  k0_pay16 (p0_v14 i h S)

def p0_v17 (i : grid0.Coords) (h : k0_cond2 i = 1#1) (S : Cont F) : FVec F S4x128x128 .f32 :=
  k0_pay17 (p0_v16 i h S)

def p0_v38 (i : grid0.Coords) (h : k0_cond2 i = 1#1) (S : Cont F) : FVec F S4x640x128 .bf16 :=
  k0_pay18 (p0_v21 i h S) (p0_v25 i h S) (p0_v29 i h S) (p0_v33 i h S)

def p0_v54 (i : grid0.Coords) (h : k0_cond2 i = 1#1) (S : Cont F) : Vec F S640x128 .bf16 :=
  VecWindow.window (s := S8704x128) S.x17 (k0_off3 i 0#32 384#32) S640x128.size (k0_off3_inb i h 0 3)

def p0_v60 (i : grid0.Coords) (h : k0_cond2 i = 1#1) (S : Cont F) : Vec F S1x4x128x640 .f32 :=
  VecWindow.window (s := S1x4x128x640) S.x6 ![0, 0, 0, 0] S1x4x128x640.size inb_S1x4x128x640_S1x4x128x640_0_0_0_0

def p0_v62 (i : grid0.Coords) (h : k0_cond2 i = 1#1) (S : Cont F) : Vec F S1x128 .f32 :=
  VecWindow.window (s := S1x128) S.x8 ![0, 0] S1x128.size inb_S1x128_S1x128_0_0

def p0_v64 (i : grid0.Coords) (h : k0_cond2 i = 1#1) (S : Cont F) : Vec F S512x128 .f32 :=
  VecWindow.window (s := S1024x128) S.x10 ![0, 0] S512x128.size inb_S1024x128_S512x128_0_0

def p0_v59 (i : grid0.Coords) (h : k0_cond2 i = 1#1) (S : Cont F) : FVec F S4x640x128 .bf16 :=
  k0_pay19 (p0_v42 i h S) (p0_v46 i h S) (p0_v50 i h S) (p0_v54 i h S)

def p0_v63 (i : grid0.Coords) (h : k0_cond2 i = 1#1) (S : Cont F) : FVec F S1x128 .f32 :=
  k0_pay20 (p0_v62 i h S)

def p0_v65 (i : grid0.Coords) (h : k0_cond2 i = 1#1) (S : Cont F) : FVec F S4x128x128 .f32 :=
  k0_pay21 (p0_v64 i h S)

def p0_v73 (i : grid0.Coords) (h : k0_cond2 i = 1#1) (S : Cont F) : FVec F S4x128x1 .f32 :=
  k0_pay22 (p0_v15 i h S)

def p0_v75 (i : grid0.Coords) (h : k0_cond2 i = 1#1) (S : Cont F) : FVec F S4x128x128 .f32 :=
  k0_pay23 (p0_v15 i h S)

def p0_v79 (i : grid0.Coords) (h : k0_cond2 i = 1#1) (S : Cont F) : FVec F S4x128x128 .bf16 :=
  k0_pay24 (p0_v15 i h S) (p0_v62 i h S)

def p0_v88 (i : grid0.Coords) (h : k0_cond2 i = 1#1) (S : Cont F) : FVec F S4x128x640 .f32 :=
  k0_pay25 (p0_v15 i h S) (p0_v38 i h S) (p0_v60 i h S) (p0_v62 i h S)

def p0_v93 (i : grid0.Coords) (h : k0_cond2 i = 1#1) (S : Cont F) : FVec F S4x128x640 .f32 :=
  k0_pay26 (p0_v15 i h S) (p0_v38 i h S) (p0_v60 i h S) (p0_v62 i h S)

def p0_v107 (i : grid0.Coords) (h : k0_cond2 i = 1#1) (S : Cont F) : FVec F S4x128x128 .f32 :=
  k0_pay32 (p0_v17 i h S) (p0_v59 i h S) (p0_v65 i h S) (p0_v88 i h S) (p0_v93 i h S)

def p0_v109 (i : grid0.Coords) (h : k0_cond2 i = 1#1) (S : Cont F) : FVec F S4x640x128 .f32 :=
  k0_pay34 (p0_v17 i h S) (p0_v65 i h S) (p0_v88 i h S) (p0_v93 i h S)

def p0_v121 (i : grid0.Coords) (h : k0_cond2 i = 1#1) (S : Cont F) : FVec F S4x640x128 .f32 :=
  k0_pay38 (p0_v17 i h S) (p0_v59 i h S) (p0_v65 i h S) (p0_v79 i h S) (p0_v88 i h S) (p0_v93 i h S)

def p0_v125 (i : grid0.Coords) (h : k0_cond2 i = 1#1) (S : Cont F) : FVec F S1x128 .f32 :=
  k0_pay39 (p0_v17 i h S) (p0_v38 i h S) (p0_v59 i h S) (p0_v65 i h S) (p0_v75 i h S) (p0_v88 i h S) (p0_v93 i h S)

def p0_v138 (i : grid0.Coords) (h : k0_cond2 i = 1#1) (S : Cont F) : FVec F S4x128x128 .f32 :=
  k0_pay40 (p0_v17 i h S) (p0_v38 i h S) (p0_v59 i h S) (p0_v63 i h S) (p0_v65 i h S) (p0_v73 i h S) (p0_v75 i h S) (p0_v88 i h S) (p0_v93 i h S)

def p0_v139 (i : grid0.Coords) (h : k0_cond2 i = 1#1) (S : Cont F) : FVec F S128x640 .f32 :=
  k0_pay41 (p0_v17 i h S) (p0_v59 i h S) (p0_v65 i h S) (p0_v88 i h S) (p0_v93 i h S)

def p0_S1 (i : grid0.Coords) (h : k0_cond2 i = 1#1) (S : Cont F) : Cont F :=
  { S with x11 := VecWindow.put (s := S2x1024x128) S.x11 ![0, 0, 0] S1x512x128.size (k0_pay42 (p0_v138 i h S)) }

def p0_S2 (i : grid0.Coords) (h : k0_cond2 i = 1#1) (S : Cont F) : Cont F :=
  { p0_S1 i h S with x11 := VecWindow.put (s := S2x1024x128) (p0_S1 i h S).x11 ![1, 0, 0] S1x512x128.size (k0_pay43 (p0_v107 i h S)) }

def p0_v153 (i : grid0.Coords) (h : k0_cond2 i = 1#1) (S : Cont F) : Vec F S640x128 .f32 :=
  VecWindow.window (s := S8704x128) (p0_S2 i h S).x18 (k0_off3 i 0#32 0#32) S640x128.size (k0_off3_inb i h 0 0)

def p0_S3 (i : grid0.Coords) (h : k0_cond2 i = 1#1) (S : Cont F) : Cont F :=
  { p0_S2 i h S with x18 := VecWindow.put (s := S8704x128) (p0_S2 i h S).x18 (k0_off3 i 0#32 0#32) S640x128.size (k0_pay44 (p0_v121 i h S) (p0_v153 i h S)) }

def p0_v162 (i : grid0.Coords) (h : k0_cond2 i = 1#1) (S : Cont F) : Vec F S640x128 .f32 :=
  VecWindow.window (s := S8704x128) (p0_S3 i h S).x19 (k0_off3 i 0#32 0#32) S640x128.size (k0_off3_inb i h 0 0)

def p0_S4 (i : grid0.Coords) (h : k0_cond2 i = 1#1) (S : Cont F) : Cont F :=
  { p0_S3 i h S with x19 := VecWindow.put (s := S8704x128) (p0_S3 i h S).x19 (k0_off3 i 0#32 0#32) S640x128.size (k0_pay45 (p0_v109 i h S) (p0_v162 i h S)) }

def p0_v173 (i : grid0.Coords) (h : k0_cond2 i = 1#1) (S : Cont F) : Vec F S640x128 .f32 :=
  VecWindow.window (s := S8704x128) (p0_S4 i h S).x18 (k0_off3 i 0#32 128#32) S640x128.size (k0_off3_inb i h 0 1)

def p0_S5 (i : grid0.Coords) (h : k0_cond2 i = 1#1) (S : Cont F) : Cont F :=
  { p0_S4 i h S with x18 := VecWindow.put (s := S8704x128) (p0_S4 i h S).x18 (k0_off3 i 0#32 128#32) S640x128.size (k0_pay46 (p0_v121 i h S) (p0_v173 i h S)) }

def p0_v182 (i : grid0.Coords) (h : k0_cond2 i = 1#1) (S : Cont F) : Vec F S640x128 .f32 :=
  VecWindow.window (s := S8704x128) (p0_S5 i h S).x19 (k0_off3 i 0#32 128#32) S640x128.size (k0_off3_inb i h 0 1)

def p0_S6 (i : grid0.Coords) (h : k0_cond2 i = 1#1) (S : Cont F) : Cont F :=
  { p0_S5 i h S with x19 := VecWindow.put (s := S8704x128) (p0_S5 i h S).x19 (k0_off3 i 0#32 128#32) S640x128.size (k0_pay47 (p0_v109 i h S) (p0_v182 i h S)) }

def p0_v193 (i : grid0.Coords) (h : k0_cond2 i = 1#1) (S : Cont F) : Vec F S640x128 .f32 :=
  VecWindow.window (s := S8704x128) (p0_S6 i h S).x18 (k0_off3 i 0#32 256#32) S640x128.size (k0_off3_inb i h 0 2)

def p0_S7 (i : grid0.Coords) (h : k0_cond2 i = 1#1) (S : Cont F) : Cont F :=
  { p0_S6 i h S with x18 := VecWindow.put (s := S8704x128) (p0_S6 i h S).x18 (k0_off3 i 0#32 256#32) S640x128.size (k0_pay48 (p0_v121 i h S) (p0_v193 i h S)) }

def p0_v202 (i : grid0.Coords) (h : k0_cond2 i = 1#1) (S : Cont F) : Vec F S640x128 .f32 :=
  VecWindow.window (s := S8704x128) (p0_S7 i h S).x19 (k0_off3 i 0#32 256#32) S640x128.size (k0_off3_inb i h 0 2)

def p0_S8 (i : grid0.Coords) (h : k0_cond2 i = 1#1) (S : Cont F) : Cont F :=
  { p0_S7 i h S with x19 := VecWindow.put (s := S8704x128) (p0_S7 i h S).x19 (k0_off3 i 0#32 256#32) S640x128.size (k0_pay49 (p0_v109 i h S) (p0_v202 i h S)) }

def p0_v213 (i : grid0.Coords) (h : k0_cond2 i = 1#1) (S : Cont F) : Vec F S640x128 .f32 :=
  VecWindow.window (s := S8704x128) (p0_S8 i h S).x18 (k0_off3 i 0#32 384#32) S640x128.size (k0_off3_inb i h 0 3)

def p0_S9 (i : grid0.Coords) (h : k0_cond2 i = 1#1) (S : Cont F) : Cont F :=
  { p0_S8 i h S with x18 := VecWindow.put (s := S8704x128) (p0_S8 i h S).x18 (k0_off3 i 0#32 384#32) S640x128.size (k0_pay50 (p0_v121 i h S) (p0_v213 i h S)) }

def p0_v222 (i : grid0.Coords) (h : k0_cond2 i = 1#1) (S : Cont F) : Vec F S640x128 .f32 :=
  VecWindow.window (s := S8704x128) (p0_S9 i h S).x19 (k0_off3 i 0#32 384#32) S640x128.size (k0_off3_inb i h 0 3)

def p0_v225 (i : grid0.Coords) (h : k0_cond2 i = 1#1) (S : Cont F) : FVec F S640x128 .f32 :=
  k0_pay51 (p0_v109 i h S) (p0_v222 i h S)

def p0_S10 (i : grid0.Coords) (h : k0_cond2 i = 1#1) (S : Cont F) : Cont F :=
  { p0_S9 i h S with x19 := VecWindow.put (s := S8704x128) (p0_S9 i h S).x19 (k0_off3 i 0#32 384#32) S640x128.size (k0_pay52 (p0_v225 i h S)) }

def p0_v230 (i : grid0.Coords) (h : k0_cond2 i = 1#1) (S : Cont F) : Vec F S1x128x640 .f32 :=
  VecWindow.window (s := S1x128x640) (p0_S10 i h S).x13 ![0, 0, 0] S1x128x640.size inb_S1x128x640_S1x128x640_0_0_0

def p0_S11 (i : grid0.Coords) (h : k0_cond2 i = 1#1) (S : Cont F) : Cont F :=
  { p0_S10 i h S with x13 := VecWindow.put (s := S1x128x640) (p0_S10 i h S).x13 ![0, 0, 0] S1x128x640.size (k0_pay53 (p0_v139 i h S) (p0_v230 i h S)) }

def p0_v236 (i : grid0.Coords) (h : k0_cond2 i = 1#1) (S : Cont F) : Vec F S1x1x128 .f32 :=
  VecWindow.window (s := S1x1x128) (p0_S11 i h S).x14 ![0, 0, 0] S1x1x128.size inb_S1x1x128_S1x1x128_0_0_0

def p0_S12 (i : grid0.Coords) (h : k0_cond2 i = 1#1) (S : Cont F) : Cont F :=
  { p0_S11 i h S with x14 := VecWindow.put (s := S1x1x128) (p0_S11 i h S).x14 ![0, 0, 0] S1x1x128.size (k0_pay54 (p0_v125 i h S) (p0_v236 i h S)) }

/-- The state after the first half. -/
def p0_end (i : grid0.Coords) (h : k0_cond2 i = 1#1) (S : Cont F) : Cont F := p0_S12 i h S

def p1_v244 (i : grid0.Coords) (h : k0_cond2 i = 1#1) (S : Cont F) : Vec F S512x128 .f32 :=
  VecWindow.window (s := S1024x128) S.x2 ![512, 0] S512x128.size inb_S1024x128_S512x128_512_0

def p1_v246 (i : grid0.Coords) (h : k0_cond2 i = 1#1) (S : Cont F) : Vec F S512x128 .f32 :=
  VecWindow.window (s := S1024x128) S.x5 ![512, 0] S512x128.size inb_S1024x128_S512x128_512_0

def p1_v251 (i : grid0.Coords) (h : k0_cond2 i = 1#1) (S : Cont F) : Vec F S640x128 .bf16 :=
  VecWindow.window (s := S8704x128) S.x16 (k0_off3 i 512#32 0#32) S640x128.size (k0_off3_inb i h 1 0)

def p1_v255 (i : grid0.Coords) (h : k0_cond2 i = 1#1) (S : Cont F) : Vec F S640x128 .bf16 :=
  VecWindow.window (s := S8704x128) S.x16 (k0_off3 i 512#32 128#32) S640x128.size (k0_off3_inb i h 1 1)

def p1_v245 (i : grid0.Coords) (h : k0_cond2 i = 1#1) (S : Cont F) : FVec F S4x128x128 .f32 :=
  k0_pay55 (p1_v244 i h S)

def p1_v247 (i : grid0.Coords) (h : k0_cond2 i = 1#1) (S : Cont F) : FVec F S4x128x128 .f32 :=
  k0_pay56 (p1_v246 i h S)

def p1_v259 (i : grid0.Coords) (h : k0_cond2 i = 1#1) (S : Cont F) : Vec F S640x128 .bf16 :=
  VecWindow.window (s := S8704x128) S.x16 (k0_off3 i 512#32 256#32) S640x128.size (k0_off3_inb i h 1 2)

def p1_v263 (i : grid0.Coords) (h : k0_cond2 i = 1#1) (S : Cont F) : Vec F S640x128 .bf16 :=
  VecWindow.window (s := S8704x128) S.x16 (k0_off3 i 512#32 384#32) S640x128.size (k0_off3_inb i h 1 3)

def p1_v272 (i : grid0.Coords) (h : k0_cond2 i = 1#1) (S : Cont F) : Vec F S640x128 .bf16 :=
  VecWindow.window (s := S8704x128) S.x17 (k0_off3 i 512#32 0#32) S640x128.size (k0_off3_inb i h 1 0)

def p1_v276 (i : grid0.Coords) (h : k0_cond2 i = 1#1) (S : Cont F) : Vec F S640x128 .bf16 :=
  VecWindow.window (s := S8704x128) S.x17 (k0_off3 i 512#32 128#32) S640x128.size (k0_off3_inb i h 1 1)

def p1_v280 (i : grid0.Coords) (h : k0_cond2 i = 1#1) (S : Cont F) : Vec F S640x128 .bf16 :=
  VecWindow.window (s := S8704x128) S.x17 (k0_off3 i 512#32 256#32) S640x128.size (k0_off3_inb i h 1 2)

def p1_v284 (i : grid0.Coords) (h : k0_cond2 i = 1#1) (S : Cont F) : Vec F S640x128 .bf16 :=
  VecWindow.window (s := S8704x128) S.x17 (k0_off3 i 512#32 384#32) S640x128.size (k0_off3_inb i h 1 3)

def p1_v290 (i : grid0.Coords) (h : k0_cond2 i = 1#1) (S : Cont F) : Vec F S1x1x128x640 .f32 :=
  VecWindow.window (s := S1x1x128x640) S.x7 ![0, 0, 0, 0] S1x1x128x640.size inb_S1x1x128x640_S1x1x128x640_0_0_0_0

def p1_v292 (i : grid0.Coords) (h : k0_cond2 i = 1#1) (S : Cont F) : Vec F S1x128 .f32 :=
  VecWindow.window (s := S1x128) S.x8 ![0, 0] S1x128.size inb_S1x128_S1x128_0_0

def p1_v294 (i : grid0.Coords) (h : k0_cond2 i = 1#1) (S : Cont F) : Vec F S512x128 .f32 :=
  VecWindow.window (s := S1024x128) S.x10 ![512, 0] S512x128.size inb_S1024x128_S512x128_512_0

def p1_v268 (i : grid0.Coords) (h : k0_cond2 i = 1#1) (S : Cont F) : FVec F S4x640x128 .bf16 :=
  k0_pay57 (p1_v251 i h S) (p1_v255 i h S) (p1_v259 i h S) (p1_v263 i h S)

def p1_v289 (i : grid0.Coords) (h : k0_cond2 i = 1#1) (S : Cont F) : FVec F S4x640x128 .bf16 :=
  k0_pay58 (p1_v272 i h S) (p1_v276 i h S) (p1_v280 i h S) (p1_v284 i h S)

def p1_v291 (i : grid0.Coords) (h : k0_cond2 i = 1#1) (S : Cont F) : FVec F S1x128x640 .f32 :=
  k0_pay59 (p1_v290 i h S)

def p1_v293 (i : grid0.Coords) (h : k0_cond2 i = 1#1) (S : Cont F) : FVec F S1x128 .f32 :=
  k0_pay60 (p1_v292 i h S)

def p1_v295 (i : grid0.Coords) (h : k0_cond2 i = 1#1) (S : Cont F) : FVec F S4x128x128 .f32 :=
  k0_pay61 (p1_v294 i h S)

def p1_v298 (i : grid0.Coords) (h : k0_cond2 i = 1#1) (S : Cont F) : FVec F S4x128x1 .f32 :=
  k0_pay62 (p1_v245 i h S)

def p1_v303 (i : grid0.Coords) (h : k0_cond2 i = 1#1) (S : Cont F) : FVec F S4x128x1 .f32 :=
  k0_pay63 (p1_v298 i h S)

def p1_v305 (i : grid0.Coords) (h : k0_cond2 i = 1#1) (S : Cont F) : FVec F S4x128x128 .f32 :=
  k0_pay64 (p1_v245 i h S) (p1_v298 i h S)

def p1_v309 (i : grid0.Coords) (h : k0_cond2 i = 1#1) (S : Cont F) : FVec F S4x128x128 .bf16 :=
  k0_pay65 (p1_v245 i h S) (p1_v293 i h S) (p1_v298 i h S)

def p1_v325 (i : grid0.Coords) (h : k0_cond2 i = 1#1) (S : Cont F) : FVec F S4x128x640 .f32 :=
  k0_pay66 (p1_v245 i h S) (p1_v268 i h S) (p1_v291 i h S) (p1_v293 i h S) (p1_v298 i h S)

def p1_v338 (i : grid0.Coords) (h : k0_cond2 i = 1#1) (S : Cont F) : FVec F S4x128x128 .f32 :=
  k0_pay71 (p1_v245 i h S) (p1_v247 i h S) (p1_v268 i h S) (p1_v289 i h S) (p1_v291 i h S) (p1_v293 i h S) (p1_v295 i h S) (p1_v298 i h S)

def p1_v340 (i : grid0.Coords) (h : k0_cond2 i = 1#1) (S : Cont F) : FVec F S4x640x128 .f32 :=
  k0_pay73 (p1_v245 i h S) (p1_v247 i h S) (p1_v268 i h S) (p1_v291 i h S) (p1_v293 i h S) (p1_v295 i h S) (p1_v298 i h S)

def p1_v341 (i : grid0.Coords) (h : k0_cond2 i = 1#1) (S : Cont F) : FVec F S4x128x640 .f32 :=
  k0_pay74 (p1_v247 i h S) (p1_v289 i h S) (p1_v295 i h S)

def p1_v345 (i : grid0.Coords) (h : k0_cond2 i = 1#1) (S : Cont F) : FVec F S4x128x640 .f32 :=
  k0_pay75 (p1_v245 i h S) (p1_v247 i h S) (p1_v268 i h S) (p1_v289 i h S) (p1_v291 i h S) (p1_v293 i h S) (p1_v295 i h S) (p1_v298 i h S)

def p1_S1 (i : grid0.Coords) (h : k0_cond2 i = 1#1) (S : Cont F) : Cont F :=
  { S with x11 := VecWindow.put (s := S2x1024x128) S.x11 ![0, 512, 0] S1x512x128.size (k0_pay82 (p1_v268 i h S) (p1_v293 i h S) (p1_v303 i h S) (p1_v305 i h S) (p1_v325 i h S) (p1_v341 i h S) (p1_v345 i h S)) }

def p1_S2 (i : grid0.Coords) (h : k0_cond2 i = 1#1) (S : Cont F) : Cont F :=
  { p1_S1 i h S with x11 := VecWindow.put (s := S2x1024x128) (p1_S1 i h S).x11 ![1, 512, 0] S1x512x128.size (k0_pay83 (p1_v338 i h S)) }

def p1_v384 (i : grid0.Coords) (h : k0_cond2 i = 1#1) (S : Cont F) : Vec F S640x128 .f32 :=
  VecWindow.window (s := S8704x128) (p1_S2 i h S).x18 (k0_off3 i 512#32 0#32) S640x128.size (k0_off3_inb i h 1 0)

def p1_v352 (i : grid0.Coords) (h : k0_cond2 i = 1#1) (S : Cont F) : FVec F S4x640x128 .f32 :=
  k0_pay79 (p1_v309 i h S) (p1_v325 i h S) (p1_v341 i h S) (p1_v345 i h S)

def p1_v356 (i : grid0.Coords) (h : k0_cond2 i = 1#1) (S : Cont F) : FVec F S1x128 .f32 :=
  k0_pay80 (p1_v268 i h S) (p1_v305 i h S) (p1_v325 i h S) (p1_v341 i h S) (p1_v345 i h S)

def p1_v370 (i : grid0.Coords) (h : k0_cond2 i = 1#1) (S : Cont F) : FVec F S128x640 .f32 :=
  k0_pay81 (p1_v325 i h S) (p1_v341 i h S) (p1_v345 i h S)

def p1_v387 (i : grid0.Coords) (h : k0_cond2 i = 1#1) (S : Cont F) : FVec F S640x128 .f32 :=
  k0_pay84 (p1_v309 i h S) (p1_v325 i h S) (p1_v341 i h S) (p1_v345 i h S) (p1_v384 i h S)

def p1_S3 (i : grid0.Coords) (h : k0_cond2 i = 1#1) (S : Cont F) : Cont F :=
  { p1_S2 i h S with x18 := VecWindow.put (s := S8704x128) (p1_S2 i h S).x18 (k0_off3 i 512#32 0#32) S640x128.size (k0_pay85 (p1_v387 i h S)) }

def p1_v393 (i : grid0.Coords) (h : k0_cond2 i = 1#1) (S : Cont F) : Vec F S640x128 .f32 :=
  VecWindow.window (s := S8704x128) (p1_S3 i h S).x19 (k0_off3 i 512#32 0#32) S640x128.size (k0_off3_inb i h 1 0)

def p1_S4 (i : grid0.Coords) (h : k0_cond2 i = 1#1) (S : Cont F) : Cont F :=
  { p1_S3 i h S with x19 := VecWindow.put (s := S8704x128) (p1_S3 i h S).x19 (k0_off3 i 512#32 0#32) S640x128.size (k0_pay86 (p1_v340 i h S) (p1_v393 i h S)) }

def p1_v404 (i : grid0.Coords) (h : k0_cond2 i = 1#1) (S : Cont F) : Vec F S640x128 .f32 :=
  VecWindow.window (s := S8704x128) (p1_S4 i h S).x18 (k0_off3 i 512#32 128#32) S640x128.size (k0_off3_inb i h 1 1)

def p1_S5 (i : grid0.Coords) (h : k0_cond2 i = 1#1) (S : Cont F) : Cont F :=
  { p1_S4 i h S with x18 := VecWindow.put (s := S8704x128) (p1_S4 i h S).x18 (k0_off3 i 512#32 128#32) S640x128.size (k0_pay87 (p1_v352 i h S) (p1_v404 i h S)) }

def p1_v413 (i : grid0.Coords) (h : k0_cond2 i = 1#1) (S : Cont F) : Vec F S640x128 .f32 :=
  VecWindow.window (s := S8704x128) (p1_S5 i h S).x19 (k0_off3 i 512#32 128#32) S640x128.size (k0_off3_inb i h 1 1)

def p1_S6 (i : grid0.Coords) (h : k0_cond2 i = 1#1) (S : Cont F) : Cont F :=
  { p1_S5 i h S with x19 := VecWindow.put (s := S8704x128) (p1_S5 i h S).x19 (k0_off3 i 512#32 128#32) S640x128.size (k0_pay88 (p1_v340 i h S) (p1_v413 i h S)) }

def p1_v424 (i : grid0.Coords) (h : k0_cond2 i = 1#1) (S : Cont F) : Vec F S640x128 .f32 :=
  VecWindow.window (s := S8704x128) (p1_S6 i h S).x18 (k0_off3 i 512#32 256#32) S640x128.size (k0_off3_inb i h 1 2)

def p1_S7 (i : grid0.Coords) (h : k0_cond2 i = 1#1) (S : Cont F) : Cont F :=
  { p1_S6 i h S with x18 := VecWindow.put (s := S8704x128) (p1_S6 i h S).x18 (k0_off3 i 512#32 256#32) S640x128.size (k0_pay89 (p1_v352 i h S) (p1_v424 i h S)) }

def p1_v433 (i : grid0.Coords) (h : k0_cond2 i = 1#1) (S : Cont F) : Vec F S640x128 .f32 :=
  VecWindow.window (s := S8704x128) (p1_S7 i h S).x19 (k0_off3 i 512#32 256#32) S640x128.size (k0_off3_inb i h 1 2)

def p1_S8 (i : grid0.Coords) (h : k0_cond2 i = 1#1) (S : Cont F) : Cont F :=
  { p1_S7 i h S with x19 := VecWindow.put (s := S8704x128) (p1_S7 i h S).x19 (k0_off3 i 512#32 256#32) S640x128.size (k0_pay90 (p1_v340 i h S) (p1_v433 i h S)) }

def p1_v444 (i : grid0.Coords) (h : k0_cond2 i = 1#1) (S : Cont F) : Vec F S640x128 .f32 :=
  VecWindow.window (s := S8704x128) (p1_S8 i h S).x18 (k0_off3 i 512#32 384#32) S640x128.size (k0_off3_inb i h 1 3)

def p1_S9 (i : grid0.Coords) (h : k0_cond2 i = 1#1) (S : Cont F) : Cont F :=
  { p1_S8 i h S with x18 := VecWindow.put (s := S8704x128) (p1_S8 i h S).x18 (k0_off3 i 512#32 384#32) S640x128.size (k0_pay91 (p1_v352 i h S) (p1_v444 i h S)) }

def p1_v453 (i : grid0.Coords) (h : k0_cond2 i = 1#1) (S : Cont F) : Vec F S640x128 .f32 :=
  VecWindow.window (s := S8704x128) (p1_S9 i h S).x19 (k0_off3 i 512#32 384#32) S640x128.size (k0_off3_inb i h 1 3)

def p1_S10 (i : grid0.Coords) (h : k0_cond2 i = 1#1) (S : Cont F) : Cont F :=
  { p1_S9 i h S with x19 := VecWindow.put (s := S8704x128) (p1_S9 i h S).x19 (k0_off3 i 512#32 384#32) S640x128.size (k0_pay92 (p1_v340 i h S) (p1_v453 i h S)) }

def p1_v461 (i : grid0.Coords) (h : k0_cond2 i = 1#1) (S : Cont F) : Vec F S1x128x640 .f32 :=
  VecWindow.window (s := S1x128x640) (p1_S10 i h S).x13 ![0, 0, 0] S1x128x640.size inb_S1x128x640_S1x128x640_0_0_0

def p1_S11 (i : grid0.Coords) (h : k0_cond2 i = 1#1) (S : Cont F) : Cont F :=
  { p1_S10 i h S with x13 := VecWindow.put (s := S1x128x640) (p1_S10 i h S).x13 ![0, 0, 0] S1x128x640.size (k0_pay93 (p1_v370 i h S) (p1_v461 i h S)) }

def p1_v467 (i : grid0.Coords) (h : k0_cond2 i = 1#1) (S : Cont F) : Vec F S1x1x128 .f32 :=
  VecWindow.window (s := S1x1x128) (p1_S11 i h S).x14 ![0, 0, 0] S1x1x128.size inb_S1x1x128_S1x1x128_0_0_0

def p1_v469 (i : grid0.Coords) (h : k0_cond2 i = 1#1) (S : Cont F) : FVec F S1x128 .f32 :=
  (k0_pay94 (p1_v356 i h S) (p1_v467 i h S))

def p1_S12 (i : grid0.Coords) (h : k0_cond2 i = 1#1) (S : Cont F) : Cont F :=
  { p1_S11 i h S with x14 := VecWindow.put (s := S1x1x128) (p1_S11 i h S).x14 ![0, 0, 0] S1x1x128.size (k0_pay9 (p1_v469 i h S)) }

/-- The state after the second half, from the state it starts from. -/
def p1_end (i : grid0.Coords) (h : k0_cond2 i = 1#1) (S : Cont F) : Cont F := p1_S12 i h S

end Cert.KernelIdeal.Attn

end
-- ==== Proof.Attn.Later.lean ====
/- The block's work past the first block: each value it computes and each state of its buffers, as functions of
   the state it starts from; and that its program runs through them. Two halves of four groups of rows. -/
module

public import proofs.«01_k».proof.Proof.Attn.State

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

def r0_v14 (i : grid0.Coords) (h : k0_cond3 i = 1#1) (S : Cont F) : Vec F S512x128 .f32 :=
  VecWindow.window (s := S1024x128) S.x2 ![0, 0] S512x128.size inb_S1024x128_S512x128_0_0

def r0_v16 (i : grid0.Coords) (h : k0_cond3 i = 1#1) (S : Cont F) : Vec F S512x128 .f32 :=
  VecWindow.window (s := S1024x128) S.x5 ![0, 0] S512x128.size inb_S1024x128_S512x128_0_0

def r0_v21 (i : grid0.Coords) (h : k0_cond3 i = 1#1) (S : Cont F) : Vec F S640x128 .bf16 :=
  VecWindow.window (s := S8704x128) S.x16 (k0_off4 i 0#32 0#32) S640x128.size (k0_off4_inb i h 0 0)

def r0_v25 (i : grid0.Coords) (h : k0_cond3 i = 1#1) (S : Cont F) : Vec F S640x128 .bf16 :=
  VecWindow.window (s := S8704x128) S.x16 (k0_off4 i 0#32 128#32) S640x128.size (k0_off4_inb i h 0 1)

def r0_v29 (i : grid0.Coords) (h : k0_cond3 i = 1#1) (S : Cont F) : Vec F S640x128 .bf16 :=
  VecWindow.window (s := S8704x128) S.x16 (k0_off4 i 0#32 256#32) S640x128.size (k0_off4_inb i h 0 2)

def r0_v33 (i : grid0.Coords) (h : k0_cond3 i = 1#1) (S : Cont F) : Vec F S640x128 .bf16 :=
  VecWindow.window (s := S8704x128) S.x16 (k0_off4 i 0#32 384#32) S640x128.size (k0_off4_inb i h 0 3)

def r0_v42 (i : grid0.Coords) (h : k0_cond3 i = 1#1) (S : Cont F) : Vec F S640x128 .bf16 :=
  VecWindow.window (s := S8704x128) S.x17 (k0_off4 i 0#32 0#32) S640x128.size (k0_off4_inb i h 0 0)

def r0_v46 (i : grid0.Coords) (h : k0_cond3 i = 1#1) (S : Cont F) : Vec F S640x128 .bf16 :=
  VecWindow.window (s := S8704x128) S.x17 (k0_off4 i 0#32 128#32) S640x128.size (k0_off4_inb i h 0 1)

def r0_v50 (i : grid0.Coords) (h : k0_cond3 i = 1#1) (S : Cont F) : Vec F S640x128 .bf16 :=
  VecWindow.window (s := S8704x128) S.x17 (k0_off4 i 0#32 256#32) S640x128.size (k0_off4_inb i h 0 2)

def r0_v15 (i : grid0.Coords) (h : k0_cond3 i = 1#1) (S : Cont F) : FVec F S4x128x128 .f32 :=
  k0_pay95 (r0_v14 i h S)

def r0_v17 (i : grid0.Coords) (h : k0_cond3 i = 1#1) (S : Cont F) : FVec F S4x128x128 .f32 :=
  k0_pay96 (r0_v16 i h S)

def r0_v38 (i : grid0.Coords) (h : k0_cond3 i = 1#1) (S : Cont F) : FVec F S4x640x128 .bf16 :=
  k0_pay97 (r0_v21 i h S) (r0_v25 i h S) (r0_v29 i h S) (r0_v33 i h S)

def r0_v54 (i : grid0.Coords) (h : k0_cond3 i = 1#1) (S : Cont F) : Vec F S640x128 .bf16 :=
  VecWindow.window (s := S8704x128) S.x17 (k0_off4 i 0#32 384#32) S640x128.size (k0_off4_inb i h 0 3)

def r0_v60 (i : grid0.Coords) (h : k0_cond3 i = 1#1) (S : Cont F) : Vec F S1x1x128x640 .f32 :=
  VecWindow.window (s := S1x1x128x640) S.x7 ![0, 0, 0, 0] S1x1x128x640.size inb_S1x1x128x640_S1x1x128x640_0_0_0_0

def r0_v62 (i : grid0.Coords) (h : k0_cond3 i = 1#1) (S : Cont F) : Vec F S1x128 .f32 :=
  VecWindow.window (s := S1x128) S.x8 ![0, 0] S1x128.size inb_S1x128_S1x128_0_0

def r0_v64 (i : grid0.Coords) (h : k0_cond3 i = 1#1) (S : Cont F) : Vec F S512x128 .f32 :=
  VecWindow.window (s := S1024x128) S.x10 ![0, 0] S512x128.size inb_S1024x128_S512x128_0_0

def r0_v59 (i : grid0.Coords) (h : k0_cond3 i = 1#1) (S : Cont F) : FVec F S4x640x128 .bf16 :=
  k0_pay98 (r0_v42 i h S) (r0_v46 i h S) (r0_v50 i h S) (r0_v54 i h S)

def r0_v63 (i : grid0.Coords) (h : k0_cond3 i = 1#1) (S : Cont F) : FVec F S1x128 .f32 :=
  k0_pay99 (r0_v62 i h S)

def r0_v65 (i : grid0.Coords) (h : k0_cond3 i = 1#1) (S : Cont F) : FVec F S4x128x128 .f32 :=
  k0_pay100 (r0_v64 i h S)

def r0_v73 (i : grid0.Coords) (h : k0_cond3 i = 1#1) (S : Cont F) : FVec F S4x128x1 .f32 :=
  k0_pay101 (r0_v15 i h S)

def r0_v75 (i : grid0.Coords) (h : k0_cond3 i = 1#1) (S : Cont F) : FVec F S4x128x128 .f32 :=
  k0_pay102 (r0_v15 i h S)

def r0_v79 (i : grid0.Coords) (h : k0_cond3 i = 1#1) (S : Cont F) : FVec F S4x128x128 .bf16 :=
  k0_pay103 (r0_v15 i h S) (r0_v62 i h S)

def r0_v89 (i : grid0.Coords) (h : k0_cond3 i = 1#1) (S : Cont F) : FVec F S4x128x640 .f32 :=
  k0_pay104 (r0_v15 i h S) (r0_v38 i h S) (r0_v60 i h S) (r0_v62 i h S)

def r0_v93 (i : grid0.Coords) (h : k0_cond3 i = 1#1) (S : Cont F) : FVec F S4x128x1 .f32 :=
  k0_pay105 (r0_v15 i h S) (r0_v38 i h S) (r0_v60 i h S) (r0_v62 i h S)

def r0_v108 (i : grid0.Coords) (h : k0_cond3 i = 1#1) (S : Cont F) : FVec F S4x128x128 .f32 :=
  k0_pay111 (r0_v17 i h S) (r0_v59 i h S) (r0_v65 i h S) (r0_v89 i h S) (r0_v93 i h S)

def r0_v110 (i : grid0.Coords) (h : k0_cond3 i = 1#1) (S : Cont F) : FVec F S4x640x128 .f32 :=
  k0_pay113 (r0_v17 i h S) (r0_v65 i h S) (r0_v89 i h S) (r0_v93 i h S)

def r0_v117 (i : grid0.Coords) (h : k0_cond3 i = 1#1) (S : Cont F) : FVec F S4x128x640 .f32 :=
  k0_pay114 (r0_v17 i h S) (r0_v59 i h S) (r0_v65 i h S) (r0_v89 i h S) (r0_v93 i h S)

def r0_v122 (i : grid0.Coords) (h : k0_cond3 i = 1#1) (S : Cont F) : FVec F S4x640x128 .f32 :=
  k0_pay117 (r0_v17 i h S) (r0_v59 i h S) (r0_v65 i h S) (r0_v79 i h S) (r0_v89 i h S) (r0_v93 i h S)

def r0_v126 (i : grid0.Coords) (h : k0_cond3 i = 1#1) (S : Cont F) : FVec F S1x128 .f32 :=
  k0_pay118 (r0_v17 i h S) (r0_v38 i h S) (r0_v59 i h S) (r0_v65 i h S) (r0_v75 i h S) (r0_v89 i h S) (r0_v93 i h S)

def r0_v139 (i : grid0.Coords) (h : k0_cond3 i = 1#1) (S : Cont F) : FVec F S4x128x128 .f32 :=
  k0_pay119 (r0_v17 i h S) (r0_v38 i h S) (r0_v59 i h S) (r0_v63 i h S) (r0_v65 i h S) (r0_v73 i h S) (r0_v75 i h S) (r0_v89 i h S) (r0_v93 i h S)

def r0_S1 (i : grid0.Coords) (h : k0_cond3 i = 1#1) (S : Cont F) : Cont F :=
  { S with x11 := VecWindow.put (s := S2x1024x128) S.x11 ![0, 0, 0] S1x512x128.size (k0_pay121 (r0_v139 i h S)) }

def r0_S2 (i : grid0.Coords) (h : k0_cond3 i = 1#1) (S : Cont F) : Cont F :=
  { r0_S1 i h S with x11 := VecWindow.put (s := S2x1024x128) (r0_S1 i h S).x11 ![1, 0, 0] S1x512x128.size (k0_pay122 (r0_v108 i h S)) }

def r0_v154 (i : grid0.Coords) (h : k0_cond3 i = 1#1) (S : Cont F) : Vec F S640x128 .f32 :=
  VecWindow.window (s := S8704x128) (r0_S2 i h S).x18 (k0_off4 i 0#32 0#32) S640x128.size (k0_off4_inb i h 0 0)

def r0_S3 (i : grid0.Coords) (h : k0_cond3 i = 1#1) (S : Cont F) : Cont F :=
  { r0_S2 i h S with x18 := VecWindow.put (s := S8704x128) (r0_S2 i h S).x18 (k0_off4 i 0#32 0#32) S640x128.size (k0_pay123 (r0_v122 i h S) (r0_v154 i h S)) }

def r0_v163 (i : grid0.Coords) (h : k0_cond3 i = 1#1) (S : Cont F) : Vec F S640x128 .f32 :=
  VecWindow.window (s := S8704x128) (r0_S3 i h S).x19 (k0_off4 i 0#32 0#32) S640x128.size (k0_off4_inb i h 0 0)

def r0_S4 (i : grid0.Coords) (h : k0_cond3 i = 1#1) (S : Cont F) : Cont F :=
  { r0_S3 i h S with x19 := VecWindow.put (s := S8704x128) (r0_S3 i h S).x19 (k0_off4 i 0#32 0#32) S640x128.size (k0_pay124 (r0_v110 i h S) (r0_v163 i h S)) }

def r0_v174 (i : grid0.Coords) (h : k0_cond3 i = 1#1) (S : Cont F) : Vec F S640x128 .f32 :=
  VecWindow.window (s := S8704x128) (r0_S4 i h S).x18 (k0_off4 i 0#32 128#32) S640x128.size (k0_off4_inb i h 0 1)

def r0_v140 (i : grid0.Coords) (h : k0_cond3 i = 1#1) (S : Cont F) : FVec F S128x640 .f32 :=
  k0_pay120 (r0_v117 i h S)

def r0_v181 (i : grid0.Coords) (h : k0_cond3 i = 1#1) (S : Cont F) : FVec F S640x128 .f32 :=
  k0_pay125 (r0_v122 i h S) (r0_v174 i h S)

def r0_S5 (i : grid0.Coords) (h : k0_cond3 i = 1#1) (S : Cont F) : Cont F :=
  { r0_S4 i h S with x18 := VecWindow.put (s := S8704x128) (r0_S4 i h S).x18 (k0_off4 i 0#32 128#32) S640x128.size ((r0_v181 i h S)) }

def r0_v183 (i : grid0.Coords) (h : k0_cond3 i = 1#1) (S : Cont F) : Vec F S640x128 .f32 :=
  VecWindow.window (s := S8704x128) (r0_S5 i h S).x19 (k0_off4 i 0#32 128#32) S640x128.size (k0_off4_inb i h 0 1)

def r0_S6 (i : grid0.Coords) (h : k0_cond3 i = 1#1) (S : Cont F) : Cont F :=
  { r0_S5 i h S with x19 := VecWindow.put (s := S8704x128) (r0_S5 i h S).x19 (k0_off4 i 0#32 128#32) S640x128.size (k0_pay126 (r0_v110 i h S) (r0_v183 i h S)) }

def r0_v194 (i : grid0.Coords) (h : k0_cond3 i = 1#1) (S : Cont F) : Vec F S640x128 .f32 :=
  VecWindow.window (s := S8704x128) (r0_S6 i h S).x18 (k0_off4 i 0#32 256#32) S640x128.size (k0_off4_inb i h 0 2)

def r0_S7 (i : grid0.Coords) (h : k0_cond3 i = 1#1) (S : Cont F) : Cont F :=
  { r0_S6 i h S with x18 := VecWindow.put (s := S8704x128) (r0_S6 i h S).x18 (k0_off4 i 0#32 256#32) S640x128.size (k0_pay127 (r0_v122 i h S) (r0_v194 i h S)) }

def r0_v203 (i : grid0.Coords) (h : k0_cond3 i = 1#1) (S : Cont F) : Vec F S640x128 .f32 :=
  VecWindow.window (s := S8704x128) (r0_S7 i h S).x19 (k0_off4 i 0#32 256#32) S640x128.size (k0_off4_inb i h 0 2)

def r0_S8 (i : grid0.Coords) (h : k0_cond3 i = 1#1) (S : Cont F) : Cont F :=
  { r0_S7 i h S with x19 := VecWindow.put (s := S8704x128) (r0_S7 i h S).x19 (k0_off4 i 0#32 256#32) S640x128.size (k0_pay128 (r0_v110 i h S) (r0_v203 i h S)) }

def r0_v214 (i : grid0.Coords) (h : k0_cond3 i = 1#1) (S : Cont F) : Vec F S640x128 .f32 :=
  VecWindow.window (s := S8704x128) (r0_S8 i h S).x18 (k0_off4 i 0#32 384#32) S640x128.size (k0_off4_inb i h 0 3)

def r0_S9 (i : grid0.Coords) (h : k0_cond3 i = 1#1) (S : Cont F) : Cont F :=
  { r0_S8 i h S with x18 := VecWindow.put (s := S8704x128) (r0_S8 i h S).x18 (k0_off4 i 0#32 384#32) S640x128.size (k0_pay129 (r0_v122 i h S) (r0_v214 i h S)) }

def r0_v223 (i : grid0.Coords) (h : k0_cond3 i = 1#1) (S : Cont F) : Vec F S640x128 .f32 :=
  VecWindow.window (s := S8704x128) (r0_S9 i h S).x19 (k0_off4 i 0#32 384#32) S640x128.size (k0_off4_inb i h 0 3)

def r0_v225 (i : grid0.Coords) (h : k0_cond3 i = 1#1) (S : Cont F) : FVec F S640x128 .f32 :=
  k0_pay130 (r0_v110 i h S)

def r0_S10 (i : grid0.Coords) (h : k0_cond3 i = 1#1) (S : Cont F) : Cont F :=
  { r0_S9 i h S with x19 := VecWindow.put (s := S8704x128) (r0_S9 i h S).x19 (k0_off4 i 0#32 384#32) S640x128.size (k0_pay131 (r0_v223 i h S) (r0_v225 i h S)) }

def r0_v231 (i : grid0.Coords) (h : k0_cond3 i = 1#1) (S : Cont F) : Vec F S1x128x640 .f32 :=
  VecWindow.window (s := S1x128x640) (r0_S10 i h S).x13 ![0, 0, 0] S1x128x640.size inb_S1x128x640_S1x128x640_0_0_0

def r0_S11 (i : grid0.Coords) (h : k0_cond3 i = 1#1) (S : Cont F) : Cont F :=
  { r0_S10 i h S with x13 := VecWindow.put (s := S1x128x640) (r0_S10 i h S).x13 ![0, 0, 0] S1x128x640.size (k0_pay132 (r0_v140 i h S) (r0_v231 i h S)) }

def r0_v237 (i : grid0.Coords) (h : k0_cond3 i = 1#1) (S : Cont F) : Vec F S1x1x128 .f32 :=
  VecWindow.window (s := S1x1x128) (r0_S11 i h S).x14 ![0, 0, 0] S1x1x128.size inb_S1x1x128_S1x1x128_0_0_0

def r0_S12 (i : grid0.Coords) (h : k0_cond3 i = 1#1) (S : Cont F) : Cont F :=
  { r0_S11 i h S with x14 := VecWindow.put (s := S1x1x128) (r0_S11 i h S).x14 ![0, 0, 0] S1x1x128.size (k0_pay133 (r0_v126 i h S) (r0_v237 i h S)) }

/-- The state after the first half. -/
def r0_end (i : grid0.Coords) (h : k0_cond3 i = 1#1) (S : Cont F) : Cont F := r0_S12 i h S

def r1_v245 (i : grid0.Coords) (h : k0_cond3 i = 1#1) (S : Cont F) : Vec F S512x128 .f32 :=
  VecWindow.window (s := S1024x128) S.x2 ![512, 0] S512x128.size inb_S1024x128_S512x128_512_0

def r1_v247 (i : grid0.Coords) (h : k0_cond3 i = 1#1) (S : Cont F) : Vec F S512x128 .f32 :=
  VecWindow.window (s := S1024x128) S.x5 ![512, 0] S512x128.size inb_S1024x128_S512x128_512_0

def r1_v252 (i : grid0.Coords) (h : k0_cond3 i = 1#1) (S : Cont F) : Vec F S640x128 .bf16 :=
  VecWindow.window (s := S8704x128) S.x16 (k0_off4 i 512#32 0#32) S640x128.size (k0_off4_inb i h 1 0)

def r1_v256 (i : grid0.Coords) (h : k0_cond3 i = 1#1) (S : Cont F) : Vec F S640x128 .bf16 :=
  VecWindow.window (s := S8704x128) S.x16 (k0_off4 i 512#32 128#32) S640x128.size (k0_off4_inb i h 1 1)

def r1_v246 (i : grid0.Coords) (h : k0_cond3 i = 1#1) (S : Cont F) : FVec F S4x128x128 .f32 :=
  k0_pay134 (r1_v245 i h S)

def r1_v248 (i : grid0.Coords) (h : k0_cond3 i = 1#1) (S : Cont F) : FVec F S4x128x128 .f32 :=
  k0_pay135 (r1_v247 i h S)

def r1_v260 (i : grid0.Coords) (h : k0_cond3 i = 1#1) (S : Cont F) : Vec F S640x128 .bf16 :=
  VecWindow.window (s := S8704x128) S.x16 (k0_off4 i 512#32 256#32) S640x128.size (k0_off4_inb i h 1 2)

def r1_v264 (i : grid0.Coords) (h : k0_cond3 i = 1#1) (S : Cont F) : Vec F S640x128 .bf16 :=
  VecWindow.window (s := S8704x128) S.x16 (k0_off4 i 512#32 384#32) S640x128.size (k0_off4_inb i h 1 3)

def r1_v273 (i : grid0.Coords) (h : k0_cond3 i = 1#1) (S : Cont F) : Vec F S640x128 .bf16 :=
  VecWindow.window (s := S8704x128) S.x17 (k0_off4 i 512#32 0#32) S640x128.size (k0_off4_inb i h 1 0)

def r1_v277 (i : grid0.Coords) (h : k0_cond3 i = 1#1) (S : Cont F) : Vec F S640x128 .bf16 :=
  VecWindow.window (s := S8704x128) S.x17 (k0_off4 i 512#32 128#32) S640x128.size (k0_off4_inb i h 1 1)

def r1_v281 (i : grid0.Coords) (h : k0_cond3 i = 1#1) (S : Cont F) : Vec F S640x128 .bf16 :=
  VecWindow.window (s := S8704x128) S.x17 (k0_off4 i 512#32 256#32) S640x128.size (k0_off4_inb i h 1 2)

def r1_v285 (i : grid0.Coords) (h : k0_cond3 i = 1#1) (S : Cont F) : Vec F S640x128 .bf16 :=
  VecWindow.window (s := S8704x128) S.x17 (k0_off4 i 512#32 384#32) S640x128.size (k0_off4_inb i h 1 3)

def r1_v291 (i : grid0.Coords) (h : k0_cond3 i = 1#1) (S : Cont F) : Vec F S1x1x128x640 .f32 :=
  VecWindow.window (s := S1x1x128x640) S.x7 ![0, 0, 0, 0] S1x1x128x640.size inb_S1x1x128x640_S1x1x128x640_0_0_0_0

def r1_v293 (i : grid0.Coords) (h : k0_cond3 i = 1#1) (S : Cont F) : Vec F S1x128 .f32 :=
  VecWindow.window (s := S1x128) S.x8 ![0, 0] S1x128.size inb_S1x128_S1x128_0_0

def r1_v295 (i : grid0.Coords) (h : k0_cond3 i = 1#1) (S : Cont F) : Vec F S512x128 .f32 :=
  VecWindow.window (s := S1024x128) S.x10 ![512, 0] S512x128.size inb_S1024x128_S512x128_512_0

def r1_v269 (i : grid0.Coords) (h : k0_cond3 i = 1#1) (S : Cont F) : FVec F S4x640x128 .bf16 :=
  k0_pay136 (r1_v252 i h S) (r1_v256 i h S) (r1_v260 i h S) (r1_v264 i h S)

def r1_v290 (i : grid0.Coords) (h : k0_cond3 i = 1#1) (S : Cont F) : FVec F S4x640x128 .bf16 :=
  k0_pay137 (r1_v273 i h S) (r1_v277 i h S) (r1_v281 i h S) (r1_v285 i h S)

def r1_v292 (i : grid0.Coords) (h : k0_cond3 i = 1#1) (S : Cont F) : FVec F S1x128x640 .f32 :=
  k0_pay138 (r1_v291 i h S)

def r1_v294 (i : grid0.Coords) (h : k0_cond3 i = 1#1) (S : Cont F) : FVec F S1x128 .f32 :=
  k0_pay139 (r1_v293 i h S)

def r1_v296 (i : grid0.Coords) (h : k0_cond3 i = 1#1) (S : Cont F) : FVec F S4x128x128 .f32 :=
  k0_pay140 (r1_v295 i h S)

def r1_v298 (i : grid0.Coords) (h : k0_cond3 i = 1#1) (S : Cont F) : FVec F S4x128 .f32 :=
  k0_pay141 (r1_v246 i h S)

def r1_v304 (i : grid0.Coords) (h : k0_cond3 i = 1#1) (S : Cont F) : FVec F S4x128x1 .f32 :=
  k0_pay142 (r1_v298 i h S)

def r1_v306 (i : grid0.Coords) (h : k0_cond3 i = 1#1) (S : Cont F) : FVec F S4x128x128 .f32 :=
  k0_pay143 (r1_v246 i h S) (r1_v298 i h S)

def r1_v310 (i : grid0.Coords) (h : k0_cond3 i = 1#1) (S : Cont F) : FVec F S4x128x128 .bf16 :=
  k0_pay144 (r1_v246 i h S) (r1_v294 i h S) (r1_v298 i h S)

def r1_v326 (i : grid0.Coords) (h : k0_cond3 i = 1#1) (S : Cont F) : FVec F S4x128x640 .f32 :=
  k0_pay145 (r1_v246 i h S) (r1_v269 i h S) (r1_v292 i h S) (r1_v294 i h S) (r1_v298 i h S)

def r1_v339 (i : grid0.Coords) (h : k0_cond3 i = 1#1) (S : Cont F) : FVec F S4x128x128 .f32 :=
  k0_pay150 (r1_v246 i h S) (r1_v248 i h S) (r1_v269 i h S) (r1_v290 i h S) (r1_v292 i h S) (r1_v294 i h S) (r1_v296 i h S) (r1_v298 i h S)

def r1_v341 (i : grid0.Coords) (h : k0_cond3 i = 1#1) (S : Cont F) : FVec F S4x640x128 .f32 :=
  k0_pay152 (r1_v246 i h S) (r1_v248 i h S) (r1_v269 i h S) (r1_v292 i h S) (r1_v294 i h S) (r1_v296 i h S) (r1_v298 i h S)

def r1_v342 (i : grid0.Coords) (h : k0_cond3 i = 1#1) (S : Cont F) : FVec F S4x128x640 .f32 :=
  k0_pay153 (r1_v248 i h S) (r1_v290 i h S) (r1_v296 i h S)

def r1_v345 (i : grid0.Coords) (h : k0_cond3 i = 1#1) (S : Cont F) : FVec F S4x128x1 .f32 :=
  k0_pay154 (r1_v246 i h S) (r1_v248 i h S) (r1_v269 i h S) (r1_v290 i h S) (r1_v292 i h S) (r1_v294 i h S) (r1_v296 i h S) (r1_v298 i h S)

def r1_S1 (i : grid0.Coords) (h : k0_cond3 i = 1#1) (S : Cont F) : Cont F :=
  { S with x11 := VecWindow.put (s := S2x1024x128) S.x11 ![0, 512, 0] S1x512x128.size (k0_pay161 (r1_v269 i h S) (r1_v294 i h S) (r1_v304 i h S) (r1_v306 i h S) (r1_v326 i h S) (r1_v342 i h S) (r1_v345 i h S)) }

def r1_S2 (i : grid0.Coords) (h : k0_cond3 i = 1#1) (S : Cont F) : Cont F :=
  { r1_S1 i h S with x11 := VecWindow.put (s := S2x1024x128) (r1_S1 i h S).x11 ![1, 512, 0] S1x512x128.size (k0_pay162 (r1_v339 i h S)) }

def r1_v385 (i : grid0.Coords) (h : k0_cond3 i = 1#1) (S : Cont F) : Vec F S640x128 .f32 :=
  VecWindow.window (s := S8704x128) (r1_S2 i h S).x18 (k0_off4 i 512#32 0#32) S640x128.size (k0_off4_inb i h 1 0)

def r1_v353 (i : grid0.Coords) (h : k0_cond3 i = 1#1) (S : Cont F) : FVec F S4x640x128 .f32 :=
  k0_pay158 (r1_v310 i h S) (r1_v326 i h S) (r1_v342 i h S) (r1_v345 i h S)

def r1_v357 (i : grid0.Coords) (h : k0_cond3 i = 1#1) (S : Cont F) : FVec F S1x128 .f32 :=
  k0_pay159 (r1_v269 i h S) (r1_v306 i h S) (r1_v326 i h S) (r1_v342 i h S) (r1_v345 i h S)

def r1_v371 (i : grid0.Coords) (h : k0_cond3 i = 1#1) (S : Cont F) : FVec F S128x640 .f32 :=
  k0_pay160 (r1_v326 i h S) (r1_v342 i h S) (r1_v345 i h S)

def r1_v387 (i : grid0.Coords) (h : k0_cond3 i = 1#1) (S : Cont F) : FVec F S640x128 .f32 :=
  k0_pay163 (r1_v310 i h S) (r1_v326 i h S) (r1_v342 i h S) (r1_v345 i h S)

def r1_S3 (i : grid0.Coords) (h : k0_cond3 i = 1#1) (S : Cont F) : Cont F :=
  { r1_S2 i h S with x18 := VecWindow.put (s := S8704x128) (r1_S2 i h S).x18 (k0_off4 i 512#32 0#32) S640x128.size (k0_pay164 (r1_v385 i h S) (r1_v387 i h S)) }

def r1_v394 (i : grid0.Coords) (h : k0_cond3 i = 1#1) (S : Cont F) : Vec F S640x128 .f32 :=
  VecWindow.window (s := S8704x128) (r1_S3 i h S).x19 (k0_off4 i 512#32 0#32) S640x128.size (k0_off4_inb i h 1 0)

def r1_S4 (i : grid0.Coords) (h : k0_cond3 i = 1#1) (S : Cont F) : Cont F :=
  { r1_S3 i h S with x19 := VecWindow.put (s := S8704x128) (r1_S3 i h S).x19 (k0_off4 i 512#32 0#32) S640x128.size (k0_pay165 (r1_v341 i h S) (r1_v394 i h S)) }

def r1_v405 (i : grid0.Coords) (h : k0_cond3 i = 1#1) (S : Cont F) : Vec F S640x128 .f32 :=
  VecWindow.window (s := S8704x128) (r1_S4 i h S).x18 (k0_off4 i 512#32 128#32) S640x128.size (k0_off4_inb i h 1 1)

def r1_S5 (i : grid0.Coords) (h : k0_cond3 i = 1#1) (S : Cont F) : Cont F :=
  { r1_S4 i h S with x18 := VecWindow.put (s := S8704x128) (r1_S4 i h S).x18 (k0_off4 i 512#32 128#32) S640x128.size (k0_pay166 (r1_v353 i h S) (r1_v405 i h S)) }

def r1_v414 (i : grid0.Coords) (h : k0_cond3 i = 1#1) (S : Cont F) : Vec F S640x128 .f32 :=
  VecWindow.window (s := S8704x128) (r1_S5 i h S).x19 (k0_off4 i 512#32 128#32) S640x128.size (k0_off4_inb i h 1 1)

def r1_S6 (i : grid0.Coords) (h : k0_cond3 i = 1#1) (S : Cont F) : Cont F :=
  { r1_S5 i h S with x19 := VecWindow.put (s := S8704x128) (r1_S5 i h S).x19 (k0_off4 i 512#32 128#32) S640x128.size (k0_pay167 (r1_v341 i h S) (r1_v414 i h S)) }

def r1_v425 (i : grid0.Coords) (h : k0_cond3 i = 1#1) (S : Cont F) : Vec F S640x128 .f32 :=
  VecWindow.window (s := S8704x128) (r1_S6 i h S).x18 (k0_off4 i 512#32 256#32) S640x128.size (k0_off4_inb i h 1 2)

def r1_v432 (i : grid0.Coords) (h : k0_cond3 i = 1#1) (S : Cont F) : FVec F S640x128 .f32 :=
  k0_pay168 (r1_v353 i h S) (r1_v425 i h S)

def r1_S7 (i : grid0.Coords) (h : k0_cond3 i = 1#1) (S : Cont F) : Cont F :=
  { r1_S6 i h S with x18 := VecWindow.put (s := S8704x128) (r1_S6 i h S).x18 (k0_off4 i 512#32 256#32) S640x128.size ((r1_v432 i h S)) }

def r1_v434 (i : grid0.Coords) (h : k0_cond3 i = 1#1) (S : Cont F) : Vec F S640x128 .f32 :=
  VecWindow.window (s := S8704x128) (r1_S7 i h S).x19 (k0_off4 i 512#32 256#32) S640x128.size (k0_off4_inb i h 1 2)

def r1_S8 (i : grid0.Coords) (h : k0_cond3 i = 1#1) (S : Cont F) : Cont F :=
  { r1_S7 i h S with x19 := VecWindow.put (s := S8704x128) (r1_S7 i h S).x19 (k0_off4 i 512#32 256#32) S640x128.size (k0_pay169 (r1_v341 i h S) (r1_v434 i h S)) }

def r1_v445 (i : grid0.Coords) (h : k0_cond3 i = 1#1) (S : Cont F) : Vec F S640x128 .f32 :=
  VecWindow.window (s := S8704x128) (r1_S8 i h S).x18 (k0_off4 i 512#32 384#32) S640x128.size (k0_off4_inb i h 1 3)

def r1_S9 (i : grid0.Coords) (h : k0_cond3 i = 1#1) (S : Cont F) : Cont F :=
  { r1_S8 i h S with x18 := VecWindow.put (s := S8704x128) (r1_S8 i h S).x18 (k0_off4 i 512#32 384#32) S640x128.size (k0_pay170 (r1_v353 i h S) (r1_v445 i h S)) }

def r1_v454 (i : grid0.Coords) (h : k0_cond3 i = 1#1) (S : Cont F) : Vec F S640x128 .f32 :=
  VecWindow.window (s := S8704x128) (r1_S9 i h S).x19 (k0_off4 i 512#32 384#32) S640x128.size (k0_off4_inb i h 1 3)

def r1_S10 (i : grid0.Coords) (h : k0_cond3 i = 1#1) (S : Cont F) : Cont F :=
  { r1_S9 i h S with x19 := VecWindow.put (s := S8704x128) (r1_S9 i h S).x19 (k0_off4 i 512#32 384#32) S640x128.size (k0_pay171 (r1_v341 i h S) (r1_v454 i h S)) }

def r1_v462 (i : grid0.Coords) (h : k0_cond3 i = 1#1) (S : Cont F) : Vec F S1x128x640 .f32 :=
  VecWindow.window (s := S1x128x640) (r1_S10 i h S).x13 ![0, 0, 0] S1x128x640.size inb_S1x128x640_S1x128x640_0_0_0

def r1_S11 (i : grid0.Coords) (h : k0_cond3 i = 1#1) (S : Cont F) : Cont F :=
  { r1_S10 i h S with x13 := VecWindow.put (s := S1x128x640) (r1_S10 i h S).x13 ![0, 0, 0] S1x128x640.size (k0_pay172 (r1_v371 i h S) (r1_v462 i h S)) }

def r1_v468 (i : grid0.Coords) (h : k0_cond3 i = 1#1) (S : Cont F) : Vec F S1x1x128 .f32 :=
  VecWindow.window (s := S1x1x128) (r1_S11 i h S).x14 ![0, 0, 0] S1x1x128.size inb_S1x1x128_S1x1x128_0_0_0

def r1_v470 (i : grid0.Coords) (h : k0_cond3 i = 1#1) (S : Cont F) : FVec F S1x128 .f32 :=
  (k0_pay173 (r1_v357 i h S) (r1_v468 i h S))

def r1_S12 (i : grid0.Coords) (h : k0_cond3 i = 1#1) (S : Cont F) : Cont F :=
  { r1_S11 i h S with x14 := VecWindow.put (s := S1x1x128) (r1_S11 i h S).x14 ![0, 0, 0] S1x1x128.size (k0_pay10 (r1_v470 i h S)) }

/-- The state after the second half, from the state it starts from. -/
def r1_end (i : grid0.Coords) (h : k0_cond3 i = 1#1) (S : Cont F) : Cont F := r1_S12 i h S

end Cert.KernelIdeal.Attn

end
-- ==== Proof.Attn.Canon.lean ====
/- One half of a block's work as one function: the eight scores' groups' gradients from the rows of the queries, the gates and the
   incoming gradient, the windows of the keys and values, and the biases; and that each of the four halves the body spells is it. -/
module

public import proofs.«01_k».proof.Proof.Attn.First
public import proofs.«01_k».proof.Proof.Attn.Later

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The exponentials of the scores less their row's maximum. -/
def cE (q : FVec F S4x128x128 .f32) (kw : FVec F S4x640x128 .bf16) (b : FVec F S4x128x640 .f32) (w : Vec F S1x128 .f32) : FVec F S4x128x640 .f32 :=
  have v80 : FVec F S4x128x640 .f32 := matmul dot_S4x128x128_S4x640x128_S4x128x640_2_2_1_1_0_0 none (k0_pay24 q w) kw (constant S4x128x640 .f32 0x00000000#32)
  have v82 : FVec F S4x128x640 .f32 := mulf v80 (broadcast S4x128x640 (Scalar.ofBits .f32 0x3DB504F3#32))
  have v83 : FVec F S4x128x640 .f32 := addf v82 b
  have v84 : FVec F S4x128 .f32 := multiReduction .maximumf [2] S4x128 v83 0xFF800000#32 reduces_S4x128x640_S4x128 (.inl rfl) rfl
  have v86 : FVec F S4x128x640 .f32 := broadcastTo S4x128x640 (shapeCast S4x128x1 v84 shapeCasts_S4x128_S4x128x1) broadcasts_S4x128x1_S4x128x640
  exp (subf v83 v86)

/-- The reciprocals of their rows' sums. -/
def cR (e : FVec F S4x128x640 .f32) : FVec F S4x128x640 .f32 :=
  have v89 : FVec F S4x128 .f32 := multiReduction .add [2] S4x128 e 0x00000000#32 reduces_S4x128x640_S4x128 (.inl rfl) rfl
  have v90 : FVec F S4x128x1 .f32 := shapeCast S4x128x1 v89 shapeCasts_S4x128_S4x128x1
  have v92 : FVec F S4x128x1 .f32 := divf (broadcast S4x128x1 (Scalar.ofBits .f32 0x3F800000#32)) v90
  broadcastTo S4x128x640 v92 broadcasts_S4x128x1_S4x128x640

/-- What one half's work reads. -/
structure In (F : FTy → Type) [FloatOps F] where
  q : Vec F S512x128 .f32
  z : Vec F S512x128 .f32
  g : Vec F S512x128 .f32
  kw : FVec F S4x640x128 .bf16
  vw : FVec F S4x640x128 .bf16
  b : FVec F S4x128x640 .f32
  w : Vec F S1x128 .f32

variable (I : In F)

def In.e : FVec F S4x128x640 .f32 := cE (k0_pay16 I.q) I.kw I.b I.w
def In.r : FVec F S4x128x640 .f32 := cR I.e
/-- The gradient of the queries. -/
def In.dq : FVec F S4x128x128 .f32 :=
  k0_pay40 (k0_pay17 I.z) I.kw I.vw (k0_pay20 I.w) (k0_pay21 I.g) (k0_pay22 (k0_pay16 I.q)) (k0_pay23 (k0_pay16 I.q)) I.e I.r
/-- The gradient of the gates. -/
def In.dz : FVec F S4x128x128 .f32 := k0_pay32 (k0_pay17 I.z) I.vw (k0_pay21 I.g) I.e I.r
/-- The gradient of the windows of values. -/
def In.dv : FVec F S4x640x128 .f32 := k0_pay34 (k0_pay17 I.z) (k0_pay21 I.g) I.e I.r
/-- The gradient of the windows of normed keys. -/
def In.dk : FVec F S4x640x128 .f32 := k0_pay38 (k0_pay17 I.z) I.vw (k0_pay21 I.g) (k0_pay24 (k0_pay16 I.q) I.w) I.e I.r
/-- The gradient of the query norm's weight. -/
def In.dw : FVec F S1x128 .f32 := k0_pay39 (k0_pay17 I.z) I.kw I.vw (k0_pay21 I.g) (k0_pay23 (k0_pay16 I.q)) I.e I.r
/-- The gradient of the bias. -/
def In.db : FVec F S128x640 .f32 := k0_pay41 (k0_pay17 I.z) I.vw (k0_pay21 I.g) I.e I.r

/-- Four windows of the padded rows. -/
structure Offs where
  o0 : Fin 2 → ℕ
  o1 : Fin 2 → ℕ
  o2 : Fin 2 → ℕ
  o3 : Fin 2 → ℕ
  h0 : ∀ a, o0 a + S640x128.size a ≤ S8704x128.size a
  h1 : ∀ a, o1 a + S640x128.size a ≤ S8704x128.size a
  h2 : ∀ a, o2 a + S640x128.size a ≤ S8704x128.size a
  h3 : ∀ a, o3 a + S640x128.size a ≤ S8704x128.size a

/-- The four windows of a padded array of keys, one on another. -/
def stackK (o : Offs) (x : S8704x128.Idx → Elt F .bf16) : FVec F S4x640x128 .bf16 :=
  k0_pay18 (VecWindow.window (s := S8704x128) x o.o0 S640x128.size o.h0) (VecWindow.window (s := S8704x128) x o.o1 S640x128.size o.h1)
    (VecWindow.window (s := S8704x128) x o.o2 S640x128.size o.h2) (VecWindow.window (s := S8704x128) x o.o3 S640x128.size o.h3)

def addAt (x : S8704x128.Idx → Elt F .f32) (o : Fin 2 → ℕ) (h : ∀ a, o a + S640x128.size a ≤ S8704x128.size a) (f : Vec F S640x128 .f32 → FVec F S640x128 .f32) :
    S8704x128.Idx → Elt F .f32 :=
  VecWindow.put (s := S8704x128) x o S640x128.size (f (VecWindow.window (s := S8704x128) x o S640x128.size h))

/-- The four windows' gradients added into the padded rows. -/
def addWin (o : Offs) (d : FVec F S4x640x128 .f32) (x : S8704x128.Idx → Elt F .f32) : S8704x128.Idx → Elt F .f32 :=
  addAt (addAt (addAt (addAt x o.o0 o.h0 (k0_pay44 d)) o.o1 o.h1 (k0_pay46 d)) o.o2 o.h2 (k0_pay48 d)) o.o3 o.h3 (k0_pay50 d)

/-- What a half starting at row `so` of the block reads. -/
def halfIn (so : ℕ) (hso : ∀ a, (![so, 0] : Fin 2 → ℕ) a + S512x128.size a ≤ S1024x128.size a) (o : Offs) (b : FVec F S4x128x640 .f32) (S : Cont F) : In F where
  q := VecWindow.window (s := S1024x128) S.x2 ![so, 0] S512x128.size hso
  z := VecWindow.window (s := S1024x128) S.x5 ![so, 0] S512x128.size hso
  g := VecWindow.window (s := S1024x128) S.x10 ![so, 0] S512x128.size hso
  kw := stackK o S.x16
  vw := stackK o S.x17
  b := b
  w := VecWindow.window (s := S1x128) S.x8 ![0, 0] S1x128.size inb_S1x128_S1x128_0_0

/-- The half's effect. -/
def half (so : ℕ) (I : In F) (o : Offs) (S : Cont F) : Cont F :=
  { S with
    x11 := VecWindow.put (s := S2x1024x128) (VecWindow.put (s := S2x1024x128) S.x11 ![0, so, 0] S1x512x128.size (k0_pay42 I.dq)) ![1, so, 0] S1x512x128.size (k0_pay43 I.dz)
    x18 := addWin o I.dk S.x18
    x19 := addWin o I.dv S.x19
    x13 := VecWindow.put (s := S1x128x640) S.x13 ![0, 0, 0] S1x128x640.size
      (k0_pay53 I.db (VecWindow.window (s := S1x128x640) S.x13 ![0, 0, 0] S1x128x640.size inb_S1x128x640_S1x128x640_0_0_0))
    x14 := VecWindow.put (s := S1x1x128) S.x14 ![0, 0, 0] S1x1x128.size
      (k0_pay54 I.dw (VecWindow.window (s := S1x1x128) S.x14 ![0, 0, 0] S1x1x128.size inb_S1x1x128_S1x1x128_0_0_0)) }

/-- The first groups' biases as the four groups' biases. -/
def biasFirst (x : S1x4x128x640.Idx → Elt F .f32) : FVec F S4x128x640 .f32 :=
  shapeCast S4x128x640 (VecWindow.window (s := S1x4x128x640) x ![0, 0, 0, 0] S1x4x128x640.size inb_S1x4x128x640_S1x4x128x640_0_0_0_0 : Vec F S1x4x128x640 .f32) shapeCasts_S1x4x128x640_S4x128x640

/-- The later groups' bias as the four groups' biases. -/
def biasRest (x : S1x1x128x640.Idx → Elt F .f32) : FVec F S4x128x640 .f32 :=
  broadcastTo S4x128x640 (shapeCast S1x128x640 (VecWindow.window (s := S1x1x128x640) x ![0, 0, 0, 0] S1x1x128x640.size inb_S1x1x128x640_S1x1x128x640_0_0_0_0 : Vec F S1x1x128x640 .f32)
    shapeCasts_S1x1x128x640_S1x128x640 : FVec F S1x128x640 .f32) broadcasts_S1x128x640_S4x128x640

def p0_offs (i : grid0.Coords) (h : k0_cond2 i = 1#1) : Offs := { o0 := k0_off3 i 0#32 0#32, o1 := k0_off3 i 0#32 128#32, o2 := k0_off3 i 0#32 256#32, o3 := k0_off3 i 0#32 384#32, h0 := k0_off3_inb i h 0 0, h1 := k0_off3_inb i h 0 1, h2 := k0_off3_inb i h 0 2, h3 := k0_off3_inb i h 0 3 }

def p0_in (i : grid0.Coords) (h : k0_cond2 i = 1#1) (S : Cont F) : In F :=
  halfIn 0 inb_S1024x128_S512x128_0_0 (p0_offs i h) (biasFirst S.x6) S

theorem p0_x11 (i : grid0.Coords) (h : k0_cond2 i = 1#1) (S : Cont F) : (p0_end i h S).x11 = (half 0 (p0_in i h S) (p0_offs i h) S).x11 := by
  simp only [p0_end, p0_S12, p0_S11, p0_S10, p0_S9, p0_S8, p0_S7, p0_S6, p0_S5, p0_S4, p0_S3, p0_S2, p0_S1, p0_v14, p0_v16, p0_v21, p0_v25, p0_v29, p0_v33, p0_v42, p0_v46, p0_v50, p0_v15, p0_v17, p0_v38, p0_v54, p0_v60, p0_v62, p0_v64, p0_v59, p0_v63, p0_v65, p0_v73, p0_v75, p0_v79, p0_v88, p0_v93, p0_v107, p0_v109, p0_v121, p0_v125, p0_v138, p0_v139, p0_v153, p0_v162, p0_v173, p0_v182, p0_v193, p0_v202, p0_v213, p0_v222, p0_v225, p0_v230, p0_v236, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54,
    half, addWin, addAt, In.dq, In.dz, In.dv, In.dk, In.dw, In.db, In.e, In.r, cE, cR, p0_in, halfIn, stackK, p0_offs, biasRest, biasFirst]

theorem p0_x13 (i : grid0.Coords) (h : k0_cond2 i = 1#1) (S : Cont F) : (p0_end i h S).x13 = (half 0 (p0_in i h S) (p0_offs i h) S).x13 := by
  simp only [p0_end, p0_S12, p0_S11, p0_S10, p0_S9, p0_S8, p0_S7, p0_S6, p0_S5, p0_S4, p0_S3, p0_S2, p0_S1, p0_v14, p0_v16, p0_v21, p0_v25, p0_v29, p0_v33, p0_v42, p0_v46, p0_v50, p0_v15, p0_v17, p0_v38, p0_v54, p0_v60, p0_v62, p0_v64, p0_v59, p0_v63, p0_v65, p0_v73, p0_v75, p0_v79, p0_v88, p0_v93, p0_v107, p0_v109, p0_v121, p0_v125, p0_v138, p0_v139, p0_v153, p0_v162, p0_v173, p0_v182, p0_v193, p0_v202, p0_v213, p0_v222, p0_v225, p0_v230, p0_v236, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54,
    half, addWin, addAt, In.dq, In.dz, In.dv, In.dk, In.dw, In.db, In.e, In.r, cE, cR, p0_in, halfIn, stackK, p0_offs, biasRest, biasFirst]

theorem p0_x14 (i : grid0.Coords) (h : k0_cond2 i = 1#1) (S : Cont F) : (p0_end i h S).x14 = (half 0 (p0_in i h S) (p0_offs i h) S).x14 := by
  simp only [p0_end, p0_S12, p0_S11, p0_S10, p0_S9, p0_S8, p0_S7, p0_S6, p0_S5, p0_S4, p0_S3, p0_S2, p0_S1, p0_v14, p0_v16, p0_v21, p0_v25, p0_v29, p0_v33, p0_v42, p0_v46, p0_v50, p0_v15, p0_v17, p0_v38, p0_v54, p0_v60, p0_v62, p0_v64, p0_v59, p0_v63, p0_v65, p0_v73, p0_v75, p0_v79, p0_v88, p0_v93, p0_v107, p0_v109, p0_v121, p0_v125, p0_v138, p0_v139, p0_v153, p0_v162, p0_v173, p0_v182, p0_v193, p0_v202, p0_v213, p0_v222, p0_v225, p0_v230, p0_v236, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54,
    half, addWin, addAt, In.dq, In.dz, In.dv, In.dk, In.dw, In.db, In.e, In.r, cE, cR, p0_in, halfIn, stackK, p0_offs, biasRest, biasFirst]

theorem p0_x18 (i : grid0.Coords) (h : k0_cond2 i = 1#1) (S : Cont F) : (p0_end i h S).x18 = (half 0 (p0_in i h S) (p0_offs i h) S).x18 := by
  simp only [p0_end, p0_S12, p0_S11, p0_S10, p0_S9, p0_S8, p0_S7, p0_S6, p0_S5, p0_S4, p0_S3, p0_S2, p0_S1, p0_v14, p0_v16, p0_v21, p0_v25, p0_v29, p0_v33, p0_v42, p0_v46, p0_v50, p0_v15, p0_v17, p0_v38, p0_v54, p0_v60, p0_v62, p0_v64, p0_v59, p0_v63, p0_v65, p0_v73, p0_v75, p0_v79, p0_v88, p0_v93, p0_v107, p0_v109, p0_v121, p0_v125, p0_v138, p0_v139, p0_v153, p0_v162, p0_v173, p0_v182, p0_v193, p0_v202, p0_v213, p0_v222, p0_v225, p0_v230, p0_v236, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54,
    half, addWin, addAt, In.dq, In.dz, In.dv, In.dk, In.dw, In.db, In.e, In.r, cE, cR, p0_in, halfIn, stackK, p0_offs, biasRest, biasFirst]

theorem p0_x19 (i : grid0.Coords) (h : k0_cond2 i = 1#1) (S : Cont F) : (p0_end i h S).x19 = (half 0 (p0_in i h S) (p0_offs i h) S).x19 := by
  simp only [p0_end, p0_S12, p0_S11, p0_S10, p0_S9, p0_S8, p0_S7, p0_S6, p0_S5, p0_S4, p0_S3, p0_S2, p0_S1, p0_v14, p0_v16, p0_v21, p0_v25, p0_v29, p0_v33, p0_v42, p0_v46, p0_v50, p0_v15, p0_v17, p0_v38, p0_v54, p0_v60, p0_v62, p0_v64, p0_v59, p0_v63, p0_v65, p0_v73, p0_v75, p0_v79, p0_v88, p0_v93, p0_v107, p0_v109, p0_v121, p0_v125, p0_v138, p0_v139, p0_v153, p0_v162, p0_v173, p0_v182, p0_v193, p0_v202, p0_v213, p0_v222, p0_v225, p0_v230, p0_v236, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54,
    half, addWin, addAt, In.dq, In.dz, In.dv, In.dk, In.dw, In.db, In.e, In.r, cE, cR, p0_in, halfIn, stackK, p0_offs, biasRest, biasFirst]

theorem p0_eq (i : grid0.Coords) (h : k0_cond2 i = 1#1) (S : Cont F) : p0_end i h S = half 0 (p0_in i h S) (p0_offs i h) S :=
  Cont.ext (by simp only [p0_end, p0_S12, p0_S11, p0_S10, p0_S9, p0_S8, p0_S7, p0_S6, p0_S5, p0_S4, p0_S3, p0_S2, p0_S1, half]) (by simp only [p0_end, p0_S12, p0_S11, p0_S10, p0_S9, p0_S8, p0_S7, p0_S6, p0_S5, p0_S4, p0_S3, p0_S2, p0_S1, half]) (by simp only [p0_end, p0_S12, p0_S11, p0_S10, p0_S9, p0_S8, p0_S7, p0_S6, p0_S5, p0_S4, p0_S3, p0_S2, p0_S1, half]) (by simp only [p0_end, p0_S12, p0_S11, p0_S10, p0_S9, p0_S8, p0_S7, p0_S6, p0_S5, p0_S4, p0_S3, p0_S2, p0_S1, half]) (by simp only [p0_end, p0_S12, p0_S11, p0_S10, p0_S9, p0_S8, p0_S7, p0_S6, p0_S5, p0_S4, p0_S3, p0_S2, p0_S1, half]) (by simp only [p0_end, p0_S12, p0_S11, p0_S10, p0_S9, p0_S8, p0_S7, p0_S6, p0_S5, p0_S4, p0_S3, p0_S2, p0_S1, half]) (by simp only [p0_end, p0_S12, p0_S11, p0_S10, p0_S9, p0_S8, p0_S7, p0_S6, p0_S5, p0_S4, p0_S3, p0_S2, p0_S1, half]) (by simp only [p0_end, p0_S12, p0_S11, p0_S10, p0_S9, p0_S8, p0_S7, p0_S6, p0_S5, p0_S4, p0_S3, p0_S2, p0_S1, half]) (by simp only [p0_end, p0_S12, p0_S11, p0_S10, p0_S9, p0_S8, p0_S7, p0_S6, p0_S5, p0_S4, p0_S3, p0_S2, p0_S1, half]) (p0_x11 i h S) (by simp only [p0_end, p0_S12, p0_S11, p0_S10, p0_S9, p0_S8, p0_S7, p0_S6, p0_S5, p0_S4, p0_S3, p0_S2, p0_S1, half]) (p0_x13 i h S) (p0_x14 i h S) (by simp only [p0_end, p0_S12, p0_S11, p0_S10, p0_S9, p0_S8, p0_S7, p0_S6, p0_S5, p0_S4, p0_S3, p0_S2, p0_S1, half]) (by simp only [p0_end, p0_S12, p0_S11, p0_S10, p0_S9, p0_S8, p0_S7, p0_S6, p0_S5, p0_S4, p0_S3, p0_S2, p0_S1, half]) (by simp only [p0_end, p0_S12, p0_S11, p0_S10, p0_S9, p0_S8, p0_S7, p0_S6, p0_S5, p0_S4, p0_S3, p0_S2, p0_S1, half]) (p0_x18 i h S) (p0_x19 i h S)

def p1_offs (i : grid0.Coords) (h : k0_cond2 i = 1#1) : Offs := { o0 := k0_off3 i 512#32 0#32, o1 := k0_off3 i 512#32 128#32, o2 := k0_off3 i 512#32 256#32, o3 := k0_off3 i 512#32 384#32, h0 := k0_off3_inb i h 1 0, h1 := k0_off3_inb i h 1 1, h2 := k0_off3_inb i h 1 2, h3 := k0_off3_inb i h 1 3 }

def p1_in (i : grid0.Coords) (h : k0_cond2 i = 1#1) (S : Cont F) : In F :=
  halfIn 512 inb_S1024x128_S512x128_512_0 (p1_offs i h) (biasRest S.x7) S

theorem p1_x11 (i : grid0.Coords) (h : k0_cond2 i = 1#1) (S : Cont F) : (p1_end i h S).x11 = (half 512 (p1_in i h S) (p1_offs i h) S).x11 := by
  simp only [p1_end, p1_S12, p1_S11, p1_S10, p1_S9, p1_S8, p1_S7, p1_S6, p1_S5, p1_S4, p1_S3, p1_S2, p1_S1, p1_v244, p1_v246, p1_v251, p1_v255, p1_v245, p1_v247, p1_v259, p1_v263, p1_v272, p1_v276, p1_v280, p1_v284, p1_v290, p1_v292, p1_v294, p1_v268, p1_v289, p1_v291, p1_v293, p1_v295, p1_v298, p1_v303, p1_v305, p1_v309, p1_v325, p1_v338, p1_v340, p1_v341, p1_v345, p1_v384, p1_v352, p1_v356, p1_v370, p1_v387, p1_v393, p1_v404, p1_v413, p1_v424, p1_v433, p1_v444, p1_v453, p1_v461, p1_v467, p1_v469, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    half, addWin, addAt, In.dq, In.dz, In.dv, In.dk, In.dw, In.db, In.e, In.r, cE, cR, p1_in, halfIn, stackK, p1_offs, biasRest, biasFirst]

theorem p1_x13 (i : grid0.Coords) (h : k0_cond2 i = 1#1) (S : Cont F) : (p1_end i h S).x13 = (half 512 (p1_in i h S) (p1_offs i h) S).x13 := by
  simp only [p1_end, p1_S12, p1_S11, p1_S10, p1_S9, p1_S8, p1_S7, p1_S6, p1_S5, p1_S4, p1_S3, p1_S2, p1_S1, p1_v244, p1_v246, p1_v251, p1_v255, p1_v245, p1_v247, p1_v259, p1_v263, p1_v272, p1_v276, p1_v280, p1_v284, p1_v290, p1_v292, p1_v294, p1_v268, p1_v289, p1_v291, p1_v293, p1_v295, p1_v298, p1_v303, p1_v305, p1_v309, p1_v325, p1_v338, p1_v340, p1_v341, p1_v345, p1_v384, p1_v352, p1_v356, p1_v370, p1_v387, p1_v393, p1_v404, p1_v413, p1_v424, p1_v433, p1_v444, p1_v453, p1_v461, p1_v467, p1_v469, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    half, addWin, addAt, In.dq, In.dz, In.dv, In.dk, In.dw, In.db, In.e, In.r, cE, cR, p1_in, halfIn, stackK, p1_offs, biasRest, biasFirst]

theorem p1_x14 (i : grid0.Coords) (h : k0_cond2 i = 1#1) (S : Cont F) : (p1_end i h S).x14 = (half 512 (p1_in i h S) (p1_offs i h) S).x14 := by
  simp only [p1_end, p1_S12, p1_S11, p1_S10, p1_S9, p1_S8, p1_S7, p1_S6, p1_S5, p1_S4, p1_S3, p1_S2, p1_S1, p1_v244, p1_v246, p1_v251, p1_v255, p1_v245, p1_v247, p1_v259, p1_v263, p1_v272, p1_v276, p1_v280, p1_v284, p1_v290, p1_v292, p1_v294, p1_v268, p1_v289, p1_v291, p1_v293, p1_v295, p1_v298, p1_v303, p1_v305, p1_v309, p1_v325, p1_v338, p1_v340, p1_v341, p1_v345, p1_v384, p1_v352, p1_v356, p1_v370, p1_v387, p1_v393, p1_v404, p1_v413, p1_v424, p1_v433, p1_v444, p1_v453, p1_v461, p1_v467, p1_v469, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    half, addWin, addAt, In.dq, In.dz, In.dv, In.dk, In.dw, In.db, In.e, In.r, cE, cR, p1_in, halfIn, stackK, p1_offs, biasRest, biasFirst]

theorem p1_x18 (i : grid0.Coords) (h : k0_cond2 i = 1#1) (S : Cont F) : (p1_end i h S).x18 = (half 512 (p1_in i h S) (p1_offs i h) S).x18 := by
  simp only [p1_end, p1_S12, p1_S11, p1_S10, p1_S9, p1_S8, p1_S7, p1_S6, p1_S5, p1_S4, p1_S3, p1_S2, p1_S1, p1_v244, p1_v246, p1_v251, p1_v255, p1_v245, p1_v247, p1_v259, p1_v263, p1_v272, p1_v276, p1_v280, p1_v284, p1_v290, p1_v292, p1_v294, p1_v268, p1_v289, p1_v291, p1_v293, p1_v295, p1_v298, p1_v303, p1_v305, p1_v309, p1_v325, p1_v338, p1_v340, p1_v341, p1_v345, p1_v384, p1_v352, p1_v356, p1_v370, p1_v387, p1_v393, p1_v404, p1_v413, p1_v424, p1_v433, p1_v444, p1_v453, p1_v461, p1_v467, p1_v469, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    half, addWin, addAt, In.dq, In.dz, In.dv, In.dk, In.dw, In.db, In.e, In.r, cE, cR, p1_in, halfIn, stackK, p1_offs, biasRest, biasFirst]

theorem p1_x19 (i : grid0.Coords) (h : k0_cond2 i = 1#1) (S : Cont F) : (p1_end i h S).x19 = (half 512 (p1_in i h S) (p1_offs i h) S).x19 := by
  simp only [p1_end, p1_S12, p1_S11, p1_S10, p1_S9, p1_S8, p1_S7, p1_S6, p1_S5, p1_S4, p1_S3, p1_S2, p1_S1, p1_v244, p1_v246, p1_v251, p1_v255, p1_v245, p1_v247, p1_v259, p1_v263, p1_v272, p1_v276, p1_v280, p1_v284, p1_v290, p1_v292, p1_v294, p1_v268, p1_v289, p1_v291, p1_v293, p1_v295, p1_v298, p1_v303, p1_v305, p1_v309, p1_v325, p1_v338, p1_v340, p1_v341, p1_v345, p1_v384, p1_v352, p1_v356, p1_v370, p1_v387, p1_v393, p1_v404, p1_v413, p1_v424, p1_v433, p1_v444, p1_v453, p1_v461, p1_v467, p1_v469, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    half, addWin, addAt, In.dq, In.dz, In.dv, In.dk, In.dw, In.db, In.e, In.r, cE, cR, p1_in, halfIn, stackK, p1_offs, biasRest, biasFirst]

theorem p1_eq (i : grid0.Coords) (h : k0_cond2 i = 1#1) (S : Cont F) : p1_end i h S = half 512 (p1_in i h S) (p1_offs i h) S :=
  Cont.ext (by simp only [p1_end, p1_S12, p1_S11, p1_S10, p1_S9, p1_S8, p1_S7, p1_S6, p1_S5, p1_S4, p1_S3, p1_S2, p1_S1, half]) (by simp only [p1_end, p1_S12, p1_S11, p1_S10, p1_S9, p1_S8, p1_S7, p1_S6, p1_S5, p1_S4, p1_S3, p1_S2, p1_S1, half]) (by simp only [p1_end, p1_S12, p1_S11, p1_S10, p1_S9, p1_S8, p1_S7, p1_S6, p1_S5, p1_S4, p1_S3, p1_S2, p1_S1, half]) (by simp only [p1_end, p1_S12, p1_S11, p1_S10, p1_S9, p1_S8, p1_S7, p1_S6, p1_S5, p1_S4, p1_S3, p1_S2, p1_S1, half]) (by simp only [p1_end, p1_S12, p1_S11, p1_S10, p1_S9, p1_S8, p1_S7, p1_S6, p1_S5, p1_S4, p1_S3, p1_S2, p1_S1, half]) (by simp only [p1_end, p1_S12, p1_S11, p1_S10, p1_S9, p1_S8, p1_S7, p1_S6, p1_S5, p1_S4, p1_S3, p1_S2, p1_S1, half]) (by simp only [p1_end, p1_S12, p1_S11, p1_S10, p1_S9, p1_S8, p1_S7, p1_S6, p1_S5, p1_S4, p1_S3, p1_S2, p1_S1, half]) (by simp only [p1_end, p1_S12, p1_S11, p1_S10, p1_S9, p1_S8, p1_S7, p1_S6, p1_S5, p1_S4, p1_S3, p1_S2, p1_S1, half]) (by simp only [p1_end, p1_S12, p1_S11, p1_S10, p1_S9, p1_S8, p1_S7, p1_S6, p1_S5, p1_S4, p1_S3, p1_S2, p1_S1, half]) (p1_x11 i h S) (by simp only [p1_end, p1_S12, p1_S11, p1_S10, p1_S9, p1_S8, p1_S7, p1_S6, p1_S5, p1_S4, p1_S3, p1_S2, p1_S1, half]) (p1_x13 i h S) (p1_x14 i h S) (by simp only [p1_end, p1_S12, p1_S11, p1_S10, p1_S9, p1_S8, p1_S7, p1_S6, p1_S5, p1_S4, p1_S3, p1_S2, p1_S1, half]) (by simp only [p1_end, p1_S12, p1_S11, p1_S10, p1_S9, p1_S8, p1_S7, p1_S6, p1_S5, p1_S4, p1_S3, p1_S2, p1_S1, half]) (by simp only [p1_end, p1_S12, p1_S11, p1_S10, p1_S9, p1_S8, p1_S7, p1_S6, p1_S5, p1_S4, p1_S3, p1_S2, p1_S1, half]) (p1_x18 i h S) (p1_x19 i h S)

def r0_offs (i : grid0.Coords) (h : k0_cond3 i = 1#1) : Offs := { o0 := k0_off4 i 0#32 0#32, o1 := k0_off4 i 0#32 128#32, o2 := k0_off4 i 0#32 256#32, o3 := k0_off4 i 0#32 384#32, h0 := k0_off4_inb i h 0 0, h1 := k0_off4_inb i h 0 1, h2 := k0_off4_inb i h 0 2, h3 := k0_off4_inb i h 0 3 }

def r0_in (i : grid0.Coords) (h : k0_cond3 i = 1#1) (S : Cont F) : In F :=
  halfIn 0 inb_S1024x128_S512x128_0_0 (r0_offs i h) (biasRest S.x7) S

theorem r0_x11 (i : grid0.Coords) (h : k0_cond3 i = 1#1) (S : Cont F) : (r0_end i h S).x11 = (half 0 (r0_in i h S) (r0_offs i h) S).x11 := by
  simp only [r0_end, r0_S12, r0_S11, r0_S10, r0_S9, r0_S8, r0_S7, r0_S6, r0_S5, r0_S4, r0_S3, r0_S2, r0_S1, r0_v14, r0_v16, r0_v21, r0_v25, r0_v29, r0_v33, r0_v42, r0_v46, r0_v50, r0_v15, r0_v17, r0_v38, r0_v54, r0_v60, r0_v62, r0_v64, r0_v59, r0_v63, r0_v65, r0_v73, r0_v75, r0_v79, r0_v89, r0_v93, r0_v108, r0_v110, r0_v117, r0_v122, r0_v126, r0_v139, r0_v154, r0_v163, r0_v174, r0_v140, r0_v181, r0_v183, r0_v194, r0_v203, r0_v214, r0_v223, r0_v225, r0_v231, r0_v237, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133,
    half, addWin, addAt, In.dq, In.dz, In.dv, In.dk, In.dw, In.db, In.e, In.r, cE, cR, r0_in, halfIn, stackK, r0_offs, biasRest, biasFirst]

theorem r0_x13 (i : grid0.Coords) (h : k0_cond3 i = 1#1) (S : Cont F) : (r0_end i h S).x13 = (half 0 (r0_in i h S) (r0_offs i h) S).x13 := by
  simp only [r0_end, r0_S12, r0_S11, r0_S10, r0_S9, r0_S8, r0_S7, r0_S6, r0_S5, r0_S4, r0_S3, r0_S2, r0_S1, r0_v14, r0_v16, r0_v21, r0_v25, r0_v29, r0_v33, r0_v42, r0_v46, r0_v50, r0_v15, r0_v17, r0_v38, r0_v54, r0_v60, r0_v62, r0_v64, r0_v59, r0_v63, r0_v65, r0_v73, r0_v75, r0_v79, r0_v89, r0_v93, r0_v108, r0_v110, r0_v117, r0_v122, r0_v126, r0_v139, r0_v154, r0_v163, r0_v174, r0_v140, r0_v181, r0_v183, r0_v194, r0_v203, r0_v214, r0_v223, r0_v225, r0_v231, r0_v237, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133,
    half, addWin, addAt, In.dq, In.dz, In.dv, In.dk, In.dw, In.db, In.e, In.r, cE, cR, r0_in, halfIn, stackK, r0_offs, biasRest, biasFirst]

theorem r0_x14 (i : grid0.Coords) (h : k0_cond3 i = 1#1) (S : Cont F) : (r0_end i h S).x14 = (half 0 (r0_in i h S) (r0_offs i h) S).x14 := by
  simp only [r0_end, r0_S12, r0_S11, r0_S10, r0_S9, r0_S8, r0_S7, r0_S6, r0_S5, r0_S4, r0_S3, r0_S2, r0_S1, r0_v14, r0_v16, r0_v21, r0_v25, r0_v29, r0_v33, r0_v42, r0_v46, r0_v50, r0_v15, r0_v17, r0_v38, r0_v54, r0_v60, r0_v62, r0_v64, r0_v59, r0_v63, r0_v65, r0_v73, r0_v75, r0_v79, r0_v89, r0_v93, r0_v108, r0_v110, r0_v117, r0_v122, r0_v126, r0_v139, r0_v154, r0_v163, r0_v174, r0_v140, r0_v181, r0_v183, r0_v194, r0_v203, r0_v214, r0_v223, r0_v225, r0_v231, r0_v237, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133,
    half, addWin, addAt, In.dq, In.dz, In.dv, In.dk, In.dw, In.db, In.e, In.r, cE, cR, r0_in, halfIn, stackK, r0_offs, biasRest, biasFirst]

theorem r0_x18 (i : grid0.Coords) (h : k0_cond3 i = 1#1) (S : Cont F) : (r0_end i h S).x18 = (half 0 (r0_in i h S) (r0_offs i h) S).x18 := by
  simp only [r0_end, r0_S12, r0_S11, r0_S10, r0_S9, r0_S8, r0_S7, r0_S6, r0_S5, r0_S4, r0_S3, r0_S2, r0_S1, r0_v14, r0_v16, r0_v21, r0_v25, r0_v29, r0_v33, r0_v42, r0_v46, r0_v50, r0_v15, r0_v17, r0_v38, r0_v54, r0_v60, r0_v62, r0_v64, r0_v59, r0_v63, r0_v65, r0_v73, r0_v75, r0_v79, r0_v89, r0_v93, r0_v108, r0_v110, r0_v117, r0_v122, r0_v126, r0_v139, r0_v154, r0_v163, r0_v174, r0_v140, r0_v181, r0_v183, r0_v194, r0_v203, r0_v214, r0_v223, r0_v225, r0_v231, r0_v237, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133,
    half, addWin, addAt, In.dq, In.dz, In.dv, In.dk, In.dw, In.db, In.e, In.r, cE, cR, r0_in, halfIn, stackK, r0_offs, biasRest, biasFirst]

theorem r0_x19 (i : grid0.Coords) (h : k0_cond3 i = 1#1) (S : Cont F) : (r0_end i h S).x19 = (half 0 (r0_in i h S) (r0_offs i h) S).x19 := by
  simp only [r0_end, r0_S12, r0_S11, r0_S10, r0_S9, r0_S8, r0_S7, r0_S6, r0_S5, r0_S4, r0_S3, r0_S2, r0_S1, r0_v14, r0_v16, r0_v21, r0_v25, r0_v29, r0_v33, r0_v42, r0_v46, r0_v50, r0_v15, r0_v17, r0_v38, r0_v54, r0_v60, r0_v62, r0_v64, r0_v59, r0_v63, r0_v65, r0_v73, r0_v75, r0_v79, r0_v89, r0_v93, r0_v108, r0_v110, r0_v117, r0_v122, r0_v126, r0_v139, r0_v154, r0_v163, r0_v174, r0_v140, r0_v181, r0_v183, r0_v194, r0_v203, r0_v214, r0_v223, r0_v225, r0_v231, r0_v237, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133,
    half, addWin, addAt, In.dq, In.dz, In.dv, In.dk, In.dw, In.db, In.e, In.r, cE, cR, r0_in, halfIn, stackK, r0_offs, biasRest, biasFirst]

theorem r0_eq (i : grid0.Coords) (h : k0_cond3 i = 1#1) (S : Cont F) : r0_end i h S = half 0 (r0_in i h S) (r0_offs i h) S :=
  Cont.ext (by simp only [r0_end, r0_S12, r0_S11, r0_S10, r0_S9, r0_S8, r0_S7, r0_S6, r0_S5, r0_S4, r0_S3, r0_S2, r0_S1, half]) (by simp only [r0_end, r0_S12, r0_S11, r0_S10, r0_S9, r0_S8, r0_S7, r0_S6, r0_S5, r0_S4, r0_S3, r0_S2, r0_S1, half]) (by simp only [r0_end, r0_S12, r0_S11, r0_S10, r0_S9, r0_S8, r0_S7, r0_S6, r0_S5, r0_S4, r0_S3, r0_S2, r0_S1, half]) (by simp only [r0_end, r0_S12, r0_S11, r0_S10, r0_S9, r0_S8, r0_S7, r0_S6, r0_S5, r0_S4, r0_S3, r0_S2, r0_S1, half]) (by simp only [r0_end, r0_S12, r0_S11, r0_S10, r0_S9, r0_S8, r0_S7, r0_S6, r0_S5, r0_S4, r0_S3, r0_S2, r0_S1, half]) (by simp only [r0_end, r0_S12, r0_S11, r0_S10, r0_S9, r0_S8, r0_S7, r0_S6, r0_S5, r0_S4, r0_S3, r0_S2, r0_S1, half]) (by simp only [r0_end, r0_S12, r0_S11, r0_S10, r0_S9, r0_S8, r0_S7, r0_S6, r0_S5, r0_S4, r0_S3, r0_S2, r0_S1, half]) (by simp only [r0_end, r0_S12, r0_S11, r0_S10, r0_S9, r0_S8, r0_S7, r0_S6, r0_S5, r0_S4, r0_S3, r0_S2, r0_S1, half]) (by simp only [r0_end, r0_S12, r0_S11, r0_S10, r0_S9, r0_S8, r0_S7, r0_S6, r0_S5, r0_S4, r0_S3, r0_S2, r0_S1, half]) (r0_x11 i h S) (by simp only [r0_end, r0_S12, r0_S11, r0_S10, r0_S9, r0_S8, r0_S7, r0_S6, r0_S5, r0_S4, r0_S3, r0_S2, r0_S1, half]) (r0_x13 i h S) (r0_x14 i h S) (by simp only [r0_end, r0_S12, r0_S11, r0_S10, r0_S9, r0_S8, r0_S7, r0_S6, r0_S5, r0_S4, r0_S3, r0_S2, r0_S1, half]) (by simp only [r0_end, r0_S12, r0_S11, r0_S10, r0_S9, r0_S8, r0_S7, r0_S6, r0_S5, r0_S4, r0_S3, r0_S2, r0_S1, half]) (by simp only [r0_end, r0_S12, r0_S11, r0_S10, r0_S9, r0_S8, r0_S7, r0_S6, r0_S5, r0_S4, r0_S3, r0_S2, r0_S1, half]) (r0_x18 i h S) (r0_x19 i h S)

def r1_offs (i : grid0.Coords) (h : k0_cond3 i = 1#1) : Offs := { o0 := k0_off4 i 512#32 0#32, o1 := k0_off4 i 512#32 128#32, o2 := k0_off4 i 512#32 256#32, o3 := k0_off4 i 512#32 384#32, h0 := k0_off4_inb i h 1 0, h1 := k0_off4_inb i h 1 1, h2 := k0_off4_inb i h 1 2, h3 := k0_off4_inb i h 1 3 }

def r1_in (i : grid0.Coords) (h : k0_cond3 i = 1#1) (S : Cont F) : In F :=
  halfIn 512 inb_S1024x128_S512x128_512_0 (r1_offs i h) (biasRest S.x7) S

theorem r1_x11 (i : grid0.Coords) (h : k0_cond3 i = 1#1) (S : Cont F) : (r1_end i h S).x11 = (half 512 (r1_in i h S) (r1_offs i h) S).x11 := by
  simp only [r1_end, r1_S12, r1_S11, r1_S10, r1_S9, r1_S8, r1_S7, r1_S6, r1_S5, r1_S4, r1_S3, r1_S2, r1_S1, r1_v245, r1_v247, r1_v252, r1_v256, r1_v246, r1_v248, r1_v260, r1_v264, r1_v273, r1_v277, r1_v281, r1_v285, r1_v291, r1_v293, r1_v295, r1_v269, r1_v290, r1_v292, r1_v294, r1_v296, r1_v298, r1_v304, r1_v306, r1_v310, r1_v326, r1_v339, r1_v341, r1_v342, r1_v345, r1_v385, r1_v353, r1_v357, r1_v371, r1_v387, r1_v394, r1_v405, r1_v414, r1_v425, r1_v432, r1_v434, r1_v445, r1_v454, r1_v462, r1_v468, r1_v470, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173,
    half, addWin, addAt, In.dq, In.dz, In.dv, In.dk, In.dw, In.db, In.e, In.r, cE, cR, r1_in, halfIn, stackK, r1_offs, biasRest, biasFirst]

theorem r1_x13 (i : grid0.Coords) (h : k0_cond3 i = 1#1) (S : Cont F) : (r1_end i h S).x13 = (half 512 (r1_in i h S) (r1_offs i h) S).x13 := by
  simp only [r1_end, r1_S12, r1_S11, r1_S10, r1_S9, r1_S8, r1_S7, r1_S6, r1_S5, r1_S4, r1_S3, r1_S2, r1_S1, r1_v245, r1_v247, r1_v252, r1_v256, r1_v246, r1_v248, r1_v260, r1_v264, r1_v273, r1_v277, r1_v281, r1_v285, r1_v291, r1_v293, r1_v295, r1_v269, r1_v290, r1_v292, r1_v294, r1_v296, r1_v298, r1_v304, r1_v306, r1_v310, r1_v326, r1_v339, r1_v341, r1_v342, r1_v345, r1_v385, r1_v353, r1_v357, r1_v371, r1_v387, r1_v394, r1_v405, r1_v414, r1_v425, r1_v432, r1_v434, r1_v445, r1_v454, r1_v462, r1_v468, r1_v470, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173,
    half, addWin, addAt, In.dq, In.dz, In.dv, In.dk, In.dw, In.db, In.e, In.r, cE, cR, r1_in, halfIn, stackK, r1_offs, biasRest, biasFirst]

theorem r1_x14 (i : grid0.Coords) (h : k0_cond3 i = 1#1) (S : Cont F) : (r1_end i h S).x14 = (half 512 (r1_in i h S) (r1_offs i h) S).x14 := by
  simp only [r1_end, r1_S12, r1_S11, r1_S10, r1_S9, r1_S8, r1_S7, r1_S6, r1_S5, r1_S4, r1_S3, r1_S2, r1_S1, r1_v245, r1_v247, r1_v252, r1_v256, r1_v246, r1_v248, r1_v260, r1_v264, r1_v273, r1_v277, r1_v281, r1_v285, r1_v291, r1_v293, r1_v295, r1_v269, r1_v290, r1_v292, r1_v294, r1_v296, r1_v298, r1_v304, r1_v306, r1_v310, r1_v326, r1_v339, r1_v341, r1_v342, r1_v345, r1_v385, r1_v353, r1_v357, r1_v371, r1_v387, r1_v394, r1_v405, r1_v414, r1_v425, r1_v432, r1_v434, r1_v445, r1_v454, r1_v462, r1_v468, r1_v470, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173,
    half, addWin, addAt, In.dq, In.dz, In.dv, In.dk, In.dw, In.db, In.e, In.r, cE, cR, r1_in, halfIn, stackK, r1_offs, biasRest, biasFirst]

theorem r1_x18 (i : grid0.Coords) (h : k0_cond3 i = 1#1) (S : Cont F) : (r1_end i h S).x18 = (half 512 (r1_in i h S) (r1_offs i h) S).x18 := by
  simp only [r1_end, r1_S12, r1_S11, r1_S10, r1_S9, r1_S8, r1_S7, r1_S6, r1_S5, r1_S4, r1_S3, r1_S2, r1_S1, r1_v245, r1_v247, r1_v252, r1_v256, r1_v246, r1_v248, r1_v260, r1_v264, r1_v273, r1_v277, r1_v281, r1_v285, r1_v291, r1_v293, r1_v295, r1_v269, r1_v290, r1_v292, r1_v294, r1_v296, r1_v298, r1_v304, r1_v306, r1_v310, r1_v326, r1_v339, r1_v341, r1_v342, r1_v345, r1_v385, r1_v353, r1_v357, r1_v371, r1_v387, r1_v394, r1_v405, r1_v414, r1_v425, r1_v432, r1_v434, r1_v445, r1_v454, r1_v462, r1_v468, r1_v470, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173,
    half, addWin, addAt, In.dq, In.dz, In.dv, In.dk, In.dw, In.db, In.e, In.r, cE, cR, r1_in, halfIn, stackK, r1_offs, biasRest, biasFirst]

theorem r1_x19 (i : grid0.Coords) (h : k0_cond3 i = 1#1) (S : Cont F) : (r1_end i h S).x19 = (half 512 (r1_in i h S) (r1_offs i h) S).x19 := by
  simp only [r1_end, r1_S12, r1_S11, r1_S10, r1_S9, r1_S8, r1_S7, r1_S6, r1_S5, r1_S4, r1_S3, r1_S2, r1_S1, r1_v245, r1_v247, r1_v252, r1_v256, r1_v246, r1_v248, r1_v260, r1_v264, r1_v273, r1_v277, r1_v281, r1_v285, r1_v291, r1_v293, r1_v295, r1_v269, r1_v290, r1_v292, r1_v294, r1_v296, r1_v298, r1_v304, r1_v306, r1_v310, r1_v326, r1_v339, r1_v341, r1_v342, r1_v345, r1_v385, r1_v353, r1_v357, r1_v371, r1_v387, r1_v394, r1_v405, r1_v414, r1_v425, r1_v432, r1_v434, r1_v445, r1_v454, r1_v462, r1_v468, r1_v470, k0_pay9, k0_pay10, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173,
    half, addWin, addAt, In.dq, In.dz, In.dv, In.dk, In.dw, In.db, In.e, In.r, cE, cR, r1_in, halfIn, stackK, r1_offs, biasRest, biasFirst]

theorem r1_eq (i : grid0.Coords) (h : k0_cond3 i = 1#1) (S : Cont F) : r1_end i h S = half 512 (r1_in i h S) (r1_offs i h) S :=
  Cont.ext (by simp only [r1_end, r1_S12, r1_S11, r1_S10, r1_S9, r1_S8, r1_S7, r1_S6, r1_S5, r1_S4, r1_S3, r1_S2, r1_S1, half]) (by simp only [r1_end, r1_S12, r1_S11, r1_S10, r1_S9, r1_S8, r1_S7, r1_S6, r1_S5, r1_S4, r1_S3, r1_S2, r1_S1, half]) (by simp only [r1_end, r1_S12, r1_S11, r1_S10, r1_S9, r1_S8, r1_S7, r1_S6, r1_S5, r1_S4, r1_S3, r1_S2, r1_S1, half]) (by simp only [r1_end, r1_S12, r1_S11, r1_S10, r1_S9, r1_S8, r1_S7, r1_S6, r1_S5, r1_S4, r1_S3, r1_S2, r1_S1, half]) (by simp only [r1_end, r1_S12, r1_S11, r1_S10, r1_S9, r1_S8, r1_S7, r1_S6, r1_S5, r1_S4, r1_S3, r1_S2, r1_S1, half]) (by simp only [r1_end, r1_S12, r1_S11, r1_S10, r1_S9, r1_S8, r1_S7, r1_S6, r1_S5, r1_S4, r1_S3, r1_S2, r1_S1, half]) (by simp only [r1_end, r1_S12, r1_S11, r1_S10, r1_S9, r1_S8, r1_S7, r1_S6, r1_S5, r1_S4, r1_S3, r1_S2, r1_S1, half]) (by simp only [r1_end, r1_S12, r1_S11, r1_S10, r1_S9, r1_S8, r1_S7, r1_S6, r1_S5, r1_S4, r1_S3, r1_S2, r1_S1, half]) (by simp only [r1_end, r1_S12, r1_S11, r1_S10, r1_S9, r1_S8, r1_S7, r1_S6, r1_S5, r1_S4, r1_S3, r1_S2, r1_S1, half]) (r1_x11 i h S) (by simp only [r1_end, r1_S12, r1_S11, r1_S10, r1_S9, r1_S8, r1_S7, r1_S6, r1_S5, r1_S4, r1_S3, r1_S2, r1_S1, half]) (r1_x13 i h S) (r1_x14 i h S) (by simp only [r1_end, r1_S12, r1_S11, r1_S10, r1_S9, r1_S8, r1_S7, r1_S6, r1_S5, r1_S4, r1_S3, r1_S2, r1_S1, half]) (by simp only [r1_end, r1_S12, r1_S11, r1_S10, r1_S9, r1_S8, r1_S7, r1_S6, r1_S5, r1_S4, r1_S3, r1_S2, r1_S1, half]) (by simp only [r1_end, r1_S12, r1_S11, r1_S10, r1_S9, r1_S8, r1_S7, r1_S6, r1_S5, r1_S4, r1_S3, r1_S2, r1_S1, half]) (r1_x18 i h S) (r1_x19 i h S)

end Cert.KernelIdeal.Attn

end
-- ==== Proof.Attn.FirstRuns.lean ====
/- That the program of the first block runs through its states. -/
module

public import proofs.«01_k».proof.Proof.Attn.First

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem runs_k0_part1 (c : Dev nD) (B : Bufs) (i : grid0.Coords) (h : k0_cond2 i = 1#1) (S : Cont F) :
    ∃ zv13 zc384_i32_21, Runs c (Own c B (S)) (k0_part1 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 (BitVec.ofNat 32 (i 1).val) h) ⟨zv13, (p0_v15 i h S), (p0_v17 i h S), (p0_v38 i h S), (p0_v42 i h S), (p0_v46 i h S), (p0_v50 i h S), zc384_i32_21⟩ (Own c B (S)) := by
  rw [k0_part1_eq_skeleton]
  unfold k0_part1_skel
  try dsimp only
  apply Exists.intro
  apply Exists.intro
  apply Runs.bind (load2 (S := S) _ _)
  apply Runs.bind (load5 (S := S) _ _)
  apply Runs.bind (load16 (S := S) _ _)
  apply Runs.bind (load16 (S := S) _ _)
  apply Runs.bind (load16 (S := S) _ _)
  apply Runs.bind (load16 (S := S) _ _)
  apply Runs.bind (load17 (S := S) _ _)
  apply Runs.bind (load17 (S := S) _ _)
  apply Runs.bind (load17 (S := S) _ _)
  exact Runs.pure _

theorem runs_k0_part2 (c : Dev nD) (B : Bufs) (i : grid0.Coords) (h : k0_cond2 i = 1#1) (S : Cont F) (wc384_i32_21 : BitVec 32) (wv13 : BitVec 32) :
    Runs c (Own c B (S)) (k0_part2 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h wv13 (p0_v15 i h S) (p0_v38 i h S) (p0_v42 i h S) (p0_v46 i h S) (p0_v50 i h S) wc384_i32_21) ⟨(p0_v59 i h S), (p0_v63 i h S), (p0_v65 i h S), (p0_v73 i h S), (p0_v75 i h S), (p0_v79 i h S), (p0_v88 i h S), (p0_v93 i h S)⟩ (Own c B (S)) := by
  rw [k0_part2_eq_skeleton]
  unfold k0_part2_skel
  try dsimp only
  apply Runs.bind (load17 (S := S) _ _)
  apply Runs.bind (load6 (S := S) _ _)
  apply Runs.bind (load8 (S := S) _ _)
  apply Runs.bind (load10 (S := S) _ _)
  exact Runs.pure _

theorem runs_k0_part3 (c : Dev nD) (B : Bufs) (i : grid0.Coords) (h : k0_cond2 i = 1#1) (S : Cont F) :
    Runs c (Own c B (S)) (k0_part3 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 (p0_v17 i h S) (p0_v38 i h S) (p0_v59 i h S) (p0_v63 i h S) (p0_v65 i h S) (p0_v73 i h S) (p0_v75 i h S) (p0_v79 i h S) (p0_v88 i h S) (p0_v93 i h S)) ⟨(p0_v107 i h S), (p0_v109 i h S), (p0_v121 i h S), (p0_v125 i h S), (p0_v138 i h S), (p0_v139 i h S)⟩ (Own c B (S)) := by
  rw [k0_part3_eq_skeleton]
  unfold k0_part3_skel
  try dsimp only

  exact Runs.pure _

theorem runs_k0_part4 (c : Dev nD) (B : Bufs) (i : grid0.Coords) (h : k0_cond2 i = 1#1) (S : Cont F) (wv13 : BitVec 32) :
    ∃ zv171, Runs c (Own c B (S)) (k0_part4 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h wv13 (p0_v107 i h S) (p0_v109 i h S) (p0_v121 i h S) (p0_v138 i h S)) zv171 (Own c B (p0_S5 i h S)) := by
  rw [k0_part4_eq_skeleton]
  unfold k0_part4_skel
  try dsimp only
  apply Exists.intro
  apply Runs.bind (load11 (S := S) _ _)
  apply Runs.bind (P' := Own c B (p0_S1 i h S)) (store11 _ _ _ _)
  apply Runs.bind (load11 (S := p0_S1 i h S) _ _)
  apply Runs.bind (P' := Own c B (p0_S2 i h S)) (store11 _ _ _ _)
  apply Runs.bind (load18 (S := p0_S2 i h S) _ _)
  apply Runs.bind (load18 (S := p0_S2 i h S) _ _)
  apply Runs.bind (P' := Own c B (p0_S3 i h S)) (store18 _ _ _ _)
  apply Runs.bind (load19 (S := p0_S3 i h S) _ _)
  apply Runs.bind (load19 (S := p0_S3 i h S) _ _)
  apply Runs.bind (P' := Own c B (p0_S4 i h S)) (store19 _ _ _ _)
  apply Runs.bind (load18 (S := p0_S4 i h S) _ _)
  apply Runs.bind (load18 (S := p0_S4 i h S) _ _)
  apply Runs.bind (P' := Own c B (p0_S5 i h S)) (store18 _ _ _ _)
  exact Runs.pure _

theorem runs_k0_part5 (c : Dev nD) (B : Bufs) (i : grid0.Coords) (h : k0_cond2 i = 1#1) (S : Cont F) (wv13 : BitVec 32) (wv171 : BitVec 32) :
    ∃ zv211, Runs c (Own c B (p0_S5 i h S)) (k0_part5 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h wv13 (p0_v109 i h S) (p0_v121 i h S) wv171) ⟨zv211, (p0_v225 i h S)⟩ (Own c B (p0_S9 i h S)) := by
  rw [k0_part5_eq_skeleton]
  unfold k0_part5_skel
  try dsimp only
  apply Exists.intro
  apply Runs.bind (load19 (S := p0_S5 i h S) _ _)
  apply Runs.bind (load19 (S := p0_S5 i h S) _ _)
  apply Runs.bind (P' := Own c B (p0_S6 i h S)) (store19 _ _ _ _)
  apply Runs.bind (load18 (S := p0_S6 i h S) _ _)
  apply Runs.bind (load18 (S := p0_S6 i h S) _ _)
  apply Runs.bind (P' := Own c B (p0_S7 i h S)) (store18 _ _ _ _)
  apply Runs.bind (load19 (S := p0_S7 i h S) _ _)
  apply Runs.bind (load19 (S := p0_S7 i h S) _ _)
  apply Runs.bind (P' := Own c B (p0_S8 i h S)) (store19 _ _ _ _)
  apply Runs.bind (load18 (S := p0_S8 i h S) _ _)
  apply Runs.bind (load18 (S := p0_S8 i h S) _ _)
  apply Runs.bind (P' := Own c B (p0_S9 i h S)) (store18 _ _ _ _)
  apply Runs.bind (load19 (S := p0_S9 i h S) _ _)
  exact Runs.pure _

theorem runs_k0_part6 (c : Dev nD) (B : Bufs) (i : grid0.Coords) (h : k0_cond2 i = 1#1) (S : Cont F) (wv211 : BitVec 32) :
    ∃ zv243, Runs c (Own c B (p0_S9 i h S)) (k0_part6 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 (BitVec.ofNat 32 (i 1).val) h (p0_v125 i h S) (p0_v139 i h S) wv211 (p0_v225 i h S)) ⟨zv243, (p1_v245 i h (p0_end i h S)), (p1_v247 i h (p0_end i h S)), (p1_v251 i h (p0_end i h S)), (p1_v255 i h (p0_end i h S))⟩ (Own c B (p0_end i h S)) := by
  rw [k0_part6_eq_skeleton]
  unfold k0_part6_skel
  try dsimp only
  apply Exists.intro
  apply Runs.bind (load19 (S := p0_S9 i h S) _ _)
  apply Runs.bind (P' := Own c B (p0_S10 i h S)) (store19 _ _ _ _)
  apply Runs.bind (load13 (S := p0_S10 i h S) _ _)
  apply Runs.bind (load13 (S := p0_S10 i h S) _ _)
  apply Runs.bind (P' := Own c B (p0_S11 i h S)) (store13 _ _ _ _)
  apply Runs.bind (load14 (S := p0_S11 i h S) _ _)
  apply Runs.bind (load14 (S := p0_S11 i h S) _ _)
  apply Runs.bind (P' := Own c B (p0_S12 i h S)) (store14 _ _ _ _)
  apply Runs.bind (load2 (S := p0_end i h S) _ _)
  apply Runs.bind (load5 (S := p0_end i h S) _ _)
  apply Runs.bind (load16 (S := p0_end i h S) _ _)
  apply Runs.bind (load16 (S := p0_end i h S) _ _)
  exact Runs.pure _

theorem runs_k0_part7 (c : Dev nD) (B : Bufs) (i : grid0.Coords) (h : k0_cond2 i = 1#1) (S : Cont F) (wv243 : BitVec 32) :
    Runs c (Own c B (p0_end i h S)) (k0_part7 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h wv243 (p1_v245 i h (p0_end i h S)) (p1_v251 i h (p0_end i h S)) (p1_v255 i h (p0_end i h S))) ⟨(p1_v268 i h (p0_end i h S)), (p1_v289 i h (p0_end i h S)), (p1_v291 i h (p0_end i h S)), (p1_v293 i h (p0_end i h S)), (p1_v295 i h (p0_end i h S)), (p1_v298 i h (p0_end i h S))⟩ (Own c B (p0_end i h S)) := by
  rw [k0_part7_eq_skeleton]
  unfold k0_part7_skel
  try dsimp only
  apply Runs.bind (load16 (S := p0_end i h S) _ _)
  apply Runs.bind (load16 (S := p0_end i h S) _ _)
  apply Runs.bind (load17 (S := p0_end i h S) _ _)
  apply Runs.bind (load17 (S := p0_end i h S) _ _)
  apply Runs.bind (load17 (S := p0_end i h S) _ _)
  apply Runs.bind (load17 (S := p0_end i h S) _ _)
  apply Runs.bind (load7 (S := p0_end i h S) _ _)
  apply Runs.bind (load8 (S := p0_end i h S) _ _)
  apply Runs.bind (load10 (S := p0_end i h S) _ _)
  exact Runs.pure _

theorem runs_k0_part8 (c : Dev nD) (B : Bufs) (i : grid0.Coords) (h : k0_cond2 i = 1#1) (S : Cont F) :
    Runs c (Own c B (p0_end i h S)) (k0_part8 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 (p1_v245 i h (p0_end i h S)) (p1_v247 i h (p0_end i h S)) (p1_v268 i h (p0_end i h S)) (p1_v289 i h (p0_end i h S)) (p1_v291 i h (p0_end i h S)) (p1_v293 i h (p0_end i h S)) (p1_v295 i h (p0_end i h S)) (p1_v298 i h (p0_end i h S))) ⟨(p1_v303 i h (p0_end i h S)), (p1_v305 i h (p0_end i h S)), (p1_v309 i h (p0_end i h S)), (p1_v325 i h (p0_end i h S)), (p1_v338 i h (p0_end i h S)), (p1_v340 i h (p0_end i h S)), (p1_v341 i h (p0_end i h S)), (p1_v345 i h (p0_end i h S))⟩ (Own c B (p0_end i h S)) := by
  rw [k0_part8_eq_skeleton]
  unfold k0_part8_skel
  try dsimp only

  exact Runs.pure _

theorem runs_k0_part9 (c : Dev nD) (B : Bufs) (i : grid0.Coords) (h : k0_cond2 i = 1#1) (S : Cont F) (wv243 : BitVec 32) :
    ∃ zv382, Runs c (Own c B (p0_end i h S)) (k0_part9 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h wv243 (p1_v268 i h (p0_end i h S)) (p1_v293 i h (p0_end i h S)) (p1_v303 i h (p0_end i h S)) (p1_v305 i h (p0_end i h S)) (p1_v309 i h (p0_end i h S)) (p1_v325 i h (p0_end i h S)) (p1_v338 i h (p0_end i h S)) (p1_v341 i h (p0_end i h S)) (p1_v345 i h (p0_end i h S))) ⟨(p1_v352 i h (p0_end i h S)), (p1_v356 i h (p0_end i h S)), (p1_v370 i h (p0_end i h S)), zv382, (p1_v387 i h (p0_end i h S))⟩ (Own c B (p1_S2 i h (p0_end i h S))) := by
  rw [k0_part9_eq_skeleton]
  unfold k0_part9_skel
  try dsimp only
  apply Exists.intro
  apply Runs.bind (load11 (S := p0_end i h S) _ _)
  apply Runs.bind (P' := Own c B (p1_S1 i h (p0_end i h S))) (store11 _ _ _ _)
  apply Runs.bind (load11 (S := p1_S1 i h (p0_end i h S)) _ _)
  apply Runs.bind (P' := Own c B (p1_S2 i h (p0_end i h S))) (store11 _ _ _ _)
  apply Runs.bind (load18 (S := p1_S2 i h (p0_end i h S)) _ _)
  exact Runs.pure _

theorem runs_k0_part10 (c : Dev nD) (B : Bufs) (i : grid0.Coords) (h : k0_cond2 i = 1#1) (S : Cont F) (wv243 : BitVec 32) (wv382 : BitVec 32) :
    ∃ zv422, Runs c (Own c B (p1_S2 i h (p0_end i h S))) (k0_part10 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h wv243 (p1_v340 i h (p0_end i h S)) (p1_v352 i h (p0_end i h S)) wv382 (p1_v387 i h (p0_end i h S))) zv422 (Own c B (p1_S7 i h (p0_end i h S))) := by
  rw [k0_part10_eq_skeleton]
  unfold k0_part10_skel
  try dsimp only
  apply Exists.intro
  apply Runs.bind (load18 (S := p1_S2 i h (p0_end i h S)) _ _)
  apply Runs.bind (P' := Own c B (p1_S3 i h (p0_end i h S))) (store18 _ _ _ _)
  apply Runs.bind (load19 (S := p1_S3 i h (p0_end i h S)) _ _)
  apply Runs.bind (load19 (S := p1_S3 i h (p0_end i h S)) _ _)
  apply Runs.bind (P' := Own c B (p1_S4 i h (p0_end i h S))) (store19 _ _ _ _)
  apply Runs.bind (load18 (S := p1_S4 i h (p0_end i h S)) _ _)
  apply Runs.bind (load18 (S := p1_S4 i h (p0_end i h S)) _ _)
  apply Runs.bind (P' := Own c B (p1_S5 i h (p0_end i h S))) (store18 _ _ _ _)
  apply Runs.bind (load19 (S := p1_S5 i h (p0_end i h S)) _ _)
  apply Runs.bind (load19 (S := p1_S5 i h (p0_end i h S)) _ _)
  apply Runs.bind (P' := Own c B (p1_S6 i h (p0_end i h S))) (store19 _ _ _ _)
  apply Runs.bind (load18 (S := p1_S6 i h (p0_end i h S)) _ _)
  apply Runs.bind (load18 (S := p1_S6 i h (p0_end i h S)) _ _)
  apply Runs.bind (P' := Own c B (p1_S7 i h (p0_end i h S))) (store18 _ _ _ _)
  exact Runs.pure _

theorem runs_k0_part11 (c : Dev nD) (B : Bufs) (i : grid0.Coords) (h : k0_cond2 i = 1#1) (S : Cont F) (wv243 : BitVec 32) (wv422 : BitVec 32) :
    Runs c (Own c B (p1_S7 i h (p0_end i h S))) (k0_part11 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h wv243 (p1_v340 i h (p0_end i h S)) (p1_v352 i h (p0_end i h S)) (p1_v356 i h (p0_end i h S)) (p1_v370 i h (p0_end i h S)) wv422) (p1_v469 i h (p0_end i h S)) (Own c B (p1_S11 i h (p0_end i h S))) := by
  rw [k0_part11_eq_skeleton]
  unfold k0_part11_skel
  try dsimp only
  apply Runs.bind (load19 (S := p1_S7 i h (p0_end i h S)) _ _)
  apply Runs.bind (load19 (S := p1_S7 i h (p0_end i h S)) _ _)
  apply Runs.bind (P' := Own c B (p1_S8 i h (p0_end i h S))) (store19 _ _ _ _)
  apply Runs.bind (load18 (S := p1_S8 i h (p0_end i h S)) _ _)
  apply Runs.bind (load18 (S := p1_S8 i h (p0_end i h S)) _ _)
  apply Runs.bind (P' := Own c B (p1_S9 i h (p0_end i h S))) (store18 _ _ _ _)
  apply Runs.bind (load19 (S := p1_S9 i h (p0_end i h S)) _ _)
  apply Runs.bind (load19 (S := p1_S9 i h (p0_end i h S)) _ _)
  apply Runs.bind (P' := Own c B (p1_S10 i h (p0_end i h S))) (store19 _ _ _ _)
  apply Runs.bind (load13 (S := p1_S10 i h (p0_end i h S)) _ _)
  apply Runs.bind (load13 (S := p1_S10 i h (p0_end i h S)) _ _)
  apply Runs.bind (P' := Own c B (p1_S11 i h (p0_end i h S))) (store13 _ _ _ _)
  apply Runs.bind (load14 (S := p1_S11 i h (p0_end i h S)) _ _)
  exact Runs.pure _

/-- The branch and what follows it, as a program of its own. -/
def branchFirst (B : Bufs) (i : grid0.Coords) (k0_h2 : k0_cond2 i = 1#1) (K : PUnit.{1} → Prog (TpuEff nD τ sig (Elt F) Λ₀ .tc) PUnit) :
    Prog (TpuEff nD τ sig (Elt F) Λ₀ .tc) PUnit := do
  let ⟨v13, v15, v17, v38, v42, v46, v50, c384_i32_21⟩ : Σ' (v13 : BitVec 32) (v15 : FVec F S4x128x128 .f32) (v17 : FVec F S4x128x128 .f32) (v38 : FVec F S4x640x128 .bf16) (v42 : Vec F S640x128 .bf16) (v46 : Vec F S640x128 .bf16) (v50 : Vec F S640x128 .bf16), BitVec 32 ← k0_part1 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 (BitVec.ofNat 32 (i 1).val) k0_h2
  let ⟨v59, v63, v65, v73, v75, v79, v88, v93⟩ : Σ' (v59 : FVec F S4x640x128 .bf16) (v63 : FVec F S1x128 .f32) (v65 : FVec F S4x128x128 .f32) (v73 : FVec F S4x128x1 .f32) (v75 : FVec F S4x128x128 .f32) (v79 : FVec F S4x128x128 .bf16) (v88 : FVec F S4x128x640 .f32), FVec F S4x128x640 .f32 ← k0_part2 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h2 v13 v15 v38 v42 v46 v50 c384_i32_21
  let ⟨v107, v109, v121, v125, v138, v139⟩ : Σ' (v107 : FVec F S4x128x128 .f32) (v109 : FVec F S4x640x128 .f32) (v121 : FVec F S4x640x128 .f32) (v125 : FVec F S1x128 .f32) (v138 : FVec F S4x128x128 .f32), FVec F S128x640 .f32 ← k0_part3 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 v17 v38 v59 v63 v65 v73 v75 v79 v88 v93
  let v171 : BitVec 32 ← k0_part4 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h2 v13 v107 v109 v121 v138
  let ⟨v211, v225⟩ : Σ' (v211 : BitVec 32), FVec F S640x128 .f32 ← k0_part5 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h2 v13 v109 v121 v171
  let ⟨v243, v245, v247, v251, v255⟩ : Σ' (v243 : BitVec 32) (v245 : FVec F S4x128x128 .f32) (v247 : FVec F S4x128x128 .f32) (v251 : Vec F S640x128 .bf16), Vec F S640x128 .bf16 ← k0_part6 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 (BitVec.ofNat 32 (i 1).val) k0_h2 v125 v139 v211 v225
  let ⟨v268, v289, v291, v293, v295, v298⟩ : Σ' (v268 : FVec F S4x640x128 .bf16) (v289 : FVec F S4x640x128 .bf16) (v291 : FVec F S1x128x640 .f32) (v293 : FVec F S1x128 .f32) (v295 : FVec F S4x128x128 .f32), FVec F S4x128x1 .f32 ← k0_part7 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h2 v243 v245 v251 v255
  let ⟨v303, v305, v309, v325, v338, v340, v341, v345⟩ : Σ' (v303 : FVec F S4x128x1 .f32) (v305 : FVec F S4x128x128 .f32) (v309 : FVec F S4x128x128 .bf16) (v325 : FVec F S4x128x640 .f32) (v338 : FVec F S4x128x128 .f32) (v340 : FVec F S4x640x128 .f32) (v341 : FVec F S4x128x640 .f32), FVec F S4x128x640 .f32 ← k0_part8 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 v245 v247 v268 v289 v291 v293 v295 v298
  let ⟨v352, v356, v370, v382, v387⟩ : Σ' (v352 : FVec F S4x640x128 .f32) (v356 : FVec F S1x128 .f32) (v370 : FVec F S128x640 .f32) (v382 : BitVec 32), FVec F S640x128 .f32 ← k0_part9 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h2 v243 v268 v293 v303 v305 v309 v325 v338 v341 v345
  let v422 : BitVec 32 ← k0_part10 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h2 v243 v340 v352 v382 v387
  let v469 : FVec F S1x128 .f32 ← k0_part11 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h2 v243 v340 v352 v356 v370 v422
  let v470 : Vec F S1x1x128 .f32 ← Prog.lift (.load B.a14 (Rect.unit (s := S1x1x128) ![0, 0, 0] S1x1x128.size inb_S1x1x128_S1x1x128_0_0_0).toLoadRect (View.loadsAt_vmem h_S1x1x128))
  Prog.lift (.store B.a14 (Rect.unit (s := S1x1x128) ![0, 0, 0] S1x1x128.size inb_S1x1x128_S1x1x128_0_0_0) (k0_pay9 v469) Finset.univ (View.stores_vmem_bits_univ h_S1x1x128 rfl) (.inl rfl))
  K ⟨⟩

theorem runs_branchFirst (c : Dev nD) (B : Bufs) (i : grid0.Coords) (h : k0_cond2 i = 1#1) (S : Cont F) (K : PUnit.{1} → Prog (TpuEff nD τ sig (Elt F) Λ₀ .tc) PUnit)
    (P : sProp 𝕄) (hK : Runs c (Own c B (p1_end i h (p0_end i h S))) (K ⟨⟩) ⟨⟩ P) : Runs c (Own c B S) (branchFirst B i h K) ⟨⟩ P := by
  unfold branchFirst
  obtain ⟨wv13, wc384_i32_21, hk0_part1⟩ := runs_k0_part1 c B i h S
  refine hk0_part1.bind ?_
  refine (runs_k0_part2 c B i h S wc384_i32_21 wv13).bind ?_
  refine (runs_k0_part3 c B i h S).bind ?_
  obtain ⟨wv171, hk0_part4⟩ := runs_k0_part4 c B i h S wv13
  refine hk0_part4.bind ?_
  obtain ⟨wv211, hk0_part5⟩ := runs_k0_part5 c B i h S wv13 wv171
  refine hk0_part5.bind ?_
  obtain ⟨wv243, hk0_part6⟩ := runs_k0_part6 c B i h S wv211
  refine hk0_part6.bind ?_
  refine (runs_k0_part7 c B i h S wv243).bind ?_
  refine (runs_k0_part8 c B i h S).bind ?_
  obtain ⟨wv382, hk0_part9⟩ := runs_k0_part9 c B i h S wv243
  refine hk0_part9.bind ?_
  obtain ⟨wv422, hk0_part10⟩ := runs_k0_part10 c B i h S wv243 wv382
  refine hk0_part10.bind ?_
  refine (runs_k0_part11 c B i h S wv243 wv422).bind ?_
  apply Runs.bind (load14 (S := p1_S11 i h (p0_end i h S)) _ _)
  apply Runs.bind (P' := Own c B (p1_S12 i h (p0_end i h S))) (store14 _ _ _ _)
  exact hK

end Cert.KernelIdeal.Attn

end
-- ==== Proof.Attn.LaterRuns.lean ====
/- That the program of a later block runs through its states. -/
module

public import proofs.«01_k».proof.Proof.Attn.Later

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem runs_k0_part12 (c : Dev nD) (B : Bufs) (i : grid0.Coords) (h : k0_cond3 i = 1#1) (S : Cont F) :
    ∃ zv13 zc384_i32_21, Runs c (Own c B (S)) (k0_part12 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 (BitVec.ofNat 32 (i 1).val) h) ⟨zv13, (r0_v15 i h S), (r0_v17 i h S), (r0_v38 i h S), (r0_v42 i h S), (r0_v46 i h S), (r0_v50 i h S), zc384_i32_21⟩ (Own c B (S)) := by
  rw [k0_part12_eq_skeleton]
  unfold k0_part12_skel
  try dsimp only
  apply Exists.intro
  apply Exists.intro
  apply Runs.bind (load2 (S := S) _ _)
  apply Runs.bind (load5 (S := S) _ _)
  apply Runs.bind (load16 (S := S) _ _)
  apply Runs.bind (load16 (S := S) _ _)
  apply Runs.bind (load16 (S := S) _ _)
  apply Runs.bind (load16 (S := S) _ _)
  apply Runs.bind (load17 (S := S) _ _)
  apply Runs.bind (load17 (S := S) _ _)
  apply Runs.bind (load17 (S := S) _ _)
  exact Runs.pure _

theorem runs_k0_part13 (c : Dev nD) (B : Bufs) (i : grid0.Coords) (h : k0_cond3 i = 1#1) (S : Cont F) (wc384_i32_21 : BitVec 32) (wv13 : BitVec 32) :
    Runs c (Own c B (S)) (k0_part13 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h wv13 (r0_v15 i h S) (r0_v38 i h S) (r0_v42 i h S) (r0_v46 i h S) (r0_v50 i h S) wc384_i32_21) ⟨(r0_v59 i h S), (r0_v63 i h S), (r0_v65 i h S), (r0_v73 i h S), (r0_v75 i h S), (r0_v79 i h S), (r0_v89 i h S), (r0_v93 i h S)⟩ (Own c B (S)) := by
  rw [k0_part13_eq_skeleton]
  unfold k0_part13_skel
  try dsimp only
  apply Runs.bind (load17 (S := S) _ _)
  apply Runs.bind (load7 (S := S) _ _)
  apply Runs.bind (load8 (S := S) _ _)
  apply Runs.bind (load10 (S := S) _ _)
  exact Runs.pure _

theorem runs_k0_part14 (c : Dev nD) (B : Bufs) (i : grid0.Coords) (h : k0_cond3 i = 1#1) (S : Cont F) :
    Runs c (Own c B (S)) (k0_part14 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 (r0_v17 i h S) (r0_v38 i h S) (r0_v59 i h S) (r0_v63 i h S) (r0_v65 i h S) (r0_v73 i h S) (r0_v75 i h S) (r0_v79 i h S) (r0_v89 i h S) (r0_v93 i h S)) ⟨(r0_v108 i h S), (r0_v110 i h S), (r0_v117 i h S), (r0_v122 i h S), (r0_v126 i h S), (r0_v139 i h S)⟩ (Own c B (S)) := by
  rw [k0_part14_eq_skeleton]
  unfold k0_part14_skel
  try dsimp only

  exact Runs.pure _

theorem runs_k0_part15 (c : Dev nD) (B : Bufs) (i : grid0.Coords) (h : k0_cond3 i = 1#1) (S : Cont F) (wv13 : BitVec 32) :
    ∃ zv172, Runs c (Own c B (S)) (k0_part15 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h wv13 (r0_v108 i h S) (r0_v110 i h S) (r0_v117 i h S) (r0_v122 i h S) (r0_v139 i h S)) ⟨(r0_v140 i h S), zv172, (r0_v181 i h S)⟩ (Own c B (r0_S4 i h S)) := by
  rw [k0_part15_eq_skeleton]
  unfold k0_part15_skel
  try dsimp only
  apply Exists.intro
  apply Runs.bind (load11 (S := S) _ _)
  apply Runs.bind (P' := Own c B (r0_S1 i h S)) (store11 _ _ _ _)
  apply Runs.bind (load11 (S := r0_S1 i h S) _ _)
  apply Runs.bind (P' := Own c B (r0_S2 i h S)) (store11 _ _ _ _)
  apply Runs.bind (load18 (S := r0_S2 i h S) _ _)
  apply Runs.bind (load18 (S := r0_S2 i h S) _ _)
  apply Runs.bind (P' := Own c B (r0_S3 i h S)) (store18 _ _ _ _)
  apply Runs.bind (load19 (S := r0_S3 i h S) _ _)
  apply Runs.bind (load19 (S := r0_S3 i h S) _ _)
  apply Runs.bind (P' := Own c B (r0_S4 i h S)) (store19 _ _ _ _)
  apply Runs.bind (load18 (S := r0_S4 i h S) _ _)
  apply Runs.bind (load18 (S := r0_S4 i h S) _ _)
  exact Runs.pure _

theorem runs_k0_part16 (c : Dev nD) (B : Bufs) (i : grid0.Coords) (h : k0_cond3 i = 1#1) (S : Cont F) (wv13 : BitVec 32) (wv172 : BitVec 32) :
    ∃ zv212, Runs c (Own c B (r0_S4 i h S)) (k0_part16 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h wv13 (r0_v110 i h S) (r0_v122 i h S) wv172 (r0_v181 i h S)) ⟨zv212, (r0_v223 i h S), (r0_v225 i h S)⟩ (Own c B (r0_S9 i h S)) := by
  rw [k0_part16_eq_skeleton]
  unfold k0_part16_skel
  try dsimp only
  apply Exists.intro
  apply Runs.bind (P' := Own c B (r0_S5 i h S)) (store18 _ _ _ _)
  apply Runs.bind (load19 (S := r0_S5 i h S) _ _)
  apply Runs.bind (load19 (S := r0_S5 i h S) _ _)
  apply Runs.bind (P' := Own c B (r0_S6 i h S)) (store19 _ _ _ _)
  apply Runs.bind (load18 (S := r0_S6 i h S) _ _)
  apply Runs.bind (load18 (S := r0_S6 i h S) _ _)
  apply Runs.bind (P' := Own c B (r0_S7 i h S)) (store18 _ _ _ _)
  apply Runs.bind (load19 (S := r0_S7 i h S) _ _)
  apply Runs.bind (load19 (S := r0_S7 i h S) _ _)
  apply Runs.bind (P' := Own c B (r0_S8 i h S)) (store19 _ _ _ _)
  apply Runs.bind (load18 (S := r0_S8 i h S) _ _)
  apply Runs.bind (load18 (S := r0_S8 i h S) _ _)
  apply Runs.bind (P' := Own c B (r0_S9 i h S)) (store18 _ _ _ _)
  apply Runs.bind (load19 (S := r0_S9 i h S) _ _)
  exact Runs.pure _

theorem runs_k0_part17 (c : Dev nD) (B : Bufs) (i : grid0.Coords) (h : k0_cond3 i = 1#1) (S : Cont F) (wv212 : BitVec 32) :
    ∃ zv244 zv258, Runs c (Own c B (r0_S9 i h S)) (k0_part17 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 (BitVec.ofNat 32 (i 1).val) h (r0_v126 i h S) (r0_v140 i h S) wv212 (r0_v223 i h S) (r0_v225 i h S)) ⟨zv244, (r1_v246 i h (r0_end i h S)), (r1_v248 i h (r0_end i h S)), (r1_v252 i h (r0_end i h S)), (r1_v256 i h (r0_end i h S)), zv258⟩ (Own c B (r0_end i h S)) := by
  rw [k0_part17_eq_skeleton]
  unfold k0_part17_skel
  try dsimp only
  apply Exists.intro
  apply Exists.intro
  apply Runs.bind (load19 (S := r0_S9 i h S) _ _)
  apply Runs.bind (P' := Own c B (r0_S10 i h S)) (store19 _ _ _ _)
  apply Runs.bind (load13 (S := r0_S10 i h S) _ _)
  apply Runs.bind (load13 (S := r0_S10 i h S) _ _)
  apply Runs.bind (P' := Own c B (r0_S11 i h S)) (store13 _ _ _ _)
  apply Runs.bind (load14 (S := r0_S11 i h S) _ _)
  apply Runs.bind (load14 (S := r0_S11 i h S) _ _)
  apply Runs.bind (P' := Own c B (r0_S12 i h S)) (store14 _ _ _ _)
  apply Runs.bind (load2 (S := r0_end i h S) _ _)
  apply Runs.bind (load5 (S := r0_end i h S) _ _)
  apply Runs.bind (load16 (S := r0_end i h S) _ _)
  apply Runs.bind (load16 (S := r0_end i h S) _ _)
  exact Runs.pure _

theorem runs_k0_part18 (c : Dev nD) (B : Bufs) (i : grid0.Coords) (h : k0_cond3 i = 1#1) (S : Cont F) (wv244 : BitVec 32) (wv258 : BitVec 32) :
    Runs c (Own c B (r0_end i h S)) (k0_part18 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h wv244 (r1_v246 i h (r0_end i h S)) (r1_v252 i h (r0_end i h S)) (r1_v256 i h (r0_end i h S)) wv258) ⟨(r1_v269 i h (r0_end i h S)), (r1_v290 i h (r0_end i h S)), (r1_v292 i h (r0_end i h S)), (r1_v294 i h (r0_end i h S)), (r1_v296 i h (r0_end i h S)), (r1_v298 i h (r0_end i h S))⟩ (Own c B (r0_end i h S)) := by
  rw [k0_part18_eq_skeleton]
  unfold k0_part18_skel
  try dsimp only
  apply Runs.bind (load16 (S := r0_end i h S) _ _)
  apply Runs.bind (load16 (S := r0_end i h S) _ _)
  apply Runs.bind (load17 (S := r0_end i h S) _ _)
  apply Runs.bind (load17 (S := r0_end i h S) _ _)
  apply Runs.bind (load17 (S := r0_end i h S) _ _)
  apply Runs.bind (load17 (S := r0_end i h S) _ _)
  apply Runs.bind (load7 (S := r0_end i h S) _ _)
  apply Runs.bind (load8 (S := r0_end i h S) _ _)
  apply Runs.bind (load10 (S := r0_end i h S) _ _)
  exact Runs.pure _

theorem runs_k0_part19 (c : Dev nD) (B : Bufs) (i : grid0.Coords) (h : k0_cond3 i = 1#1) (S : Cont F) :
    Runs c (Own c B (r0_end i h S)) (k0_part19 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 (r1_v246 i h (r0_end i h S)) (r1_v248 i h (r0_end i h S)) (r1_v269 i h (r0_end i h S)) (r1_v290 i h (r0_end i h S)) (r1_v292 i h (r0_end i h S)) (r1_v294 i h (r0_end i h S)) (r1_v296 i h (r0_end i h S)) (r1_v298 i h (r0_end i h S))) ⟨(r1_v304 i h (r0_end i h S)), (r1_v306 i h (r0_end i h S)), (r1_v310 i h (r0_end i h S)), (r1_v326 i h (r0_end i h S)), (r1_v339 i h (r0_end i h S)), (r1_v341 i h (r0_end i h S)), (r1_v342 i h (r0_end i h S)), (r1_v345 i h (r0_end i h S))⟩ (Own c B (r0_end i h S)) := by
  rw [k0_part19_eq_skeleton]
  unfold k0_part19_skel
  try dsimp only

  exact Runs.pure _

theorem runs_k0_part20 (c : Dev nD) (B : Bufs) (i : grid0.Coords) (h : k0_cond3 i = 1#1) (S : Cont F) (wv244 : BitVec 32) :
    ∃ zv383, Runs c (Own c B (r0_end i h S)) (k0_part20 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h wv244 (r1_v269 i h (r0_end i h S)) (r1_v294 i h (r0_end i h S)) (r1_v304 i h (r0_end i h S)) (r1_v306 i h (r0_end i h S)) (r1_v310 i h (r0_end i h S)) (r1_v326 i h (r0_end i h S)) (r1_v339 i h (r0_end i h S)) (r1_v342 i h (r0_end i h S)) (r1_v345 i h (r0_end i h S))) ⟨(r1_v353 i h (r0_end i h S)), (r1_v357 i h (r0_end i h S)), (r1_v371 i h (r0_end i h S)), zv383, (r1_v385 i h (r0_end i h S)), (r1_v387 i h (r0_end i h S))⟩ (Own c B (r1_S2 i h (r0_end i h S))) := by
  rw [k0_part20_eq_skeleton]
  unfold k0_part20_skel
  try dsimp only
  apply Exists.intro
  apply Runs.bind (load11 (S := r0_end i h S) _ _)
  apply Runs.bind (P' := Own c B (r1_S1 i h (r0_end i h S))) (store11 _ _ _ _)
  apply Runs.bind (load11 (S := r1_S1 i h (r0_end i h S)) _ _)
  apply Runs.bind (P' := Own c B (r1_S2 i h (r0_end i h S))) (store11 _ _ _ _)
  apply Runs.bind (load18 (S := r1_S2 i h (r0_end i h S)) _ _)
  exact Runs.pure _

theorem runs_k0_part21 (c : Dev nD) (B : Bufs) (i : grid0.Coords) (h : k0_cond3 i = 1#1) (S : Cont F) (wv244 : BitVec 32) (wv383 : BitVec 32) :
    ∃ zv423, Runs c (Own c B (r1_S2 i h (r0_end i h S))) (k0_part21 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h wv244 (r1_v341 i h (r0_end i h S)) (r1_v353 i h (r0_end i h S)) wv383 (r1_v385 i h (r0_end i h S)) (r1_v387 i h (r0_end i h S))) ⟨zv423, (r1_v432 i h (r0_end i h S))⟩ (Own c B (r1_S6 i h (r0_end i h S))) := by
  rw [k0_part21_eq_skeleton]
  unfold k0_part21_skel
  try dsimp only
  apply Exists.intro
  apply Runs.bind (load18 (S := r1_S2 i h (r0_end i h S)) _ _)
  apply Runs.bind (P' := Own c B (r1_S3 i h (r0_end i h S))) (store18 _ _ _ _)
  apply Runs.bind (load19 (S := r1_S3 i h (r0_end i h S)) _ _)
  apply Runs.bind (load19 (S := r1_S3 i h (r0_end i h S)) _ _)
  apply Runs.bind (P' := Own c B (r1_S4 i h (r0_end i h S))) (store19 _ _ _ _)
  apply Runs.bind (load18 (S := r1_S4 i h (r0_end i h S)) _ _)
  apply Runs.bind (load18 (S := r1_S4 i h (r0_end i h S)) _ _)
  apply Runs.bind (P' := Own c B (r1_S5 i h (r0_end i h S))) (store18 _ _ _ _)
  apply Runs.bind (load19 (S := r1_S5 i h (r0_end i h S)) _ _)
  apply Runs.bind (load19 (S := r1_S5 i h (r0_end i h S)) _ _)
  apply Runs.bind (P' := Own c B (r1_S6 i h (r0_end i h S))) (store19 _ _ _ _)
  apply Runs.bind (load18 (S := r1_S6 i h (r0_end i h S)) _ _)
  apply Runs.bind (load18 (S := r1_S6 i h (r0_end i h S)) _ _)
  exact Runs.pure _

theorem runs_k0_part22 (c : Dev nD) (B : Bufs) (i : grid0.Coords) (h : k0_cond3 i = 1#1) (S : Cont F) (wv244 : BitVec 32) (wv423 : BitVec 32) :
    Runs c (Own c B (r1_S6 i h (r0_end i h S))) (k0_part22 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h wv244 (r1_v341 i h (r0_end i h S)) (r1_v353 i h (r0_end i h S)) (r1_v357 i h (r0_end i h S)) (r1_v371 i h (r0_end i h S)) wv423 (r1_v432 i h (r0_end i h S))) (r1_v470 i h (r0_end i h S)) (Own c B (r1_S11 i h (r0_end i h S))) := by
  rw [k0_part22_eq_skeleton]
  unfold k0_part22_skel
  try dsimp only
  apply Runs.bind (P' := Own c B (r1_S7 i h (r0_end i h S))) (store18 _ _ _ _)
  apply Runs.bind (load19 (S := r1_S7 i h (r0_end i h S)) _ _)
  apply Runs.bind (load19 (S := r1_S7 i h (r0_end i h S)) _ _)
  apply Runs.bind (P' := Own c B (r1_S8 i h (r0_end i h S))) (store19 _ _ _ _)
  apply Runs.bind (load18 (S := r1_S8 i h (r0_end i h S)) _ _)
  apply Runs.bind (load18 (S := r1_S8 i h (r0_end i h S)) _ _)
  apply Runs.bind (P' := Own c B (r1_S9 i h (r0_end i h S))) (store18 _ _ _ _)
  apply Runs.bind (load19 (S := r1_S9 i h (r0_end i h S)) _ _)
  apply Runs.bind (load19 (S := r1_S9 i h (r0_end i h S)) _ _)
  apply Runs.bind (P' := Own c B (r1_S10 i h (r0_end i h S))) (store19 _ _ _ _)
  apply Runs.bind (load13 (S := r1_S10 i h (r0_end i h S)) _ _)
  apply Runs.bind (load13 (S := r1_S10 i h (r0_end i h S)) _ _)
  apply Runs.bind (P' := Own c B (r1_S11 i h (r0_end i h S))) (store13 _ _ _ _)
  apply Runs.bind (load14 (S := r1_S11 i h (r0_end i h S)) _ _)
  exact Runs.pure _

/-- The branch and what follows it, as a program of its own. -/
def branchLater (B : Bufs) (i : grid0.Coords) (k0_h3 : k0_cond3 i = 1#1) (K : PUnit.{1} → Prog (TpuEff nD τ sig (Elt F) Λ₀ .tc) PUnit) :
    Prog (TpuEff nD τ sig (Elt F) Λ₀ .tc) PUnit := do
  let ⟨v13, v15, v17, v38, v42, v46, v50, c384_i32_21⟩ : Σ' (v13 : BitVec 32) (v15 : FVec F S4x128x128 .f32) (v17 : FVec F S4x128x128 .f32) (v38 : FVec F S4x640x128 .bf16) (v42 : Vec F S640x128 .bf16) (v46 : Vec F S640x128 .bf16) (v50 : Vec F S640x128 .bf16), BitVec 32 ← k0_part12 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 (BitVec.ofNat 32 (i 1).val) k0_h3
  let ⟨v59, v63, v65, v73, v75, v79, v89, v93⟩ : Σ' (v59 : FVec F S4x640x128 .bf16) (v63 : FVec F S1x128 .f32) (v65 : FVec F S4x128x128 .f32) (v73 : FVec F S4x128x1 .f32) (v75 : FVec F S4x128x128 .f32) (v79 : FVec F S4x128x128 .bf16) (v89 : FVec F S4x128x640 .f32), FVec F S4x128x1 .f32 ← k0_part13 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h3 v13 v15 v38 v42 v46 v50 c384_i32_21
  let ⟨v108, v110, v117, v122, v126, v139⟩ : Σ' (v108 : FVec F S4x128x128 .f32) (v110 : FVec F S4x640x128 .f32) (v117 : FVec F S4x128x640 .f32) (v122 : FVec F S4x640x128 .f32) (v126 : FVec F S1x128 .f32), FVec F S4x128x128 .f32 ← k0_part14 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 v17 v38 v59 v63 v65 v73 v75 v79 v89 v93
  let ⟨v140, v172, v181⟩ : Σ' (v140 : FVec F S128x640 .f32) (v172 : BitVec 32), FVec F S640x128 .f32 ← k0_part15 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h3 v13 v108 v110 v117 v122 v139
  let ⟨v212, v223, v225⟩ : Σ' (v212 : BitVec 32) (v223 : Vec F S640x128 .f32), FVec F S640x128 .f32 ← k0_part16 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h3 v13 v110 v122 v172 v181
  let ⟨v244, v246, v248, v252, v256, v258⟩ : Σ' (v244 : BitVec 32) (v246 : FVec F S4x128x128 .f32) (v248 : FVec F S4x128x128 .f32) (v252 : Vec F S640x128 .bf16) (v256 : Vec F S640x128 .bf16), BitVec 32 ← k0_part17 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 (BitVec.ofNat 32 (i 1).val) k0_h3 v126 v140 v212 v223 v225
  let ⟨v269, v290, v292, v294, v296, v298⟩ : Σ' (v269 : FVec F S4x640x128 .bf16) (v290 : FVec F S4x640x128 .bf16) (v292 : FVec F S1x128x640 .f32) (v294 : FVec F S1x128 .f32) (v296 : FVec F S4x128x128 .f32), FVec F S4x128 .f32 ← k0_part18 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h3 v244 v246 v252 v256 v258
  let ⟨v304, v306, v310, v326, v339, v341, v342, v345⟩ : Σ' (v304 : FVec F S4x128x1 .f32) (v306 : FVec F S4x128x128 .f32) (v310 : FVec F S4x128x128 .bf16) (v326 : FVec F S4x128x640 .f32) (v339 : FVec F S4x128x128 .f32) (v341 : FVec F S4x640x128 .f32) (v342 : FVec F S4x128x640 .f32), FVec F S4x128x1 .f32 ← k0_part19 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 v246 v248 v269 v290 v292 v294 v296 v298
  let ⟨v353, v357, v371, v383, v385, v387⟩ : Σ' (v353 : FVec F S4x640x128 .f32) (v357 : FVec F S1x128 .f32) (v371 : FVec F S128x640 .f32) (v383 : BitVec 32) (v385 : Vec F S640x128 .f32), FVec F S640x128 .f32 ← k0_part20 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h3 v244 v269 v294 v304 v306 v310 v326 v339 v342 v345
  let ⟨v423, v432⟩ : Σ' (v423 : BitVec 32), FVec F S640x128 .f32 ← k0_part21 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h3 v244 v341 v353 v383 v385 v387
  let v470 : FVec F S1x128 .f32 ← k0_part22 i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h3 v244 v341 v353 v357 v371 v423 v432
  let v471 : Vec F S1x1x128 .f32 ← Prog.lift (.load B.a14 (Rect.unit (s := S1x1x128) ![0, 0, 0] S1x1x128.size inb_S1x1x128_S1x1x128_0_0_0).toLoadRect (View.loadsAt_vmem h_S1x1x128))
  Prog.lift (.store B.a14 (Rect.unit (s := S1x1x128) ![0, 0, 0] S1x1x128.size inb_S1x1x128_S1x1x128_0_0_0) (k0_pay10 v470) Finset.univ (View.stores_vmem_bits_univ h_S1x1x128 rfl) (.inl rfl))
  K ⟨⟩

theorem runs_branchLater (c : Dev nD) (B : Bufs) (i : grid0.Coords) (h : k0_cond3 i = 1#1) (S : Cont F) (K : PUnit.{1} → Prog (TpuEff nD τ sig (Elt F) Λ₀ .tc) PUnit)
    (P : sProp 𝕄) (hK : Runs c (Own c B (r1_end i h (r0_end i h S))) (K ⟨⟩) ⟨⟩ P) : Runs c (Own c B S) (branchLater B i h K) ⟨⟩ P := by
  unfold branchLater
  obtain ⟨wv13, wc384_i32_21, hk0_part12⟩ := runs_k0_part12 c B i h S
  refine hk0_part12.bind ?_
  refine (runs_k0_part13 c B i h S wc384_i32_21 wv13).bind ?_
  refine (runs_k0_part14 c B i h S).bind ?_
  obtain ⟨wv172, hk0_part15⟩ := runs_k0_part15 c B i h S wv13
  refine hk0_part15.bind ?_
  obtain ⟨wv212, hk0_part16⟩ := runs_k0_part16 c B i h S wv13 wv172
  refine hk0_part16.bind ?_
  obtain ⟨wv244, wv258, hk0_part17⟩ := runs_k0_part17 c B i h S wv212
  refine hk0_part17.bind ?_
  refine (runs_k0_part18 c B i h S wv244 wv258).bind ?_
  refine (runs_k0_part19 c B i h S).bind ?_
  obtain ⟨wv383, hk0_part20⟩ := runs_k0_part20 c B i h S wv244
  refine hk0_part20.bind ?_
  obtain ⟨wv423, hk0_part21⟩ := runs_k0_part21 c B i h S wv244 wv383
  refine hk0_part21.bind ?_
  refine (runs_k0_part22 c B i h S wv244 wv423).bind ?_
  apply Runs.bind (load14 (S := r1_S11 i h (r0_end i h S)) _ _)
  apply Runs.bind (P' := Own c B (r1_S12 i h (r0_end i h S))) (store14 _ _ _ _)
  exact hK

end Cert.KernelIdeal.Attn

end
-- ==== Proof.Attn.Ends.lean ====
/- The two branches at a sequence's ends: filling the scratch buffers before the first block, and writing the gradients of
   the keys and values after the last. -/
module

public import proofs.«01_k».proof.Proof.Attn.State

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A normalised block of keys and a block of values rounded into the padded scratch buffers. -/
def fillStep (i : grid0.Coords) (h : k0_cond1 i = 1#1) (k : Fin k0_t1_loop.trips) (S : Cont F) : Cont F :=
  { S with
    x16 := VecWindow.put (s := S8704x128) S.x16 (k0_off2 k) S512x128.size
      (k0_pay3 (VecWindow.window (s := S8192x128) S.x3 (k0_off1 k) S512x128.size (k0_off1_inb i k h)) (VecWindow.window (s := S1x128) S.x9 ![0, 0] S1x128.size inb_S1x128_S1x128_0_0))
    x17 := VecWindow.put (s := S8704x128) S.x17 (k0_off2 k) S512x128.size
      (k0_pay4 (VecWindow.window (s := S8192x128) S.x4 (k0_off1 k) S512x128.size (k0_off1_inb i k h))) }

/-- The scratch buffers with their first rows zero. -/
def fill0 (S : Cont F) : Cont F :=
  { S with
    x16 := VecWindow.put (s := S8704x128) S.x16 ![0, 0] S512x128.size (k0_pay1 (F := F))
    x17 := VecWindow.put (s := S8704x128) S.x17 ![0, 0] S512x128.size (k0_pay2 (F := F)) }

/-- After `n` blocks of keys and values. -/
def fillN (i : grid0.Coords) (h : k0_cond1 i = 1#1) (S : Cont F) : ℕ → Cont F
  | 0 => fill0 S
  | n + 1 => if hn : n < k0_t1_loop.trips then fillStep i h ⟨n, hn⟩ (fillN i h S n) else fillN i h S n

/-- The gradients' accumulators made zero. -/
def fillEnd (T : Cont F) : Cont F :=
  { T with
    x18 := VecWindow.put (s := S8704x128) T.x18 ![0, 0] S8704x128.size (k0_pay5 (F := F))
    x19 := VecWindow.put (s := S8704x128) T.x19 ![0, 0] S8704x128.size (k0_pay6 (F := F))
    x13 := VecWindow.put (s := S1x128x640) T.x13 ![0, 0, 0] S1x128x640.size (k0_pay7 (F := F))
    x14 := VecWindow.put (s := S1x1x128) T.x14 ![0, 0, 0] S1x1x128.size (k0_pay8 (F := F)) }

/-- After the branch. -/
def fill (i : grid0.Coords) (h : k0_cond1 i = 1#1) (S : Cont F) : Cont F := fillEnd (fillN i h S k0_t1_loop.trips)

/-- The filling branch and what follows it, as a program of its own. -/
def branchFill (B : Bufs) (i : grid0.Coords) (k0_h1 : k0_cond1 i = 1#1) (K : PUnit.{1} → Prog (TpuEff nD τ sig (Elt F) Λ₀ .tc) PUnit) :
    Prog (TpuEff nD τ sig (Elt F) Λ₀ .tc) PUnit := do
  let v13 : Vec F S512x128 .bf16 ← Prog.lift (.load B.a16 (Rect.unit (s := S8704x128) ![0, 0] S512x128.size inb_S8704x128_S512x128_0_0).toLoadRect (View.loadsAt_vmem h_S512x128))
  Prog.lift (.store B.a16 (Rect.unit (s := S8704x128) ![0, 0] S512x128.size inb_S8704x128_S512x128_0_0) (k0_pay1 (F := F)) Finset.univ (View.stores_vmem h_S512x128 (B.h16.storeExact_slice rfl _ packedbf16_S8704x128_S512x128_0_0) (fun _ => rfl)) (.inl rfl))
  let v17 : Vec F S512x128 .bf16 ← Prog.lift (.load B.a17 (Rect.unit (s := S8704x128) ![0, 0] S512x128.size inb_S8704x128_S512x128_0_0).toLoadRect (View.loadsAt_vmem h_S512x128))
  Prog.lift (.store B.a17 (Rect.unit (s := S8704x128) ![0, 0] S512x128.size inb_S8704x128_S512x128_0_0) (k0_pay2 (F := F)) Finset.univ (View.stores_vmem h_S512x128 (B.h17.storeExact_slice rfl _ packedbf16_S8704x128_S512x128_0_0) (fun _ => rfl)) (.inl rfl))
  Scf.Loop.for k0_t1_loop (k0_t1_ok i k0_h1) ⟨⟩ (k0_t1_body i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h1)
  let v22 : Vec F S8704x128 .f32 ← Prog.lift (.load B.a18 (Rect.unit (s := S8704x128) ![0, 0] S8704x128.size inb_S8704x128_S8704x128_0_0).toLoadRect (View.loadsAt_vmem h_S8704x128))
  Prog.lift (.store B.a18 (Rect.unit (s := S8704x128) ![0, 0] S8704x128.size inb_S8704x128_S8704x128_0_0) (k0_pay5 (F := F)) Finset.univ (View.stores_vmem_bits_univ h_S8704x128 rfl) (.inl rfl))
  let v26 : Vec F S8704x128 .f32 ← Prog.lift (.load B.a19 (Rect.unit (s := S8704x128) ![0, 0] S8704x128.size inb_S8704x128_S8704x128_0_0).toLoadRect (View.loadsAt_vmem h_S8704x128))
  Prog.lift (.store B.a19 (Rect.unit (s := S8704x128) ![0, 0] S8704x128.size inb_S8704x128_S8704x128_0_0) (k0_pay6 (F := F)) Finset.univ (View.stores_vmem_bits_univ h_S8704x128 rfl) (.inl rfl))
  let v30 : Vec F S1x128x640 .f32 ← Prog.lift (.load B.a13 (Rect.unit (s := S1x128x640) ![0, 0, 0] S1x128x640.size inb_S1x128x640_S1x128x640_0_0_0).toLoadRect (View.loadsAt_vmem h_S1x128x640))
  Prog.lift (.store B.a13 (Rect.unit (s := S1x128x640) ![0, 0, 0] S1x128x640.size inb_S1x128x640_S1x128x640_0_0_0) (k0_pay7 (F := F)) Finset.univ (View.stores_vmem_bits_univ h_S1x128x640 rfl) (.inl rfl))
  let v32 : Vec F S1x1x128 .f32 ← Prog.lift (.load B.a14 (Rect.unit (s := S1x1x128) ![0, 0, 0] S1x1x128.size inb_S1x1x128_S1x1x128_0_0_0).toLoadRect (View.loadsAt_vmem h_S1x1x128))
  Prog.lift (.store B.a14 (Rect.unit (s := S1x1x128) ![0, 0, 0] S1x1x128.size inb_S1x1x128_S1x1x128_0_0_0) (k0_pay8 (F := F)) Finset.univ (View.stores_vmem_bits_univ h_S1x1x128 rfl) (.inl rfl))
  K ⟨⟩

theorem runs_fillStep (c : Dev nD) (B : Bufs) (i : grid0.Coords) (h : k0_cond1 i = 1#1) (k : Fin k0_t1_loop.trips) (S : Cont F) :
    Runs c (Own c B S) (k0_t1_body i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h k ()) () (Own c B (fillStep i h k S)) := by
  unfold k0_t1_body
  try dsimp only
  apply Runs.bind (load3 (S := S) _ _)
  apply Runs.bind (load9 (S := S) _ _)
  apply Runs.bind (load16 (S := S) _ _)
  apply Runs.bind (store16 (S := S) _ _ _ _)
  apply Runs.bind (load4 _ _)
  apply Runs.bind (load17 _ _)
  apply Runs.bind (store17 _ _ _ _)
  exact Runs.pure _

theorem runs_fill (c : Dev nD) (B : Bufs) (i : grid0.Coords) (h : k0_cond1 i = 1#1) (S : Cont F) (K : PUnit.{1} → Prog (TpuEff nD τ sig (Elt F) Λ₀ .tc) PUnit)
    (P : sProp 𝕄) (hK : Runs c (Own c B (fill i h S)) (K ⟨⟩) ⟨⟩ P) : Runs c (Own c B S) (branchFill B i h K) ⟨⟩ P := by
  unfold branchFill
  apply Runs.bind (load16 (S := S) _ _)
  apply Runs.bind (store16 (S := S) _ _ _ _)
  apply Runs.bind (load17 _ _)
  apply Runs.bind (store17 _ _ _ _)
  refine Runs.bind (P' := Own c B (fillN i h S k0_t1_loop.trips)) (v := ()) (Runs.loop k0_t1_loop (k0_t1_ok i h) _ (fun n => Own c B (fillN i h S n)) (fun _ => ()) (fun k => ?_)) ?_
  · have := runs_fillStep c B i h k (fillN i h S k.val)
    have e : fillN i h S (k.val + 1) = fillStep i h k (fillN i h S k.val) := by
      rw [fillN, dif_pos k.isLt]
    rw [e]
    exact this
  unfold fill at hK
  generalize fillN i h S k0_t1_loop.trips = T at hK ⊢
  apply Runs.bind (load18 _ _)
  apply Runs.bind (store18 _ _ _ _)
  apply Runs.bind (load19 _ _)
  apply Runs.bind (store19 _ _ _ _)
  apply Runs.bind (load13 _ _)
  apply Runs.bind (store13 _ _ _ _)
  apply Runs.bind (load14 _ _)
  apply Runs.bind (store14 _ _ _ _)
  exact hK

/-- One block of the keys' and values' gradients written out. -/
def finishStep (i : grid0.Coords) (h : k0_cond4 i = 1#1) (k : Fin k0_t2_loop.trips) (S : Cont F) : Cont F :=
  { S with
    x12 := VecWindow.put (s := S2x8192x128)
      (VecWindow.put (s := S2x8192x128) S.x12 (k0_off7 k) S1x512x128.size
        (k0_pay12 (k0_pay177 (VecWindow.window (s := S8192x128) S.x3 (k0_off5 k) S512x128.size (k0_off5_inb i k h)) (VecWindow.window (s := S1x128) S.x9 ![0, 0] S1x128.size inb_S1x128_S1x128_0_0)
          (VecWindow.window (s := S8704x128) S.x18 (k0_off6 k) S512x128.size (k0_off6_inb i k h)))))
      (k0_off8 k) S1x512x128.size (k0_pay13 (VecWindow.window (s := S8704x128) S.x19 (k0_off6 k) S512x128.size (k0_off6_inb i k h))) }

/-- One block's addition to the gradient of the keys' weight. -/
def finishAcc (i : grid0.Coords) (h : k0_cond4 i = 1#1) (k : Fin k0_t2_loop.trips) (S : Cont F) (a : FVec F S1x128 .f32) : FVec F S1x128 .f32 :=
  k0_pay14 a (k0_pay176 (VecWindow.window (s := S8192x128) S.x3 (k0_off5 k) S512x128.size (k0_off5_inb i k h)) (VecWindow.window (s := S8704x128) S.x18 (k0_off6 k) S512x128.size (k0_off6_inb i k h)))

/-- After `n` blocks: the buffers. -/
def finishN (i : grid0.Coords) (h : k0_cond4 i = 1#1) (S : Cont F) : ℕ → Cont F
  | 0 => S
  | n + 1 => if hn : n < k0_t2_loop.trips then finishStep i h ⟨n, hn⟩ (finishN i h S n) else finishN i h S n

/-- After `n` blocks: the sum carried. -/
def accN (i : grid0.Coords) (h : k0_cond4 i = 1#1) (S : Cont F) : ℕ → FVec F S1x128 .f32
  | 0 => k0_pay11 (F := F)
  | n + 1 => if hn : n < k0_t2_loop.trips then finishAcc i h ⟨n, hn⟩ (finishN i h S n) (accN i h S n) else accN i h S n

/-- The carried sum written out. -/
def finishEnd (T : Cont F) (a : FVec F S1x128 .f32) : Cont F :=
  { T with x15 := VecWindow.put (s := S1x1x128) T.x15 ![0, 0, 0] S1x1x128.size (k0_pay15 a) }

/-- After the branch. -/
def finish (i : grid0.Coords) (h : k0_cond4 i = 1#1) (S : Cont F) : Cont F :=
  finishEnd (finishN i h S k0_t2_loop.trips) (accN i h S k0_t2_loop.trips)

/-- The finishing branch and what follows it, as a program of its own. -/
def branchFinish (B : Bufs) (i : grid0.Coords) (k0_h4 : k0_cond4 i = 1#1) (K : PUnit.{1} → Prog (TpuEff nD τ sig (Elt F) Λ₀ .tc) PUnit) :
    Prog (TpuEff nD τ sig (Elt F) Λ₀ .tc) PUnit := do
  let v14 : FVec F S1x128 .f32 ← Scf.Loop.for k0_t2_loop (k0_t2_ok i k0_h4) (k0_pay11 (F := F)) (k0_t2_body i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 k0_h4)
  let v15 : Vec F S1x1x128 .f32 ← Prog.lift (.load B.a15 (Rect.unit (s := S1x1x128) ![0, 0, 0] S1x1x128.size inb_S1x1x128_S1x1x128_0_0_0).toLoadRect (View.loadsAt_vmem h_S1x1x128))
  Prog.lift (.store B.a15 (Rect.unit (s := S1x1x128) ![0, 0, 0] S1x1x128.size inb_S1x1x128_S1x1x128_0_0_0) (k0_pay15 v14) Finset.univ (View.stores_vmem_bits_univ h_S1x1x128 rfl) (.inl rfl))
  K ⟨⟩

theorem runs_finishStep (c : Dev nD) (B : Bufs) (i : grid0.Coords) (h : k0_cond4 i = 1#1) (k : Fin k0_t2_loop.trips) (S : Cont F) (a : FVec F S1x128 .f32) :
    Runs c (Own c B S) (k0_t2_body i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 h k a) (finishAcc i h k S a) (Own c B (finishStep i h k S)) := by
  unfold k0_t2_body
  try dsimp only
  apply Runs.bind
  case h =>
    rw [k0_part23_eq_skeleton]
    unfold k0_part23_skel
    try dsimp only
    apply Runs.bind (load3 (S := S) _ _)
    apply Runs.bind (load9 (S := S) _ _)
    apply Runs.bind (load18 (S := S) _ _)
    exact Runs.pure _
  try dsimp only
  apply Runs.bind (load12 (S := S) _ _)
  apply Runs.bind (store12 (S := S) _ _ _ _)
  apply Runs.bind (load19 _ _)
  apply Runs.bind (load12 _ _)
  apply Runs.bind (store12 _ _ _ _)
  exact Runs.pure _

theorem runs_finish (c : Dev nD) (B : Bufs) (i : grid0.Coords) (h : k0_cond4 i = 1#1) (S : Cont F) (K : PUnit.{1} → Prog (TpuEff nD τ sig (Elt F) Λ₀ .tc) PUnit)
    (P : sProp 𝕄) (hK : Runs c (Own c B (finish i h S)) (K ⟨⟩) ⟨⟩ P) : Runs c (Own c B S) (branchFinish B i h K) ⟨⟩ P := by
  unfold branchFinish
  refine Runs.bind (P' := Own c B (finishN i h S k0_t2_loop.trips)) (v := accN i h S k0_t2_loop.trips)
    (Runs.loop k0_t2_loop (k0_t2_ok i h) _ (fun n => Own c B (finishN i h S n)) (accN i h S) (fun k => ?_)) ?_
  · have := runs_finishStep c B i h k (finishN i h S k.val) (accN i h S k.val)
    have e : finishN i h S (k.val + 1) = finishStep i h k (finishN i h S k.val) := by
      rw [finishN, dif_pos k.isLt]
    have e' : accN i h S (k.val + 1) = finishAcc i h k (finishN i h S k.val) (accN i h S k.val) := by
      rw [accN, dif_pos k.isLt]
    rw [e, e']
    exact this
  unfold finish at hK
  generalize finishN i h S k0_t2_loop.trips = T at hK ⊢
  generalize accN i h S k0_t2_loop.trips = a at hK ⊢
  apply Runs.bind (load15 _ _)
  apply Runs.bind (store15 _ _ _ _)
  exact hK

end Cert.KernelIdeal.Attn

end
-- ==== Proof.Attn.Step.lean ====
/- The body as one function of what its operands hold: fill at the head of a sequence, the block's two halves, finish at its end. -/
module

public import proofs.«01_k».proof.Proof.Attn.Canon
public import proofs.«01_k».proof.Proof.Attn.FirstRuns
public import proofs.«01_k».proof.Proof.Attn.LaterRuns
public import proofs.«01_k».proof.Proof.Attn.Ends

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The state after the body at coordinates `i`. -/
def step1 (i : grid0.Coords) (S : Cont F) : Cont F := if h : k0_cond1 i = 1#1 then fill i h S else S
def step2 (i : grid0.Coords) (S : Cont F) : Cont F := if h : k0_cond2 i = 1#1 then p1_end i h (p0_end i h S) else S
def step3 (i : grid0.Coords) (S : Cont F) : Cont F := if h : k0_cond3 i = 1#1 then r1_end i h (r0_end i h S) else S
def step4 (i : grid0.Coords) (S : Cont F) : Cont F := if h : k0_cond4 i = 1#1 then finish i h S else S
def step (i : grid0.Coords) (S : Cont F) : Cont F := step4 i (step3 i (step2 i (step1 i S)))

def tail4 (B : Bufs) (i : grid0.Coords) : Prog (TpuEff nD τ sig (Elt F) Λ₀ .tc) PUnit :=
  if h : k0_cond4 i = 1#1 then branchFinish B i h (fun _ => pure PUnit.unit) else pure PUnit.unit
def tail3 (B : Bufs) (i : grid0.Coords) : Prog (TpuEff nD τ sig (Elt F) Λ₀ .tc) PUnit :=
  if h : k0_cond3 i = 1#1 then branchLater B i h (fun _ => tail4 B i) else tail4 B i
def tail2 (B : Bufs) (i : grid0.Coords) : Prog (TpuEff nD τ sig (Elt F) Λ₀ .tc) PUnit :=
  if h : k0_cond2 i = 1#1 then branchFirst B i h (fun _ => tail3 B i) else tail3 B i
def tail1 (B : Bufs) (i : grid0.Coords) : Prog (TpuEff nD τ sig (Elt F) Λ₀ .tc) PUnit :=
  if h : k0_cond1 i = 1#1 then branchFill B i h (fun _ => tail2 B i) else tail2 B i

set_option maxHeartbeats 400000 in
theorem skel_eq (B : Bufs) (i : grid0.Coords) : cc0_attn_bwd_skel (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 = tail1 B i := by
  rfl

theorem runs_tail4 (c : Dev nD) (B : Bufs) (i : grid0.Coords) (T : Cont F) (P : sProp 𝕄)
    (hK : Runs c (Own c B (step4 i T)) (pure PUnit.unit) ⟨⟩ P) : Runs c (Own c B T) (tail4 B i) ⟨⟩ P := by
  unfold step4 at hK
  unfold tail4
  split
  · rename_i h
    rw [dif_pos h] at hK
    exact runs_finish c B i h T _ P hK
  · rename_i h
    rw [dif_neg h] at hK
    exact hK

theorem runs_tail3 (c : Dev nD) (B : Bufs) (i : grid0.Coords) (T : Cont F) (P : sProp 𝕄)
    (hK : Runs c (Own c B (step3 i T)) (tail4 B i) ⟨⟩ P) : Runs c (Own c B T) (tail3 B i) ⟨⟩ P := by
  unfold step3 at hK
  unfold tail3
  split
  · rename_i h
    rw [dif_pos h] at hK
    exact runs_branchLater c B i h T _ P hK
  · rename_i h
    rw [dif_neg h] at hK
    exact hK

theorem runs_tail2 (c : Dev nD) (B : Bufs) (i : grid0.Coords) (T : Cont F) (P : sProp 𝕄)
    (hK : Runs c (Own c B (step2 i T)) (tail3 B i) ⟨⟩ P) : Runs c (Own c B T) (tail2 B i) ⟨⟩ P := by
  unfold step2 at hK
  unfold tail2
  split
  · rename_i h
    rw [dif_pos h] at hK
    exact runs_branchFirst c B i h T _ P hK
  · rename_i h
    rw [dif_neg h] at hK
    exact hK

theorem runs_tail1 (c : Dev nD) (B : Bufs) (i : grid0.Coords) (T : Cont F) (P : sProp 𝕄)
    (hK : Runs c (Own c B (step1 i T)) (tail2 B i) ⟨⟩ P) : Runs c (Own c B T) (tail1 B i) ⟨⟩ P := by
  unfold step1 at hK
  unfold tail1
  split
  · rename_i h
    rw [dif_pos h] at hK
    exact runs_fill c B i h T _ P hK
  · rename_i h
    rw [dif_neg h] at hK
    exact hK

theorem runs_body (c : Dev nD) (B : Bufs) (i : grid0.Coords) (S : Cont F) :
    Runs c (Own c B S) (cc0_attn_bwd i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19) ⟨⟩ (Own c B (step i S)) := by
  rw [cc0_attn_bwd_eq_skeleton, skel_eq]
  unfold step
  exact runs_tail1 c B i _ _ (runs_tail2 c B i _ _ (runs_tail3 c B i _ _ (runs_tail4 c B i _ _ (Runs.pure _))))

end Cert.KernelIdeal.Attn

end
-- ==== Proof.Attn.Closed.lean ====
/- The body's four stages in closed form: each buffer a stage leaves as a function of the contents it starts from. -/
module

public import proofs.«01_k».proof.Proof.Attn.Step
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable {α : Type}

theorem window_at {s : Shape} (x : s.Idx → α) (off size : Fin s.rank → ℕ) (inb : ∀ a, off a + size a ≤ s.size a) (y z)
    (h : ∀ a, (z a).val = off a + (y a).val) : VecWindow.window x off size inb y = x z := by
  unfold VecWindow.window
  refine congrArg x (funext fun a => Fin.ext ?_)
  rw [h a]
  show off a + 1 * (y a).val = _
  omega

theorem put_in {s : Shape} (x : s.Idx → α) (off size : Fin s.rank → ℕ) (w : ((a : Fin s.rank) → Fin (size a)) → α) (y : s.Idx) (z)
    (h : ∀ a, (y a).val = off a + (z a).val) : VecWindow.put x off size w y = w z := by
  have h' : ∀ a, off a ≤ (y a).val ∧ (y a).val < off a + size a := fun a => by have := h a; have := (z a).isLt; omega
  unfold VecWindow.put
  rw [dif_pos h']
  refine congrArg w (funext fun a => Fin.ext ?_)
  rw [Rect.unitLocal_val, h a]
  omega

theorem put_out {s : Shape} (x : s.Idx → α) (off size : Fin s.rank → ℕ) (w : ((a : Fin s.rank) → Fin (size a)) → α) (y : s.Idx) (a)
    (h : (y a).val < off a ∨ off a + size a ≤ (y a).val) : VecWindow.put x off size w y = x y := by
  unfold VecWindow.put
  rw [dif_neg (fun h' => by have := h' a; omega)]

theorem put_all {s : Shape} (x : s.Idx → α) (off : Fin s.rank → ℕ) (w : ((a : Fin s.rank) → Fin (s.size a)) → α) (h : ∀ a, off a = 0) :
    VecWindow.put x off s.size w = w := funext fun y => put_in x off s.size w y y (fun a => by rw [h a]; omega)

theorem window_all {s : Shape} (x : s.Idx → α) (off : Fin s.rank → ℕ) (inb) (h : ∀ a, off a = 0) :
    VecWindow.window x off s.size inb = x := funext fun y => window_at x off s.size inb y y (fun a => by rw [h a]; omega)

theorem off00 : ∀ a : Fin 2, (![0, 0] : Fin 2 → ℕ) a = 0 := by decide
theorem off000 : ∀ a : Fin 3, (![0, 0, 0] : Fin 3 → ℕ) a = 0 := by decide
theorem off0000 : ∀ a : Fin 4, (![0, 0, 0, 0] : Fin 4 → ℕ) a = 0 := by decide

theorem off1_eq : ∀ k : Fin k0_t1_loop.trips, k0_off1 k = ![512 * k.val, 0] := by decide
theorem off2_eq : ∀ k : Fin k0_t1_loop.trips, k0_off2 k = ![512 + 512 * k.val, 0] := by decide
theorem off5_eq : ∀ k : Fin k0_t2_loop.trips, k0_off5 k = ![512 * k.val, 0] := by decide
theorem off6_eq : ∀ k : Fin k0_t2_loop.trips, k0_off6 k = ![512 + 512 * k.val, 0] := by decide
theorem off7_eq : ∀ k : Fin k0_t2_loop.trips, k0_off7 k = ![0, 512 * k.val, 0] := by decide
theorem off8_eq : ∀ k : Fin k0_t2_loop.trips, k0_off8 k = ![1, 512 * k.val, 0] := by decide
theorem trips1 : k0_t1_loop.trips = 16 := by decide
theorem trips2 : k0_t2_loop.trips = 16 := by decide

/-- Block `k` of 512 rows. -/
def blk512 (x : S8192x128.Idx → α) (k : ℕ) (hk : k < 16) : S512x128.Idx → α := fun y => x (ix2 ⟨512 * k + (y 0).val, by have : (y 0).val < 512 := (y 0).isLt; omega⟩ (y 1))
/-- Block `k` of 512 rows behind the padding. -/
def blkP (x : S8704x128.Idx → α) (k : ℕ) (hk : k < 16) : S512x128.Idx → α := fun y => x (ix2 ⟨512 + 512 * k + (y 0).val, by have : (y 0).val < 512 := (y 0).isLt; omega⟩ (y 1))

theorem put_in2 (x : S8704x128.Idx → α) (off : Fin 2 → ℕ) (w : S512x128.Idx → α) (y : S8704x128.Idx) (z : S512x128.Idx)
    (h0 : (y 0).val = off 0 + (z 0).val) (h1 : (y 1).val = off 1 + (z 1).val) : VecWindow.put (s := S8704x128) x off S512x128.size w y = w z :=
  put_in (s := S8704x128) x off S512x128.size w y z (fun a => by match a with | ⟨0, _⟩ => exact h0 | ⟨1, _⟩ => exact h1)

theorem put_in3 (x : S2x8192x128.Idx → α) (off : Fin 3 → ℕ) (w : S1x512x128.Idx → α) (y : S2x8192x128.Idx) (z : S1x512x128.Idx)
    (h0 : (y 0).val = off 0 + (z 0).val) (h1 : (y 1).val = off 1 + (z 1).val) (h2 : (y 2).val = off 2 + (z 2).val) :
    VecWindow.put (s := S2x8192x128) x off S1x512x128.size w y = w z :=
  put_in (s := S2x8192x128) x off S1x512x128.size w y z (fun a => by match a with | ⟨0, _⟩ => exact h0 | ⟨1, _⟩ => exact h1 | ⟨2, _⟩ => exact h2)

theorem put_in3' (x : S2x1024x128.Idx → α) (off : Fin 3 → ℕ) (w : S1x512x128.Idx → α) (y : S2x1024x128.Idx) (z : S1x512x128.Idx)
    (h0 : (y 0).val = off 0 + (z 0).val) (h1 : (y 1).val = off 1 + (z 1).val) (h2 : (y 2).val = off 2 + (z 2).val) :
    VecWindow.put (s := S2x1024x128) x off S1x512x128.size w y = w z :=
  put_in (s := S2x1024x128) x off S1x512x128.size w y z (fun a => by match a with | ⟨0, _⟩ => exact h0 | ⟨1, _⟩ => exact h1 | ⟨2, _⟩ => exact h2)

theorem window_rows (x : S8704x128.Idx → α) (k : ℕ) (hk : k < 16) (off : Fin 2 → ℕ) (inb) (ho : off = ![512 + 512 * k, 0]) :
    VecWindow.window (s := S8704x128) x off S512x128.size inb = blkP x k hk := by
  subst ho
  exact funext fun y => window_at (s := S8704x128) x _ S512x128.size inb y _ (fun a => by
    match a with | ⟨0, _⟩ => rfl | ⟨1, _⟩ => exact (Nat.zero_add _).symm)

theorem window_rows' (x : S8192x128.Idx → α) (k : ℕ) (hk : k < 16) (off : Fin 2 → ℕ) (inb) (ho : off = ![512 * k, 0]) :
    VecWindow.window (s := S8192x128) x off S512x128.size inb = blk512 x k hk := by
  subst ho
  exact funext fun y => window_at (s := S8192x128) x _ S512x128.size inb y _ (fun a => by
    match a with | ⟨0, _⟩ => rfl | ⟨1, _⟩ => exact (Nat.zero_add _).symm)

theorem window_off1 (x : S8192x128.Idx → α) (k : Fin k0_t1_loop.trips) (inb) (hk) :
    VecWindow.window (s := S8192x128) x (k0_off1 k) S512x128.size inb = blk512 x k.val hk := window_rows' x k.val hk _ inb (off1_eq k)

theorem window_off5 (x : S8192x128.Idx → α) (k : Fin k0_t2_loop.trips) (inb) (hk) :
    VecWindow.window (s := S8192x128) x (k0_off5 k) S512x128.size inb = blk512 x k.val hk := window_rows' x k.val hk _ inb (off5_eq k)

theorem window_off6 (x : S8704x128.Idx → α) (k : Fin k0_t2_loop.trips) (inb) (hk) :
    VecWindow.window (s := S8704x128) x (k0_off6 k) S512x128.size inb = blkP x k.val hk := window_rows x k.val hk _ inb (off6_eq k)

/-- The padded rows made of 512 rows of `z` and sixteen blocks `b`. -/
def padded (z : S512x128.Idx → α) (b : (k : ℕ) → k < 16 → S512x128.Idx → α) : S8704x128.Idx → α := fun y =>
  if h : (y 0).val < 512 then z (ix2 ⟨(y 0).val, h⟩ (y 1))
  else b ((y 0).val / 512 - 1) (by have : (y 0).val < 8704 := (y 0).isLt; omega) (ix2 ⟨(y 0).val % 512, by omega⟩ (y 1))

/-- The normed keys behind their padding. -/
def knAt (x3 : S8192x128.Idx → Elt F .f32) (x9 : S1x128.Idx → Elt F .f32) : S8704x128.Idx → Elt F .bf16 :=
  padded (k0_pay1 (F := F)) (fun k hk => k0_pay3 (blk512 x3 k hk) x9)

/-- The values behind their padding. -/
def vAt (x4 : S8192x128.Idx → Elt F .f32) : S8704x128.Idx → Elt F .bf16 :=
  padded (k0_pay2 (F := F)) (fun k hk => k0_pay4 (blk512 x4 k hk))

theorem put_padded_zero (z : S512x128.Idx → α) (b) (x : S8704x128.Idx → α) (y : S8704x128.Idx) (hy : (y 0).val < 512 * (0 + 1)) :
    VecWindow.put (s := S8704x128) x ![0, 0] S512x128.size z y = padded z b y := by
  have h0 : (y 0).val < 512 := by omega
  unfold padded
  rw [dif_pos h0]
  exact put_in x ![0, 0] S512x128.size z y (ix2 ⟨(y 0).val, h0⟩ (y 1)) (fun a => by match a with | ⟨0, _⟩ => exact (Nat.zero_add _).symm | ⟨1, _⟩ => exact (Nat.zero_add _).symm)

theorem put_padded_succ (z : S512x128.Idx → α) (b : (k : ℕ) → k < 16 → S512x128.Idx → α) (x : S8704x128.Idx → α) (n : ℕ) (hn : n < 16)
    (hx : ∀ y : S8704x128.Idx, (y 0).val < 512 * (n + 1) → x y = padded z b y) (y : S8704x128.Idx) (hy : (y 0).val < 512 * (n + 1 + 1))
    (off : Fin 2 → ℕ) (ho : off = ![512 + 512 * n, 0]) :
    VecWindow.put (s := S8704x128) x off S512x128.size (b n hn) y = padded z b y := by
  subst ho
  by_cases h : (y 0).val < 512 * (n + 1)
  · rw [← hx y h]
    exact put_out (s := S8704x128) x _ S512x128.size _ y 0 (Or.inl (by show (y 0).val < 512 + 512 * n; omega))
  · unfold padded
    rw [dif_neg (by omega)]
    have e : (y 0).val / 512 - 1 = n := by omega
    subst e
    exact put_in2 _ _ _ y (ix2 ⟨(y 0).val % 512, by omega⟩ (y 1)) (by show (y 0).val = 512 + 512 * ((y 0).val / 512 - 1) + (y 0).val % 512; omega) ((Nat.zero_add _).symm)

theorem fillN_keep (i : grid0.Coords) (h : k0_cond1 i = 1#1) (S : Cont F) (n : ℕ) :
    fillN i h S n = { S with x16 := (fillN i h S n).x16, x17 := (fillN i h S n).x17 } := by
  induction n with
  | zero => rfl
  | succ n ih =>
    rw [fillN]
    split
    · rw [fillStep, ih]
    · exact ih

theorem fillN_x16 (i : grid0.Coords) (h : k0_cond1 i = 1#1) (S : Cont F) (n : ℕ) (hn : n ≤ 16) :
    ∀ y : S8704x128.Idx, (y 0).val < 512 * (n + 1) → (fillN i h S n).x16 y = knAt S.x3 S.x9 y := by
  induction n with
  | zero => exact put_padded_zero _ _ _
  | succ n ih =>
    intro y hy
    have hn' : n < k0_t1_loop.trips := by rw [trips1]; omega
    rw [fillN, dif_pos hn', fillStep]
    dsimp only
    rw [fillN_keep i h S n]
    dsimp only
    rw [window_off1 S.x3 ⟨n, hn'⟩ _ (by omega : n < 16), window_all S.x9 _ _ off00]
    exact put_padded_succ _ (fun k hk => k0_pay3 (blk512 S.x3 k hk) S.x9) _ n (by omega) (ih (by omega)) y hy _ (off2_eq ⟨n, hn'⟩)

theorem fillN_x17 (i : grid0.Coords) (h : k0_cond1 i = 1#1) (S : Cont F) (n : ℕ) (hn : n ≤ 16) :
    ∀ y : S8704x128.Idx, (y 0).val < 512 * (n + 1) → (fillN i h S n).x17 y = vAt S.x4 y := by
  induction n with
  | zero => exact put_padded_zero _ _ _
  | succ n ih =>
    intro y hy
    have hn' : n < k0_t1_loop.trips := by rw [trips1]; omega
    rw [fillN, dif_pos hn', fillStep]
    dsimp only
    rw [fillN_keep i h S n]
    dsimp only
    rw [window_off1 S.x4 ⟨n, hn'⟩ _ (by omega : n < 16)]
    exact put_padded_succ _ (fun k hk => k0_pay4 (blk512 S.x4 k hk)) _ n (by omega) (ih (by omega)) y hy _ (off2_eq ⟨n, hn'⟩)

/-- The state at the head of a sequence. -/
def head (S : Cont F) : Cont F :=
  { S with x16 := knAt S.x3 S.x9, x17 := vAt S.x4, x18 := k0_pay5 (F := F), x19 := k0_pay6 (F := F), x13 := k0_pay7 (F := F), x14 := k0_pay8 (F := F) }

theorem fill_eq (i : grid0.Coords) (h : k0_cond1 i = 1#1) (S : Cont F) : fill i h S = head S := by
  have e16 : (fillN i h S k0_t1_loop.trips).x16 = knAt S.x3 S.x9 := funext fun y => fillN_x16 i h S _ (by rw [trips1]) y (by
    have : (y 0).val < 8704 := (y 0).isLt
    rw [trips1]; omega)
  have e17 : (fillN i h S k0_t1_loop.trips).x17 = vAt S.x4 := funext fun y => fillN_x17 i h S _ (by rw [trips1]) y (by
    have : (y 0).val < 8704 := (y 0).isLt
    rw [trips1]; omega)
  unfold fill fillEnd head
  rw [put_all _ _ _ off000, put_all _ _ _ off000, put_all _ _ _ off00, put_all _ _ _ off00, fillN_keep, e16, e17]

/-- Sixteen blocks of two results each. -/
def twoBlocks (a b : (k : ℕ) → k < 16 → S1x512x128.Idx → α) : S2x8192x128.Idx → α := fun y =>
  if (y 0).val = 0 then a ((y 1).val / 512) (by have : (y 1).val < 8192 := (y 1).isLt; omega) (ix3 0 ⟨(y 1).val % 512, by omega⟩ (y 2))
  else b ((y 1).val / 512) (by have : (y 1).val < 8192 := (y 1).isLt; omega) (ix3 0 ⟨(y 1).val % 512, by omega⟩ (y 2))

theorem put_twoBlocks (a b : (k : ℕ) → k < 16 → S1x512x128.Idx → α) (x : S2x8192x128.Idx → α) (n : ℕ) (hn : n < 16)
    (hx : ∀ y : S2x8192x128.Idx, (y 1).val < 512 * n → x y = twoBlocks a b y) (y : S2x8192x128.Idx) (hy : (y 1).val < 512 * (n + 1))
    (o p : Fin 3 → ℕ) (ho : o = ![0, 512 * n, 0]) (hp : p = ![1, 512 * n, 0]) :
    VecWindow.put (s := S2x8192x128) (VecWindow.put (s := S2x8192x128) x o S1x512x128.size (a n hn)) p S1x512x128.size (b n hn) y = twoBlocks a b y := by
  subst ho hp
  have h0 : (y 0).val < 2 := (y 0).isLt
  by_cases h : (y 1).val < 512 * n
  · rw [← hx y h, put_out (s := S2x8192x128) _ _ S1x512x128.size _ y 1 (Or.inl (by show (y 1).val < 512 * n; omega)),
      put_out (s := S2x8192x128) _ _ S1x512x128.size _ y 1 (Or.inl (by show (y 1).val < 512 * n; omega))]
  · have e : (y 1).val / 512 = n := by omega
    subst e
    unfold twoBlocks
    by_cases hz : (y 0).val = 0
    · rw [if_pos hz, put_out (s := S2x8192x128) _ _ S1x512x128.size _ y 0 (Or.inl (by show (y 0).val < 1; omega))]
      exact put_in3 _ _ _ y (ix3 0 ⟨(y 1).val % 512, by omega⟩ (y 2)) (hz) (by show (y 1).val = 512 * ((y 1).val / 512) + (y 1).val % 512; omega) ((Nat.zero_add _).symm)
    · rw [if_neg hz]
      exact put_in3 _ _ _ y (ix3 0 ⟨(y 1).val % 512, by omega⟩ (y 2)) (by show (y 0).val = 1 + 0; omega) (by show (y 1).val = 512 * ((y 1).val / 512) + (y 1).val % 512; omega) ((Nat.zero_add _).symm)

/-- The gradients of the keys and of the values, of a sequence. -/
def dkvAt (x3 : S8192x128.Idx → Elt F .f32) (x9 : S1x128.Idx → Elt F .f32) (x18 x19 : S8704x128.Idx → Elt F .f32) : S2x8192x128.Idx → Elt F .bf16 :=
  twoBlocks (fun k hk => k0_pay12 (k0_pay177 (blk512 x3 k hk) x9 (blkP x18 k hk))) (fun k hk => k0_pay13 (blkP x19 k hk))

/-- The gradient of the key norm's weight over `n` blocks. -/
def dknwN (x3 : S8192x128.Idx → Elt F .f32) (x18 : S8704x128.Idx → Elt F .f32) : ℕ → FVec F S1x128 .f32
  | 0 => k0_pay11 (F := F)
  | n + 1 => if hn : n < 16 then k0_pay14 (dknwN x3 x18 n) (k0_pay176 (blk512 x3 n hn) (blkP x18 n hn)) else dknwN x3 x18 n

theorem finishN_keep (i : grid0.Coords) (h : k0_cond4 i = 1#1) (S : Cont F) (n : ℕ) :
    finishN i h S n = { S with x12 := (finishN i h S n).x12 } := by
  induction n with
  | zero => rfl
  | succ n ih =>
    rw [finishN]
    split
    · rw [finishStep, ih]
    · exact ih

theorem finishN_x12 (i : grid0.Coords) (h : k0_cond4 i = 1#1) (S : Cont F) (n : ℕ) (hn : n ≤ 16) :
    ∀ y : S2x8192x128.Idx, (y 1).val < 512 * n → (finishN i h S n).x12 y = dkvAt S.x3 S.x9 S.x18 S.x19 y := by
  induction n with
  | zero => intro y hy; exact absurd hy (by omega)
  | succ n ih =>
    intro y hy
    have hn' : n < k0_t2_loop.trips := by rw [trips2]; omega
    rw [finishN, dif_pos hn', finishStep]
    dsimp only
    rw [finishN_keep i h S n]
    dsimp only
    rw [window_off5 S.x3 ⟨n, hn'⟩ _ (by omega : n < 16), window_all S.x9 _ _ off00, window_off6 S.x18 ⟨n, hn'⟩ _ (by omega : n < 16),
      window_off6 S.x19 ⟨n, hn'⟩ _ (by omega : n < 16)]
    exact put_twoBlocks (fun k hk => k0_pay12 (k0_pay177 (blk512 S.x3 k hk) S.x9 (blkP S.x18 k hk))) (fun k hk => k0_pay13 (blkP S.x19 k hk)) _ n (by omega)
      (ih (by omega)) y hy _ _ (off7_eq ⟨n, hn'⟩) (off8_eq ⟨n, hn'⟩)

theorem accN_eq (i : grid0.Coords) (h : k0_cond4 i = 1#1) (S : Cont F) (n : ℕ) (hn : n ≤ 16) : accN i h S n = dknwN S.x3 S.x18 n := by
  induction n with
  | zero => rfl
  | succ n ih =>
    have hn' : n < k0_t2_loop.trips := by rw [trips2]; omega
    rw [accN, dif_pos hn', finishAcc, finishN_keep i h S n, ih (by omega), dknwN, dif_pos (by omega : n < 16)]
    dsimp only
    rw [window_off5 S.x3 ⟨n, hn'⟩ _ (by omega : n < 16), window_off6 S.x18 ⟨n, hn'⟩ _ (by omega : n < 16)]

/-- The state at the end of a sequence. -/
def tail (S : Cont F) : Cont F :=
  { S with x12 := dkvAt S.x3 S.x9 S.x18 S.x19, x15 := k0_pay15 (dknwN S.x3 S.x18 16) }

theorem finish_eq (i : grid0.Coords) (h : k0_cond4 i = 1#1) (S : Cont F) : finish i h S = tail S := by
  have e12 : (finishN i h S k0_t2_loop.trips).x12 = dkvAt S.x3 S.x9 S.x18 S.x19 := funext fun y => finishN_x12 i h S _ (by rw [trips2]) y (by
    have : (y 1).val < 8192 := (y 1).isLt
    rw [trips2]; omega)
  unfold finish finishEnd tail
  rw [put_all _ _ _ off000, accN_eq i h S _ (by rw [trips2]), finishN_keep, e12, trips2]

/-- The block's two results from its two halves'. -/
def fourParts (a0 b0 a1 b1 : S1x512x128.Idx → α) : S2x1024x128.Idx → α := fun y =>
  if (y 0).val = 0 then
    if h : (y 1).val < 512 then a0 (ix3 0 ⟨(y 1).val, h⟩ (y 2)) else a1 (ix3 0 ⟨(y 1).val - 512, by have : (y 1).val < 1024 := (y 1).isLt; omega⟩ (y 2))
  else
    if h : (y 1).val < 512 then b0 (ix3 0 ⟨(y 1).val, h⟩ (y 2)) else b1 (ix3 0 ⟨(y 1).val - 512, by have : (y 1).val < 1024 := (y 1).isLt; omega⟩ (y 2))

theorem put_fourParts (a0 b0 a1 b1 : S1x512x128.Idx → α) (x : S2x1024x128.Idx → α) :
    VecWindow.put (s := S2x1024x128) (VecWindow.put (s := S2x1024x128) (VecWindow.put (s := S2x1024x128) (VecWindow.put (s := S2x1024x128) x
      ![0, 0, 0] S1x512x128.size a0) ![1, 0, 0] S1x512x128.size b0) ![0, 512, 0] S1x512x128.size a1) ![1, 512, 0] S1x512x128.size b1 = fourParts a0 b0 a1 b1 := by
  funext y
  have h0 : (y 0).val < 2 := (y 0).isLt
  have h1 : (y 1).val < 1024 := (y 1).isLt
  unfold fourParts
  by_cases hz : (y 0).val = 0
  · rw [if_pos hz, put_out (s := S2x1024x128) _ _ S1x512x128.size _ y 0 (Or.inl (by show (y 0).val < 1; omega))]
    by_cases hh : (y 1).val < 512
    · rw [dif_pos hh, put_out (s := S2x1024x128) _ _ S1x512x128.size _ y 1 (Or.inl (by show (y 1).val < 512; omega)),
        put_out (s := S2x1024x128) _ _ S1x512x128.size _ y 0 (Or.inl (by show (y 0).val < 1; omega))]
      exact put_in3' _ _ _ y (ix3 0 ⟨(y 1).val, hh⟩ (y 2)) (hz) ((Nat.zero_add _).symm) ((Nat.zero_add _).symm)
    · rw [dif_neg hh]
      exact put_in3' _ _ _ y (ix3 0 ⟨(y 1).val - 512, by omega⟩ (y 2)) (hz) (by show (y 1).val = 512 + ((y 1).val - 512); omega) ((Nat.zero_add _).symm)
  · rw [if_neg hz]
    by_cases hh : (y 1).val < 512
    · rw [dif_pos hh, put_out (s := S2x1024x128) _ _ S1x512x128.size _ y 1 (Or.inl (by show (y 1).val < 512; omega)),
        put_out (s := S2x1024x128) _ _ S1x512x128.size _ y 1 (Or.inl (by show (y 1).val < 512; omega))]
      exact put_in3' _ _ _ y (ix3 0 ⟨(y 1).val, hh⟩ (y 2)) (by show (y 0).val = 1 + 0; omega) ((Nat.zero_add _).symm) ((Nat.zero_add _).symm)
    · rw [dif_neg hh]
      exact put_in3' _ _ _ y (ix3 0 ⟨(y 1).val - 512, by omega⟩ (y 2)) (by show (y 0).val = 1 + 0; omega) (by show (y 1).val = 512 + ((y 1).val - 512); omega) ((Nat.zero_add _).symm)

/-- The state after both halves, from what each reads. -/
def halves (I0 I1 : In F) (o0 o1 : Offs) (S : Cont F) : Cont F :=
  { S with
    x11 := fourParts (k0_pay42 I0.dq) (k0_pay43 I0.dz) (k0_pay42 I1.dq) (k0_pay43 I1.dz)
    x18 := addWin o1 I1.dk (addWin o0 I0.dk S.x18)
    x19 := addWin o1 I1.dv (addWin o0 I0.dv S.x19)
    x13 := k0_pay53 I1.db (k0_pay53 I0.db S.x13)
    x14 := k0_pay54 I1.dw (k0_pay54 I0.dw S.x14) }

theorem half_half (I0 I1 : In F) (o0 o1 : Offs) (S : Cont F) : half 512 I1 o1 (half 0 I0 o0 S) = halves I0 I1 o0 o1 S := by
  unfold half halves
  dsimp only
  simp only [put_all (s := S1x128x640) _ _ _ off000, put_all (s := S1x1x128) _ _ _ off000, window_all (s := S1x128x640) _ _ _ off000,
    window_all (s := S1x1x128) _ _ _ off000]
  rw [put_fourParts]

def first (i : grid0.Coords) (h : k0_cond2 i = 1#1) (S : Cont F) : Cont F := halves (p0_in i h S) (p1_in i h S) (p0_offs i h) (p1_offs i h) S
def later (i : grid0.Coords) (h : k0_cond3 i = 1#1) (S : Cont F) : Cont F := halves (r0_in i h S) (r1_in i h S) (r0_offs i h) (r1_offs i h) S

theorem first_eq (i : grid0.Coords) (h : k0_cond2 i = 1#1) (S : Cont F) : p1_end i h (p0_end i h S) = first i h S := by
  rw [p1_eq, p0_eq, half_half]
  rfl

theorem later_eq (i : grid0.Coords) (h : k0_cond3 i = 1#1) (S : Cont F) : r1_end i h (r0_end i h S) = later i h S := by
  rw [r1_eq, r0_eq, half_half]
  rfl

end Cert.KernelIdeal.Attn

end
-- ==== Proof.Attn.Cong.lean ====
/- What a step of the body makes of two states that differ only in what it overwrites. -/
module

public import proofs.«01_k».proof.Proof.Attn.Closed

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A state with three of its results replaced. -/
abbrev over (S : Cont F) (Y : S2x1024x128.Idx → Elt F .bf16) (Z : S2x8192x128.Idx → Elt F .bf16) (W : S1x1x128.Idx → Elt F .f32) : Cont F :=
  { S with x11 := Y, x12 := Z, x15 := W }

theorem first_over (i : grid0.Coords) (h : k0_cond2 i = 1#1) (S : Cont F) (Y Z W) :
    first i h (over S Y Z W) = over (first i h S) (first i h S).x11 Z W := by
  unfold first halves
  rw [show p0_in i h (over S Y Z W) = p0_in i h S from rfl, show p1_in i h (over S Y Z W) = p1_in i h S from rfl]

theorem later_over (i : grid0.Coords) (h : k0_cond3 i = 1#1) (S : Cont F) (Y Z W) :
    later i h (over S Y Z W) = over (later i h S) (later i h S).x11 Z W := by
  unfold later halves
  rw [show r0_in i h (over S Y Z W) = r0_in i h S from rfl, show r1_in i h (over S Y Z W) = r1_in i h S from rfl]

theorem tail_over (S : Cont F) (Z W) : tail (over S S.x11 Z W) = tail S := rfl

/-- The two states hold the same operands. -/
structure SameIn (S S' : Cont F) : Prop where
  x2 : S'.x2 = S.x2
  x3 : S'.x3 = S.x3
  x4 : S'.x4 = S.x4
  x5 : S'.x5 = S.x5
  x6 : S'.x6 = S.x6
  x7 : S'.x7 = S.x7
  x8 : S'.x8 = S.x8
  x9 : S'.x9 = S.x9
  x10 : S'.x10 = S.x10

/-- The two states hold the same in what a step hands to the next. -/
structure SameCarry (S S' : Cont F) : Prop where
  x13 : S'.x13 = S.x13
  x14 : S'.x14 = S.x14
  x16 : S'.x16 = S.x16
  x17 : S'.x17 = S.x17
  x18 : S'.x18 = S.x18
  x19 : S'.x19 = S.x19

theorem SameIn.head {S S' : Cont F} (h : SameIn S S') : Attn.head S' = over (Attn.head S) S'.x11 S'.x12 S'.x15 := by
  obtain ⟨h2, h3, h4, h5, h6, h7, h8, h9, h10⟩ := h
  unfold Attn.head
  rw [h2, h3, h4, h5, h6, h7, h8, h9, h10]

theorem SameIn.over {S S' : Cont F} (h : SameIn S S') (k : SameCarry S S') : S' = over S S'.x11 S'.x12 S'.x15 := by
  obtain ⟨h2, h3, h4, h5, h6, h7, h8, h9, h10⟩ := h
  obtain ⟨h13, h14, h16, h17, h18, h19⟩ := k
  ext1 <;> first | assumption | rfl

/-- The head step's and a later step's state before the sequence's end. -/
def mid (i : grid0.Coords) (S : Cont F) : Cont F := step3 i (step2 i (step1 i S))

theorem mid_head (i : grid0.Coords) (h1 : k0_cond1 i = 1#1) (h2 : k0_cond2 i = 1#1) (h3 : ¬ k0_cond3 i = 1#1) (S : Cont F) : mid i S = first i h2 (head S) := by
  unfold mid step1 step2 step3
  rw [dif_pos h1, dif_pos h2, dif_neg h3, first_eq, fill_eq]

theorem mid_later (i : grid0.Coords) (h1 : ¬ k0_cond1 i = 1#1) (h2 : ¬ k0_cond2 i = 1#1) (h3 : k0_cond3 i = 1#1) (S : Cont F) : mid i S = later i h3 S := by
  unfold mid step1 step2 step3
  rw [dif_neg h1, dif_neg h2, dif_pos h3, later_eq]

theorem step_last (i : grid0.Coords) (h : k0_cond4 i = 1#1) (S : Cont F) : step i S = tail (mid i S) := by
  unfold step step4
  rw [dif_pos h, finish_eq]
  rfl

theorem step_mid (i : grid0.Coords) (h : ¬ k0_cond4 i = 1#1) (S : Cont F) : step i S = mid i S := by
  unfold step step4
  rw [dif_neg h]
  rfl

/-- The conditions of a point: at the head of a sequence the first two, elsewhere the third. -/
def Conds (i : grid0.Coords) : Prop :=
  (k0_cond1 i = 1#1 ∧ k0_cond2 i = 1#1 ∧ ¬ k0_cond3 i = 1#1) ∨ (¬ k0_cond1 i = 1#1 ∧ ¬ k0_cond2 i = 1#1 ∧ k0_cond3 i = 1#1)

theorem mid_same (i : grid0.Coords) (hi : Conds i) {S S' : Cont F} (h : SameIn S S') (k : ¬ k0_cond1 i = 1#1 → SameCarry S S') :
    mid i S' = over (mid i S) (mid i S).x11 S'.x12 S'.x15 := by
  rcases hi with ⟨h1, h2, h3⟩ | ⟨h1, h2, h3⟩
  · rw [mid_head i h1 h2 h3, mid_head i h1 h2 h3, h.head, first_over]
  · rw [mid_later i h1 h2 h3, mid_later i h1 h2 h3, h.over (k h1), later_over]

/-- A step's state from another's, at a sequence's last block. -/
theorem step_same_last (i : grid0.Coords) (hi : Conds i) (h4 : k0_cond4 i = 1#1) {S S' : Cont F} (h : SameIn S S')
    (k : ¬ k0_cond1 i = 1#1 → SameCarry S S') : step i S' = step i S := by
  rw [step_last i h4, step_last i h4, mid_same i hi h k, tail_over]

/-- A step's state from another's, before a sequence's last block. -/
theorem step_same_mid (i : grid0.Coords) (hi : Conds i) (h4 : ¬ k0_cond4 i = 1#1) {S S' : Cont F} (h : SameIn S S')
    (k : ¬ k0_cond1 i = 1#1 → SameCarry S S') : step i S' = over (step i S) (step i S).x11 S'.x12 S'.x15 := by
  rw [step_mid i h4, step_mid i h4, mid_same i hi h k]

/-- A step leaves its operands as they are. -/
theorem mid_in (i : grid0.Coords) (hi : Conds i) (S : Cont F) : SameIn S (mid i S) := by
  rcases hi with ⟨h1, h2, h3⟩ | ⟨h1, h2, h3⟩
  · rw [mid_head i h1 h2 h3]; exact ⟨rfl, rfl, rfl, rfl, rfl, rfl, rfl, rfl, rfl⟩
  · rw [mid_later i h1 h2 h3]; exact ⟨rfl, rfl, rfl, rfl, rfl, rfl, rfl, rfl, rfl⟩

theorem step_in (i : grid0.Coords) (hi : Conds i) (S : Cont F) : SameIn S (step i S) := by
  by_cases h4 : k0_cond4 i = 1#1
  · rw [step_last i h4]
    obtain ⟨h2, h3, h4, h5, h6, h7, h8, h9, h10⟩ := mid_in i hi S
    exact ⟨h2, h3, h4, h5, h6, h7, h8, h9, h10⟩
  · rw [step_mid i h4]; exact mid_in i hi S

theorem conds_all : ∀ t : Fin grid0.N, Conds (grid0.coords t) := by unfold Conds; decide

end Cert.KernelIdeal.Attn

end
-- ==== Proof.Attn.Data.lean ====
/- The states of the buffers from point to point, and the proof data of the pipeline that they make. -/
module

public import proofs.«01_k».proof.Proof.Attn.Cong

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A state with the operands of point `t`. -/
def load (c : Dev nD) (t : Fin cfg0.N) (S : Cont F) : Cont F :=
  { S with
    x2 := iblk m c 0 t
    x3 := iblk m c 1 t
    x4 := iblk m c 2 t
    x5 := iblk m c 3 t
    x6 := iblk m c 4 t
    x7 := iblk m c 5 t
    x8 := iblk m c 6 t
    x9 := iblk m c 7 t
    x10 := iblk m c 8 t }

/-- The first point. -/
def t0 : Fin cfg0.N := ⟨0, by decide⟩

/-- A state of zeros under the first point's operands. -/
def start (c : Dev nD) : Cont F where
  x2 := iblk m c 0 t0
  x3 := iblk m c 1 t0
  x4 := iblk m c 2 t0
  x5 := iblk m c 3 t0
  x6 := iblk m c 4 t0
  x7 := iblk m c 5 t0
  x8 := iblk m c 6 t0
  x9 := iblk m c 7 t0
  x10 := iblk m c 8 t0
  x11 := constant S2x1024x128 .bf16 0x0000#16
  x12 := constant S2x8192x128 .bf16 0x0000#16
  x13 := constant S1x128x640 .f32 0x00000000#32
  x14 := constant S1x1x128 .f32 0x00000000#32
  x15 := constant S1x1x128 .f32 0x00000000#32
  x16 := constant S8704x128 .bf16 0x0000#16
  x17 := constant S8704x128 .bf16 0x0000#16
  x18 := constant S8704x128 .f32 0x00000000#32
  x19 := constant S8704x128 .f32 0x00000000#32

/-- The states after the points, one after another. -/
def canS (c : Dev nD) : ℕ → Cont F
  | 0 => step (grid0.coords t0) (load m c t0 (start m c))
  | n + 1 => if h : n + 1 < cfg0.N then step (grid0.coords ⟨n + 1, h⟩) (load m c ⟨n + 1, h⟩ (canS c n)) else canS c n

/-- The state before point `t`. -/
def before (c : Dev nD) (t : Fin cfg0.N) : Cont F := load m c t (if t.val = 0 then start m c else canS m c (t.val - 1))

theorem canS_eq (c : Dev nD) (t : Fin cfg0.N) : canS m c t.val = step (grid0.coords t) (before m c t) := by
  obtain ⟨n, hn⟩ := t
  cases n with
  | zero => rfl
  | succ n =>
    unfold before
    rw [if_neg (Nat.succ_ne_zero n)]
    dsimp only
    rw [canS, dif_pos hn]
    rfl

/-- What the four carried buffers hold before the point `k`. -/
def carried (c : Dev nD) (k : ℕ) : sProp 𝕄 :=
  iprop(∃ (X16 X17 : S8704x128.Idx → Elt F .bf16) (X18 X19 : S8704x128.Idx → Elt F .f32),
    ⌜k ≠ 0 → X16 = (canS m c (k - 1)).x16 ∧ X17 = (canS m c (k - 1)).x17 ∧ X18 = (canS m c (k - 1)).x18 ∧ X19 = (canS m c (k - 1)).x19⌝
    ∗ owns (c : Thread nD τ) (Memref.whole cc0_scratch0) fullShare X16
    ∗ owns (c : Thread nD τ) (Memref.whole cc0_scratch1) fullShare X17
    ∗ owns (c : Thread nD τ) (Memref.whole cc0_scratch2) fullShare X18
    ∗ owns (c : Thread nD τ) (Memref.whole cc0_scratch3) fullShare X19
    ∗ (∃ r, prngReg c r))

/-- The proof data of the pipeline on core `c`. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (canS m c t.val).x11
    | ⟨10, _⟩ => (canS m c t.val).x12
    | ⟨11, _⟩ => (canS m c t.val).x13
    | ⟨12, _⟩ => (canS m c t.val).x14
    | ⟨13, _⟩ => (canS m c t.val).x15
  Φ k := carried m c k.val
  q w := Pipeline.shareOf spec0 w
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  before0_0_of m (dats m 0 c) (A_eq m c 0) (fun _ => by dsimp only [dats]) t d
theorem after0 (c : Dev nD) (t : Fin cfg0.N) : (dats m 0 c).after 0 t = iblk m c 0 t := by dsimp only [dats]

theorem before1 (c : Dev nD) (t : Fin cfg0.N) (d) : (dats m 0 c).before 1 t d = iblk m c 1 t :=
  before0_1_of m (dats m 0 c) (A_eq m c 1) (fun _ => by dsimp only [dats]) t d
theorem after1 (c : Dev nD) (t : Fin cfg0.N) : (dats m 0 c).after 1 t = iblk m c 1 t := by dsimp only [dats]

theorem before2 (c : Dev nD) (t : Fin cfg0.N) (d) : (dats m 0 c).before 2 t d = iblk m c 2 t :=
  before0_2_of m (dats m 0 c) (A_eq m c 2) (fun _ => by dsimp only [dats]) t d
theorem after2 (c : Dev nD) (t : Fin cfg0.N) : (dats m 0 c).after 2 t = iblk m c 2 t := by dsimp only [dats]

theorem before3 (c : Dev nD) (t : Fin cfg0.N) (d) : (dats m 0 c).before 3 t d = iblk m c 3 t :=
  before0_3_of m (dats m 0 c) (A_eq m c 3) (fun _ => by dsimp only [dats]) t d
theorem after3 (c : Dev nD) (t : Fin cfg0.N) : (dats m 0 c).after 3 t = iblk m c 3 t := by dsimp only [dats]

theorem before4 (c : Dev nD) (t : Fin cfg0.N) (d) : (dats m 0 c).before 4 t d = iblk m c 4 t :=
  before0_4_of m (dats m 0 c) (A_eq m c 4) (fun _ => by dsimp only [dats]) t d
theorem after4 (c : Dev nD) (t : Fin cfg0.N) : (dats m 0 c).after 4 t = iblk m c 4 t := by dsimp only [dats]

theorem before5 (c : Dev nD) (t : Fin cfg0.N) (d) : (dats m 0 c).before 5 t d = iblk m c 5 t :=
  before0_5_of m (dats m 0 c) (A_eq m c 5) (fun _ => by dsimp only [dats]) t d
theorem after5 (c : Dev nD) (t : Fin cfg0.N) : (dats m 0 c).after 5 t = iblk m c 5 t := by dsimp only [dats]

theorem before6 (c : Dev nD) (t : Fin cfg0.N) (d) : (dats m 0 c).before 6 t d = iblk m c 6 t :=
  before0_6_of m (dats m 0 c) (A_eq m c 6) (fun _ => by dsimp only [dats]) t d
theorem after6 (c : Dev nD) (t : Fin cfg0.N) : (dats m 0 c).after 6 t = iblk m c 6 t := by dsimp only [dats]

theorem before7 (c : Dev nD) (t : Fin cfg0.N) (d) : (dats m 0 c).before 7 t d = iblk m c 7 t :=
  before0_7_of m (dats m 0 c) (A_eq m c 7) (fun _ => by dsimp only [dats]) t d
theorem after7 (c : Dev nD) (t : Fin cfg0.N) : (dats m 0 c).after 7 t = iblk m c 7 t := by dsimp only [dats]

theorem before8 (c : Dev nD) (t : Fin cfg0.N) (d) : (dats m 0 c).before 8 t d = iblk m c 8 t :=
  before0_8_of m (dats m 0 c) (A_eq m c 8) (fun _ => by dsimp only [dats]) t d
theorem after8 (c : Dev nD) (t : Fin cfg0.N) : (dats m 0 c).after 8 t = iblk m c 8 t := by dsimp only [dats]

theorem after9 (c : Dev nD) (t : Fin cfg0.N) : (dats m 0 c).after 9 t = (canS m c t.val).x11 := by dsimp only [dats]

theorem after10 (c : Dev nD) (t : Fin cfg0.N) : (dats m 0 c).after 10 t = (canS m c t.val).x12 := by dsimp only [dats]

theorem after11 (c : Dev nD) (t : Fin cfg0.N) : (dats m 0 c).after 11 t = (canS m c t.val).x13 := by dsimp only [dats]

theorem after12 (c : Dev nD) (t : Fin cfg0.N) : (dats m 0 c).after 12 t = (canS m c t.val).x14 := by dsimp only [dats]

theorem after13 (c : Dev nD) (t : Fin cfg0.N) : (dats m 0 c).after 13 t = (canS m c t.val).x15 := by dsimp only [dats]

theorem fetch_out (w : Fin 14) (hw : 9 ≤ w.val) (t : Fin cfg0.N) : (cfg0.win w).fetch t = false := by
  match w, hw with
  | ⟨9, _⟩, _ => rfl
  | ⟨10, _⟩, _ => rfl
  | ⟨11, _⟩, _ => rfl
  | ⟨12, _⟩, _ => rfl
  | ⟨13, _⟩, _ => rfl

theorem idle11 : ∀ t : Fin grid0.N, idle0 11 (grid0.coords t) = false := by decide
theorem idle12 : ∀ t : Fin grid0.N, idle0 12 (grid0.coords t) = false := by decide
theorem idle9 : ∀ t : Fin grid0.N, idle0 9 (grid0.coords t) = false := by decide
theorem idle10 : ∀ t : Fin grid0.N, idle0 10 (grid0.coords t) = !decide (t.val % 8 = 7) := by decide
theorem idle13 : ∀ t : Fin grid0.N, idle0 13 (grid0.coords t) = !decide (t.val % 8 = 7) := by decide
theorem cond1_iff : ∀ t : Fin grid0.N, k0_cond1 (grid0.coords t) = 1#1 ↔ t.val % 8 = 0 := by decide
theorem cond4_iff : ∀ t : Fin grid0.N, k0_cond4 (grid0.coords t) = 1#1 ↔ t.val % 8 = 7 := by decide

/-- The bias gradient's buffer holds, inside a sequence, what the last point left. -/
theorem before11 (c : Dev nD) (t : Fin cfg0.N) (ht : t.val % 8 ≠ 0) (d) : (dats m 0 c).before 11 t d = (canS m c (t.val - 1)).x13 := by
  have h0 : t.val ≠ 0 := by omega
  have hf : ¬ ((cfg0.win 11).flush ⟨t.val - 1, Nat.lt_of_le_of_lt (Nat.sub_le _ _) t.isLt⟩ = true) := by
    rw [flush0_11]; show ¬ ((t.val - 1) % 8 = 7); omega
  rw [(dats m 0 c).before_of_pos 11 t h0 (fetch_out 11 (by decide) t) d, if_neg hf]
  unfold Pipeline.Dat.left
  rw [show cfg0.idle 11 (cfg0.grid.coords ⟨t.val - 1, Nat.lt_of_le_of_lt (Nat.sub_le _ _) t.isLt⟩) = false from idle11 _]
  rfl

theorem before12 (c : Dev nD) (t : Fin cfg0.N) (ht : t.val % 8 ≠ 0) (d) : (dats m 0 c).before 12 t d = (canS m c (t.val - 1)).x14 := by
  have h0 : t.val ≠ 0 := by omega
  have hf : ¬ ((cfg0.win 12).flush ⟨t.val - 1, Nat.lt_of_le_of_lt (Nat.sub_le _ _) t.isLt⟩ = true) := by
    rw [flush0_12]; show ¬ ((t.val - 1) % 8 = 7); omega
  rw [(dats m 0 c).before_of_pos 12 t h0 (fetch_out 12 (by decide) t) d, if_neg hf]
  unfold Pipeline.Dat.left
  rw [show cfg0.idle 12 (cfg0.grid.coords ⟨t.val - 1, Nat.lt_of_le_of_lt (Nat.sub_le _ _) t.isLt⟩) = false from idle12 _]
  rfl

/-- A buffer that only a sequence's last point fills holds what it held, whatever that is. -/
theorem before_idle (c : Dev nD) (w : Fin cfg0.W) (hw : 9 ≤ w.val)
    (hfl : ∀ t : Fin cfg0.N, (cfg0.win w).flush t = true ↔ t.val % 8 = 7)
    (hid : ∀ t : Fin cfg0.N, cfg0.idle w (cfg0.grid.coords t) = !decide (t.val % 8 = 7)) (d) :
    ∀ (n : ℕ) (t : Fin cfg0.N), t.val = n → (dats m 0 c).before w t d = d := by
  intro n
  induction n with
  | zero =>
    intro t ht
    unfold Pipeline.Dat.before
    rw [fetch_out w hw t, if_neg Bool.false_ne_true, if_pos ht]
  | succ n ih =>
    intro t ht
    rw [(dats m 0 c).before_of_pos w t (by omega) (fetch_out w hw t) d]
    split
    · rfl
    · rename_i hf
      rw [hfl] at hf
      unfold Pipeline.Dat.left
      rw [hid, decide_eq_false hf]
      exact ih _ (by show t.val - 1 = n; omega)

theorem before10 (c : Dev nD) (t : Fin cfg0.N) (d) : (dats m 0 c).before 10 t d = d :=
  before_idle m c 10 (by decide) flush0_10 idle10 d t.val t rfl
theorem before13 (c : Dev nD) (t : Fin cfg0.N) (d) : (dats m 0 c).before 13 t d = d :=
  before_idle m c 13 (by decide) flush0_13 idle13 d t.val t rfl

end Cert.KernelIdeal.Attn

end
-- ==== Proof.Attn.Body.lean ====
/- The body at one point of the grid. -/
module

public import proofs.«01_k».proof.Proof.Attn.Data

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The pieces of the operands, the carried buffers' first, two of them under whatever is to be said of them. -/
theorem own_split (c : Dev nD) (B : Bufs) (S : Cont F) (P12 P15 : sProp 𝕄) (h12 : owns (c : Thread nD τ) B.a12 fullShare S.x12 ⊢ P12)
    (h15 : owns (c : Thread nD τ) B.a15 fullShare S.x15 ⊢ P15) :
    Own c B S ⊢ iprop(owns (c : Thread nD τ) B.a16 fullShare S.x16
    ∗ owns (c : Thread nD τ) B.a17 fullShare S.x17
    ∗ owns (c : Thread nD τ) B.a18 fullShare S.x18
    ∗ owns (c : Thread nD τ) B.a19 fullShare S.x19
    ∗ owns (c : Thread nD τ) B.a2 fullShare S.x2
    ∗ owns (c : Thread nD τ) B.a3 fullShare S.x3
    ∗ owns (c : Thread nD τ) B.a4 fullShare S.x4
    ∗ owns (c : Thread nD τ) B.a5 fullShare S.x5
    ∗ owns (c : Thread nD τ) B.a6 fullShare S.x6
    ∗ owns (c : Thread nD τ) B.a7 fullShare S.x7
    ∗ owns (c : Thread nD τ) B.a8 fullShare S.x8
    ∗ owns (c : Thread nD τ) B.a9 fullShare S.x9
    ∗ owns (c : Thread nD τ) B.a10 fullShare S.x10
    ∗ owns (c : Thread nD τ) B.a11 fullShare S.x11
    ∗ P12
    ∗ owns (c : Thread nD τ) B.a13 fullShare S.x13
    ∗ owns (c : Thread nD τ) B.a14 fullShare S.x14
    ∗ P15) := by
  unfold Own
  iintro ⟨H2, H3, H4, H5, H6, H7, H8, H9, H10, H11, H12, H13, H14, H15, H16, H17, H18, H19⟩
  isplitl [H16]; · iexact H16
  isplitl [H17]; · iexact H17
  isplitl [H18]; · iexact H18
  isplitl [H19]; · iexact H19
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply h12; iexact H12
  isplitl [H13]; · iexact H13
  isplitl [H14]; · iexact H14
  iapply h15; iexact H15

/-- A run of a program on the operands, from what the pipeline hands it. -/
theorem run_operands (c : Dev nD) (B : Bufs) (p : Prog (TpuEff nD τ sig (Elt F) Λ₀ .tc) PUnit) (C : (S8704x128.Idx → Elt F .bf16) → (S8704x128.Idx → Elt F .bf16) → (S8704x128.Idx → Elt F .f32) → (S8704x128.Idx → Elt F .f32) → Prop)
    (X2 : S1024x128.Idx → Elt F .f32) (X3 : S8192x128.Idx → Elt F .f32) (X4 : S8192x128.Idx → Elt F .f32) (X5 : S1024x128.Idx → Elt F .f32) (X6 : S1x4x128x640.Idx → Elt F .f32) (X7 : S1x1x128x640.Idx → Elt F .f32) (X8 : S1x128.Idx → Elt F .f32) (X9 : S1x128.Idx → Elt F .f32) (X10 : S1024x128.Idx → Elt F .f32)
    {D2 : Type} (f2 : D2 → S1024x128.Idx → Elt F .f32) {D3 : Type} (f3 : D3 → S8192x128.Idx → Elt F .f32) {D4 : Type} (f4 : D4 → S8192x128.Idx → Elt F .f32) {D5 : Type} (f5 : D5 → S1024x128.Idx → Elt F .f32) {D6 : Type} (f6 : D6 → S1x4x128x640.Idx → Elt F .f32) {D7 : Type} (f7 : D7 → S1x1x128x640.Idx → Elt F .f32) {D8 : Type} (f8 : D8 → S1x128.Idx → Elt F .f32) {D9 : Type} (f9 : D9 → S1x128.Idx → Elt F .f32) {D10 : Type} (f10 : D10 → S1024x128.Idx → Elt F .f32) {D11 : Type} (f11 : D11 → S2x1024x128.Idx → Elt F .bf16) {D12 : Type} (f12 : D12 → S2x8192x128.Idx → Elt F .bf16) {D13 : Type} (f13 : D13 → S1x128x640.Idx → Elt F .f32) {D14 : Type} (f14 : D14 → S1x1x128.Idx → Elt F .f32) {D15 : Type} (f15 : D15 → S1x1x128.Idx → Elt F .f32)
    (e2 : ∀ d, f2 d = X2) (e3 : ∀ d, f3 d = X3) (e4 : ∀ d, f4 d = X4) (e5 : ∀ d, f5 d = X5) (e6 : ∀ d, f6 d = X6) (e7 : ∀ d, f7 d = X7) (e8 : ∀ d, f8 d = X8) (e9 : ∀ d, f9 d = X9) (e10 : ∀ d, f10 d = X10)
    (PR HW Q : sProp 𝕄)
    (run : ∀ d9 d10 d11 d12 d13 Y0 Y1 Y2 Y3, C Y0 Y1 Y2 Y3 → ∀ R : sProp 𝕄, iprop(Own c B ⟨X2, X3, X4, X5, X6, X7, X8, X9, X10, f11 d9, f12 d10, f13 d11, f14 d12, f15 d13, Y0, Y1, Y2, Y3⟩ ∗ R)
      ⊢ wp frame (wpE (defs₀ (F := F)) Variants.none (c : Thread nD τ) none) Set.univ p (fun _ => iprop(Q ∗ R))) :
    iprop((∃ Y0 Y1 Y2 Y3, ⌜C Y0 Y1 Y2 Y3⌝ ∗ owns (c : Thread nD τ) B.a16 fullShare Y0 ∗ owns (c : Thread nD τ) B.a17 fullShare Y1
        ∗ owns (c : Thread nD τ) B.a18 fullShare Y2 ∗ owns (c : Thread nD τ) B.a19 fullShare Y3 ∗ PR) ∗ HW
      ∗ (∃ d, owns (c : Thread nD τ) B.a2 fullShare (f2 d))
      ∗ (∃ d, owns (c : Thread nD τ) B.a3 fullShare (f3 d))
      ∗ (∃ d, owns (c : Thread nD τ) B.a4 fullShare (f4 d))
      ∗ (∃ d, owns (c : Thread nD τ) B.a5 fullShare (f5 d))
      ∗ (∃ d, owns (c : Thread nD τ) B.a6 fullShare (f6 d))
      ∗ (∃ d, owns (c : Thread nD τ) B.a7 fullShare (f7 d))
      ∗ (∃ d, owns (c : Thread nD τ) B.a8 fullShare (f8 d))
      ∗ (∃ d, owns (c : Thread nD τ) B.a9 fullShare (f9 d))
      ∗ (∃ d, owns (c : Thread nD τ) B.a10 fullShare (f10 d))
      ∗ (∃ d, owns (c : Thread nD τ) B.a11 fullShare (f11 d))
      ∗ (∃ d, owns (c : Thread nD τ) B.a12 fullShare (f12 d))
      ∗ (∃ d, owns (c : Thread nD τ) B.a13 fullShare (f13 d))
      ∗ (∃ d, owns (c : Thread nD τ) B.a14 fullShare (f14 d))
      ∗ (∃ d, owns (c : Thread nD τ) B.a15 fullShare (f15 d)))
      ⊢ wp frame (wpE (defs₀ (F := F)) Variants.none (c : Thread nD τ) none) Set.univ p (fun _ => iprop(Q ∗ (PR ∗ HW))) := by
  iintro ⟨⟨%Y0, %Y1, %Y2, %Y3, %hY, H16, H17, H18, H19, HP⟩, HW, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  rw [e2 d2]
  rw [e3 d3]
  rw [e4 d4]
  rw [e5 d5]
  rw [e6 d6]
  rw [e7 d7]
  rw [e8 d8]
  rw [e9 d9]
  rw [e10 d10]
  iapply (run d11 d12 d13 d14 d15 Y0 Y1 Y2 Y3 hY iprop(PR ∗ HW))
  isplitr [HP HW]
  · unfold Own
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  isplitl [HP]; · iexact HP
  iexact HW

variable (m : (ℓ : Loc nD τ sig) → Buf (Elt F) ℓ) (ρ : Dev nD → PrngReg)

/-- The body's operands at point `t`. -/
def bufs (t : Fin cfg0.N) : Bufs where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := win0_12.stage (cfg0.slots t 12)
  h14 := hstage0_12 ((cfg0.slots t 12).cast nbuf0_12)
  a15 := win0_13.stage (cfg0.slots t 13)
  h15 := hstage0_13 ((cfg0.slots t 13).cast nbuf0_13)
  a16 := Memref.whole cc0_scratch0
  h16 := Memref.isWhole_whole _
  a17 := Memref.whole cc0_scratch1
  h17 := Memref.isWhole_whole _
  a18 := Memref.whole cc0_scratch2
  h18 := Memref.isWhole_whole _
  a19 := Memref.whole cc0_scratch3
  h19 := Memref.isWhole_whole _

theorem step_at (c : Dev nD) (t : Fin cfg0.N) (S : Cont F) (hS : SameIn (before m c t) S) (hk : t.val % 8 ≠ 0 → SameCarry (before m c t) S) :
    if t.val % 8 = 7 then step (grid0.coords t) S = canS m c t.val
    else step (grid0.coords t) S = over (canS m c t.val) (canS m c t.val).x11 S.x12 S.x15 := by
  have hk' : ¬ k0_cond1 (grid0.coords t) = 1#1 → SameCarry (before m c t) S := fun h => hk (fun h' => h ((cond1_iff t).mpr h'))
  split
  · rename_i h
    rw [canS_eq]
    exact step_same_last _ (conds_all t) ((cond4_iff t).mpr h) hS hk'
  · rename_i h
    rw [canS_eq]
    exact step_same_mid _ (conds_all t) (fun h' => h ((cond4_iff t).mp h')) hS hk'

theorem canS_in (c : Dev nD) (t : Fin cfg0.N) : SameIn (before m c t) (canS m c t.val) := by
  rw [canS_eq]; exact step_in _ (conds_all t) _

theorem body_run (c : Dev nD) (t : Fin cfg0.N) (S : Cont F) (Q : sProp 𝕄) (h : Own c (bufs t) (step (grid0.coords t) S) ⊢ Q) (R : sProp 𝕄) :
    iprop(Own c (bufs t) S ∗ R) ⊢ wp frame (wpE (defs₀ (F := F)) Variants.none (c : Thread nD τ) none) Set.univ (bodyAt0 (F := F) t) (fun _ => iprop(Q ∗ R)) := by
  refine BIBase.Entails.trans ?_ (runs_body c (bufs t) (grid0.coords t) S (fun _ => iprop(Q ∗ R)))
  iintro ⟨HO, HR⟩
  isplitl [HO]; · iexact HO
  iintro HO
  isplitl [HO]
  · iapply h; iexact HO
  iexact HR

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (if t.val % 8 = 7 then owns (c : Thread nD τ) (st0_10 t) fullShare ((dats m 0 c).after 10 t) else iprop(∃ d, owns (c : Thread nD τ) (st0_10 t) fullShare ((dats m 0 c).before 10 t d)))
    ∗ owns (c : Thread nD τ) (st0_11 t) fullShare ((dats m 0 c).after 11 t)
    ∗ owns (c : Thread nD τ) (st0_12 t) fullShare ((dats m 0 c).after 12 t)
    ∗ (if t.val % 8 = 7 then owns (c : Thread nD τ) (st0_13 t) fullShare ((dats m 0 c).after 13 t) else iprop(∃ d, owns (c : Thread nD τ) (st0_13 t) fullShare ((dats m 0 c).before 13 t d))))

/-- What the body leaves, of the windows and of the carried buffers. -/
def left (c : Dev nD) (t : Fin cfg0.N) : sProp 𝕄 :=
  iprop(owns (c : Thread nD τ) (Memref.whole cc0_scratch0) fullShare (canS m c t.val).x16
    ∗ owns (c : Thread nD τ) (Memref.whole cc0_scratch1) fullShare (canS m c t.val).x17
    ∗ owns (c : Thread nD τ) (Memref.whole cc0_scratch2) fullShare (canS m c t.val).x18
    ∗ owns (c : Thread nD τ) (Memref.whole cc0_scratch3) fullShare (canS m c t.val).x19
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (if t.val % 8 = 7 then owns (c : Thread nD τ) (st0_10 t) fullShare ((dats m 0 c).after 10 t) else iprop(∃ d, owns (c : Thread nD τ) (st0_10 t) fullShare ((dats m 0 c).before 10 t d)))
    ∗ owns (c : Thread nD τ) (st0_11 t) fullShare ((dats m 0 c).after 11 t)
    ∗ owns (c : Thread nD τ) (st0_12 t) fullShare ((dats m 0 c).after 12 t)
    ∗ (if t.val % 8 = 7 then owns (c : Thread nD τ) (st0_13 t) fullShare ((dats m 0 c).after 13 t) else iprop(∃ d, owns (c : Thread nD τ) (st0_13 t) fullShare ((dats m 0 c).before 13 t d))))

theorem own_left (c : Dev nD) (t : Fin cfg0.N) (S : Cont F) (hS : SameIn (before m c t) S) (hk : t.val % 8 ≠ 0 → SameCarry (before m c t) S) :
    Own c (bufs t) (step (grid0.coords t) S) ⊢ left m c t := by
  have e := step_at m c t S hS hk
  obtain ⟨e2, e3, e4, e5, e6, e7, e8, e9, e10⟩ := canS_in m c t
  unfold left
  split at e
  · rename_i h
    rw [e, if_pos h, if_pos h]
    refine (own_split c (bufs t) (canS m c t.val) _ _ .rfl .rfl).trans ?_
    rw [e2, e3, e4, e5, e6, e7, e8, e9, e10]
    exact .rfl
  · rename_i h
    rw [e, if_neg h, if_neg h]
    refine (own_split c (bufs t) (over (canS m c t.val) (canS m c t.val).x11 S.x12 S.x15) iprop(∃ d, owns (c : Thread nD τ) (st0_10 t) fullShare ((dats m 0 c).before 10 t d))
      iprop(∃ d, owns (c : Thread nD τ) (st0_13 t) fullShare ((dats m 0 c).before 13 t d)) ?_ ?_).trans ?_
    · iintro H; iexists S.x12; rw [before10]; iexact H
    · iintro H; iexists S.x15; rw [before13]; iexact H
    · dsimp only [over]
      rw [e2, e3, e4, e5, e6, e7, e8, e9, e10]
      exact .rfl

theorem same_carry (c : Dev nD) (t : Fin cfg0.N) (ht : t.val % 8 ≠ 0) (S : Cont F) (h13 : S.x13 = (canS m c (t.val - 1)).x13) (h14 : S.x14 = (canS m c (t.val - 1)).x14)
    (h : S.x16 = (canS m c (t.val - 1)).x16 ∧ S.x17 = (canS m c (t.val - 1)).x17 ∧ S.x18 = (canS m c (t.val - 1)).x18 ∧ S.x19 = (canS m c (t.val - 1)).x19) :
    SameCarry (before m c t) S := by
  obtain ⟨g16, g17, g18, g19⟩ := h
  unfold before load
  rw [if_neg (by omega : ¬ t.val = 0)]
  constructor
  · exact h13
  · exact h14
  · exact g16
  · exact g17
  · exact g18
  · exact g19

theorem sound_left (c : Dev nD) (t : Fin cfg0.N) :
    bodyPre m c t ⊢ wp frame (wpE (defs₀ (F := F)) Variants.none (c : Thread nD τ) none) Set.univ (bodyAt0 (F := F) t)
      (fun _ => iprop(left m c t ∗ ((∃ r, prngReg c r) ∗ (dats m 0 c).owesAt () t.castSucc))) := by
  unfold bodyPre
  rw [show (dats m 0 c).Φ t.castSucc = carried m c t.val from rfl]
  unfold carried
  exact run_operands c (bufs t) (bodyAt0 (F := F) t)
    (fun Y0 Y1 Y2 Y3 => t.val ≠ 0 → Y0 = (canS m c (t.val - 1)).x16 ∧ Y1 = (canS m c (t.val - 1)).x17 ∧ Y2 = (canS m c (t.val - 1)).x18 ∧ Y3 = (canS m c (t.val - 1)).x19)
    (iblk m c 0 t) (iblk m c 1 t) (iblk m c 2 t) (iblk m c 3 t) (iblk m c 4 t) (iblk m c 5 t) (iblk m c 6 t) (iblk m c 7 t) (iblk m c 8 t)
    (fun d => (dats m 0 c).before 0 t d) (fun d => (dats m 0 c).before 1 t d) (fun d => (dats m 0 c).before 2 t d) (fun d => (dats m 0 c).before 3 t d)
    (fun d => (dats m 0 c).before 4 t d) (fun d => (dats m 0 c).before 5 t d) (fun d => (dats m 0 c).before 6 t d) (fun d => (dats m 0 c).before 7 t d)
    (fun d => (dats m 0 c).before 8 t d) (fun d => (dats m 0 c).before 9 t d) (fun d => (dats m 0 c).before 10 t d) (fun d => (dats m 0 c).before 11 t d)
    (fun d => (dats m 0 c).before 12 t d) (fun d => (dats m 0 c).before 13 t d)
    (before0 m c t) (before1 m c t) (before2 m c t) (before3 m c t) (before4 m c t) (before5 m c t) (before6 m c t) (before7 m c t) (before8 m c t)
    _ _ (left m c t)
    (fun d9 d10 d11 d12 d13 Y0 Y1 Y2 Y3 hY R => body_run c t ⟨iblk m c 0 t, iblk m c 1 t, iblk m c 2 t, iblk m c 3 t, iblk m c 4 t, iblk m c 5 t, iblk m c 6 t, iblk m c 7 t, iblk m c 8 t,
        (dats m 0 c).before 9 t d9, (dats m 0 c).before 10 t d10, (dats m 0 c).before 11 t d11, (dats m 0 c).before 12 t d12, (dats m 0 c).before 13 t d13, Y0, Y1, Y2, Y3⟩ _ (own_left m c t _ ⟨rfl, rfl, rfl, rfl, rfl, rfl, rfl, rfl, rfl⟩
      (fun h => same_carry m c t h ⟨iblk m c 0 t, iblk m c 1 t, iblk m c 2 t, iblk m c 3 t, iblk m c 4 t, iblk m c 5 t, iblk m c 6 t, iblk m c 7 t, iblk m c 8 t,
        (dats m 0 c).before 9 t d9, (dats m 0 c).before 10 t d10, (dats m 0 c).before 11 t d11, (dats m 0 c).before 12 t d12, (dats m 0 c).before 13 t d13, Y0, Y1, Y2, Y3⟩ (before11 m c t h d11) (before12 m c t h d12) (hY (by omega)))) R)

/-- From what the body leaves to what the pipeline takes back. -/
theorem left_post (c : Dev nD) (t : Fin cfg0.N) :
    iprop(left m c t ∗ ((∃ r, prngReg c r) ∗ (dats m 0 c).owesAt () t.castSucc)) ⊢ bodyPost m c t := by
  unfold left bodyPost
  rw [show (dats m 0 c).Φ t.succ = carried m c (t.val + 1) from rfl]
  unfold carried Pipeline.Dat.owesAt Pipeline.owesWithin
  rw [show (dats m 0 c).owed t.castSucc = 0 from rfl, show (dats m 0 c).owed t.succ = 0 from rfl]
  iintro ⟨⟨H16, H17, H18, H19, H⟩, HP, ⟨%W, -, HW⟩⟩
  isplitl [H16 H17 H18 H19 HP]
  · iexists (canS m c t.val).x16, (canS m c t.val).x17, (canS m c t.val).x18, (canS m c t.val).x19
    isplitr
    · ipureintro; exact fun _ => ⟨rfl, rfl, rfl, rfl⟩
    isplitl [H16]; · iexact H16
    isplitl [H17]; · iexact H17
    isplitl [H18]; · iexact H18
    isplitl [H19]; · iexact H19
    iexact HP
  isplitl [HW]
  · iexists W; isplitr; · ipureintro; exact fun _ _ => Or.inl trivial
    iexact HW
  iexact H

theorem sound_body (c : Dev nD) (t : Fin cfg0.N) :
    bodyPre m c t ⊢ wp frame (wpE (defs₀ (F := F)) Variants.none (c : Thread nD τ) none) Set.univ (bodyAt0 (F := F) t) (fun _ => bodyPost m c t) :=
  (sound_left m c t).trans (wp_mono _ _ _ (fun _ => left_post m c t))

end Cert.KernelIdeal.Attn

end
-- ==== Proof.Attn.Run.lean ====
/- The run of the whole program. -/
module

public import proofs.«01_k».proof.Proof.Attn.Body

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem body_row (t : Fin cfg0.N) : defs₀ (F := F) .tc cfg0.body (cfg0.bodyArgs t (cfg0.slots t)) = bodyAt0 t := by
  unfold defs₀; rw [Defs.onTc_tc]

theorem idle_last (c : Dev nD) (w : Fin cfg0.W) (t : Fin cfg0.N)
    (hfl : ∀ t : Fin cfg0.N, (cfg0.win w).flush t = true ↔ t.val % 8 = 7)
    (hid : ∀ t : Fin cfg0.N, cfg0.idle w (cfg0.grid.coords t) = !decide (t.val % 8 = 7)) :
    (dats m 0 c).leavesExact w t = (if t.val % 8 = 7 then owns (c : Thread nD τ) ((cfg0.win w).stage (cfg0.slots t w)) fullShare ((dats m 0 c).after w t)
      else iprop(∃ d, owns (c : Thread nD τ) ((cfg0.win w).stage (cfg0.slots t w)) fullShare ((dats m 0 c).before w t d))) := by
  unfold Pipeline.Dat.leavesExact
  rw [hid]
  split
  · rename_i h
    have h7 : ¬ t.val % 8 = 7 := by simpa using h
    rw [if_neg h7]
    have : (cfg0.win w).flush t = false := Bool.eq_false_iff.mpr (fun h => h7 ((hfl t).mp h))
    rw [this]
  · rename_i h
    have h7 : t.val % 8 = 7 := by simpa using h
    rw [if_pos h7]

theorem idle_never (c : Dev nD) (w : Fin cfg0.W) (t : Fin cfg0.N) (hid : cfg0.idle w (cfg0.grid.coords t) = false) :
    (dats m 0 c).leavesExact w t = owns (c : Thread nD τ) ((cfg0.win w).stage (cfg0.slots t w)) fullShare ((dats m 0 c).after w t) := by
  unfold Pipeline.Dat.leavesExact
  rw [hid]

theorem post_eq (c : Dev nD) (t : Fin cfg0.N) :
    iprop((dats m 0 c).Φ t.succ ∗ (dats m 0 c).owesAt () t.succ ∗ bigSep Finset.univ fun w : Fin cfg0.W => (dats m 0 c).leavesExact w t) = bodyPost m c t := by
  rw [bigSep_W0]
  unfold bodyPost
  rw [idle_last m c 10 t flush0_10 idle10, idle_last m c 13 t flush0_13 idle13, idle_never m c 9 t (idle9 t), idle_never m c 11 t (idle11 t), idle_never m c 12 t (idle12 t)]

theorem body_obligation (c : Dev nD) : Pipeline.BodyObligation (dats (F := F) m 0 c) (defs₀ (F := F)) Variants.none () Set.univ := fun t => by
  rw [body_row]
  refine BIBase.Entails.trans ?_ ((sound_body m c t).trans (wp_mono _ _ _ (fun _ => (BIBase.Entails.of_eq (post_eq m c t).symm))))
  rw [bigSep_W0]; exact .rfl

theorem carried_in (c : Dev nD) : (Pipeline.ΦA (cfgs 0).spec c : sProp 𝕄) ⊢ (dats m 0 c).Φ 0 := by
  rw [show (dats m 0 c).Φ 0 = carried m c 0 from rfl]
  unfold Pipeline.ΦA carried
  rw [show (cfgs 0).spec = spec0 from rfl, scopedRest0_eq]
  simp only [owns_whole]
  iintro ⟨⟨⟨%f0, H0⟩, ⟨%f1, H1⟩, ⟨%f2, H2⟩, ⟨%f3, H3⟩⟩, HP⟩
  iexists f0, f1, f2, f3
  isplitr
  · ipureintro; exact fun h => absurd rfl h
  isplitl [H0]; · iexact H0
  isplitl [H1]; · iexact H1
  isplitl [H2]; · iexact H2
  isplitl [H3]; · iexact H3
  iexact HP

theorem carried_out (c : Dev nD) : (dats m 0 c).Φ (Fin.last (cfgs 0).N) ⊢ (Pipeline.ΦA (cfgs 0).spec c : sProp 𝕄) := by
  rw [show (dats m 0 c).Φ (Fin.last (cfgs 0).N) = carried m c (Fin.last (cfgs 0).N).val from rfl]
  unfold Pipeline.ΦA carried
  rw [show (cfgs 0).spec = spec0 from rfl, scopedRest0_eq]
  simp only [owns_whole]
  iintro ⟨%X0, %X1, %X2, %X3, -, H0, H1, H2, H3, HP⟩
  isplitl [H0 H1 H2 H3]
  · isplitl [H0]; · iexists X0; iexact H0
    isplitl [H1]; · iexists X1; iexact H1
    isplitl [H2]; · iexists X2; iexact H2
    iexists X3; iexact H3
  iexact HP

set_option backward.isDefEq.respectTransparency.types false in
/-- The run: it ends, each result's array at what the points' states leave in it, everything else as it was, every counter at zero. -/
theorem run_main : θ_run defs (onTc (τ := τ) (main (F := F))) (s₀ m ρ) (fun r => Pipeline.FramePost cfgs (dats m) 0 (V m) r ∧ r.2.sem = fun _ => 0) :=
  Pipeline.θ_run_frame_track_shared cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := carried_in m) (hout := carried_out m) (Q' := _) (hQ' := fun _ h => h)

/-- The frame, over any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).1 3).trans (((dats m 0 c).arrAt_in 3 rfl _).trans ((A_eq m c 3).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 8).trans (((dats m 0 c).arrAt_in 8 rfl _).trans ((A_eq m c 8).trans (V_main_arg4 m c)))⟩, h.2⟩) (run_main m ρ)

end Cert.KernelIdeal.Attn

end
-- ==== Proof.Attn.Same.lean ====
/- The two programs have one text: the kernel's frame from the run of its idealization. -/
module

public import proofs.«01_k».proof.Defs
public import proofs.«01_k».proof.Proof.Gen.Kernel
public import proofs.«01_k».proof.Proof.Attn.Run

@[expose] public section

set_option maxRecDepth 100000
set_option maxHeartbeats 40000000

noncomputable section

namespace Cert.KernelIdeal.Attn

open Idealize.ShloMosaic Idealize.SL.Sem

variable {F : FTy → Type} [FloatOps F]

/-- The tables of kernel bodies are equal: one label, one body. -/
theorem same_bodies : (Cert.Kernel.defs₀ (F := F)) = Cert.KernelIdeal.defs₀ := by
  unfold Cert.Kernel.defs₀ Cert.KernelIdeal.defs₀
  refine congrArg Defs.onTc ?_
  funext l x
  match l, x with
  | 0, (t, s) => exact (rfl)

/-- So the tables of all labels are. -/
theorem same_defs : (Cert.Kernel.defs (F := F)) = Cert.KernelIdeal.defs :=
  (congrArg (Pipeline.defs Cert.KernelIdeal.pcfgs) same_bodies :
    Pipeline.defs Cert.KernelIdeal.pcfgs Cert.Kernel.defs₀ = Pipeline.defs Cert.KernelIdeal.pcfgs Cert.KernelIdeal.defs₀)

/-- The host programs are one text. -/
theorem same_main : (Cert.Kernel.main (F := F)) = Cert.KernelIdeal.main := (rfl)

/-- A run of a program is a run of an equal one. -/
theorem transfer {D D' : Defs nD τ sig (Elt F) (Pipeline.Sig Λ₀ (Fin 1) fun p => (pcfgs (F := F) p).Adm)} (hD : D = D')
    {M M' : Dev nD → Prog (TpuEff nD τ sig (Elt F) (Pipeline.Sig Λ₀ (Fin 1) fun p => (pcfgs (F := F) p).Adm) .tc) PUnit} (hM : M = M')
    {s} {Q} (h : θ_run D' (onTc M') s Q) : θ_run D (onTc M) s Q := by
  subst hD hM; exact h

/-- The kernel's frame over the machine's words. -/
theorem frame_bits (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) :=
  transfer same_defs same_main (frame_any (F := Bits) m g)

end Cert.KernelIdeal.Attn

end
-- ==== Proof.Attn.Row.lean ====
/- One row of the banded attention and its backward: the kernel's formulas and the reference's. -/
module

public import Idealize.ShloMosaic.PureOps
public import Idealize.ShloMosaic.Lib.Pipeline.ValueKit

@[expose] public section

noncomputable section

namespace Cert.AttnRow

open Idealize.ShloMosaic

/-- The head's width. -/
def width : EReal := Ideal.ofBits .f32 0x43000000#32
/-- The norm's small constant. -/
def small : EReal := Ideal.ofBits .f32 0x358637BD#32
/-- The scores' scale. -/
def factor : EReal := Ideal.ofBits .f32 0x3DB504F3#32

/-- The mean of a row's squares with the small constant added. -/
def mean (q : Fin 128 → EReal) : EReal := Ideal.div (∑ k, q k * q k) width + small
/-- The row's normalising factor. -/
def rms (q : Fin 128 → EReal) : EReal := Ideal.rsqrt (mean q)
/-- The normed row. -/
def normed (q w : Fin 128 → EReal) (d : Fin 128) : EReal := q d * rms q * w d

variable {n : ℕ}

/-- The row's scores against the keys, with the bias. -/
def score (q w : Fin 128 → EReal) (kx : Fin n → Fin 128 → EReal) (b : Fin n → EReal) (k : Fin n) : EReal :=
  (∑ d, normed q w d * kx k d) * factor + b k
/-- The greatest score. -/
def top (s : Fin n → EReal) : EReal := Finset.fold max (Ideal.ofBits .f32 0xFF800000#32) s Finset.univ
/-- The exponentials of scores less a number. -/
def expo (s : Fin n → EReal) (M : EReal) (k : Fin n) : EReal := Ideal.exp (s k - M)

/-- The gate's logistic. -/
def gate (z : Fin 128 → EReal) (d : Fin 128) : EReal := Ideal.logistic (z d)
/-- The gradient at the attention's result. -/
def pull (z g : Fin 128 → EReal) (d : Fin 128) : EReal := g d * (z d * gate z d)

/-- The kernel's weights. -/
def weightK (e : Fin n → EReal) (k : Fin n) : EReal := e k * Ideal.div 1 (∑ j, e j)
/-- The kernel's attention. -/
def outK (e : Fin n → EReal) (vx : Fin n → Fin 128 → EReal) (d : Fin 128) : EReal := ∑ k, weightK e k * vx k d
/-- The kernel's gradient of the gate. -/
def dzK (e : Fin n → EReal) (vx : Fin n → Fin 128 → EReal) (z g : Fin 128 → EReal) (d : Fin 128) : EReal :=
  g d * outK e vx d * (gate z d * (1 + z d * (1 - gate z d)))
/-- The kernel's gradient of the scores. -/
def dsK (e : Fin n → EReal) (vx : Fin n → Fin 128 → EReal) (z g : Fin 128 → EReal) (k : Fin n) : EReal :=
  weightK e k * ((∑ d, pull z g d * vx k d) - ∑ d, pull z g d * outK e vx d)
/-- The kernel's gradient of the unit row. -/
def duK (e : Fin n → EReal) (kx vx : Fin n → Fin 128 → EReal) (w z g : Fin 128 → EReal) (d : Fin 128) : EReal :=
  (∑ k, dsK e vx z g k * factor * kx k d) * w d
/-- The kernel's gradient of the row. -/
def dqK (e : Fin n → EReal) (kx vx : Fin n → Fin 128 → EReal) (q w z g : Fin 128 → EReal) (d : Fin 128) : EReal :=
  rms q * (duK e kx vx w z g d - q d * rms q * Ideal.div (∑ j, duK e kx vx w z g j * (q j * rms q)) width)

/-- The reference's logistic. -/
def gateR (z : Fin 128 → EReal) (d : Fin 128) : EReal := Ideal.div 1 (1 + Ideal.exp (-z d))
/-- The reference's attention. -/
def outR (e : Fin n → EReal) (vx : Fin n → Fin 128 → EReal) (d : Fin 128) : EReal :=
  ∑ k, vx k d * Ideal.div (e k) (∑ j, e j)
/-- The reference's gradient of the gate. -/
def dzR (e : Fin n → EReal) (vx : Fin n → Fin 128 → EReal) (z g : Fin 128 → EReal) (d : Fin 128) : EReal :=
  outR e vx d * g d * gateR z d + z d * (outR e vx d * g d) * (gateR z d * (1 - gateR z d))
/-- The reference's gradient of the weights. -/
def dpR (vx : Fin n → Fin 128 → EReal) (z g : Fin 128 → EReal) (k : Fin n) : EReal :=
  ∑ d, g d * (z d * gateR z d) * vx k d
/-- The reference's gradient of the scores. -/
def dsR (e : Fin n → EReal) (vx : Fin n → Fin 128 → EReal) (z g : Fin 128 → EReal) (k : Fin n) : EReal :=
  (Ideal.div (dpR vx z g k) (∑ j, e j)
    + ∑ _i : Fin 1, -∑ j, dpR vx z g j * Ideal.div 1 ((∑ j, e j) * (∑ j, e j)) * e j) * e k
/-- The reference's gradient of the unit row; `v` says which keys are in the sequence. -/
def duR (v : Fin n → BitVec 1) (e : Fin n → EReal) (kx vx : Fin n → Fin 128 → EReal) (w z g : Fin 128 → EReal) (d : Fin 128) : EReal :=
  (∑ k, Scalar.select (v k) (dsR e vx z g k * factor * kx k d) 0) * w d
/-- The reference's gradient through the row's norm. -/
def throughR (v : Fin n → BitVec 1) (e : Fin n → EReal) (kx vx : Fin n → Fin 128 → EReal) (q w z g : Fin 128 → EReal) : EReal :=
  ∑ _i : Fin 1, Ideal.div ((∑ d, q d * duR v e kx vx w z g d) * (Ideal.ofBits .f32 0xBF000000#32 * Ideal.div (rms q) (mean q))) width
/-- The reference's gradient of the row. -/
def dqR (v : Fin n → BitVec 1) (e : Fin n → EReal) (kx vx : Fin n → Fin 128 → EReal) (q w z g : Fin 128 → EReal) (d : Fin 128) : EReal :=
  duR v e kx vx w z g d * rms q + q d * throughR v e kx vx q w z g + throughR v e kx vx q w z g * q d

/-- Row `t` of head `h` of the queries, the keys, the values and the gate in the projections. -/
def qAt (P : Fin 8192 → Fin 8192 → EReal) (t : Fin 8192) (h : Fin 16) (d : Fin 128) : EReal := P t ⟨h * 128 + d, by omega⟩
@[inherit_doc qAt] def kAt (P : Fin 8192 → Fin 8192 → EReal) (t : Fin 8192) (h : Fin 16) (d : Fin 128) : EReal := P t ⟨2048 + (h * 128 + d), by omega⟩
@[inherit_doc qAt] def vAt (P : Fin 8192 → Fin 8192 → EReal) (t : Fin 8192) (h : Fin 16) (d : Fin 128) : EReal := P t ⟨4096 + (h * 128 + d), by omega⟩
@[inherit_doc qAt] def zAt (P : Fin 8192 → Fin 8192 → EReal) (t : Fin 8192) (h : Fin 16) (d : Fin 128) : EReal := P t ⟨6144 + (h * 128 + d), by omega⟩
/-- Row `t` of head `h` of the gradient that arrives. -/
def gAt (G : Fin 8192 → Fin 2048 → EReal) (t : Fin 8192) (h : Fin 16) (d : Fin 128) : EReal := G t ⟨h * 128 + d, by omega⟩
/-- Row `p` of head `h`'s normed keys with 512 rows of zeros before them. -/
def keyAt (P : Fin 8192 → Fin 8192 → EReal) (w : Fin 128 → EReal) (h : Fin 16) (p : ℕ) (d : Fin 128) : EReal :=
  if hp : 512 ≤ p ∧ p - 512 < 8192 then normed (kAt P ⟨p - 512, hp.2⟩ h) w d else 0
/-- Row `p` of head `h`'s values with 512 rows of zeros before them. -/
def valAt (P : Fin 8192 → Fin 8192 → EReal) (h : Fin 16) (p : ℕ) (d : Fin 128) : EReal :=
  if hp : 512 ≤ p ∧ p - 512 < 8192 then vAt P ⟨p - 512, hp.2⟩ h d else 0

end Cert.AttnRow

end
-- ==== Proof.Attn.Half.lean ====
/- What one half of a block computes, row by row. -/
module

public import proofs.«01_k».proof.Proof.Attn.Closed
public import proofs.«01_k».proof.Proof.Attn.Row

@[expose] public section

set_option maxRecDepth 16384

noncomputable section

namespace Cert.KernelIdeal.Attn

open Cert.KernelIdeal Cert.KernelIdeal.Gen Cert.AttnRow
open Idealize.ShloMosaic Idealize.ShloMosaic.TcCoe

/-- Row `r` of group `n` of an array of four groups. -/
def row4 (x : FVec Ideal S4x128x128 .f32) (n : Fin 4) (r : Fin 128) : Fin 128 → EReal := fun d => x (ix3 n r d)
/-- Group `n`'s window. -/
def win4 (x : FVec Ideal S4x640x128 .bf16) (n : Fin 4) : Fin 640 → Fin 128 → EReal := fun k d => x (ix3 n k d)
/-- Row `r` of group `n` of an array of scores. -/
def sc4 (x : FVec Ideal S4x128x640 .f32) (n : Fin 4) (r : Fin 128) : Fin 640 → EReal := fun k => x (ix3 n r k)
/-- The weight's row. -/
def row1 (x : Vec Ideal S1x128 .f32) : Fin 128 → EReal := fun d => x (ix2 0 d)

theorem pay22_apply (x : FVec Ideal S4x128x128 .f32) (n : Fin 4) (r : Fin 128) (z : Fin 1) :
    k0_pay22 x (ix3 n r z) = rms (row4 x n r) := by
  pointwise [k0_pay22, rms, mean, row4, width, small]

theorem pay24_apply (x : FVec Ideal S4x128x128 .f32) (w : Vec Ideal S1x128 .f32) (n : Fin 4) (r d : Fin 128) :
    k0_pay24 x w (ix3 n r d) = normed (row4 x n r) (row1 w) d := by
  pointwise [k0_pay24, k0_pay23, k0_pay20, pay22_apply, normed, row4, row1]

theorem cE_apply (q : FVec Ideal S4x128x128 .f32) (kw : FVec Ideal S4x640x128 .bf16) (b : FVec Ideal S4x128x640 .f32) (w : Vec Ideal S1x128 .f32)
    (n : Fin 4) (r : Fin 128) (k : Fin 640) :
    cE q kw b w (ix3 n r k)
      = expo (score (row4 q n r) (row1 w) (win4 kw n) (sc4 b n r)) (top (score (row4 q n r) (row1 w) (win4 kw n) (sc4 b n r))) k := by
  pointwise [cE, pay24_apply, expo, top]
  rfl

theorem cR_apply (e : FVec Ideal S4x128x640 .f32) (n : Fin 4) (r : Fin 128) (k : Fin 640) :
    cR e (ix3 n r k) = Ideal.div 1 (∑ j, sc4 e n r j) := by
  pointwise [cR, sc4]

theorem pay27_apply (e : FVec Ideal S4x128x640 .f32) (n : Fin 4) (r : Fin 128) (k : Fin 640) :
    k0_pay27 e (cR e) (ix3 n r k) = weightK (sc4 e n r) k := by
  pointwise [k0_pay27, cR_apply, weightK, sc4]

theorem pay29_apply (v : FVec Ideal S4x640x128 .bf16) (e : FVec Ideal S4x128x640 .f32) (n : Fin 4) (r d : Fin 128) :
    k0_pay29 v e (cR e) (ix3 n r d) = outK (sc4 e n r) (win4 v n) d := by
  pointwise [k0_pay29, k0_pay28, pay27_apply, outK, win4]

theorem pay31_apply (z g : FVec Ideal S4x128x128 .f32) (n : Fin 4) (r d : Fin 128) :
    k0_pay31 z g (ix3 n r d) = pull (row4 z n r) (row4 g n r) d := by
  pointwise [k0_pay31, k0_pay30, pull, gate, row4]

theorem pay32_apply (z g : FVec Ideal S4x128x128 .f32) (v : FVec Ideal S4x640x128 .bf16) (e : FVec Ideal S4x128x640 .f32) (n : Fin 4) (r d : Fin 128) :
    k0_pay32 z v g e (cR e) (ix3 n r d) = dzK (sc4 e n r) (win4 v n) (row4 z n r) (row4 g n r) d := by
  pointwise [k0_pay32, k0_pay30, pay29_apply, dzK, gate, row4]

theorem pay35_apply (z g : FVec Ideal S4x128x128 .f32) (v : FVec Ideal S4x640x128 .bf16) (e : FVec Ideal S4x128x640 .f32) (n : Fin 4) (r : Fin 128) (k : Fin 640) :
    k0_pay35 z v g e (cR e) (ix3 n r k) = dsK (sc4 e n r) (win4 v n) (row4 z n r) (row4 g n r) k := by
  pointwise [k0_pay35, k0_pay33, pay31_apply, pay29_apply, pay27_apply, dsK, win4]

theorem pay37_apply (z g : FVec Ideal S4x128x128 .f32) (kw v : FVec Ideal S4x640x128 .bf16) (e : FVec Ideal S4x128x640 .f32) (n : Fin 4) (r d : Fin 128) :
    k0_pay37 z kw v g e (cR e) (ix3 n r d) = ∑ k, dsK (sc4 e n r) (win4 v n) (row4 z n r) (row4 g n r) k * factor * win4 kw n k d := by
  pointwise [k0_pay37, k0_pay36, pay35_apply, win4, factor]

theorem pay40_apply (q z g : FVec Ideal S4x128x128 .f32) (kw v : FVec Ideal S4x640x128 .bf16) (w : Vec Ideal S1x128 .f32) (e : FVec Ideal S4x128x640 .f32) (n : Fin 4) (r d : Fin 128) :
    k0_pay40 z kw v (k0_pay20 w) g (k0_pay22 q) (k0_pay23 q) e (cR e) (ix3 n r d)
      = dqK (sc4 e n r) (win4 kw n) (win4 v n) (row4 q n r) (row1 w) (row4 z n r) (row4 g n r) d := by
  pointwise [k0_pay40, k0_pay23, k0_pay20, pay22_apply, pay37_apply, dqK, duK, width]
  rfl

end Cert.KernelIdeal.Attn

end
-- ==== Proof.Attn.Value1.lean ====
/- What a point leaves in its first result block and in the padded rows, entry by entry. -/
module

public import proofs.«01_k».proof.Proof.Attn.Half

@[expose] public section

set_option maxRecDepth 16384

noncomputable section

namespace Cert.KernelIdeal.Attn

open Cert.KernelIdeal Cert.KernelIdeal.Gen
open Cert.AttnRow hiding vAt
open Idealize.ShloMosaic Idealize.ShloMosaic.TcCoe

theorem step_x16 (i : grid0.Coords) (S : Cont Ideal) : (step i S).x16 = if k0_cond1 i = 1#1 then knAt S.x3 S.x9 else S.x16 := by
  unfold step step4 step3 step2 step1
  simp only [fill_eq, first_eq, later_eq, finish_eq]
  split_ifs <;> rfl

theorem step_x17 (i : grid0.Coords) (S : Cont Ideal) : (step i S).x17 = if k0_cond1 i = 1#1 then Cert.KernelIdeal.Attn.vAt S.x4 else S.x17 := by
  unfold step step4 step3 step2 step1
  simp only [fill_eq, first_eq, later_eq, finish_eq]
  split_ifs <;> rfl

theorem step_first (i : grid0.Coords) (S : Cont Ideal) (h2 : k0_cond2 i = 1#1) (h3 : ¬ k0_cond3 i = 1#1) :
    (step i S).x11 = (first i h2 (step1 i S)).x11 := by
  unfold step step4 step3 step2
  simp only [first_eq, later_eq, finish_eq]
  rw [dif_pos h2, dif_neg h3]
  split_ifs <;> rfl

theorem step_later (i : grid0.Coords) (S : Cont Ideal) (h2 : ¬ k0_cond2 i = 1#1) (h3 : k0_cond3 i = 1#1) :
    (step i S).x11 = (later i h3 (step1 i S)).x11 := by
  unfold step step4 step3 step2
  simp only [first_eq, later_eq, finish_eq]
  rw [dif_neg h2, dif_pos h3]
  split_ifs <;> rfl

theorem step1_x2 (i : grid0.Coords) (S : Cont Ideal) : (step1 i S).x2 = S.x2 := by
  unfold step1; simp only [fill_eq]; split_ifs <;> rfl
theorem step1_x5 (i : grid0.Coords) (S : Cont Ideal) : (step1 i S).x5 = S.x5 := by
  unfold step1; simp only [fill_eq]; split_ifs <;> rfl
theorem step1_x6 (i : grid0.Coords) (S : Cont Ideal) : (step1 i S).x6 = S.x6 := by
  unfold step1; simp only [fill_eq]; split_ifs <;> rfl
theorem step1_x7 (i : grid0.Coords) (S : Cont Ideal) : (step1 i S).x7 = S.x7 := by
  unfold step1; simp only [fill_eq]; split_ifs <;> rfl
theorem step1_x8 (i : grid0.Coords) (S : Cont Ideal) : (step1 i S).x8 = S.x8 := by
  unfold step1; simp only [fill_eq]; split_ifs <;> rfl
theorem step1_x10 (i : grid0.Coords) (S : Cont Ideal) : (step1 i S).x10 = S.x10 := by
  unfold step1; simp only [fill_eq]; split_ifs <;> rfl
theorem step1_x16 (i : grid0.Coords) (S : Cont Ideal) : (step1 i S).x16 = if k0_cond1 i = 1#1 then knAt S.x3 S.x9 else S.x16 := by
  unfold step1; simp only [fill_eq]; split_ifs <;> rfl
theorem step1_x17 (i : grid0.Coords) (S : Cont Ideal) : (step1 i S).x17 = if k0_cond1 i = 1#1 then Cert.KernelIdeal.Attn.vAt S.x4 else S.x17 := by
  unfold step1; simp only [fill_eq]; split_ifs <;> rfl

theorem pay3_apply (x : Vec Ideal S512x128 .f32) (w : Vec Ideal S1x128 .f32) (r : Fin 512) (d : Fin 128) :
    k0_pay3 x w (ix2 r d) = normed (fun d => x (ix2 r d)) (row1 w) d := by
  pointwise [k0_pay3, normed, rms, mean, width, small, row1]

theorem pay4_apply (x : Vec Ideal S512x128 .f32) (r : Fin 512) (d : Fin 128) : k0_pay4 x (ix2 r d) = x (ix2 r d) := by
  pointwise [k0_pay4]

theorem pay1_apply (r : Fin 512) (d : Fin 128) : k0_pay1 (F := Ideal) (ix2 r d) = 0 := by
  pointwise [k0_pay1]

theorem pay2_apply (r : Fin 512) (d : Fin 128) : k0_pay2 (F := Ideal) (ix2 r d) = 0 := by
  pointwise [k0_pay2]

/-- The normed keys behind their padding, at a row. -/
theorem knAt_apply (x : Vec Ideal S8192x128 .f32) (w : Vec Ideal S1x128 .f32) (p : Fin 8704) (d : Fin 128) :
    knAt x w (ix2 p d) = if hp : 512 ≤ p.val ∧ p.val - 512 < 8192 then normed (fun d => x (ix2 ⟨p.val - 512, hp.2⟩ d)) (row1 w) d else 0 := by
  unfold knAt padded
  by_cases h : p.val < 512
  · rw [dif_pos (show ((ix2 p d : S8704x128.Idx) 0).val < 512 from h), dif_neg (by omega)]
    exact pay1_apply _ _
  · rw [dif_neg (show ¬ ((ix2 p d : S8704x128.Idx) 0).val < 512 from h), dif_pos (by omega)]
    refine (pay3_apply _ _ _ _).trans ?_
    refine congrArg (fun f => normed f (row1 w) d) (funext fun e => ?_)
    refine congrArg x (congrArg (fun a => ix2 a e) (Fin.ext ?_))
    show 512 * (p.val / 512 - 1) + p.val % 512 = p.val - 512
    omega

/-- The values behind their padding, at a row. -/
theorem vAt_apply (x : Vec Ideal S8192x128 .f32) (p : Fin 8704) (d : Fin 128) :
    Cert.KernelIdeal.Attn.vAt x (ix2 p d) = if hp : 512 ≤ p.val ∧ p.val - 512 < 8192 then x (ix2 ⟨p.val - 512, hp.2⟩ d) else 0 := by
  unfold Cert.KernelIdeal.Attn.vAt padded
  by_cases h : p.val < 512
  · rw [dif_pos (show ((ix2 p d : S8704x128.Idx) 0).val < 512 from h), dif_neg (by omega)]
    exact pay2_apply _ _
  · rw [dif_neg (show ¬ ((ix2 p d : S8704x128.Idx) 0).val < 512 from h), dif_pos (by omega)]
    refine (pay4_apply _ _ _).trans ?_
    refine congrArg x (congrArg (fun a => ix2 a d) (Fin.ext ?_))
    show 512 * (p.val / 512 - 1) + p.val % 512 = p.val - 512
    omega

theorem pay16_apply (x : Vec Ideal S512x128 .f32) (n : Fin 4) (r d : Fin 128) : k0_pay16 x (ix3 n r d) = x (ix2 ⟨n.val * 128 + r.val, by omega⟩ d) := by
  pointwise [k0_pay16]
theorem pay17_apply (x : Vec Ideal S512x128 .f32) (n : Fin 4) (r d : Fin 128) : k0_pay17 x (ix3 n r d) = x (ix2 ⟨n.val * 128 + r.val, by omega⟩ d) := by
  pointwise [k0_pay17]
theorem pay21_apply (x : Vec Ideal S512x128 .f32) (n : Fin 4) (r d : Fin 128) : k0_pay21 x (ix3 n r d) = x (ix2 ⟨n.val * 128 + r.val, by omega⟩ d) := by
  pointwise [k0_pay21]
theorem pay42_apply (x : FVec Ideal S4x128x128 .f32) (p : Fin 512) (d : Fin 128) : k0_pay42 x (ix3 0 p d) = x (ix3 ⟨p.val / 128, by omega⟩ ⟨p.val % 128, by omega⟩ d) := by
  pointwise [k0_pay42]
theorem pay43_apply (x : FVec Ideal S4x128x128 .f32) (p : Fin 512) (d : Fin 128) : k0_pay43 x (ix3 0 p d) = x (ix3 ⟨p.val / 128, by omega⟩ ⟨p.val % 128, by omega⟩ d) := by
  pointwise [k0_pay43]

theorem block_row (x : S1024x128.Idx → EReal) (so : ℕ) (hso) (p : Fin 512) (d : Fin 128) (q : Fin 1024) (hq : q.val = so + p.val) :
    VecWindow.window (s := S1024x128) x ![so, 0] S512x128.size hso (ix2 p d : S512x128.Idx) = x (ix2 q d) :=
  window_at (s := S1024x128) x ![so, 0] S512x128.size hso _ _ (fun a => by
    match a with | ⟨0, _⟩ => exact hq | ⟨1, _⟩ => exact (Nat.zero_add _).symm)

theorem pad_row (x : S8704x128.Idx → EReal) (o : Fin 2 → ℕ) (h) (b : ℕ) (ho : o = ![b, 0]) (k : Fin 640) (d : Fin 128) (q : Fin 8704) (hq : q.val = b + k.val) :
    VecWindow.window (s := S8704x128) x o S640x128.size h (ix2 k d : S640x128.Idx) = x (ix2 q d) := by
  subst ho
  exact window_at (s := S8704x128) x ![b, 0] S640x128.size h _ _ (fun a => by
    match a with | ⟨0, _⟩ => exact hq | ⟨1, _⟩ => exact (Nat.zero_add _).symm)

theorem pay18_apply (a b c e : Vec Ideal S640x128 .bf16) (n : Fin 4) (k : Fin 640) (d : Fin 128) :
    k0_pay18 a b c e (ix3 n k d) = if n.val = 0 then a (ix2 k d) else if n.val = 1 then b (ix2 k d) else if n.val = 2 then c (ix2 k d) else e (ix2 k d) := by
  fin_cases n
  · pointwise [k0_pay18]
  · pointwise [k0_pay18]
  · pointwise [k0_pay18]
  · pointwise [k0_pay18]

/-- The four windows start at `base`, `base + 128`, … -/
def Starts (o : Offs) (base : ℕ) : Prop := o.o0 = ![base, 0] ∧ o.o1 = ![base + 128, 0] ∧ o.o2 = ![base + 256, 0] ∧ o.o3 = ![base + 384, 0]

theorem stack_apply (o : Offs) (x : S8704x128.Idx → EReal) (base : ℕ) (ho : Starts o base) (n : Fin 4) (k : Fin 640) (d : Fin 128)
    (q : Fin 8704) (hq : q.val = base + 128 * n.val + k.val) : stackK (F := Ideal) o x (ix3 n k d) = x (ix2 q d) := by
  obtain ⟨h0, h1, h2, h3⟩ := ho
  unfold stackK
  refine (pay18_apply _ _ _ _ n k d).trans ?_
  have hn : n.val < 4 := n.isLt
  split_ifs with c0 c1 c2
  · exact pad_row x _ _ _ h0 k d q (by omega)
  · exact pad_row x _ _ _ h1 k d q (by omega)
  · exact pad_row x _ _ _ h2 k d q (by omega)
  · exact pad_row x _ _ _ h3 k d q (by omega)

theorem biasFirst_apply (x : S1x4x128x640.Idx → EReal) (n : Fin 4) (r : Fin 128) (k : Fin 640) :
    biasFirst (F := Ideal) x (ix3 n r k) = x (ix4 0 n r k) := by
  unfold biasFirst
  rw [window_all x _ _ off0000]
  pointwise

theorem biasRest_apply (x : S1x1x128x640.Idx → EReal) (n : Fin 4) (r : Fin 128) (k : Fin 640) :
    biasRest (F := Ideal) x (ix3 n r k) = x (ix4 0 0 r k) := by
  unfold biasRest
  rw [window_all x _ _ off0000]
  pointwise

/-- The result of a row: its query's gradient and its gate's, from the row's bias, keys, values, query, weight, gate and gradient. -/
def dqRow (b : Fin 640 → EReal) (kx vx : Fin 640 → Fin 128 → EReal) (q w z g : Fin 128 → EReal) (d : Fin 128) : EReal :=
  dqK (expo (score q w kx b) (top (score q w kx b))) kx vx q w z g d
@[inherit_doc dqRow] def dzRow (b : Fin 640 → EReal) (kx vx : Fin 640 → Fin 128 → EReal) (q w z g : Fin 128 → EReal) (d : Fin 128) : EReal :=
  dzK (expo (score q w kx b) (top (score q w kx b))) vx z g d

variable (S : Cont Ideal) (so : ℕ) (hso : ∀ a, (![so, 0] : Fin 2 → ℕ) a + S512x128.size a ≤ S1024x128.size a) (o : Offs) (base : ℕ) (ho : Starts o base)
  (b : FVec Ideal S4x128x640 .f32) (n : Fin 4) (r : Fin 128)

theorem half_q (p : Fin 1024) (hp : p.val = so + (128 * n.val + r.val)) :
    row4 (k0_pay16 (halfIn so hso o b S).q) n r = fun d => S.x2 (ix2 p d) :=
  funext fun d => (pay16_apply _ n r d).trans (block_row S.x2 so hso _ d p (by dsimp only; omega))
theorem half_z (p : Fin 1024) (hp : p.val = so + (128 * n.val + r.val)) :
    row4 (k0_pay17 (halfIn so hso o b S).z) n r = fun d => S.x5 (ix2 p d) :=
  funext fun d => (pay17_apply _ n r d).trans (block_row S.x5 so hso _ d p (by dsimp only; omega))
theorem half_g (p : Fin 1024) (hp : p.val = so + (128 * n.val + r.val)) :
    row4 (k0_pay21 (halfIn so hso o b S).g) n r = fun d => S.x10 (ix2 p d) :=
  funext fun d => (pay21_apply _ n r d).trans (block_row S.x10 so hso _ d p (by dsimp only; omega))
theorem half_w : row1 (halfIn so hso o b S).w = fun d => S.x8 (ix2 0 d) :=
  funext fun d => congrFun (window_all (s := S1x128) S.x8 ![0, 0] _ off00) (ix2 0 d)
include ho in
theorem half_k (hb : base + 128 * n.val + 640 ≤ 8704) :
    win4 (halfIn so hso o b S).kw n = fun k d => S.x16 (ix2 ⟨base + 128 * n.val + k.val, by omega⟩ d) :=
  funext fun k => funext fun d => stack_apply o S.x16 base ho n k d _ rfl
include ho in
theorem half_v (hb : base + 128 * n.val + 640 ≤ 8704) :
    win4 (halfIn so hso o b S).vw n = fun k d => S.x17 (ix2 ⟨base + 128 * n.val + k.val, by omega⟩ d) :=
  funext fun k => funext fun d => stack_apply o S.x17 base ho n k d _ rfl

theorem In.e_row (I : In Ideal) : sc4 I.e n r = expo (score (row4 (k0_pay16 I.q) n r) (row1 I.w) (win4 I.kw n) (sc4 I.b n r)) (top (score (row4 (k0_pay16 I.q) n r) (row1 I.w) (win4 I.kw n) (sc4 I.b n r))) :=
  funext fun k => cE_apply _ _ _ _ n r k

theorem In.dq_apply (I : In Ideal) (d : Fin 128) : I.dq (ix3 n r d)
    = dqRow (sc4 I.b n r) (win4 I.kw n) (win4 I.vw n) (row4 (k0_pay16 I.q) n r) (row1 I.w) (row4 (k0_pay17 I.z) n r) (row4 (k0_pay21 I.g) n r) d := by
  unfold In.dq In.r dqRow
  rw [pay40_apply, In.e_row]

theorem In.dz_apply (I : In Ideal) (d : Fin 128) : I.dz (ix3 n r d)
    = dzRow (sc4 I.b n r) (win4 I.kw n) (win4 I.vw n) (row4 (k0_pay16 I.q) n r) (row1 I.w) (row4 (k0_pay17 I.z) n r) (row4 (k0_pay21 I.g) n r) d := by
  unfold In.dz In.r dzRow
  rw [pay32_apply, In.e_row]

/-- Row `p` of the block, from a state, the rows its windows start at and its bias. -/
def rowOf (base : ℕ) (hb : base + 640 ≤ 8704) (β : Fin 640 → EReal) (a : Fin 2) (p : Fin 1024) (d : Fin 128) : EReal :=
  if a.val = 0 then dqRow β (fun k d => S.x16 (ix2 ⟨base + k.val, by omega⟩ d)) (fun k d => S.x17 (ix2 ⟨base + k.val, by omega⟩ d))
    (fun d => S.x2 (ix2 p d)) (fun d => S.x8 (ix2 0 d)) (fun d => S.x5 (ix2 p d)) (fun d => S.x10 (ix2 p d)) d
  else dzRow β (fun k d => S.x16 (ix2 ⟨base + k.val, by omega⟩ d)) (fun k d => S.x17 (ix2 ⟨base + k.val, by omega⟩ d))
    (fun d => S.x2 (ix2 p d)) (fun d => S.x8 (ix2 0 d)) (fun d => S.x5 (ix2 p d)) (fun d => S.x10 (ix2 p d)) d

include ho in
theorem half_dq (p : Fin 1024) (hp : p.val = so + (128 * n.val + r.val)) (hb : base + 128 * n.val + 640 ≤ 8704) (d : Fin 128) :
    (halfIn so hso o b S).dq (ix3 n r d) = rowOf S (base + 128 * n.val) hb (sc4 b n r) 0 p d := by
  rw [In.dq_apply, half_q S so hso o b n r p hp, half_z S so hso o b n r p hp, half_g S so hso o b n r p hp, half_w, half_k S so hso o base ho b n hb, half_v S so hso o base ho b n hb]
  rfl
include ho in
theorem half_dz (p : Fin 1024) (hp : p.val = so + (128 * n.val + r.val)) (hb : base + 128 * n.val + 640 ≤ 8704) (d : Fin 128) :
    (halfIn so hso o b S).dz (ix3 n r d) = rowOf S (base + 128 * n.val) hb (sc4 b n r) 1 p d := by
  rw [In.dz_apply, half_q S so hso o b n r p hp, half_z S so hso o b n r p hp, half_g S so hso o b n r p hp, half_w, half_k S so hso o base ho b n hb, half_v S so hso o base ho b n hb]
  rfl

theorem fourParts_apply (a0 b0 a1 b1 : S1x512x128.Idx → EReal) (a : Fin 2) (p : Fin 1024) (d : Fin 128) :
    fourParts a0 b0 a1 b1 (ix3 a p d) = if a.val = 0 then
        if h : p.val < 512 then a0 (ix3 0 ⟨p.val, h⟩ d) else a1 (ix3 0 ⟨p.val - 512, by omega⟩ d)
      else
        if h : p.val < 512 then b0 (ix3 0 ⟨p.val, h⟩ d) else b1 (ix3 0 ⟨p.val - 512, by omega⟩ d) := rfl

/-- The block's results, from two halves whose windows start 512 apart. -/
theorem halves_apply (o0 o1 : Offs) (base : ℕ) (h0 : Starts o0 base) (h1 : Starts o1 (base + 512)) (hb : base + 1536 ≤ 8704) (b0 b1 : FVec Ideal S4x128x640 .f32)
    (i0 i1) (U : Cont Ideal) (a : Fin 2) (p : Fin 1024) (d : Fin 128) :
    (halves (halfIn 0 i0 o0 b0 S) (halfIn 512 i1 o1 b1 S) o0 o1 U).x11 (ix3 a p d)
      = rowOf S (base + 128 * (p.val / 128)) (by omega)
          (sc4 (if p.val < 512 then b0 else b1) ⟨p.val / 128 % 4, by omega⟩ ⟨p.val % 128, by omega⟩) a p d := by
  have hp := p.isLt
  have key : ∀ (B B' : ℕ) (hB : B + 640 ≤ 8704) (hB' : B' + 640 ≤ 8704) (n n' : Fin 4) (r r' : Fin 128) (bb : FVec Ideal S4x128x640 .f32) (a : Fin 2), B = B' → n.val = n'.val → r.val = r'.val →
      rowOf S B hB (sc4 bb n r) a p d = rowOf S B' hB' (sc4 bb n' r') a p d := by
    intro B B' hB hB' n n' r r' bb a e en er
    obtain rfl := e; obtain rfl := Fin.ext en; obtain rfl := Fin.ext er
    rfl
  refine (fourParts_apply _ _ _ _ a p d).trans ?_
  by_cases ha : a.val = 0
  · obtain rfl : a = 0 := Fin.ext ha
    rw [if_pos ha]
    by_cases h : p.val < 512
    · rw [dif_pos h, if_pos h]
      refine (pay42_apply _ _ _).trans ((half_dq S 0 i0 o0 base h0 b0 _ _ p ?_ ?_ d).trans (key _ _ _ _ _ _ _ _ _ _ ?_ ?_ ?_)) <;> dsimp only <;> omega
    · rw [dif_neg h, if_neg h]
      refine (pay42_apply _ _ _).trans ((half_dq S 512 i1 o1 (base + 512) h1 b1 _ _ p ?_ ?_ d).trans (key _ _ _ _ _ _ _ _ _ _ ?_ ?_ ?_)) <;> dsimp only <;> omega
  · obtain rfl : a = 1 := Fin.ext (by have := a.isLt; show a.val = 1; omega)
    rw [if_neg ha]
    by_cases h : p.val < 512
    · rw [dif_pos h, if_pos h]
      refine (pay43_apply _ _ _).trans ((half_dz S 0 i0 o0 base h0 b0 _ _ p ?_ ?_ d).trans (key _ _ _ _ _ _ _ _ _ _ ?_ ?_ ?_)) <;> dsimp only <;> omega
    · rw [dif_neg h, if_neg h]
      refine (pay43_apply _ _ _).trans ((half_dz S 512 i1 o1 (base + 512) h1 b1 _ _ p ?_ ?_ d).trans (key _ _ _ _ _ _ _ _ _ _ ?_ ?_ ?_)) <;> dsimp only <;> omega

end Cert.KernelIdeal.Attn

end
-- ==== Proof.Attn.Bias.lean ====
/- The arrays that the attention's backward call is given by the host: the biases along the band and the norms' weights. -/
module

public import proofs.«01_k».proof.Proof.Gen.KernelIdeal.Frame
public import proofs.«01_k».proof.Proof.Attn.Row
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.SL.Sem

/-- Row `r` of the band's biases, a window of the diagonal's. -/
def bandRow (x : FVec Ideal S16x767 .f32) (r : Fin 128) : FVec Ideal S16x1x640 .f32 :=
  broadcastInDim S16x1x640 ![0, 2] bcast_S16x640_S16x1x640_0_2
    (extractStridedSlice S16x640 ![0, 127 - r.val] x
      ⟨rfl, fun a => by
        match a with
        | ⟨0, _⟩ => exact Nat.le_refl 16
        | ⟨1, _⟩ => change 127 - r.val + 640 ≤ 767; omega⟩)

/-- Sixteen rows of the band's biases. -/
def bandRows (x : FVec Ideal S16x767 .f32) (b : Fin 8) : FVec Ideal S16x16x640 .f32 :=
  concatenate S16x16x640 1
    (List.ofFn fun n : Fin 16 => (⟨S16x1x640, bandRow x ⟨16 * b.val + n.val, by omega⟩⟩ : (s : Shape) × (s.Idx → Elt Ideal .f32)))
    concatenates_S16x1x640_S16x1x640_S16x1x640_S16x1x640_S16x1x640_S16x1x640_S16x1x640_S16x1x640_S16x1x640_S16x1x640_S16x1x640_S16x1x640_S16x1x640_S16x1x640_S16x1x640_S16x1x640_S16x16x640_d1

/-- The band's biases. -/
def band (x : FVec Ideal S16x767 .f32) : FVec Ideal S16x128x640 .f32 :=
  concatenate S16x128x640 1
    (List.ofFn fun b : Fin 8 => (⟨S16x16x640, bandRows x b⟩ : (s : Shape) × (s.Idx → Elt Ideal .f32)))
    concatenates_S16x16x640_S16x16x640_S16x16x640_S16x16x640_S16x16x640_S16x16x640_S16x16x640_S16x16x640_S16x128x640_d1

theorem bandRow_apply (x : FVec Ideal S16x767 .f32) (r : Fin 128) (h : Fin 16) (k : Fin 640) (l : Fin 767)
    (hl : l.val = 127 - r.val + k.val) : bandRow x r (ix3 h (0 : Fin 1) k) = x (ix2 h l) := by
  unfold bandRow
  pointwise []
  congr 2
  exact Fin.ext hl.symm

theorem bandRows_apply (x : FVec Ideal S16x767 .f32) (b : Fin 8) (h : Fin 16) (n : Fin 16) (k : Fin 640) (l : Fin 767)
    (hl : l.val = 127 - (16 * b.val + n.val) + k.val) : bandRows x b (ix3 h n k) = x (ix2 h l) := by
  unfold bandRows
  refine (concatenate_ofFn_unit_apply (t := S16x16x640) (s₁ := S16x1x640) 1
    (fun n : Fin 16 => bandRow x ⟨16 * b.val + n.val, by omega⟩) _ rfl rfl (ix3 h n k) n rfl (ix3 h (0 : Fin 1) k)
    (fun b hb => by
      match b with
      | ⟨0, _⟩ => rfl
      | ⟨1, _⟩ => exact absurd rfl hb
      | ⟨2, _⟩ => rfl)).trans ?_
  exact bandRow_apply x _ h k l hl

theorem band_apply (x : FVec Ideal S16x767 .f32) (h : Fin 16) (r : Fin 128) (k : Fin 640) (l : Fin 767)
    (hl : l.val = 127 - r.val + k.val) : band x (ix3 h r k) = x (ix2 h l) := by
  unfold band
  refine (concatenate_apply_piece (t := S16x128x640) 1 (List.ofFn fun b : Fin 8 => (⟨S16x16x640, bandRows x b⟩ : (s : Shape) × (s.Idx → Elt Ideal .f32))) _ (ix3 h r k) (r.val / 16) (by simp; omega) S16x16x640
    (bandRows x ⟨r.val / 16, by omega⟩) (List.getElem_ofFn _) rfl (16 * (r.val / 16)) ?_ (ix3 h (⟨r.val % 16, by omega⟩ : Fin 16) k)
    (fun b hb => by
      match b with
      | ⟨0, _⟩ => rfl
      | ⟨1, _⟩ => exact absurd rfl hb
      | ⟨2, _⟩ => rfl) ?_).trans ?_
  · have : r.val / 16 < 8 := by omega
    generalize r.val / 16 = q at this ⊢
    interval_cases q <;> rfl
  · change 16 * (r.val / 16) + r.val % 16 = r.val
    omega
  · exact bandRows_apply x _ h _ k l (by show l.val = 127 - (16 * (r.val / 16) + r.val % 16) + k.val; omega)

variable (m : (ℓ : Loc nD τ sig) → Buf (Elt Ideal) ℓ) (c : Dev nD)

set_option maxHeartbeats 40000000

/-- The biases along the diagonal. -/
def diagonal (b : FVec Ideal S1x16x513 .f32) : FVec Ideal S16x767 .f32 :=
  concatenate S16x767 1
    [⟨S16x384, broadcastInDim S16x384 ![0, 1] bcast_S16x1_S16x384_0_1
        (extractStridedSlice S16x1 ![0, 512] (shapeCast S16x513 b shapeCasts_S1x16x513_S16x513) slices_S16x513_S16x1_0_512)⟩,
     ⟨S16x383, Host.reverse [1]
        (extractStridedSlice S16x383 ![0, 129] (shapeCast S16x513 b shapeCasts_S1x16x513_S16x513) slices_S16x513_S16x383_0_129)⟩]
    concatenates_S16x384_S16x383_S16x767_d1

theorem diagonal_apply (b : FVec Ideal S1x16x513 .f32) (h : Fin 16) (l : Fin 767) :
    diagonal b (ix2 h l) = b (ix3 (0 : Fin 1) h (⟨min 512 (895 - l.val), by omega⟩ : Fin 513)) := by
  unfold diagonal
  by_cases hl : l.val < 384
  · have e : (⟨min 512 (895 - l.val), by omega⟩ : Fin 513) = ⟨512, by omega⟩ := Fin.ext (by simp only []; omega)
    rw [e]
    pointwise [hl]
  · have e : (⟨min 512 (895 - l.val), by omega⟩ : Fin 513) = ⟨895 - l.val, by omega⟩ := Fin.ext (by simp only []; omega)
    rw [e]
    pointwise [hl]
    congr 2
    refine Fin.ext ?_
    show 129 + ((⟨l.val - 384, by omega⟩ : Fin 383).rev).val = 895 - l.val
    rw [Fin.val_rev]
    show 129 + (383 - (l.val - 384 + 1)) = 895 - l.val
    omega

end Cert.KernelIdeal.Attn

end
-- ==== Proof.Attn.HostA.lean ====
/- The host code that prepares the attention's backward call, read stretch by stretch. -/
module

public import proofs.«01_k».proof.Proof.Attn.Bias
public import Idealize.ShloMosaic.Lib.StableHlo.RunRead

@[expose] public section

set_option maxRecDepth 16384
set_option maxHeartbeats 40000000

noncomputable section

namespace Cert.KernelIdeal.Attn

open Cert.KernelIdeal Cert.KernelIdeal.Gen
open Idealize.ShloMosaic Idealize.ShloMosaic.TcCoe Idealize.SL.Sem Idealize.ShloMosaic.StableHlo

/-- The diagonal's biases' operations. -/
def opsA : List (HloOp τ sig (Elt Ideal)) := (hostOps0 (F := Ideal)).take 6
/-- The rows' windows. -/
def opsB : List (HloOp τ sig (Elt Ideal)) := ((hostOps0 (F := Ideal)).drop 6).take 128
/-- The rows as slabs. -/
def opsC : List (HloOp τ sig (Elt Ideal)) := ((hostOps0 (F := Ideal)).drop 134).take 128
/-- The slabs put together. -/
def opsD : List (HloOp τ sig (Elt Ideal)) := ((hostOps0 (F := Ideal)).drop 262).take 9
/-- The masks and the norms' weights. -/
def opsE : List (HloOp τ sig (Elt Ideal)) :=
  (hostOps0 (F := Ideal)).drop 271 ++ hostOps0_1 ++ hostOps0_2 ++ hostOps0_3 ++ hostOps0_4 ++ hostOps0_5 ++ hostOps0_6 ++ hostOps0_7 ++ hostOps0_8 ++ hostOps0_9

theorem readA (W : Valuation τ sig (Elt Ideal)) :
    (after opsA W (Proc.devRef .tc main_v5) : FVec Ideal S16x767 .f32) = diagonal (W (Proc.devRef .tc main_arg1)) := by
  after_reads_simp
  rfl

end Cert.KernelIdeal.Attn

end
-- ==== Proof.Attn.HostB.lean ====
/- The rows of the band's biases, read off the host code. -/
module

public import proofs.«01_k».proof.Proof.Attn.HostA

@[expose] public section

set_option maxRecDepth 16384
set_option maxHeartbeats 40000000

noncomputable section

namespace Cert.KernelIdeal.Attn

open Cert.KernelIdeal Cert.KernelIdeal.Gen
open Idealize.ShloMosaic Idealize.ShloMosaic.TcCoe Idealize.SL.Sem Idealize.ShloMosaic.StableHlo

/-- Sixteen slabs side by side. -/
def cat16 (x0 x1 x2 x3 x4 x5 x6 x7 x8 x9 x10 x11 x12 x13 x14 x15 : FVec Ideal S16x1x640 .f32) : FVec Ideal S16x16x640 .f32 :=
  concatenate S16x16x640 1 [⟨S16x1x640, x0⟩, ⟨S16x1x640, x1⟩, ⟨S16x1x640, x2⟩, ⟨S16x1x640, x3⟩, ⟨S16x1x640, x4⟩, ⟨S16x1x640, x5⟩, ⟨S16x1x640, x6⟩, ⟨S16x1x640, x7⟩, ⟨S16x1x640, x8⟩, ⟨S16x1x640, x9⟩, ⟨S16x1x640, x10⟩, ⟨S16x1x640, x11⟩, ⟨S16x1x640, x12⟩, ⟨S16x1x640, x13⟩, ⟨S16x1x640, x14⟩, ⟨S16x1x640, x15⟩]
    concatenates_S16x1x640_S16x1x640_S16x1x640_S16x1x640_S16x1x640_S16x1x640_S16x1x640_S16x1x640_S16x1x640_S16x1x640_S16x1x640_S16x1x640_S16x1x640_S16x1x640_S16x1x640_S16x1x640_S16x16x640_d1

/-- Eight of them. -/
def cat8 (x0 x1 x2 x3 x4 x5 x6 x7 : FVec Ideal S16x16x640 .f32) : FVec Ideal S16x128x640 .f32 :=
  concatenate S16x128x640 1 [⟨S16x16x640, x0⟩, ⟨S16x16x640, x1⟩, ⟨S16x16x640, x2⟩, ⟨S16x16x640, x3⟩, ⟨S16x16x640, x4⟩, ⟨S16x16x640, x5⟩, ⟨S16x16x640, x6⟩, ⟨S16x16x640, x7⟩]
    concatenates_S16x16x640_S16x16x640_S16x16x640_S16x16x640_S16x16x640_S16x16x640_S16x16x640_S16x16x640_S16x128x640_d1

variable (W : Valuation τ sig (Elt Ideal))

theorem bandR0 : (after opsC (after opsB W) (Proc.devRef .tc main_v134) : FVec Ideal S16x1x640 .f32) = bandRow (W (Proc.devRef .tc main_v5)) 0 := by
  after_reads_simp; rfl
theorem bandR1 : (after opsC (after opsB W) (Proc.devRef .tc main_v135) : FVec Ideal S16x1x640 .f32) = bandRow (W (Proc.devRef .tc main_v5)) 1 := by
  after_reads_simp; rfl
theorem bandR2 : (after opsC (after opsB W) (Proc.devRef .tc main_v136) : FVec Ideal S16x1x640 .f32) = bandRow (W (Proc.devRef .tc main_v5)) 2 := by
  after_reads_simp; rfl
theorem bandR3 : (after opsC (after opsB W) (Proc.devRef .tc main_v137) : FVec Ideal S16x1x640 .f32) = bandRow (W (Proc.devRef .tc main_v5)) 3 := by
  after_reads_simp; rfl
theorem bandR4 : (after opsC (after opsB W) (Proc.devRef .tc main_v138) : FVec Ideal S16x1x640 .f32) = bandRow (W (Proc.devRef .tc main_v5)) 4 := by
  after_reads_simp; rfl
theorem bandR5 : (after opsC (after opsB W) (Proc.devRef .tc main_v139) : FVec Ideal S16x1x640 .f32) = bandRow (W (Proc.devRef .tc main_v5)) 5 := by
  after_reads_simp; rfl
theorem bandR6 : (after opsC (after opsB W) (Proc.devRef .tc main_v140) : FVec Ideal S16x1x640 .f32) = bandRow (W (Proc.devRef .tc main_v5)) 6 := by
  after_reads_simp; rfl
theorem bandR7 : (after opsC (after opsB W) (Proc.devRef .tc main_v141) : FVec Ideal S16x1x640 .f32) = bandRow (W (Proc.devRef .tc main_v5)) 7 := by
  after_reads_simp; rfl
theorem bandR8 : (after opsC (after opsB W) (Proc.devRef .tc main_v142) : FVec Ideal S16x1x640 .f32) = bandRow (W (Proc.devRef .tc main_v5)) 8 := by
  after_reads_simp; rfl
theorem bandR9 : (after opsC (after opsB W) (Proc.devRef .tc main_v143) : FVec Ideal S16x1x640 .f32) = bandRow (W (Proc.devRef .tc main_v5)) 9 := by
  after_reads_simp; rfl
theorem bandR10 : (after opsC (after opsB W) (Proc.devRef .tc main_v144) : FVec Ideal S16x1x640 .f32) = bandRow (W (Proc.devRef .tc main_v5)) 10 := by
  after_reads_simp; rfl
theorem bandR11 : (after opsC (after opsB W) (Proc.devRef .tc main_v145) : FVec Ideal S16x1x640 .f32) = bandRow (W (Proc.devRef .tc main_v5)) 11 := by
  after_reads_simp; rfl
theorem bandR12 : (after opsC (after opsB W) (Proc.devRef .tc main_v146) : FVec Ideal S16x1x640 .f32) = bandRow (W (Proc.devRef .tc main_v5)) 12 := by
  after_reads_simp; rfl
theorem bandR13 : (after opsC (after opsB W) (Proc.devRef .tc main_v147) : FVec Ideal S16x1x640 .f32) = bandRow (W (Proc.devRef .tc main_v5)) 13 := by
  after_reads_simp; rfl
theorem bandR14 : (after opsC (after opsB W) (Proc.devRef .tc main_v148) : FVec Ideal S16x1x640 .f32) = bandRow (W (Proc.devRef .tc main_v5)) 14 := by
  after_reads_simp; rfl
theorem bandR15 : (after opsC (after opsB W) (Proc.devRef .tc main_v149) : FVec Ideal S16x1x640 .f32) = bandRow (W (Proc.devRef .tc main_v5)) 15 := by
  after_reads_simp; rfl
theorem bandR16 : (after opsC (after opsB W) (Proc.devRef .tc main_v150) : FVec Ideal S16x1x640 .f32) = bandRow (W (Proc.devRef .tc main_v5)) 16 := by
  after_reads_simp; rfl
theorem bandR17 : (after opsC (after opsB W) (Proc.devRef .tc main_v151) : FVec Ideal S16x1x640 .f32) = bandRow (W (Proc.devRef .tc main_v5)) 17 := by
  after_reads_simp; rfl
theorem bandR18 : (after opsC (after opsB W) (Proc.devRef .tc main_v152) : FVec Ideal S16x1x640 .f32) = bandRow (W (Proc.devRef .tc main_v5)) 18 := by
  after_reads_simp; rfl
theorem bandR19 : (after opsC (after opsB W) (Proc.devRef .tc main_v153) : FVec Ideal S16x1x640 .f32) = bandRow (W (Proc.devRef .tc main_v5)) 19 := by
  after_reads_simp; rfl
theorem bandR20 : (after opsC (after opsB W) (Proc.devRef .tc main_v154) : FVec Ideal S16x1x640 .f32) = bandRow (W (Proc.devRef .tc main_v5)) 20 := by
  after_reads_simp; rfl
theorem bandR21 : (after opsC (after opsB W) (Proc.devRef .tc main_v155) : FVec Ideal S16x1x640 .f32) = bandRow (W (Proc.devRef .tc main_v5)) 21 := by
  after_reads_simp; rfl
theorem bandR22 : (after opsC (after opsB W) (Proc.devRef .tc main_v156) : FVec Ideal S16x1x640 .f32) = bandRow (W (Proc.devRef .tc main_v5)) 22 := by
  after_reads_simp; rfl
theorem bandR23 : (after opsC (after opsB W) (Proc.devRef .tc main_v157) : FVec Ideal S16x1x640 .f32) = bandRow (W (Proc.devRef .tc main_v5)) 23 := by
  after_reads_simp; rfl
theorem bandR24 : (after opsC (after opsB W) (Proc.devRef .tc main_v158) : FVec Ideal S16x1x640 .f32) = bandRow (W (Proc.devRef .tc main_v5)) 24 := by
  after_reads_simp; rfl
theorem bandR25 : (after opsC (after opsB W) (Proc.devRef .tc main_v159) : FVec Ideal S16x1x640 .f32) = bandRow (W (Proc.devRef .tc main_v5)) 25 := by
  after_reads_simp; rfl
theorem bandR26 : (after opsC (after opsB W) (Proc.devRef .tc main_v160) : FVec Ideal S16x1x640 .f32) = bandRow (W (Proc.devRef .tc main_v5)) 26 := by
  after_reads_simp; rfl
theorem bandR27 : (after opsC (after opsB W) (Proc.devRef .tc main_v161) : FVec Ideal S16x1x640 .f32) = bandRow (W (Proc.devRef .tc main_v5)) 27 := by
  after_reads_simp; rfl
theorem bandR28 : (after opsC (after opsB W) (Proc.devRef .tc main_v162) : FVec Ideal S16x1x640 .f32) = bandRow (W (Proc.devRef .tc main_v5)) 28 := by
  after_reads_simp; rfl
theorem bandR29 : (after opsC (after opsB W) (Proc.devRef .tc main_v163) : FVec Ideal S16x1x640 .f32) = bandRow (W (Proc.devRef .tc main_v5)) 29 := by
  after_reads_simp; rfl
theorem bandR30 : (after opsC (after opsB W) (Proc.devRef .tc main_v164) : FVec Ideal S16x1x640 .f32) = bandRow (W (Proc.devRef .tc main_v5)) 30 := by
  after_reads_simp; rfl
theorem bandR31 : (after opsC (after opsB W) (Proc.devRef .tc main_v165) : FVec Ideal S16x1x640 .f32) = bandRow (W (Proc.devRef .tc main_v5)) 31 := by
  after_reads_simp; rfl
theorem bandR32 : (after opsC (after opsB W) (Proc.devRef .tc main_v166) : FVec Ideal S16x1x640 .f32) = bandRow (W (Proc.devRef .tc main_v5)) 32 := by
  after_reads_simp; rfl
theorem bandR33 : (after opsC (after opsB W) (Proc.devRef .tc main_v167) : FVec Ideal S16x1x640 .f32) = bandRow (W (Proc.devRef .tc main_v5)) 33 := by
  after_reads_simp; rfl
theorem bandR34 : (after opsC (after opsB W) (Proc.devRef .tc main_v168) : FVec Ideal S16x1x640 .f32) = bandRow (W (Proc.devRef .tc main_v5)) 34 := by
  after_reads_simp; rfl
theorem bandR35 : (after opsC (after opsB W) (Proc.devRef .tc main_v169) : FVec Ideal S16x1x640 .f32) = bandRow (W (Proc.devRef .tc main_v5)) 35 := by
  after_reads_simp; rfl
theorem bandR36 : (after opsC (after opsB W) (Proc.devRef .tc main_v170) : FVec Ideal S16x1x640 .f32) = bandRow (W (Proc.devRef .tc main_v5)) 36 := by
  after_reads_simp; rfl
theorem bandR37 : (after opsC (after opsB W) (Proc.devRef .tc main_v171) : FVec Ideal S16x1x640 .f32) = bandRow (W (Proc.devRef .tc main_v5)) 37 := by
  after_reads_simp; rfl
theorem bandR38 : (after opsC (after opsB W) (Proc.devRef .tc main_v172) : FVec Ideal S16x1x640 .f32) = bandRow (W (Proc.devRef .tc main_v5)) 38 := by
  after_reads_simp; rfl
theorem bandR39 : (after opsC (after opsB W) (Proc.devRef .tc main_v173) : FVec Ideal S16x1x640 .f32) = bandRow (W (Proc.devRef .tc main_v5)) 39 := by
  after_reads_simp; rfl
theorem bandR40 : (after opsC (after opsB W) (Proc.devRef .tc main_v174) : FVec Ideal S16x1x640 .f32) = bandRow (W (Proc.devRef .tc main_v5)) 40 := by
  after_reads_simp; rfl
theorem bandR41 : (after opsC (after opsB W) (Proc.devRef .tc main_v175) : FVec Ideal S16x1x640 .f32) = bandRow (W (Proc.devRef .tc main_v5)) 41 := by
  after_reads_simp; rfl
theorem bandR42 : (after opsC (after opsB W) (Proc.devRef .tc main_v176) : FVec Ideal S16x1x640 .f32) = bandRow (W (Proc.devRef .tc main_v5)) 42 := by
  after_reads_simp; rfl
theorem bandR43 : (after opsC (after opsB W) (Proc.devRef .tc main_v177) : FVec Ideal S16x1x640 .f32) = bandRow (W (Proc.devRef .tc main_v5)) 43 := by
  after_reads_simp; rfl
theorem bandR44 : (after opsC (after opsB W) (Proc.devRef .tc main_v178) : FVec Ideal S16x1x640 .f32) = bandRow (W (Proc.devRef .tc main_v5)) 44 := by
  after_reads_simp; rfl
theorem bandR45 : (after opsC (after opsB W) (Proc.devRef .tc main_v179) : FVec Ideal S16x1x640 .f32) = bandRow (W (Proc.devRef .tc main_v5)) 45 := by
  after_reads_simp; rfl
theorem bandR46 : (after opsC (after opsB W) (Proc.devRef .tc main_v180) : FVec Ideal S16x1x640 .f32) = bandRow (W (Proc.devRef .tc main_v5)) 46 := by
  after_reads_simp; rfl
theorem bandR47 : (after opsC (after opsB W) (Proc.devRef .tc main_v181) : FVec Ideal S16x1x640 .f32) = bandRow (W (Proc.devRef .tc main_v5)) 47 := by
  after_reads_simp; rfl
theorem bandR48 : (after opsC (after opsB W) (Proc.devRef .tc main_v182) : FVec Ideal S16x1x640 .f32) = bandRow (W (Proc.devRef .tc main_v5)) 48 := by
  after_reads_simp; rfl
theorem bandR49 : (after opsC (after opsB W) (Proc.devRef .tc main_v183) : FVec Ideal S16x1x640 .f32) = bandRow (W (Proc.devRef .tc main_v5)) 49 := by
  after_reads_simp; rfl
theorem bandR50 : (after opsC (after opsB W) (Proc.devRef .tc main_v184) : FVec Ideal S16x1x640 .f32) = bandRow (W (Proc.devRef .tc main_v5)) 50 := by
  after_reads_simp; rfl
theorem bandR51 : (after opsC (after opsB W) (Proc.devRef .tc main_v185) : FVec Ideal S16x1x640 .f32) = bandRow (W (Proc.devRef .tc main_v5)) 51 := by
  after_reads_simp; rfl
theorem bandR52 : (after opsC (after opsB W) (Proc.devRef .tc main_v186) : FVec Ideal S16x1x640 .f32) = bandRow (W (Proc.devRef .tc main_v5)) 52 := by
  after_reads_simp; rfl
theorem bandR53 : (after opsC (after opsB W) (Proc.devRef .tc main_v187) : FVec Ideal S16x1x640 .f32) = bandRow (W (Proc.devRef .tc main_v5)) 53 := by
  after_reads_simp; rfl
theorem bandR54 : (after opsC (after opsB W) (Proc.devRef .tc main_v188) : FVec Ideal S16x1x640 .f32) = bandRow (W (Proc.devRef .tc main_v5)) 54 := by
  after_reads_simp; rfl
theorem bandR55 : (after opsC (after opsB W) (Proc.devRef .tc main_v189) : FVec Ideal S16x1x640 .f32) = bandRow (W (Proc.devRef .tc main_v5)) 55 := by
  after_reads_simp; rfl
theorem bandR56 : (after opsC (after opsB W) (Proc.devRef .tc main_v190) : FVec Ideal S16x1x640 .f32) = bandRow (W (Proc.devRef .tc main_v5)) 56 := by
  after_reads_simp; rfl
theorem bandR57 : (after opsC (after opsB W) (Proc.devRef .tc main_v191) : FVec Ideal S16x1x640 .f32) = bandRow (W (Proc.devRef .tc main_v5)) 57 := by
  after_reads_simp; rfl
theorem bandR58 : (after opsC (after opsB W) (Proc.devRef .tc main_v192) : FVec Ideal S16x1x640 .f32) = bandRow (W (Proc.devRef .tc main_v5)) 58 := by
  after_reads_simp; rfl
theorem bandR59 : (after opsC (after opsB W) (Proc.devRef .tc main_v193) : FVec Ideal S16x1x640 .f32) = bandRow (W (Proc.devRef .tc main_v5)) 59 := by
  after_reads_simp; rfl
theorem bandR60 : (after opsC (after opsB W) (Proc.devRef .tc main_v194) : FVec Ideal S16x1x640 .f32) = bandRow (W (Proc.devRef .tc main_v5)) 60 := by
  after_reads_simp; rfl
theorem bandR61 : (after opsC (after opsB W) (Proc.devRef .tc main_v195) : FVec Ideal S16x1x640 .f32) = bandRow (W (Proc.devRef .tc main_v5)) 61 := by
  after_reads_simp; rfl
theorem bandR62 : (after opsC (after opsB W) (Proc.devRef .tc main_v196) : FVec Ideal S16x1x640 .f32) = bandRow (W (Proc.devRef .tc main_v5)) 62 := by
  after_reads_simp; rfl
theorem bandR63 : (after opsC (after opsB W) (Proc.devRef .tc main_v197) : FVec Ideal S16x1x640 .f32) = bandRow (W (Proc.devRef .tc main_v5)) 63 := by
  after_reads_simp; rfl
theorem bandR64 : (after opsC (after opsB W) (Proc.devRef .tc main_v198) : FVec Ideal S16x1x640 .f32) = bandRow (W (Proc.devRef .tc main_v5)) 64 := by
  after_reads_simp; rfl
theorem bandR65 : (after opsC (after opsB W) (Proc.devRef .tc main_v199) : FVec Ideal S16x1x640 .f32) = bandRow (W (Proc.devRef .tc main_v5)) 65 := by
  after_reads_simp; rfl
theorem bandR66 : (after opsC (after opsB W) (Proc.devRef .tc main_v200) : FVec Ideal S16x1x640 .f32) = bandRow (W (Proc.devRef .tc main_v5)) 66 := by
  after_reads_simp; rfl
theorem bandR67 : (after opsC (after opsB W) (Proc.devRef .tc main_v201) : FVec Ideal S16x1x640 .f32) = bandRow (W (Proc.devRef .tc main_v5)) 67 := by
  after_reads_simp; rfl
theorem bandR68 : (after opsC (after opsB W) (Proc.devRef .tc main_v202) : FVec Ideal S16x1x640 .f32) = bandRow (W (Proc.devRef .tc main_v5)) 68 := by
  after_reads_simp; rfl
theorem bandR69 : (after opsC (after opsB W) (Proc.devRef .tc main_v203) : FVec Ideal S16x1x640 .f32) = bandRow (W (Proc.devRef .tc main_v5)) 69 := by
  after_reads_simp; rfl
theorem bandR70 : (after opsC (after opsB W) (Proc.devRef .tc main_v204) : FVec Ideal S16x1x640 .f32) = bandRow (W (Proc.devRef .tc main_v5)) 70 := by
  after_reads_simp; rfl
theorem bandR71 : (after opsC (after opsB W) (Proc.devRef .tc main_v205) : FVec Ideal S16x1x640 .f32) = bandRow (W (Proc.devRef .tc main_v5)) 71 := by
  after_reads_simp; rfl
theorem bandR72 : (after opsC (after opsB W) (Proc.devRef .tc main_v206) : FVec Ideal S16x1x640 .f32) = bandRow (W (Proc.devRef .tc main_v5)) 72 := by
  after_reads_simp; rfl
theorem bandR73 : (after opsC (after opsB W) (Proc.devRef .tc main_v207) : FVec Ideal S16x1x640 .f32) = bandRow (W (Proc.devRef .tc main_v5)) 73 := by
  after_reads_simp; rfl
theorem bandR74 : (after opsC (after opsB W) (Proc.devRef .tc main_v208) : FVec Ideal S16x1x640 .f32) = bandRow (W (Proc.devRef .tc main_v5)) 74 := by
  after_reads_simp; rfl
theorem bandR75 : (after opsC (after opsB W) (Proc.devRef .tc main_v209) : FVec Ideal S16x1x640 .f32) = bandRow (W (Proc.devRef .tc main_v5)) 75 := by
  after_reads_simp; rfl
theorem bandR76 : (after opsC (after opsB W) (Proc.devRef .tc main_v210) : FVec Ideal S16x1x640 .f32) = bandRow (W (Proc.devRef .tc main_v5)) 76 := by
  after_reads_simp; rfl
theorem bandR77 : (after opsC (after opsB W) (Proc.devRef .tc main_v211) : FVec Ideal S16x1x640 .f32) = bandRow (W (Proc.devRef .tc main_v5)) 77 := by
  after_reads_simp; rfl
theorem bandR78 : (after opsC (after opsB W) (Proc.devRef .tc main_v212) : FVec Ideal S16x1x640 .f32) = bandRow (W (Proc.devRef .tc main_v5)) 78 := by
  after_reads_simp; rfl
theorem bandR79 : (after opsC (after opsB W) (Proc.devRef .tc main_v213) : FVec Ideal S16x1x640 .f32) = bandRow (W (Proc.devRef .tc main_v5)) 79 := by
  after_reads_simp; rfl
theorem bandR80 : (after opsC (after opsB W) (Proc.devRef .tc main_v214) : FVec Ideal S16x1x640 .f32) = bandRow (W (Proc.devRef .tc main_v5)) 80 := by
  after_reads_simp; rfl
theorem bandR81 : (after opsC (after opsB W) (Proc.devRef .tc main_v215) : FVec Ideal S16x1x640 .f32) = bandRow (W (Proc.devRef .tc main_v5)) 81 := by
  after_reads_simp; rfl
theorem bandR82 : (after opsC (after opsB W) (Proc.devRef .tc main_v216) : FVec Ideal S16x1x640 .f32) = bandRow (W (Proc.devRef .tc main_v5)) 82 := by
  after_reads_simp; rfl
theorem bandR83 : (after opsC (after opsB W) (Proc.devRef .tc main_v217) : FVec Ideal S16x1x640 .f32) = bandRow (W (Proc.devRef .tc main_v5)) 83 := by
  after_reads_simp; rfl
theorem bandR84 : (after opsC (after opsB W) (Proc.devRef .tc main_v218) : FVec Ideal S16x1x640 .f32) = bandRow (W (Proc.devRef .tc main_v5)) 84 := by
  after_reads_simp; rfl
theorem bandR85 : (after opsC (after opsB W) (Proc.devRef .tc main_v219) : FVec Ideal S16x1x640 .f32) = bandRow (W (Proc.devRef .tc main_v5)) 85 := by
  after_reads_simp; rfl
theorem bandR86 : (after opsC (after opsB W) (Proc.devRef .tc main_v220) : FVec Ideal S16x1x640 .f32) = bandRow (W (Proc.devRef .tc main_v5)) 86 := by
  after_reads_simp; rfl
theorem bandR87 : (after opsC (after opsB W) (Proc.devRef .tc main_v221) : FVec Ideal S16x1x640 .f32) = bandRow (W (Proc.devRef .tc main_v5)) 87 := by
  after_reads_simp; rfl
theorem bandR88 : (after opsC (after opsB W) (Proc.devRef .tc main_v222) : FVec Ideal S16x1x640 .f32) = bandRow (W (Proc.devRef .tc main_v5)) 88 := by
  after_reads_simp; rfl
theorem bandR89 : (after opsC (after opsB W) (Proc.devRef .tc main_v223) : FVec Ideal S16x1x640 .f32) = bandRow (W (Proc.devRef .tc main_v5)) 89 := by
  after_reads_simp; rfl
theorem bandR90 : (after opsC (after opsB W) (Proc.devRef .tc main_v224) : FVec Ideal S16x1x640 .f32) = bandRow (W (Proc.devRef .tc main_v5)) 90 := by
  after_reads_simp; rfl
theorem bandR91 : (after opsC (after opsB W) (Proc.devRef .tc main_v225) : FVec Ideal S16x1x640 .f32) = bandRow (W (Proc.devRef .tc main_v5)) 91 := by
  after_reads_simp; rfl
theorem bandR92 : (after opsC (after opsB W) (Proc.devRef .tc main_v226) : FVec Ideal S16x1x640 .f32) = bandRow (W (Proc.devRef .tc main_v5)) 92 := by
  after_reads_simp; rfl
theorem bandR93 : (after opsC (after opsB W) (Proc.devRef .tc main_v227) : FVec Ideal S16x1x640 .f32) = bandRow (W (Proc.devRef .tc main_v5)) 93 := by
  after_reads_simp; rfl
theorem bandR94 : (after opsC (after opsB W) (Proc.devRef .tc main_v228) : FVec Ideal S16x1x640 .f32) = bandRow (W (Proc.devRef .tc main_v5)) 94 := by
  after_reads_simp; rfl
theorem bandR95 : (after opsC (after opsB W) (Proc.devRef .tc main_v229) : FVec Ideal S16x1x640 .f32) = bandRow (W (Proc.devRef .tc main_v5)) 95 := by
  after_reads_simp; rfl
theorem bandR96 : (after opsC (after opsB W) (Proc.devRef .tc main_v230) : FVec Ideal S16x1x640 .f32) = bandRow (W (Proc.devRef .tc main_v5)) 96 := by
  after_reads_simp; rfl
theorem bandR97 : (after opsC (after opsB W) (Proc.devRef .tc main_v231) : FVec Ideal S16x1x640 .f32) = bandRow (W (Proc.devRef .tc main_v5)) 97 := by
  after_reads_simp; rfl
theorem bandR98 : (after opsC (after opsB W) (Proc.devRef .tc main_v232) : FVec Ideal S16x1x640 .f32) = bandRow (W (Proc.devRef .tc main_v5)) 98 := by
  after_reads_simp; rfl
theorem bandR99 : (after opsC (after opsB W) (Proc.devRef .tc main_v233) : FVec Ideal S16x1x640 .f32) = bandRow (W (Proc.devRef .tc main_v5)) 99 := by
  after_reads_simp; rfl
theorem bandR100 : (after opsC (after opsB W) (Proc.devRef .tc main_v234) : FVec Ideal S16x1x640 .f32) = bandRow (W (Proc.devRef .tc main_v5)) 100 := by
  after_reads_simp; rfl
theorem bandR101 : (after opsC (after opsB W) (Proc.devRef .tc main_v235) : FVec Ideal S16x1x640 .f32) = bandRow (W (Proc.devRef .tc main_v5)) 101 := by
  after_reads_simp; rfl
theorem bandR102 : (after opsC (after opsB W) (Proc.devRef .tc main_v236) : FVec Ideal S16x1x640 .f32) = bandRow (W (Proc.devRef .tc main_v5)) 102 := by
  after_reads_simp; rfl
theorem bandR103 : (after opsC (after opsB W) (Proc.devRef .tc main_v237) : FVec Ideal S16x1x640 .f32) = bandRow (W (Proc.devRef .tc main_v5)) 103 := by
  after_reads_simp; rfl
theorem bandR104 : (after opsC (after opsB W) (Proc.devRef .tc main_v238) : FVec Ideal S16x1x640 .f32) = bandRow (W (Proc.devRef .tc main_v5)) 104 := by
  after_reads_simp; rfl
theorem bandR105 : (after opsC (after opsB W) (Proc.devRef .tc main_v239) : FVec Ideal S16x1x640 .f32) = bandRow (W (Proc.devRef .tc main_v5)) 105 := by
  after_reads_simp; rfl
theorem bandR106 : (after opsC (after opsB W) (Proc.devRef .tc main_v240) : FVec Ideal S16x1x640 .f32) = bandRow (W (Proc.devRef .tc main_v5)) 106 := by
  after_reads_simp; rfl
theorem bandR107 : (after opsC (after opsB W) (Proc.devRef .tc main_v241) : FVec Ideal S16x1x640 .f32) = bandRow (W (Proc.devRef .tc main_v5)) 107 := by
  after_reads_simp; rfl
theorem bandR108 : (after opsC (after opsB W) (Proc.devRef .tc main_v242) : FVec Ideal S16x1x640 .f32) = bandRow (W (Proc.devRef .tc main_v5)) 108 := by
  after_reads_simp; rfl
theorem bandR109 : (after opsC (after opsB W) (Proc.devRef .tc main_v243) : FVec Ideal S16x1x640 .f32) = bandRow (W (Proc.devRef .tc main_v5)) 109 := by
  after_reads_simp; rfl
theorem bandR110 : (after opsC (after opsB W) (Proc.devRef .tc main_v244) : FVec Ideal S16x1x640 .f32) = bandRow (W (Proc.devRef .tc main_v5)) 110 := by
  after_reads_simp; rfl
theorem bandR111 : (after opsC (after opsB W) (Proc.devRef .tc main_v245) : FVec Ideal S16x1x640 .f32) = bandRow (W (Proc.devRef .tc main_v5)) 111 := by
  after_reads_simp; rfl
theorem bandR112 : (after opsC (after opsB W) (Proc.devRef .tc main_v246) : FVec Ideal S16x1x640 .f32) = bandRow (W (Proc.devRef .tc main_v5)) 112 := by
  after_reads_simp; rfl
theorem bandR113 : (after opsC (after opsB W) (Proc.devRef .tc main_v247) : FVec Ideal S16x1x640 .f32) = bandRow (W (Proc.devRef .tc main_v5)) 113 := by
  after_reads_simp; rfl
theorem bandR114 : (after opsC (after opsB W) (Proc.devRef .tc main_v248) : FVec Ideal S16x1x640 .f32) = bandRow (W (Proc.devRef .tc main_v5)) 114 := by
  after_reads_simp; rfl
theorem bandR115 : (after opsC (after opsB W) (Proc.devRef .tc main_v249) : FVec Ideal S16x1x640 .f32) = bandRow (W (Proc.devRef .tc main_v5)) 115 := by
  after_reads_simp; rfl
theorem bandR116 : (after opsC (after opsB W) (Proc.devRef .tc main_v250) : FVec Ideal S16x1x640 .f32) = bandRow (W (Proc.devRef .tc main_v5)) 116 := by
  after_reads_simp; rfl
theorem bandR117 : (after opsC (after opsB W) (Proc.devRef .tc main_v251) : FVec Ideal S16x1x640 .f32) = bandRow (W (Proc.devRef .tc main_v5)) 117 := by
  after_reads_simp; rfl
theorem bandR118 : (after opsC (after opsB W) (Proc.devRef .tc main_v252) : FVec Ideal S16x1x640 .f32) = bandRow (W (Proc.devRef .tc main_v5)) 118 := by
  after_reads_simp; rfl
theorem bandR119 : (after opsC (after opsB W) (Proc.devRef .tc main_v253) : FVec Ideal S16x1x640 .f32) = bandRow (W (Proc.devRef .tc main_v5)) 119 := by
  after_reads_simp; rfl
theorem bandR120 : (after opsC (after opsB W) (Proc.devRef .tc main_v254) : FVec Ideal S16x1x640 .f32) = bandRow (W (Proc.devRef .tc main_v5)) 120 := by
  after_reads_simp; rfl
theorem bandR121 : (after opsC (after opsB W) (Proc.devRef .tc main_v255) : FVec Ideal S16x1x640 .f32) = bandRow (W (Proc.devRef .tc main_v5)) 121 := by
  after_reads_simp; rfl
theorem bandR122 : (after opsC (after opsB W) (Proc.devRef .tc main_v256) : FVec Ideal S16x1x640 .f32) = bandRow (W (Proc.devRef .tc main_v5)) 122 := by
  after_reads_simp; rfl
theorem bandR123 : (after opsC (after opsB W) (Proc.devRef .tc main_v257) : FVec Ideal S16x1x640 .f32) = bandRow (W (Proc.devRef .tc main_v5)) 123 := by
  after_reads_simp; rfl
theorem bandR124 : (after opsC (after opsB W) (Proc.devRef .tc main_v258) : FVec Ideal S16x1x640 .f32) = bandRow (W (Proc.devRef .tc main_v5)) 124 := by
  after_reads_simp; rfl
theorem bandR125 : (after opsC (after opsB W) (Proc.devRef .tc main_v259) : FVec Ideal S16x1x640 .f32) = bandRow (W (Proc.devRef .tc main_v5)) 125 := by
  after_reads_simp; rfl
theorem bandR126 : (after opsC (after opsB W) (Proc.devRef .tc main_v260) : FVec Ideal S16x1x640 .f32) = bandRow (W (Proc.devRef .tc main_v5)) 126 := by
  after_reads_simp; rfl
theorem bandR127 : (after opsC (after opsB W) (Proc.devRef .tc main_v261) : FVec Ideal S16x1x640 .f32) = bandRow (W (Proc.devRef .tc main_v5)) 127 := by
  after_reads_simp; rfl

theorem rows0 (Y : FVec Ideal S16x16x640 .f32) (hY : Y = cat16 (W (Proc.devRef .tc main_v134)) (W (Proc.devRef .tc main_v135)) (W (Proc.devRef .tc main_v136)) (W (Proc.devRef .tc main_v137)) (W (Proc.devRef .tc main_v138)) (W (Proc.devRef .tc main_v139)) (W (Proc.devRef .tc main_v140)) (W (Proc.devRef .tc main_v141)) (W (Proc.devRef .tc main_v142)) (W (Proc.devRef .tc main_v143)) (W (Proc.devRef .tc main_v144)) (W (Proc.devRef .tc main_v145)) (W (Proc.devRef .tc main_v146)) (W (Proc.devRef .tc main_v147)) (W (Proc.devRef .tc main_v148)) (W (Proc.devRef .tc main_v149))) :
    (upto opsD W 8 (Proc.devRef .tc main_v262) : FVec Ideal S16x16x640 .f32) = Y := by
  after_reads_simp; rw [hY]; rfl

theorem rows1 (Y : FVec Ideal S16x16x640 .f32) (hY : Y = cat16 (W (Proc.devRef .tc main_v150)) (W (Proc.devRef .tc main_v151)) (W (Proc.devRef .tc main_v152)) (W (Proc.devRef .tc main_v153)) (W (Proc.devRef .tc main_v154)) (W (Proc.devRef .tc main_v155)) (W (Proc.devRef .tc main_v156)) (W (Proc.devRef .tc main_v157)) (W (Proc.devRef .tc main_v158)) (W (Proc.devRef .tc main_v159)) (W (Proc.devRef .tc main_v160)) (W (Proc.devRef .tc main_v161)) (W (Proc.devRef .tc main_v162)) (W (Proc.devRef .tc main_v163)) (W (Proc.devRef .tc main_v164)) (W (Proc.devRef .tc main_v165))) :
    (upto opsD W 8 (Proc.devRef .tc main_v263) : FVec Ideal S16x16x640 .f32) = Y := by
  after_reads_simp; rw [hY]; rfl

theorem rows2 (Y : FVec Ideal S16x16x640 .f32) (hY : Y = cat16 (W (Proc.devRef .tc main_v166)) (W (Proc.devRef .tc main_v167)) (W (Proc.devRef .tc main_v168)) (W (Proc.devRef .tc main_v169)) (W (Proc.devRef .tc main_v170)) (W (Proc.devRef .tc main_v171)) (W (Proc.devRef .tc main_v172)) (W (Proc.devRef .tc main_v173)) (W (Proc.devRef .tc main_v174)) (W (Proc.devRef .tc main_v175)) (W (Proc.devRef .tc main_v176)) (W (Proc.devRef .tc main_v177)) (W (Proc.devRef .tc main_v178)) (W (Proc.devRef .tc main_v179)) (W (Proc.devRef .tc main_v180)) (W (Proc.devRef .tc main_v181))) :
    (upto opsD W 8 (Proc.devRef .tc main_v264) : FVec Ideal S16x16x640 .f32) = Y := by
  after_reads_simp; rw [hY]; rfl

theorem rows3 (Y : FVec Ideal S16x16x640 .f32) (hY : Y = cat16 (W (Proc.devRef .tc main_v182)) (W (Proc.devRef .tc main_v183)) (W (Proc.devRef .tc main_v184)) (W (Proc.devRef .tc main_v185)) (W (Proc.devRef .tc main_v186)) (W (Proc.devRef .tc main_v187)) (W (Proc.devRef .tc main_v188)) (W (Proc.devRef .tc main_v189)) (W (Proc.devRef .tc main_v190)) (W (Proc.devRef .tc main_v191)) (W (Proc.devRef .tc main_v192)) (W (Proc.devRef .tc main_v193)) (W (Proc.devRef .tc main_v194)) (W (Proc.devRef .tc main_v195)) (W (Proc.devRef .tc main_v196)) (W (Proc.devRef .tc main_v197))) :
    (upto opsD W 8 (Proc.devRef .tc main_v265) : FVec Ideal S16x16x640 .f32) = Y := by
  after_reads_simp; rw [hY]; rfl

theorem rows4 (Y : FVec Ideal S16x16x640 .f32) (hY : Y = cat16 (W (Proc.devRef .tc main_v198)) (W (Proc.devRef .tc main_v199)) (W (Proc.devRef .tc main_v200)) (W (Proc.devRef .tc main_v201)) (W (Proc.devRef .tc main_v202)) (W (Proc.devRef .tc main_v203)) (W (Proc.devRef .tc main_v204)) (W (Proc.devRef .tc main_v205)) (W (Proc.devRef .tc main_v206)) (W (Proc.devRef .tc main_v207)) (W (Proc.devRef .tc main_v208)) (W (Proc.devRef .tc main_v209)) (W (Proc.devRef .tc main_v210)) (W (Proc.devRef .tc main_v211)) (W (Proc.devRef .tc main_v212)) (W (Proc.devRef .tc main_v213))) :
    (upto opsD W 8 (Proc.devRef .tc main_v266) : FVec Ideal S16x16x640 .f32) = Y := by
  after_reads_simp; rw [hY]; rfl

theorem rows5 (Y : FVec Ideal S16x16x640 .f32) (hY : Y = cat16 (W (Proc.devRef .tc main_v214)) (W (Proc.devRef .tc main_v215)) (W (Proc.devRef .tc main_v216)) (W (Proc.devRef .tc main_v217)) (W (Proc.devRef .tc main_v218)) (W (Proc.devRef .tc main_v219)) (W (Proc.devRef .tc main_v220)) (W (Proc.devRef .tc main_v221)) (W (Proc.devRef .tc main_v222)) (W (Proc.devRef .tc main_v223)) (W (Proc.devRef .tc main_v224)) (W (Proc.devRef .tc main_v225)) (W (Proc.devRef .tc main_v226)) (W (Proc.devRef .tc main_v227)) (W (Proc.devRef .tc main_v228)) (W (Proc.devRef .tc main_v229))) :
    (upto opsD W 8 (Proc.devRef .tc main_v267) : FVec Ideal S16x16x640 .f32) = Y := by
  after_reads_simp; rw [hY]; rfl

theorem rows6 (Y : FVec Ideal S16x16x640 .f32) (hY : Y = cat16 (W (Proc.devRef .tc main_v230)) (W (Proc.devRef .tc main_v231)) (W (Proc.devRef .tc main_v232)) (W (Proc.devRef .tc main_v233)) (W (Proc.devRef .tc main_v234)) (W (Proc.devRef .tc main_v235)) (W (Proc.devRef .tc main_v236)) (W (Proc.devRef .tc main_v237)) (W (Proc.devRef .tc main_v238)) (W (Proc.devRef .tc main_v239)) (W (Proc.devRef .tc main_v240)) (W (Proc.devRef .tc main_v241)) (W (Proc.devRef .tc main_v242)) (W (Proc.devRef .tc main_v243)) (W (Proc.devRef .tc main_v244)) (W (Proc.devRef .tc main_v245))) :
    (upto opsD W 8 (Proc.devRef .tc main_v268) : FVec Ideal S16x16x640 .f32) = Y := by
  after_reads_simp; rw [hY]; rfl

theorem rows7 (Y : FVec Ideal S16x16x640 .f32) (hY : Y = cat16 (W (Proc.devRef .tc main_v246)) (W (Proc.devRef .tc main_v247)) (W (Proc.devRef .tc main_v248)) (W (Proc.devRef .tc main_v249)) (W (Proc.devRef .tc main_v250)) (W (Proc.devRef .tc main_v251)) (W (Proc.devRef .tc main_v252)) (W (Proc.devRef .tc main_v253)) (W (Proc.devRef .tc main_v254)) (W (Proc.devRef .tc main_v255)) (W (Proc.devRef .tc main_v256)) (W (Proc.devRef .tc main_v257)) (W (Proc.devRef .tc main_v258)) (W (Proc.devRef .tc main_v259)) (W (Proc.devRef .tc main_v260)) (W (Proc.devRef .tc main_v261))) :
    (upto opsD W 8 (Proc.devRef .tc main_v269) : FVec Ideal S16x16x640 .f32) = Y := by
  after_reads_simp; rw [hY]; rfl

theorem rowsAll (Y : FVec Ideal S16x128x640 .f32) (hY : Y = cat8 (upto opsD W 8 (Proc.devRef .tc main_v262)) (upto opsD W 8 (Proc.devRef .tc main_v263)) (upto opsD W 8 (Proc.devRef .tc main_v264)) (upto opsD W 8 (Proc.devRef .tc main_v265)) (upto opsD W 8 (Proc.devRef .tc main_v266)) (upto opsD W 8 (Proc.devRef .tc main_v267)) (upto opsD W 8 (Proc.devRef .tc main_v268)) (upto opsD W 8 (Proc.devRef .tc main_v269))) :
    (after opsD W (Proc.devRef .tc main_v270) : FVec Ideal S16x128x640 .f32) = Y := by
  after_reads_simp; rw [hY]; rfl

theorem readBCD : (after opsD (after opsC (after opsB W)) (Proc.devRef .tc main_v270) : FVec Ideal S16x128x640 .f32) = band (W (Proc.devRef .tc main_v5)) := by
  refine (rowsAll _ _ rfl).trans ?_
  rw [rows0 (after opsC (after opsB W)) (bandRows (W (Proc.devRef .tc main_v5)) 0) (by
    rw [bandR0, bandR1, bandR2, bandR3, bandR4, bandR5, bandR6, bandR7, bandR8, bandR9, bandR10, bandR11, bandR12, bandR13, bandR14, bandR15]; rfl)]
  rw [rows1 (after opsC (after opsB W)) (bandRows (W (Proc.devRef .tc main_v5)) 1) (by
    rw [bandR16, bandR17, bandR18, bandR19, bandR20, bandR21, bandR22, bandR23, bandR24, bandR25, bandR26, bandR27, bandR28, bandR29, bandR30, bandR31]; rfl)]
  rw [rows2 (after opsC (after opsB W)) (bandRows (W (Proc.devRef .tc main_v5)) 2) (by
    rw [bandR32, bandR33, bandR34, bandR35, bandR36, bandR37, bandR38, bandR39, bandR40, bandR41, bandR42, bandR43, bandR44, bandR45, bandR46, bandR47]; rfl)]
  rw [rows3 (after opsC (after opsB W)) (bandRows (W (Proc.devRef .tc main_v5)) 3) (by
    rw [bandR48, bandR49, bandR50, bandR51, bandR52, bandR53, bandR54, bandR55, bandR56, bandR57, bandR58, bandR59, bandR60, bandR61, bandR62, bandR63]; rfl)]
  rw [rows4 (after opsC (after opsB W)) (bandRows (W (Proc.devRef .tc main_v5)) 4) (by
    rw [bandR64, bandR65, bandR66, bandR67, bandR68, bandR69, bandR70, bandR71, bandR72, bandR73, bandR74, bandR75, bandR76, bandR77, bandR78, bandR79]; rfl)]
  rw [rows5 (after opsC (after opsB W)) (bandRows (W (Proc.devRef .tc main_v5)) 5) (by
    rw [bandR80, bandR81, bandR82, bandR83, bandR84, bandR85, bandR86, bandR87, bandR88, bandR89, bandR90, bandR91, bandR92, bandR93, bandR94, bandR95]; rfl)]
  rw [rows6 (after opsC (after opsB W)) (bandRows (W (Proc.devRef .tc main_v5)) 6) (by
    rw [bandR96, bandR97, bandR98, bandR99, bandR100, bandR101, bandR102, bandR103, bandR104, bandR105, bandR106, bandR107, bandR108, bandR109, bandR110, bandR111]; rfl)]
  rw [rows7 (after opsC (after opsB W)) (bandRows (W (Proc.devRef .tc main_v5)) 7) (by
    rw [bandR112, bandR113, bandR114, bandR115, bandR116, bandR117, bandR118, bandR119, bandR120, bandR121, bandR122, bandR123, bandR124, bandR125, bandR126, bandR127]; rfl)]
  rfl

end Cert.KernelIdeal.Attn

end
-- ==== Proof.Attn.HostE.lean ====
/- The masks and the norms' weights, read off the host code. -/
module

public import proofs.«01_k».proof.Proof.Attn.HostA

@[expose] public section

set_option maxRecDepth 16384
set_option maxHeartbeats 40000000

noncomputable section

namespace Cert.KernelIdeal.Attn

open Cert.KernelIdeal Cert.KernelIdeal.Gen
open Idealize.ShloMosaic Idealize.ShloMosaic.TcCoe Idealize.SL.Sem Idealize.ShloMosaic.StableHlo

/-- The word of the row's block of 64. -/
def wordBlock : IVec S128x1 32 :=
  have r : IVec S128x1 32 := broadcastInDim S128x1 ![0] bcast_S128_S128x1_0 (iotaInDim S128 32 0)
  have c : IVec S_ 32 := constantI S_ 32 64#32
  have q : IVec S128x1 32 := Host.divsi r (broadcastInDim S128x1 ![] bcast_S_S128x1 c)
  select (andi (cmpi .ne (signi r) (broadcastInDim S128x1 ![] bcast_S_S128x1 (signi c)))
      (cmpi .ne (Host.remsi r (broadcastInDim S128x1 ![] bcast_S_S128x1 c)) (broadcastInDim S128x1 ![] bcast_S_S128x1 (constantI S_ 32 0#32))))
    (subi q (broadcastInDim S128x1 ![] bcast_S_S128x1 (constantI S_ 32 1#32))) q

/-- The first key of the row's band. -/
def wordFirst : IVec S128x1 32 := muli wordBlock (broadcastInDim S128x1 ![] bcast_S_S128x1 (constantI S_ 32 64#32))

/-- The keys' words. -/
def wordKey : IVec S1x640 32 := broadcastInDim S1x640 ![1] bcast_S640_S1x640_1 (iotaInDim S640 32 0)

/-- Whether a key lies in a row's band. -/
def maskBand : IVec S128x640 1 :=
  andi (cmpi .sge (broadcastInDim S128x640 ![0, 1] bcast_S1x640_S128x640_0_1 wordKey) (broadcastInDim S128x640 ![0, 1] bcast_S128x1_S128x640_0_1 wordFirst))
    (cmpi .slt (broadcastInDim S128x640 ![0, 1] bcast_S1x640_S128x640_0_1 wordKey)
      (broadcastInDim S128x640 ![0, 1] bcast_S128x1_S128x640_0_1 (addi wordFirst (broadcastInDim S128x1 ![] bcast_S_S128x1 (constantI S_ 32 576#32)))))

/-- Whether a key of the first groups' windows lies in the sequence. -/
def maskIn : IVec S4x1x640 1 :=
  cmpi .sge (broadcastInDim S4x1x640 ![0, 1, 2] bcast_S1x1x640_S4x1x640_0_1_2 (broadcastInDim S1x1x640 ![1, 2] bcast_S1x640_S1x1x640_1_2 wordKey))
    (broadcastInDim S4x1x640 ![0, 1, 2] bcast_S4x1x1_S4x1x640_0_1_2
      (subi (broadcastInDim S4x1x1 ![] bcast_S_S4x1x1 (constantI S_ 32 512#32))
        (muli (broadcastInDim S4x1x1 ![0] bcast_S4_S4x1x1_0 (iotaInDim S4 32 0)) (broadcastInDim S4x1x1 ![] bcast_S_S4x1x1 (constantI S_ 32 128#32)))))

/-- The first groups' biases. -/
def firstBias (x : FVec Ideal S16x128x640 .f32) : FVec Ideal S16x4x128x640 .f32 :=
  select (broadcastInDim S16x4x128x640 ![0, 1, 2, 3] bcast_S1x4x128x640_S16x4x128x640_0_1_2_3
      (broadcastInDim S1x4x128x640 ![1, 2, 3] bcast_S4x128x640_S1x4x128x640_1_2_3
        (andi (broadcastInDim S4x128x640 ![0, 1, 2] bcast_S1x128x640_S4x128x640_0_1_2 (broadcastInDim S1x128x640 ![1, 2] bcast_S128x640_S1x128x640_1_2 maskBand))
          (broadcastInDim S4x128x640 ![0, 1, 2] bcast_S4x1x640_S4x128x640_0_1_2 maskIn))))
    (broadcastInDim S16x4x128x640 ![0, 1, 2, 3] bcast_S16x1x128x640_S16x4x128x640_0_1_2_3 (broadcastInDim S16x1x128x640 ![0, 2, 3] bcast_S16x128x640_S16x1x128x640_0_2_3 x))
    (broadcastInDim S16x4x128x640 ![] bcast_S_S16x4x128x640 (constant (F := Ideal) S_ .f32 0xFF800000#32))

/-- The later groups' biases. -/
def restBias (x : FVec Ideal S16x128x640 .f32) : FVec Ideal S16x1x128x640 .f32 :=
  select (broadcastInDim S16x1x128x640 ![0, 1, 2, 3] bcast_S1x1x128x640_S16x1x128x640_0_1_2_3
      (broadcastInDim S1x1x128x640 ![2, 3] bcast_S128x640_S1x1x128x640_2_3 maskBand))
    (broadcastInDim S16x1x128x640 ![0, 2, 3] bcast_S16x128x640_S16x1x128x640_0_2_3 x)
    (broadcastInDim S16x1x128x640 ![] bcast_S_S16x1x128x640 (constant (F := Ideal) S_ .f32 0xFF800000#32))

theorem band_words : ∀ r : Fin 128, wordFirst (ix2 r (0 : Fin 1)) = BitVec.ofNat 32 (64 * (r.val / 64)) := by
  intro r
  pointwise [wordFirst, wordBlock]
  revert r
  decide +kernel

theorem key_words (k : Fin 640) : wordKey (ix2 (0 : Fin 1) k) = BitVec.ofNat 32 k.val := by
  pointwise [wordKey]

theorem band_key : ∀ (b : Fin 2) (k : Fin 640),
    IntOp.andi (IntOp.cmpi CmpIPredicate.sge (BitVec.ofNat 32 k) (BitVec.ofNat 32 (64 * b.val)))
      (IntOp.cmpi CmpIPredicate.slt (BitVec.ofNat 32 k) (IntOp.addi (BitVec.ofNat 32 (64 * b.val)) 576#32))
      = if 64 * b.val ≤ k.val ∧ k.val < 64 * b.val + 576 then 1#1 else 0#1 := by decide +kernel

theorem in_key : ∀ (n : Fin 4) (k : Fin 640),
    IntOp.cmpi CmpIPredicate.sge (BitVec.ofNat 32 k) (IntOp.subi (512#32) (IntOp.muli (BitVec.ofNat 32 n) 128#32))
      = if 512 ≤ 128 * n.val + k.val then 1#1 else 0#1 := by decide +kernel

theorem firstBias_apply (x : FVec Ideal S16x128x640 .f32) (h : Fin 16) (n : Fin 4) (r : Fin 128) (k : Fin 640) :
    (firstBias x (ix4 h n r k) : EReal)
      = if (64 * (r.val / 64) ≤ k.val ∧ k.val < 64 * (r.val / 64) + 576) ∧ 512 ≤ 128 * n.val + k.val then x (ix3 h r k)
        else (Ideal.ofBits .f32 0xFF800000#32 : EReal) := by
  pointwise [firstBias, maskBand, maskIn, band_words, key_words]
  have e := band_key ⟨r.val / 64, by omega⟩ k
  dsimp only at e
  rw [e, in_key]
  by_cases h1 : 64 * (r.val / 64) ≤ k.val ∧ k.val < 64 * (r.val / 64) + 576
  · by_cases h2 : 512 ≤ 128 * n.val + k.val
    · rw [if_pos h1, if_pos h2, if_pos (⟨h1, h2⟩ : (64 * (r.val / 64) ≤ k.val ∧ k.val < 64 * (r.val / 64) + 576) ∧ 512 ≤ 128 * n.val + k.val)]; rfl
    · rw [if_pos h1, if_neg h2, if_neg (fun h => h2 h.2 : ¬ ((64 * (r.val / 64) ≤ k.val ∧ k.val < 64 * (r.val / 64) + 576) ∧ 512 ≤ 128 * n.val + k.val))]; rfl
  · by_cases h2 : 512 ≤ 128 * n.val + k.val
    · rw [if_neg h1, if_pos h2, if_neg (fun h => h1 h.1 : ¬ ((64 * (r.val / 64) ≤ k.val ∧ k.val < 64 * (r.val / 64) + 576) ∧ 512 ≤ 128 * n.val + k.val))]; rfl
    · rw [if_neg h1, if_neg h2, if_neg (fun h => h1 h.1 : ¬ ((64 * (r.val / 64) ≤ k.val ∧ k.val < 64 * (r.val / 64) + 576) ∧ 512 ≤ 128 * n.val + k.val))]; rfl

theorem restBias_apply (x : FVec Ideal S16x128x640 .f32) (h : Fin 16) (n : Fin 1) (r : Fin 128) (k : Fin 640) :
    (restBias x (ix4 h n r k) : EReal)
      = if 64 * (r.val / 64) ≤ k.val ∧ k.val < 64 * (r.val / 64) + 576 then x (ix3 h r k)
        else (Ideal.ofBits .f32 0xFF800000#32 : EReal) := by
  pointwise [restBias, maskBand, band_words, key_words]
  have e := band_key ⟨r.val / 64, by omega⟩ k
  dsimp only at e
  rw [e]
  by_cases h1 : 64 * (r.val / 64) ≤ k.val ∧ k.val < 64 * (r.val / 64) + 576
  · rw [if_pos h1, if_pos h1]; rfl
  · rw [if_neg h1, if_neg h1]; rfl

theorem readE303 (W : Valuation τ sig (Elt Ideal)) :
    (after opsE W (Proc.devRef .tc main_v303) : FVec Ideal S16x4x128x640 .f32) = firstBias (W (Proc.devRef .tc main_v270)) := by
  after_reads_simp
  rfl

theorem readE306 (W : Valuation τ sig (Elt Ideal)) :
    (after opsE W (Proc.devRef .tc main_v306) : FVec Ideal S16x1x128x640 .f32) = restBias (W (Proc.devRef .tc main_v270)) := by
  after_reads_simp
  rfl

theorem pad0 (x : FVec Ideal S1x128 .f32) (v : FVec Ideal S_ .f32) (d : Fin 128) :
    (pad S1x128 ![0, 0] ![0, 0] ![0, 0] x v pads_S1x128_S1x128_000_000 h_S_ : FVec Ideal S1x128 .f32) (ix2 0 d) = x (ix2 0 d) := by
  pointwise []

theorem readE307 (W : Valuation τ sig (Elt Ideal)) (d : Fin 128) :
    ((after opsE W (Proc.devRef .tc main_v307) : FVec Ideal S1x128 .f32) (ix2 0 d) : EReal) = (W (Proc.devRef .tc main_arg2) : FVec Ideal S1x128 .f32) (ix2 0 d) := by
  after_reads_simp
  refine Eq.trans (pad0 _ _ d) ?_
  rfl

theorem readE308 (W : Valuation τ sig (Elt Ideal)) (d : Fin 128) :
    ((after opsE W (Proc.devRef .tc main_v308) : FVec Ideal S1x128 .f32) (ix2 0 d) : EReal) = (W (Proc.devRef .tc main_arg3) : FVec Ideal S1x128 .f32) (ix2 0 d) := by
  after_reads_simp
  refine Eq.trans (pad0 _ _ d) ?_
  rfl

end Cert.KernelIdeal.Attn

end
-- ==== Proof.Attn.Host.lean ====
/- What the attention's backward call is given by the host. -/
module

public import proofs.«01_k».proof.Proof.Attn.HostB
public import proofs.«01_k».proof.Proof.Attn.HostE

@[expose] public section

set_option maxRecDepth 16384
set_option maxHeartbeats 40000000

noncomputable section

namespace Cert.KernelIdeal.Attn

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

theorem split_ops {α : Type} (l : List α) (r : List α) :
    l ++ r = l.take 6 ++ ((l.drop 6).take 128 ++ ((l.drop 134).take 128 ++ ((l.drop 262).take 9 ++ (l.drop 271 ++ r)))) := by
  have e1 := List.take_append_drop 6 l
  have e2 := List.take_append_drop 128 (l.drop 6)
  have e3 := List.take_append_drop 128 (l.drop 134)
  have e4 := List.take_append_drop 9 (l.drop 262)
  rw [List.drop_drop] at e2 e3 e4
  rw [← List.append_assoc, ← List.append_assoc, ← List.append_assoc, ← List.append_assoc]
  refine congrArg (· ++ r) ?_
  rw [List.append_assoc, List.append_assoc, List.append_assoc, e4, e3, e2, e1]

theorem V_split (b : DevRef τ sig) :
    StableHlo.after (List.flatten [hostOps0 (F := Ideal), hostOps0_1, hostOps0_2, hostOps0_3, hostOps0_4, hostOps0_5, hostOps0_6, hostOps0_7, hostOps0_8, hostOps0_9]) (fun b => m (c, b)) b
      = after opsE (after opsD (after opsC (after opsB (after opsA (fun b => m (c, b)))))) b := by
  have e : List.flatten [hostOps0 (F := Ideal), hostOps0_1, hostOps0_2, hostOps0_3, hostOps0_4, hostOps0_5, hostOps0_6, hostOps0_7, hostOps0_8, hostOps0_9]
      = opsA ++ (opsB ++ (opsC ++ (opsD ++ opsE))) := by
    rw [List.flatten_cons, split_ops]
    unfold opsA opsB opsC opsD opsE
    refine congrArg _ (congrArg _ (congrArg _ (congrArg _ ?_)))
    rw [List.append_assoc, List.append_assoc, List.append_assoc, List.append_assoc, List.append_assoc, List.append_assoc, List.append_assoc, List.append_assoc]
    rfl
  rw [e, after_append, after_append, after_append, after_append]

theorem V270 (W : Valuation τ sig (Elt Ideal)) :
    (after opsD (after opsC (after opsB (after opsA W))) (Proc.devRef .tc main_v270) : FVec Ideal S16x128x640 .f32)
      = band (diagonal (W (Proc.devRef .tc main_arg1))) := by
  rw [readBCD, readA]

theorem V303 (h : Fin 16) (n : Fin 4) (r : Fin 128) (k : Fin 640) :
    ((V m c main_v303 : FVec Ideal S16x4x128x640 .f32) (ix4 h n r k) : EReal)
      = if (64 * (r.val / 64) ≤ k.val ∧ k.val < 64 * (r.val / 64) + 576) ∧ 512 ≤ 128 * n.val + k.val then
          (m ((c : Thread nD τ).loc main_arg1) : FVec Ideal S1x16x513 .f32) (ix3 (0 : Fin 1) h (⟨min 512 (768 + r.val - k.val), by omega⟩ : Fin 513))
        else (Ideal.ofBits .f32 0xFF800000#32 : EReal) := by
  have e := V_split m c (Proc.devRef .tc main_v303)
  refine (congrFun (e.trans ((readE303 _).trans (congrArg firstBias (V270 _)))) _).trans ?_
  rw [firstBias_apply]
  split
  · rw [band_apply _ h r k ⟨127 - r.val + k.val, by omega⟩ rfl, diagonal_apply]
    refine congrArg _ (congrArg _ (Fin.ext ?_))
    show min 512 (895 - (127 - r.val + k.val)) = min 512 (768 + r.val - k.val)
    omega
  · rfl

theorem V306 (h : Fin 16) (n : Fin 1) (r : Fin 128) (k : Fin 640) :
    ((V m c main_v306 : FVec Ideal S16x1x128x640 .f32) (ix4 h n r k) : EReal)
      = if 64 * (r.val / 64) ≤ k.val ∧ k.val < 64 * (r.val / 64) + 576 then
          (m ((c : Thread nD τ).loc main_arg1) : FVec Ideal S1x16x513 .f32) (ix3 (0 : Fin 1) h (⟨min 512 (768 + r.val - k.val), by omega⟩ : Fin 513))
        else (Ideal.ofBits .f32 0xFF800000#32 : EReal) := by
  have e := V_split m c (Proc.devRef .tc main_v306)
  refine (congrFun (e.trans ((readE306 _).trans (congrArg restBias (V270 _)))) _).trans ?_
  rw [restBias_apply]
  split
  · rw [band_apply _ h r k ⟨127 - r.val + k.val, by omega⟩ rfl, diagonal_apply]
    refine congrArg _ (congrArg _ (Fin.ext ?_))
    show min 512 (895 - (127 - r.val + k.val)) = min 512 (768 + r.val - k.val)
    omega
  · rfl

theorem keep2 (W : Valuation τ sig (Elt Ideal)) :
    after opsD (after opsC (after opsB (after opsA W))) (Proc.devRef .tc main_arg2) = W (Proc.devRef .tc main_arg2) := by
  after_reads_simp

theorem keep3 (W : Valuation τ sig (Elt Ideal)) :
    after opsD (after opsC (after opsB (after opsA W))) (Proc.devRef .tc main_arg3) = W (Proc.devRef .tc main_arg3) := by
  after_reads_simp

theorem V307 (d : Fin 128) :
    ((V m c main_v307 : FVec Ideal S1x128 .f32) (ix2 0 d) : EReal) = (m ((c : Thread nD τ).loc main_arg2) : FVec Ideal S1x128 .f32) (ix2 0 d) :=
  (congrFun (V_split m c (Proc.devRef .tc main_v307)) _).trans ((readE307 _ d).trans (congrFun (keep2 _) _))

theorem V308 (d : Fin 128) :
    ((V m c main_v308 : FVec Ideal S1x128 .f32) (ix2 0 d) : EReal) = (m ((c : Thread nD τ).loc main_arg3) : FVec Ideal S1x128 .f32) (ix2 0 d) :=
  (congrFun (V_split m c (Proc.devRef .tc main_v308)) _).trans ((readE308 _ d).trans (congrFun (keep3 _) _))

end Cert.KernelIdeal.Attn

end
-- ==== Proof.Attn.Value2.lean ====
/- The first result of the run, entry by entry. -/
module

public import proofs.«01_k».proof.Proof.Attn.Value1
public import proofs.«01_k».proof.Proof.Attn.Host
public import proofs.«01_k».proof.Proof.Attn.Run
public import Idealize.ShloMosaic.Lib.Pipeline.ValueKit
public import Idealize.ShloMosaic.Lib.Pipeline.ReadBack

@[expose] public section

set_option maxRecDepth 16384

noncomputable section

namespace Cert.KernelIdeal.Attn

open Cert.KernelIdeal Cert.KernelIdeal.Gen
open Cert.AttnRow hiding vAt
open Idealize.ShloMosaic Idealize.ShloMosaic.TcCoe

variable (m : (ℓ : Loc nD τ sig) → Buf (Elt Ideal) ℓ) (c : Dev nD)

/-- The projection's rows. -/
def KP (t : Fin 8192) (j : Fin 8192) : EReal := (m ((c : Thread nD τ).loc main_arg0) : FVec Ideal S8192x8192 .f32) (ix2 t j)
/-- The bias of a head. -/
def KB (h : Fin 16) (j : Fin 513) : EReal := (m ((c : Thread nD τ).loc main_arg1) : FVec Ideal S1x16x513 .f32) (ix3 (0 : Fin 1) h j)
/-- The norms' weights. -/
def KQ (d : Fin 128) : EReal := (m ((c : Thread nD τ).loc main_arg2) : FVec Ideal S1x128 .f32) (ix2 0 d)
@[inherit_doc KQ] def KK (d : Fin 128) : EReal := (m ((c : Thread nD τ).loc main_arg3) : FVec Ideal S1x128 .f32) (ix2 0 d)
/-- The gradient that arrives. -/
def KG (t : Fin 8192) (j : Fin 2048) : EReal := (m ((c : Thread nD τ).loc main_arg4) : FVec Ideal S8192x2048 .f32) (ix2 t j)

/-- A row's bias against its 640 keys. -/
def biasT (T : Fin 8192) (h : Fin 16) (k : Fin 640) : EReal :=
  if (64 * (T.val % 128 / 64) ≤ k.val ∧ k.val < 64 * (T.val % 128 / 64) + 576) ∧ 512 ≤ 128 * (T.val / 128) + k.val then
    KB m c h ⟨min 512 (768 + T.val % 128 - k.val), by omega⟩
  else Ideal.ofBits .f32 0xFF800000#32

/-- A row's 640 keys. -/
def keyT (T : Fin 8192) (h : Fin 16) (k : Fin 640) : Fin 128 → EReal := keyAt (KP m c) (KK m c) h (128 * (T.val / 128) + k.val)
/-- A row's 640 values. -/
def valT (T : Fin 8192) (h : Fin 16) (k : Fin 640) : Fin 128 → EReal := valAt (KP m c) h (128 * (T.val / 128) + k.val)

/-- The first result. -/
def kerOut (a : Fin 2) (T : Fin 8192) (h : Fin 16) (d : Fin 128) : EReal :=
  if a.val = 0 then dqRow (biasT m c T h) (keyT m c T h) (valT m c T h) (qAt (KP m c) T h) (KQ m c) (zAt (KP m c) T h) (gAt (KG m c) T h) d
  else dzRow (biasT m c T h) (keyT m c T h) (valT m c T h) (qAt (KP m c) T h) (KQ m c) (zAt (KP m c) T h) (gAt (KG m c) T h) d

theorem idx0 : ∀ t : Fin cfg0.N, win0_0.index t = ![t.val % 8, t.val / 8] := by decide +kernel
theorem idx1 : ∀ t : Fin cfg0.N, win0_1.index t = ![0, 16 + t.val / 8] := by decide +kernel
theorem idx2 : ∀ t : Fin cfg0.N, win0_2.index t = ![0, 32 + t.val / 8] := by decide +kernel
theorem idx3 : ∀ t : Fin cfg0.N, win0_3.index t = ![t.val % 8, 48 + t.val / 8] := by decide +kernel
theorem idx4 : ∀ t : Fin cfg0.N, win0_4.index t = ![t.val / 8, 0, 0, 0] := by decide +kernel
theorem idx5 : ∀ t : Fin cfg0.N, win0_5.index t = ![t.val / 8, 0, 0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![t.val % 8, t.val / 8] := by decide +kernel
theorem idx9 : ∀ t : Fin cfg0.N, win0_9.index t = ![0, t.val % 8, t.val / 8] := by decide +kernel

theorem iblk0 (t : Fin cfg0.N) (p : Fin 1024) (d : Fin 128) (R : Fin 8192) (C : Fin 8192) (hR : R.val = t.val % 8 * 1024 + p.val) (hC : C.val = t.val / 8 * 128 + d.val) :
    iblk m c 0 t (ix2 p d) = KP m c R C := by
  unfold KP
  rw [← V_main_arg0 m c]
  blk_ext [iblk, idx0 t]

theorem iblk1 (t : Fin cfg0.N) (p : Fin 8192) (d : Fin 128) (C : Fin 8192) (hC : C.val = (16 + t.val / 8) * 128 + d.val) :
    iblk m c 1 t (ix2 p d) = KP m c p C := by
  unfold KP
  rw [← V_main_arg0 m c]
  blk_ext [iblk, idx1 t]

theorem iblk2 (t : Fin cfg0.N) (p : Fin 8192) (d : Fin 128) (C : Fin 8192) (hC : C.val = (32 + t.val / 8) * 128 + d.val) :
    iblk m c 2 t (ix2 p d) = KP m c p C := by
  unfold KP
  rw [← V_main_arg0 m c]
  blk_ext [iblk, idx2 t]

theorem iblk3 (t : Fin cfg0.N) (p : Fin 1024) (d : Fin 128) (R : Fin 8192) (C : Fin 8192) (hR : R.val = t.val % 8 * 1024 + p.val) (hC : C.val = (48 + t.val / 8) * 128 + d.val) :
    iblk m c 3 t (ix2 p d) = KP m c R C := by
  unfold KP
  rw [← V_main_arg0 m c]
  blk_ext [iblk, idx3 t]

theorem iblk8 (t : Fin cfg0.N) (p : Fin 1024) (d : Fin 128) (R : Fin 8192) (C : Fin 2048) (hR : R.val = t.val % 8 * 1024 + p.val) (hC : C.val = t.val / 8 * 128 + d.val) :
    iblk m c 8 t (ix2 p d) = KG m c R C := by
  unfold KG
  rw [← V_main_arg4 m c]
  blk_ext [iblk, idx8 t]

theorem iblk4 (t : Fin cfg0.N) (h : Fin 16) (hh : h.val = t.val / 8) (n : Fin 4) (r : Fin 128) (k : Fin 640) :
    iblk m c 4 t (ix4 0 n r k) = (V m c main_v303 : FVec Ideal S16x4x128x640 .f32) (ix4 h n r k) := by
  blk_ext [iblk, idx4 t]

theorem iblk5 (t : Fin cfg0.N) (h : Fin 16) (hh : h.val = t.val / 8) (r : Fin 128) (k : Fin 640) :
    iblk m c 5 t (ix4 0 0 r k) = (V m c main_v306 : FVec Ideal S16x1x128x640 .f32) (ix4 h 0 r k) := by
  blk_ext [iblk, idx5 t]

theorem iblk6 (t : Fin cfg0.N) (d : Fin 128) : iblk m c 6 t (ix2 0 d) = KQ m c d := by
  unfold KQ
  rw [← V307 m c d]
  blk_ext [iblk, idx6 t]

theorem iblk7 (t : Fin cfg0.N) (d : Fin 128) : iblk m c 7 t (ix2 0 d) = KK m c d := by
  unfold KK
  rw [← V308 m c d]
  blk_ext [iblk, idx7 t]

end Cert.KernelIdeal.Attn

end
-- ==== Proof.Attn.Value3.lean ====
/- The array of the first result when the run ends. -/
module

public import proofs.«01_k».proof.Proof.Attn.Value2

@[expose] public section

set_option maxRecDepth 16384

noncomputable section

namespace Cert.KernelIdeal.Attn

open Cert.KernelIdeal Cert.KernelIdeal.Gen
open Cert.AttnRow hiding vAt
open Idealize.ShloMosaic Idealize.ShloMosaic.TcCoe

variable (m : (ℓ : Loc nD τ sig) → Buf (Elt Ideal) ℓ) (c : Dev nD)

theorem cond1_at : ∀ t : Fin cfg0.N, k0_cond1 (grid0.coords t) = 1#1 ↔ t.val % 8 = 0 := by decide +kernel
theorem cond2_at : ∀ t : Fin cfg0.N, k0_cond2 (grid0.coords t) = 1#1 ↔ t.val % 8 = 0 := by decide +kernel
theorem cond3_at : ∀ t : Fin cfg0.N, k0_cond3 (grid0.coords t) = 1#1 ↔ ¬ t.val % 8 = 0 := by decide +kernel

theorem off3_0 : ∀ t : Fin cfg0.N, k0_off3 (grid0.coords t) 0#32 0#32 = ![1024 * (t.val % 8), 0] ∧ k0_off3 (grid0.coords t) 0#32 128#32 = ![1024 * (t.val % 8) + 128, 0]
    ∧ k0_off3 (grid0.coords t) 0#32 256#32 = ![1024 * (t.val % 8) + 256, 0] ∧ k0_off3 (grid0.coords t) 0#32 384#32 = ![1024 * (t.val % 8) + 384, 0] := by decide +kernel
theorem off3_1 : ∀ t : Fin cfg0.N, k0_off3 (grid0.coords t) 512#32 0#32 = ![1024 * (t.val % 8) + 512, 0] ∧ k0_off3 (grid0.coords t) 512#32 128#32 = ![1024 * (t.val % 8) + 512 + 128, 0]
    ∧ k0_off3 (grid0.coords t) 512#32 256#32 = ![1024 * (t.val % 8) + 512 + 256, 0] ∧ k0_off3 (grid0.coords t) 512#32 384#32 = ![1024 * (t.val % 8) + 512 + 384, 0] := by decide +kernel
theorem off4_0 : ∀ t : Fin cfg0.N, k0_off4 (grid0.coords t) 0#32 0#32 = ![1024 * (t.val % 8), 0] ∧ k0_off4 (grid0.coords t) 0#32 128#32 = ![1024 * (t.val % 8) + 128, 0]
    ∧ k0_off4 (grid0.coords t) 0#32 256#32 = ![1024 * (t.val % 8) + 256, 0] ∧ k0_off4 (grid0.coords t) 0#32 384#32 = ![1024 * (t.val % 8) + 384, 0] := by decide +kernel
theorem off4_1 : ∀ t : Fin cfg0.N, k0_off4 (grid0.coords t) 512#32 0#32 = ![1024 * (t.val % 8) + 512, 0] ∧ k0_off4 (grid0.coords t) 512#32 128#32 = ![1024 * (t.val % 8) + 512 + 128, 0]
    ∧ k0_off4 (grid0.coords t) 512#32 256#32 = ![1024 * (t.val % 8) + 512 + 256, 0] ∧ k0_off4 (grid0.coords t) 512#32 384#32 = ![1024 * (t.val % 8) + 512 + 384, 0] := by decide +kernel

/-- A head's normed keys behind their padding. -/
def keysN (h : Fin 16) : S8704x128.Idx → EReal := fun y => keyAt (KP m c) (KK m c) h (y 0).val (y 1)
/-- A head's values behind their padding. -/
def valsN (h : Fin 16) : S8704x128.Idx → EReal := fun y => valAt (KP m c) h (y 0).val (y 1)

theorem knAt_blk (t : Fin cfg0.N) (h : Fin 16) (hh : h.val = t.val / 8) : knAt (F := Ideal) (iblk m c 1 t) (iblk m c 7 t) = keysN m c h := by
  funext y
  rw [eq_ix2 y]
  refine (knAt_apply _ _ _ _).trans ?_
  show _ = keyAt (KP m c) (KK m c) h (y 0).val (y 1)
  unfold keyAt
  by_cases hp : 512 ≤ (y 0).val ∧ (y 0).val - 512 < 8192
  · rw [dif_pos hp, dif_pos hp]
    rw [show (fun d => iblk m c 1 t (ix2 ⟨(y 0).val - 512, hp.2⟩ d)) = kAt (KP m c) ⟨(y 0).val - 512, hp.2⟩ h from
        funext fun d => iblk1 m c t _ d _ (by dsimp only; omega),
      show row1 (iblk m c 7 t) = KK m c from funext fun d => iblk7 m c t d]
  · rw [dif_neg hp, dif_neg hp]

theorem vAt_blk (t : Fin cfg0.N) (h : Fin 16) (hh : h.val = t.val / 8) : Cert.KernelIdeal.Attn.vAt (F := Ideal) (iblk m c 2 t) = valsN m c h := by
  funext y
  rw [eq_ix2 y]
  refine (vAt_apply _ _ _).trans ?_
  show _ = valAt (KP m c) h (y 0).val (y 1)
  unfold valAt
  by_cases hp : 512 ≤ (y 0).val ∧ (y 0).val - 512 < 8192
  · rw [dif_pos hp, dif_pos hp]
    exact iblk2 m c t _ _ _ (by dsimp only; omega)
  · rw [dif_neg hp, dif_neg hp]

theorem before_x3 (t : Fin cfg0.N) : (before m c t).x3 = iblk m c 1 t := rfl
theorem before_x4 (t : Fin cfg0.N) : (before m c t).x4 = iblk m c 2 t := rfl
theorem before_x9 (t : Fin cfg0.N) : (before m c t).x9 = iblk m c 7 t := rfl

theorem held_first (t : Fin cfg0.N) (h : Fin 16) (hh : h.val = t.val / 8) (h1 : t.val % 8 = 0) :
    (canS m c t.val).x16 = keysN m c h ∧ (canS m c t.val).x17 = valsN m c h := by
  have hc := (cond1_at t).2 h1
  have e := canS_eq m c t
  exact ⟨(congrArg Cont.x16 e).trans ((step_x16 _ _).trans ((if_pos hc).trans
      ((congrArg₂ (knAt (F := Ideal)) (before_x3 m c t) (before_x9 m c t)).trans (knAt_blk m c t h hh)))),
    (congrArg Cont.x17 e).trans ((step_x17 _ _).trans ((if_pos hc).trans
      ((congrArg (Cert.KernelIdeal.Attn.vAt (F := Ideal)) (before_x4 m c t)).trans (vAt_blk m c t h hh))))⟩

theorem before_next (t : Fin cfg0.N) (h0 : ¬ t.val = 0) : before m c t = load m c t (canS m c (t.val - 1)) :=
  congrArg (load m c t) (if_neg h0)

theorem load_x16 (t : Fin cfg0.N) (S : Cont Ideal) : (load m c t S).x16 = S.x16 := rfl
theorem load_x17 (t : Fin cfg0.N) (S : Cont Ideal) : (load m c t S).x17 = S.x17 := rfl

theorem held_next (t : Fin cfg0.N) (h1 : ¬ t.val % 8 = 0) :
    (canS m c t.val).x16 = (canS m c (t.val - 1)).x16 ∧ (canS m c t.val).x17 = (canS m c (t.val - 1)).x17 := by
  have h0 : ¬ t.val = 0 := fun e => h1 (by omega)
  have hc : ¬ k0_cond1 (grid0.coords t) = 1#1 := fun x => h1 ((cond1_at t).1 x)
  have e := canS_eq m c t
  exact ⟨(congrArg Cont.x16 e).trans ((step_x16 _ _).trans ((if_neg hc).trans ((congrArg Cont.x16 (before_next m c t h0)).trans (load_x16 m c t _)))),
    (congrArg Cont.x17 e).trans ((step_x17 _ _).trans ((if_neg hc).trans ((congrArg Cont.x17 (before_next m c t h0)).trans (load_x17 m c t _))))⟩

theorem held (n : ℕ) : ∀ (hn : n < cfg0.N) (h : Fin 16), h.val = n / 8 → (canS m c n).x16 = keysN m c h ∧ (canS m c n).x17 = valsN m c h := by
  induction n with
  | zero => exact fun hn h hh => held_first m c ⟨0, hn⟩ h hh (Nat.zero_mod 8)
  | succ n ih =>
    intro hn h hh
    by_cases h1 : (n + 1) % 8 = 0
    · exact held_first m c ⟨n + 1, hn⟩ h hh h1
    · obtain ⟨e1, e2⟩ := held_next m c ⟨n + 1, hn⟩ h1
      obtain ⟨e3, e4⟩ := ih (Nat.lt_of_succ_lt hn) h (by omega)
      exact ⟨e1.trans e3, e2.trans e4⟩

/-- The state in which a point's halves start. -/
def mids (t : Fin cfg0.N) : Cont Ideal := step1 (grid0.coords t) (before m c t)

theorem mids_held (t : Fin cfg0.N) (h : Fin 16) (hh : h.val = t.val / 8) : (mids m c t).x16 = keysN m c h ∧ (mids m c t).x17 = valsN m c h := by
  have e := held m c t.val t.isLt h hh
  rw [canS_eq m c t, step_x16, step_x17] at e
  unfold mids
  rw [step1_x16, step1_x17]
  exact e

theorem mids_x2 (t : Fin cfg0.N) : (mids m c t).x2 = iblk m c 0 t := step1_x2 _ _
theorem mids_x5 (t : Fin cfg0.N) : (mids m c t).x5 = iblk m c 3 t := step1_x5 _ _
theorem mids_x6 (t : Fin cfg0.N) : (mids m c t).x6 = iblk m c 4 t := step1_x6 _ _
theorem mids_x7 (t : Fin cfg0.N) : (mids m c t).x7 = iblk m c 5 t := step1_x7 _ _
theorem mids_x8 (t : Fin cfg0.N) : (mids m c t).x8 = iblk m c 6 t := step1_x8 _ _
theorem mids_x10 (t : Fin cfg0.N) : (mids m c t).x10 = iblk m c 8 t := step1_x10 _ _

/-- A row of the block's results, for any bias that is the row's. -/
theorem row_eq (t : Fin cfg0.N) (h : Fin 16) (hh : h.val = t.val / 8) (T : Fin 8192) (p : Fin 1024) (hT : T.val = t.val % 8 * 1024 + p.val)
    (B : ℕ) (hB : B + 640 ≤ 8704) (eB : B = 128 * (T.val / 128)) (β : Fin 640 → EReal) (hβ : β = biasT m c T h) (a : Fin 2) (d : Fin 128) :
    rowOf (mids m c t) B hB β a p d = kerOut m c a T h d := by
  subst eB hβ
  unfold rowOf kerOut
  rw [(mids_held m c t h hh).1, (mids_held m c t h hh).2]
  have e2 : (fun d => (mids m c t).x2 (ix2 p d)) = qAt (KP m c) T h :=
    funext fun d => (congrFun (mids_x2 m c t) (ix2 p d)).trans (iblk0 m c t p d T _ hT (by dsimp only; omega))
  have e5 : (fun d => (mids m c t).x5 (ix2 p d)) = zAt (KP m c) T h :=
    funext fun d => (congrFun (mids_x5 m c t) (ix2 p d)).trans (iblk3 m c t p d T _ hT (by dsimp only; omega))
  have e10 : (fun d => (mids m c t).x10 (ix2 p d)) = gAt (KG m c) T h :=
    funext fun d => (congrFun (mids_x10 m c t) (ix2 p d)).trans (iblk8 m c t p d T _ hT (by dsimp only; omega))
  have e8 : (fun d => (mids m c t).x8 (ix2 0 d)) = KQ m c :=
    funext fun d => (congrFun (mids_x8 m c t) (ix2 0 d)).trans (iblk6 m c t d)
  rw [e2, e5, e10, e8]
  rfl

theorem bias_first (t : Fin cfg0.N) (h : Fin 16) (hh : h.val = t.val / 8) (h0 : t.val % 8 = 0) (T : Fin 8192) (p : Fin 1024) (hT : T.val = t.val % 8 * 1024 + p.val)
    (hp : p.val < 512) : sc4 (biasFirst (mids m c t).x6) ⟨p.val / 128 % 4, by omega⟩ ⟨p.val % 128, by omega⟩ = biasT m c T h := by
  funext k
  refine (biasFirst_apply _ _ _ k).trans ((congrFun (mids_x6 m c t) _).trans <| (iblk4 m c t h hh _ _ k).trans ((V303 m c h _ _ k).trans ?_))
  have e1 : T.val % 128 = p.val % 128 := by omega
  have e2 : T.val / 128 = p.val / 128 % 4 := by omega
  unfold biasT KB
  simp only [e1, e2]

theorem bias_rest (t : Fin cfg0.N) (h : Fin 16) (hh : h.val = t.val / 8) (T : Fin 8192) (p : Fin 1024) (hT : T.val = t.val % 8 * 1024 + p.val)
    (hp : 512 ≤ T.val) (n : Fin 4) : sc4 (biasRest (mids m c t).x7) n ⟨p.val % 128, by omega⟩ = biasT m c T h := by
  funext k
  refine (biasRest_apply _ _ _ k).trans ((congrFun (mids_x7 m c t) _).trans <| (iblk5 m c t h hh _ k).trans ((V306 m c h _ _ k).trans ?_))
  have e1 : T.val % 128 = p.val % 128 := by omega
  have e2 : (512 ≤ 128 * (T.val / 128) + k.val) = True := eq_true (by omega)
  unfold biasT KB
  simp only [e1, e2, and_true]

theorem block_eq (t : Fin cfg0.N) (h : Fin 16) (hh : h.val = t.val / 8) (T : Fin 8192) (p : Fin 1024) (hT : T.val = t.val % 8 * 1024 + p.val) (a : Fin 2) (d : Fin 128) :
    (canS m c t.val).x11 (ix3 a p d) = kerOut m c a T h d := by
  have hp := p.isLt
  have hlt : t.val % 8 < 8 := Nat.mod_lt _ (by decide)
  rw [canS_eq m c t]
  by_cases h0 : t.val % 8 = 0
  · have c2 := (cond2_at t).2 h0
    have c3 : ¬ k0_cond3 (grid0.coords t) = 1#1 := fun x => (cond3_at t).1 x h0
    rw [step_first _ _ c2 c3]
    refine (halves_apply (mids m c t) (p0_offs (grid0.coords t) c2) (p1_offs (grid0.coords t) c2) (1024 * (t.val % 8)) (off3_0 t) (off3_1 t) (by omega)
      (biasFirst (mids m c t).x6) (biasRest (mids m c t).x7) _ _ (mids m c t) a p d).trans ?_
    refine row_eq m c t h hh T p hT _ _ (by omega) _ ?_ a d
    by_cases h5 : p.val < 512
    · rw [if_pos h5]; exact bias_first m c t h hh h0 T p hT h5
    · rw [if_neg h5]; exact bias_rest m c t h hh T p hT (by omega) _
  · have c2 : ¬ k0_cond2 (grid0.coords t) = 1#1 := fun x => h0 ((cond2_at t).1 x)
    have c3 := (cond3_at t).2 h0
    rw [step_later _ _ c2 c3]
    refine (halves_apply (mids m c t) (r0_offs (grid0.coords t) c3) (r1_offs (grid0.coords t) c3) (1024 * (t.val % 8)) (off4_0 t) (off4_1 t) (by omega)
      (biasRest (mids m c t).x7) (biasRest (mids m c t).x7) _ _ (mids m c t) a p d).trans ?_
    refine row_eq m c t h hh T p hT _ _ (by omega) _ ?_ a d
    rw [ite_self]; exact bias_rest m c t h hh T p hT (by omega) _

/-- The first result, as an array. -/
def result : FVec Ideal S2x8192x2048 .bf16 := fun y =>
  kerOut m c (y 0) (y 1) ⟨(y 2).val / 128, by have : (y 2).val < 2048 := (y 2).isLt; omega⟩ ⟨(y 2).val % 128, by omega⟩

theorem final : (dats m 0 c).arrAt 9 cfg0.N = result m c := by
  refine (dats m 0 c).arrAt_eq_of_covers 9 _ (by decide +kernel) fun t hf y => ?_
  blk_simp
  rw [after9]
  idx_vars y
  obtain ⟨a, b, e, he, ha, hb, hd⟩ : ∃ (a : Fin 2) (b : Fin 8192) (e : Fin 2048),
      ((View.whole main_v309_0).slice (win0_9.rect t)).emb (ix3 y0 y1 y2) = ix3 a b e
      ∧ a.val = y0.val ∧ b.val = t.val % 8 * 1024 + y1.val ∧ e.val = t.val / 8 * 128 + y2.val := by
    refine ⟨_, _, _, eq_ix3 _, ?_, ?_, ?_⟩ <;> blk_simp [idx9 t]
  rw [he]
  obtain rfl := Fin.ext ha
  have ht : t.val < 128 := t.isLt
  refine (block_eq m c t ⟨t.val / 8, by omega⟩ rfl b y1 hb a y2).trans ?_
  have e1 : (⟨t.val / 8, by omega⟩ : Fin 16) = ⟨e.val / 128, by omega⟩ := Fin.ext (by dsimp only; omega)
  have e2 : y2 = ⟨e.val % 128, by omega⟩ := Fin.ext (by dsimp only; omega)
  rw [e1]
  exact congrArg (kerOut m c a b _) e2

/-- The run leaves the arguments as they were. -/
theorem kept (r) (h : Pipeline.FramePost cfgs (dats m) 0 (V m) r ∧ r.2.sem = fun _ => 0) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h.1 c).1 3).trans (((dats m 0 c).arrAt_in 3 rfl _).trans ((A_eq m c 3).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 8).trans (((dats m 0 c).arrAt_in 8 rfl _).trans ((A_eq m c 8).trans (V_main_arg4 m c)))⟩

end Cert.KernelIdeal.Attn

end
-- ==== Proof.Attn.Ref.lean ====
/- What the reference computes, row by row. -/
module

public import proofs.«01_k».proof.Proof.Gen.ReferenceIdeal.Run
public import proofs.«01_k».proof.Proof.Attn.Row
public import Idealize.ShloMosaic.Lib.Pipeline.ReadBack
public import Idealize.ShloMosaic.Lib.Pointwise

@[expose] public section

set_option maxRecDepth 16384

noncomputable section

namespace Cert.ReferenceIdeal.Attn

open Cert.ReferenceIdeal Cert.ReferenceIdeal.Gen Cert.ReferenceIdeal.Value Cert.AttnRow
open Idealize.ShloMosaic Idealize.ShloMosaic.TcCoe Idealize.SL.Sem

variable (V : Valuation τ sig (Elt Ideal))

/-- The projections, gate and all. -/
def proj : FVec Ideal S8192x8192 .bf16 := V (Proc.devRef .tc main_arg0)
/-- The biases by distance. -/
def rel : Vec Ideal S1x16x513 .f32 := V (Proc.devRef .tc main_arg1)
/-- The query norm's weight. -/
def wq : Vec Ideal S1x128 .f32 := V (Proc.devRef .tc main_arg2)
/-- The key norm's weight. -/
def wk : Vec Ideal S1x128 .f32 := V (Proc.devRef .tc main_arg3)
/-- The gradient that arrives. -/
def dog : Vec Ideal S8192x2048 .f32 := V (Proc.devRef .tc main_arg4)

/-- The arrays by their coordinates. -/
def P : Fin 8192 → Fin 8192 → EReal := fun t j => proj V (ix2 t j)
@[inherit_doc P] def B : Fin 16 → Fin 513 → EReal := fun h j => rel V (ix3 0 h j)
@[inherit_doc P] def WQ : Fin 128 → EReal := fun d => wq V (ix2 0 d)
@[inherit_doc P] def WK : Fin 128 → EReal := fun d => wk V (ix2 0 d)
@[inherit_doc P] def G : Fin 8192 → Fin 2048 → EReal := fun t j => dog V (ix2 t j)

theorem v75_apply (t : Fin 8192) (j : Fin 2048) :
    (res_main_v75 V (ix2 t j) : EReal) = P V t ⟨6144 + j, by omega⟩ := by
  pointwise [res_main_v75, P, proj]

theorem v76_apply (t : Fin 8192) (h : Fin 16) (d : Fin 128) :
    (res_main_v76 V (ix3 t h d) : EReal) = qAt (P V) t h d := by
  pointwise [res_main_v76, P, proj, qAt]

theorem v1_apply (t : Fin 8192) (h : Fin 16) (d : Fin 128) :
    (res_main_v1 V (ix3 t h d) : EReal) = kAt (P V) t h d := by
  pointwise [res_main_v1, P, proj, kAt]

theorem v84_apply (t : Fin 8192) (h : Fin 16) (z : Fin 1) :
    (res_main_v84 V (ix3 t h z) : EReal) = mean (qAt (P V) t h) := by
  pointwise [res_main_v84, mean, v76_apply, width, small]

theorem v85_apply (t : Fin 8192) (h : Fin 16) (z : Fin 1) :
    (res_main_v85 V (ix3 t h z) : EReal) = rms (qAt (P V) t h) := by
  pointwise [res_main_v85, rms, v84_apply]

theorem v91_apply (x y : Fin 1) (d : Fin 128) :
    (res_main_v91 V (ix3 x y d) : EReal) = WQ V d := by
  pointwise [res_main_v91, WQ, wq]

theorem v19_apply (n : Fin 136) (c : Fin 64) (h : Fin 16) (d : Fin 128) :
    (res_main_v19 V (ix4 n c h d) : EReal) = keyAt (P V) (WK V) h (n * 64 + c) d := by
  pointwise [res_main_v19, keyAt, normed, rms, mean, WK, wk, width, small, v1_apply]
  by_cases hp : 512 ≤ n.val * 64 + c.val ∧ n.val * 64 + c.val - 512 < 8192
  · rw [dif_pos hp, dif_pos]
    intro a
    match a with
    | ⟨0, _⟩ => exact ⟨hp.1, Nat.mod_one _, (Nat.div_one _).trans_lt hp.2⟩
    | ⟨1, _⟩ => exact ⟨Nat.zero_le _, Nat.mod_one _, (Nat.div_one _).trans_lt h.isLt⟩
    | ⟨2, _⟩ => exact ⟨Nat.zero_le _, Nat.mod_one _, (Nat.div_one _).trans_lt d.isLt⟩
  · rw [dif_neg hp, dif_neg]
    · simp [FloatOps.sitofp]
    · intro ha
      have h0 := ha ⟨0, by decide⟩
      exact hp ⟨h0.1, (Nat.div_one _).symm.trans_lt h0.2.2⟩

theorem v21_apply (n : Fin 136) (c : Fin 64) (h : Fin 16) (d : Fin 128) :
    (res_main_v21 V (ix4 n c h d) : EReal) = valAt (P V) h (n * 64 + c) d := by
  pointwise [res_main_v21, valAt, vAt, P, proj]
  by_cases hp : 512 ≤ n.val * 64 + c.val ∧ n.val * 64 + c.val - 512 < 8192
  · rw [dif_pos hp, dif_pos hp]
  · rw [dif_neg hp, dif_neg hp]
    simp [FloatOps.sitofp]

theorem v31_apply (n : Fin 128) (m : Fin 576) (h : Fin 16) (d : Fin 128) :
    (res_main_v31 V (ix4 n m h d) : EReal) = keyAt (P V) (WK V) h (n * 64 + m) d := by
  pointwise [res_main_v31, v19_apply]
  split_ifs <;> congr 1 <;> omega

theorem v41_apply (n : Fin 128) (m : Fin 576) (h : Fin 16) (d : Fin 128) :
    (res_main_v41 V (ix4 n m h d) : EReal) = valAt (P V) h (n * 64 + m) d := by
  pointwise [res_main_v41, v21_apply]
  split_ifs <;> congr 1 <;> omega

/-- The place in the bias table of row `c`'s distance to key `m`. -/
def place (c : Fin 64) (m : Fin 576) : ℕ := min 512 (768 + c - m)

theorem clip_words : ∀ k : Fin 640, IntOp.addi (IntOp.minsi (256#32) (IntOp.maxsi (4294967040#32) (IntOp.subi (BitVec.ofNat 32 k) 63#32))) 256#32
    = BitVec.ofNat 32 (min 512 (k + 193)) := by decide +kernel

theorem v53_apply (c : Fin 64) (m : Fin 576) :
    res_main_v53 V (ix2 c m) = BitVec.ofNat 32 (place c m) := by
  pointwise [res_main_v53, res_main_v43]
  have hs : IntOp.subi (IntOp.addi (512#32) (BitVec.ofNat 32 c.val)) (BitVec.ofNat 32 m.val) = IntOp.subi (BitVec.ofNat 32 (575 + c - m)) 63#32 := by
    unfold IntOp.subi IntOp.addi
    apply BitVec.eq_of_toNat_eq
    simp only [BitVec.toNat_sub, BitVec.toNat_add, BitVec.toNat_ofNat]
    omega
  rw [hs]
  refine (clip_words ⟨575 + c - m, by omega⟩).trans (congrArg _ ?_)
  unfold place
  show min 512 (575 + c.val - m.val + 193) = _
  omega

theorem mask_words : ∀ k : Fin 8704, IntOp.cmpi CmpIPredicate.sge (IntOp.subi (BitVec.ofNat 32 k) 512#32) 0#32
    = if 512 ≤ k.val then 1#1 else 0#1 := by decide +kernel

theorem v102_1_apply (n : Fin 128) (h : Fin 16) (c : Fin 64) (m : Fin 576) :
    res_main_v102_1 V (ix4 n h c m) = if 512 ≤ n.val * 64 + m then 1#1 else 0#1 := by
  pointwise [res_main_v102_1, res_main_v43]
  have hs : IntOp.addi (IntOp.subi (IntOp.muli (BitVec.ofNat 32 n.val) 64#32) 512#32) (BitVec.ofNat 32 m.val) = IntOp.subi (BitVec.ofNat 32 (n * 64 + m)) 512#32 := by
    unfold IntOp.subi IntOp.addi IntOp.muli
    apply BitVec.eq_of_toNat_eq
    simp only [BitVec.toNat_sub, BitVec.toNat_add, BitVec.toNat_mul, BitVec.toNat_ofNat]
    omega
  rw [hs]
  exact mask_words ⟨n * 64 + m, by omega⟩

/-- The bias table read at an array of places. -/
theorem gather_at (x : (⟨2, ![16, 513]⟩ : Shape).Idx → EReal) (idx : IVec S64x576x1 32) (h : Fin 16) (c : Fin 64) (m : Fin 576) :
    Host.gather gather_S16x513_S64x576x1_S16x64x576_0_1_n_n_1_2_161 x idx (ix3 h c m)
      = x (ix2 h ⟨min (idx (ix3 c m 0)).toInt.toNat 512, by omega⟩) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (by decide)]
    simp only [Nat.zero_add]
    unfold GatherDims.offCoord
    rw [dif_pos (by decide)]
    rfl
  · rw [GatherDims.offCoord_eq_zero _ _ _ (fun h => ((GatherDims.mem_sKept _ _).mp h).1 (List.mem_singleton.mpr rfl))]
    unfold GatherDims.start
    rw [dif_pos (by decide)]
    have hsi : ∀ j, GatherDims.siIdx gather_S16x513_S64x576x1_S16x64x576_0_1_n_n_1_2_161 (ix3 h c m) j = ix3 c m 0 := by
      intro j
      funext b; refine Fin.ext ?_
      match b with
      | ⟨0, _⟩ => rfl
      | ⟨1, _⟩ => rfl
      | ⟨2, _⟩ => exact Nat.lt_one_iff.mp j.isLt
    rw [hsi]
    rfl

theorem place_words : ∀ p : Fin 513, min (Scalar.select (IntOp.cmpi CmpIPredicate.slt (BitVec.ofNat 32 p) 0#32)
    (IntOp.addi (BitVec.ofNat 32 p) 513#32) (BitVec.ofNat 32 p)).toInt.toNat 512 = p.val := by decide +kernel

/-- The scores row `c` of chunk `n` of head `h` has in the reference. -/
def scR (n : Fin 128) (h : Fin 16) (c : Fin 64) (m : Fin 576) : EReal :=
  Scalar.select (if 512 ≤ n.val * 64 + m then 1#1 else 0#1)
    (score (qAt (P V) ⟨n * 64 + c, by omega⟩ h) (WQ V) (fun m : Fin 576 => keyAt (P V) (WK V) h (n * 64 + m)) (fun m => B V h ⟨place c m, by unfold place; omega⟩) m)
    (Ideal.ofBits .f32 0xFF800000#32)

theorem v102_0_apply (n : Fin 128) (h : Fin 16) (c : Fin 64) (m : Fin 576) :
    (res_main_v102_0 V (ix4 n h c m) : EReal) = scR V n h c m := by
  pointwise [res_main_v102_0, v102_1_apply, v76_apply, v85_apply, v91_apply, v31_apply, scR, score, normed, gather_at, v53_apply, B, rel, factor]
  refine congrArg₂ _ (congrArg₂ _ rfl (congrArg _ (congrArg _ (Fin.ext ?_)))) rfl
  exact place_words ⟨place c m, by unfold place; omega⟩

end Cert.ReferenceIdeal.Attn

end
-- ==== Proof.Attn.RefRow.lean ====
/- What the reference computes, row by row: from the exponentials on. -/
module

public import proofs.«01_k».proof.Proof.Gen.ReferenceIdeal.Run
public import proofs.«01_k».proof.Proof.Attn.Ref
public import Idealize.ShloMosaic.Lib.Pipeline.ReadBack
public import Idealize.ShloMosaic.Lib.Pointwise

@[expose] public section

set_option maxRecDepth 16384

noncomputable section

namespace Cert.ReferenceIdeal.Attn

open Cert.ReferenceIdeal Cert.ReferenceIdeal.Gen Cert.ReferenceIdeal.Value Cert.AttnRow
open Idealize.ShloMosaic Idealize.ShloMosaic.TcCoe Idealize.SL.Sem

variable (V : Valuation τ sig (Elt Ideal))

theorem tops (x : FVec Ideal S128x16x64x576 .f32) (n : Fin 128) (h : Fin 16) (c : Fin 64) :
    (Host.reduce FloatOps.maximumf x (constant S_ .f32 0xFF800000#32) reducesTo_S128x16x64x576_S128x16x64_d3 h_S_ : FVec Ideal S128x16x64 .f32) (ix3 n h c)
      = top fun m => x (ix4 n h c m) := by
  pointwise [top]

theorem v103_apply (n : Fin 128) (h : Fin 16) (c : Fin 64) :
    (res_main_v103 V (ix3 n h c) : EReal) = top (scR V n h c) := by
  refine (tops (res_main_v102_0 V) n h c).trans ?_
  exact congrArg top (funext fun m => v102_0_apply V n h c m)

/-- The reference's exponentials. -/
def eR (n : Fin 128) (h : Fin 16) (c : Fin 64) : Fin 576 → EReal :=
  expo (scR V n h c) (max (Ideal.ofBits .f32 0xFF800000#32 : EReal) (top (scR V n h c)))

theorem exps (x : FVec Ideal S128x16x64x576 .f32) (y : FVec Ideal S128x16x64 .f32) (n : Fin 128) (h : Fin 16) (c : Fin 64) (m : Fin 576) :
    (Host.exp (subf x (broadcastInDim S128x16x64x576 ![0, 1, 2, 3] bcast_S128x16x64x1_S128x16x64x576_0_1_2_3 (broadcastInDim S128x16x64x1 ![0, 1, 2] bcast_S128x16x64_S128x16x64x1_0_1_2 (maximumf (broadcastInDim S128x16x64 ![] bcast_S_S128x16x64 (constant S_ .f32 0xFF800000#32)) y)))) : FVec Ideal S128x16x64x576 .f32) (ix4 n h c m)
      = Ideal.exp (x (ix4 n h c m) - max (Ideal.ofBits .f32 0xFF800000#32 : EReal) (y (ix3 n h c))) := by
  pointwise []

theorem v123_apply (n : Fin 128) (h : Fin 16) (c : Fin 64) (m : Fin 576) :
    (res_main_v123 V (ix4 n h c m) : EReal) = eR V n h c m := by
  refine (exps (res_main_v102_0 V) (res_main_v103 V) n h c m).trans ?_
  rw [v102_0_apply, v103_apply]
  rfl

theorem sums (x : FVec Ideal S128x16x64x576 .f32) (n : Fin 128) (h : Fin 16) (c : Fin 64) (z : Fin 1) :
    (broadcastInDim S128x16x64x1 ![0, 1, 2] bcast_S128x16x64_S128x16x64x1_0_1_2 (Host.reduceAdd x (constant S_ .f32 0x00000000#32) reducesTo_S128x16x64x576_S128x16x64_d3 h_S_) : FVec Ideal S128x16x64x1 .f32) (ix4 n h c z)
      = ∑ m, x (ix4 n h c m) := by
  pointwise []

theorem v125_apply (n : Fin 128) (h : Fin 16) (c : Fin 64) (z : Fin 1) :
    (res_main_v125 V (ix4 n h c z) : EReal) = ∑ m, eR V n h c m := by
  refine (sums (res_main_v123 V) n h c z).trans ?_
  exact Finset.sum_congr rfl fun m _ => v123_apply V n h c m

theorem attend (v : FVec Ideal S128x576x16x128 .f32) (e : FVec Ideal S128x16x64x576 .f32) (E : FVec Ideal S128x16x64x1 .f32) (t : Fin 8192) (h : Fin 16) (d : Fin 128) :
    (shapeCast S8192x2048 (transpose S128x64x16x128 [0, 3, 1, 2] (Host.dotGeneral dot_S128x576x16x128_S128x16x64x576_S128x16x128x64_1_3_3_2_02_01 none v (Host.divf e (broadcastInDim S128x16x64x576 ![0, 1, 2, 3] bcast_S128x16x64x1_S128x16x64x576_0_1_2_3 E))) transposes_S128x16x128x64_S128x64x16x128_0_3_1_2) shapeCasts_S128x64x16x128_S8192x2048 : FVec Ideal S8192x2048 .f32) (ix2 t ⟨h * 128 + d, by omega⟩)
      = ∑ m : Fin 576, v (ix4 ⟨t / 64, by omega⟩ m h d) * Ideal.div (e (ix4 ⟨t / 64, by omega⟩ h ⟨t % 64, by omega⟩ m)) (E (ix4 ⟨t / 64, by omega⟩ h ⟨t % 64, by omega⟩ 0)) := by
  pointwise []

/-- The chunk of row `t` and its place there. -/
def ch (t : Fin 8192) : Fin 128 := ⟨t / 64, by omega⟩
@[inherit_doc ch] def pl (t : Fin 8192) : Fin 64 := ⟨t % 64, by omega⟩
/-- The reference's exponentials, keys and values for row `t`. -/
def eT (t : Fin 8192) (h : Fin 16) : Fin 576 → EReal := eR V (ch t) h (pl t)
@[inherit_doc eT] def kT (t : Fin 8192) (h : Fin 16) : Fin 576 → Fin 128 → EReal := fun m => keyAt (P V) (WK V) h (t / 64 * 64 + m)
@[inherit_doc eT] def vT (t : Fin 8192) (h : Fin 16) : Fin 576 → Fin 128 → EReal := fun m => valAt (P V) h (t / 64 * 64 + m)
/-- Which keys of row `t` are in the sequence. -/
def inT (t : Fin 8192) : Fin 576 → BitVec 1 := fun m => if 512 ≤ t.val / 64 * 64 + m.val then 1#1 else 0#1

theorem v133_apply (t : Fin 8192) (h : Fin 16) (d : Fin 128) :
    (res_main_v133 V (ix2 t ⟨h * 128 + d, by omega⟩) : EReal) = outR (eT V t h) (vT V t h) d := by
  refine (attend (res_main_v41 V) (res_main_v123 V) (res_main_v125 V) t h d).trans ?_
  refine Finset.sum_congr rfl fun m _ => ?_
  rw [v41_apply, v123_apply, v125_apply]
  rfl

theorem v134_2_apply (t : Fin 8192) (h : Fin 16) (d : Fin 128) :
    (res_main_v134_2 V (ix2 t ⟨h * 128 + d, by omega⟩) : EReal) = gateR (zAt (P V) t h) d := by
  pointwise [res_main_v134_2, v75_apply, gateR, zAt]

theorem v134_0_apply (t : Fin 8192) (h : Fin 16) (d : Fin 128) :
    (res_main_v134_0 V (ix2 t ⟨h * 128 + d, by omega⟩) : EReal) = zAt (P V) t h d * gateR (zAt (P V) t h) d := by
  pointwise [res_main_v134_0, v75_apply, v134_2_apply, zAt]

theorem weigh (g s : FVec Ideal S8192x2048 .f32) (v : FVec Ideal S128x576x16x128 .f32) (n : Fin 128) (h : Fin 16) (c : Fin 64) (m : Fin 576) :
    (Host.dotGeneral dot_S128x16x128x64_S128x576x16x128_S128x16x64x576_2_3_3_1_01_02 none (transpose S128x16x128x64 [0, 2, 3, 1] (shapeCast _ (mulf g s) shapeCasts_S8192x2048_S128x64x16x128) transposes_S128x64x16x128_S128x16x128x64_0_2_3_1) v : FVec Ideal S128x16x64x576 .f32) (ix4 n h c m)
      = ∑ d : Fin 128, g (ix2 ⟨n * 64 + c, by omega⟩ ⟨h * 128 + d, by omega⟩) * s (ix2 ⟨n * 64 + c, by omega⟩ ⟨h * 128 + d, by omega⟩) * v (ix4 n m h d) := by
  pointwise []

theorem v141_apply (t : Fin 8192) (h : Fin 16) (m : Fin 576) :
    (res_main_v141 V (ix4 (ch t) h (pl t) m) : EReal) = dpR (vT V t h) (zAt (P V) t h) (gAt (G V) t h) m := by
  refine (weigh (V (Proc.devRef .tc main_arg4)) (res_main_v134_0 V) (res_main_v41 V) (ch t) h (pl t) m).trans ?_
  refine Finset.sum_congr rfl fun d _ => ?_
  have ht : (⟨(ch t).val * 64 + (pl t).val, by omega⟩ : Fin 8192) = t := Fin.ext (by show t.val / 64 * 64 + t.val % 64 = t.val; omega)
  rw [ht, v41_apply, v134_0_apply]
  rfl

theorem unit (mask : IVec S128x16x64x576 1) (dp e : FVec Ideal S128x16x64x576 .f32) (E : FVec Ideal S128x16x64x1 .f32) (k : FVec Ideal S128x576x16x128 .f32) (w : FVec Ideal S1x1x128 .f32)
    (t : Fin 8192) (h : Fin 16) (d : Fin 128) :
    (mulf (shapeCast _ (transpose S128x64x16x128 [0, 2, 1, 3] (Host.dotGeneral dot_S128x16x64x576_S128x576x16x128_S128x16x64x128_3_1_2_3_01_02 none (mulf (select mask (mulf (addf (Host.divf dp (broadcastInDim S128x16x64x576 ![0, 1, 2, 3] bcast_S128x16x64x1_S128x16x64x576_0_1_2_3 E)) (broadcastInDim S128x16x64x576 ![0, 1, 2] bcast_S128x16x64_S128x16x64x576_0_1_2 (Host.reduceAdd (Host.negf (shapeCast _ (Host.reduceAdd (mulf (mulf dp (broadcastInDim S128x16x64x576 ![0, 1, 2, 3] bcast_S128x16x64x1_S128x16x64x576_0_1_2_3 (Host.divf (broadcastInDim S128x16x64x1 ![] bcast_S_S128x16x64x1 (constant S_ .f32 0x3F800000#32)) (mulf E E)))) e) (constant S_ .f32 0x00000000#32) reducesTo_S128x16x64x576_S128x16x64_d3 h_S_) shapeCasts_S128x16x64_S128x16x64x1)) (constant S_ .f32 0x00000000#32) reducesTo_S128x16x64x1_S128x16x64_d3 h_S_))) e) (broadcastInDim S128x16x64x576 ![] bcast_S_S128x16x64x576 (constant S_ .f32 0x00000000#32))) (broadcastInDim S128x16x64x576 ![] bcast_S_S128x16x64x576 (constant S_ .f32 0x3DB504F3#32))) k) transposes_S128x16x64x128_S128x64x16x128_0_2_1_3) shapeCasts_S128x64x16x128_S8192x16x128) (broadcastInDim S8192x16x128 ![0, 1, 2] bcast_S1x1x128_S8192x16x128_0_1_2 w) : FVec Ideal S8192x16x128 .f32) (ix3 t h d)
      = (∑ m, Scalar.select (mask (ix4 (ch t) h (pl t) m))
          ((Ideal.div (dp (ix4 (ch t) h (pl t) m)) (E (ix4 (ch t) h (pl t) 0))
            + ∑ _i : Fin 1, -∑ j, dp (ix4 (ch t) h (pl t) j) * Ideal.div 1 (E (ix4 (ch t) h (pl t) 0) * E (ix4 (ch t) h (pl t) 0)) * e (ix4 (ch t) h (pl t) j))
            * e (ix4 (ch t) h (pl t) m) * factor * k (ix4 (ch t) m h d)) 0) * w (ix3 0 0 d) := by
  pointwise [factor, ch, pl]

theorem v161_apply (t : Fin 8192) (h : Fin 16) (d : Fin 128) :
    (res_main_v161 V (ix3 t h d) : EReal) = duR (inT t) (eT V t h) (kT V t h) (vT V t h) (WQ V) (zAt (P V) t h) (gAt (G V) t h) d := by
  refine (unit (res_main_v102_1 V) (res_main_v141 V) (res_main_v123 V) (res_main_v125 V) (res_main_v31 V) (res_main_v91 V) t h d).trans ?_
  simp only [v102_1_apply, v141_apply, v123_apply, v125_apply, v31_apply, v91_apply]
  rfl

theorem through (q du : FVec Ideal S8192x16x128 .f32) (r ms : FVec Ideal S8192x16x1 .f32) (t : Fin 8192) (h : Fin 16) (d : Fin 128) :
    (broadcastInDim S8192x16x128 ![0, 1] bcast_S8192x16_S8192x16x128_0_1 (Host.reduceAdd (Host.divf (mulf (shapeCast _ (Host.reduceAdd (mulf q du) (constant S_ .f32 0x00000000#32) reducesTo_S8192x16x128_S8192x16_d2 h_S_) shapeCasts_S8192x16_S8192x16x1) (mulf (broadcastInDim S8192x16x1 ![] bcast_S_S8192x16x1 (constant S_ .f32 0xBF000000#32)) (Host.divf r ms))) (broadcastInDim S8192x16x1 ![] bcast_S_S8192x16x1 (constant S_ .f32 0x43000000#32))) (constant S_ .f32 0x00000000#32) reducesTo_S8192x16x1_S8192x16_d2 h_S_) : FVec Ideal S8192x16x128 .f32) (ix3 t h d)
      = ∑ i : Fin 1, Ideal.div ((∑ d, q (ix3 t h d) * du (ix3 t h d)) * (Ideal.ofBits .f32 0xBF000000#32 * Ideal.div (r (ix3 t h i)) (ms (ix3 t h i)))) width := by
  pointwise [width]

theorem v171_apply (t : Fin 8192) (h : Fin 16) (d : Fin 128) :
    (res_main_v171 V (ix3 t h d) : EReal) = throughR (inT t) (eT V t h) (kT V t h) (vT V t h) (qAt (P V) t h) (WQ V) (zAt (P V) t h) (gAt (G V) t h) := by
  refine (through (res_main_v76 V) (res_main_v161 V) (res_main_v85 V) (res_main_v84 V) t h d).trans ?_
  simp only [v76_apply, v161_apply, v85_apply, v84_apply]
  rfl

theorem result (q du th : FVec Ideal S8192x16x128 .f32) (r : FVec Ideal S8192x16x1 .f32) (pr s z : FVec Ideal S8192x2048 .f32) (a : Fin 2) (t : Fin 8192) (h : Fin 16) (d : Fin 128) :
    (truncf .bf16 (concatenate S2x8192x2048 0 [⟨S1x8192x2048, (broadcastInDim S1x8192x2048 ![1, 2] bcast_S8192x2048_S1x8192x2048_1_2 (shapeCast _ (addf (addf (mulf du (broadcastInDim S8192x16x128 ![0, 1, 2] bcast_S8192x16x1_S8192x16x128_0_1_2 r)) (mulf q th)) (mulf th q)) shapeCasts_S8192x16x128_S8192x2048))⟩, ⟨S1x8192x2048, (broadcastInDim S1x8192x2048 ![1, 2] bcast_S8192x2048_S1x8192x2048_1_2 (addf (mulf pr s) (mulf (mulf z pr) (mulf s (subf (broadcastInDim S8192x2048 ![] bcast_S_S8192x2048 (constant S_ .f32 0x3F800000#32)) s)))))⟩] concatenates_S1x8192x2048_S1x8192x2048_S2x8192x2048_d0) bitsLt_bf16_f32 : FVec Ideal S2x8192x2048 .bf16) (ix3 a t ⟨h * 128 + d, by omega⟩)
      = if a.val < 1 then du (ix3 t h d) * r (ix3 t h 0) + q (ix3 t h d) * th (ix3 t h d) + th (ix3 t h d) * q (ix3 t h d)
        else pr (ix2 t ⟨h * 128 + d, by omega⟩) * s (ix2 t ⟨h * 128 + d, by omega⟩)
          + z (ix2 t ⟨h * 128 + d, by omega⟩) * pr (ix2 t ⟨h * 128 + d, by omega⟩) * (s (ix2 t ⟨h * 128 + d, by omega⟩) * (1 - s (ix2 t ⟨h * 128 + d, by omega⟩))) := by
  pointwise []
  rfl

/-- The reference's result at head `h`'s column `d` of row `t`: the query's gradient, then the gate's. -/
def refOut (a : Fin 2) (t : Fin 8192) (h : Fin 16) (d : Fin 128) : EReal :=
  if a.val < 1 then dqR (inT t) (eT V t h) (kT V t h) (vT V t h) (qAt (P V) t h) (WQ V) (zAt (P V) t h) (gAt (G V) t h) d
  else dzR (eT V t h) (vT V t h) (zAt (P V) t h) (gAt (G V) t h) d

theorem v136_apply (t : Fin 8192) (h : Fin 16) (d : Fin 128) :
    (res_main_v136 V (ix2 t ⟨h * 128 + d, by omega⟩) : EReal) = outR (eT V t h) (vT V t h) d * gAt (G V) t h d := by
  have hm : ∀ (x y : FVec Ideal S8192x2048 .f32) (i : S8192x2048.Idx), (mulf x y i : EReal) = x i * y i := fun _ _ _ => rfl
  refine (hm (res_main_v133 V) (V (Proc.devRef .tc main_arg4)) _).trans ?_
  rw [v133_apply]
  rfl

theorem ref_apply (a : Fin 2) (t : Fin 8192) (h : Fin 16) (d : Fin 128) :
    (truncf .bf16 (concatenate S2x8192x2048 0 [⟨S1x8192x2048, (broadcastInDim S1x8192x2048 ![1, 2] bcast_S8192x2048_S1x8192x2048_1_2 (shapeCast _ (addf (addf (mulf (res_main_v161 V) (broadcastInDim S8192x16x128 ![0, 1, 2] bcast_S8192x16x1_S8192x16x128_0_1_2 (res_main_v85 V))) (mulf (res_main_v76 V) (res_main_v171 V))) (mulf (res_main_v171 V) (res_main_v76 V))) shapeCasts_S8192x16x128_S8192x2048))⟩, ⟨S1x8192x2048, (broadcastInDim S1x8192x2048 ![1, 2] bcast_S8192x2048_S1x8192x2048_1_2 (addf (mulf (res_main_v136 V) (res_main_v134_2 V)) (mulf (mulf (res_main_v75 V) (res_main_v136 V)) (mulf (res_main_v134_2 V) (subf (broadcastInDim S8192x2048 ![] bcast_S_S8192x2048 (constant S_ .f32 0x3F800000#32)) (res_main_v134_2 V))))))⟩] concatenates_S1x8192x2048_S1x8192x2048_S2x8192x2048_d0) bitsLt_bf16_f32 : FVec Ideal S2x8192x2048 .bf16) (ix3 a t ⟨h * 128 + d, by omega⟩)
      = refOut V a t h d := by
  refine (result (res_main_v76 V) (res_main_v161 V) (res_main_v171 V) (res_main_v85 V) (res_main_v136 V) (res_main_v134_2 V) (res_main_v75 V) a t h d).trans ?_
  rw [v76_apply, v161_apply, v171_apply, v85_apply, v136_apply, v134_2_apply, v75_apply]
  rfl

end Cert.ReferenceIdeal.Attn

end
-- ==== Proof.Attn.Math.lean ====
/- The kernel's and the reference's formulas for one row are one function of real numbers. -/
module

public import proofs.«01_k».proof.Proof.Attn.Row

@[expose] public section

noncomputable section

namespace Cert.AttnRow

open Idealize.ShloMosaic

theorem width_eq : width = ((128 : ℝ) : EReal) := by
  simp [width, Ideal.ofBits, Ideal.ieee, -EReal.coe_mul]; norm_num
/-- The norm's small constant as a real number. -/
def eps : ℝ := small.toReal
theorem small_real : ∃ x : ℝ, 0 < x ∧ small = (x : EReal) := by
  refine ⟨8796093 * 2 ^ (-43 : ℤ), by positivity, ?_⟩
  simp [small, Ideal.ofBits, Ideal.ieee, -EReal.coe_mul]; try norm_num
theorem small_eq : small = (eps : EReal) := by
  obtain ⟨x, -, h⟩ := small_real
  rw [eps, h, EReal.toReal_coe]
theorem eps_pos : 0 < eps := by
  obtain ⟨x, hx, h⟩ := small_real
  rw [eps, h, EReal.toReal_coe]; exact hx
/-- The scores' scale as a real number. -/
def fac : ℝ := factor.toReal
theorem factor_eq : factor = (fac : EReal) := by
  have h : ∃ x : ℝ, factor = (x : EReal) := by
    refine ⟨11863283 * 2 ^ (-27 : ℤ), ?_⟩
    simp [factor, Ideal.ofBits, Ideal.ieee, -EReal.coe_mul]; try norm_num
  obtain ⟨x, h⟩ := h
  rw [fac, h, EReal.toReal_coe]
theorem half_eq : Ideal.ofBits .f32 0xBF000000#32 = ((-(1 / 2) : ℝ) : EReal) := by
  simp [Ideal.ofBits, Ideal.ieee, -EReal.coe_mul, -EReal.coe_neg]; norm_num
theorem lowest_eq : Ideal.ofBits .f32 0xFF800000#32 = (⊥ : EReal) := by
  simp [Ideal.ofBits, Ideal.ieee]

theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

theorem div_real (x y : ℝ) (h : y ≠ 0) : Ideal.div (x : EReal) (y : EReal) = ((x / y : ℝ) : EReal) := by
  rw [Ideal.div_coe h, ← EReal.coe_mul, mul_one_div]

variable {n : ℕ}

/-- The mean of squares, the normalising factor and the gate's logistic over real numbers. -/
def meanS (q : Fin 128 → ℝ) : ℝ := (∑ k, q k * q k) / 128 + eps
@[inherit_doc meanS] def rmsS (q : Fin 128 → ℝ) : ℝ := (√(meanS q))⁻¹
@[inherit_doc meanS] def gateS (z : Fin 128 → ℝ) (d : Fin 128) : ℝ := (1 + Real.exp (-z d))⁻¹
/-- The attention and its gradients over real numbers, from the weights `p`. -/
def outS (p : Fin n → ℝ) (vx : Fin n → Fin 128 → ℝ) (d : Fin 128) : ℝ := ∑ k, p k * vx k d
@[inherit_doc outS] def pullS (z g : Fin 128 → ℝ) (d : Fin 128) : ℝ := g d * (z d * gateS z d)
@[inherit_doc outS] def dzS (p : Fin n → ℝ) (vx : Fin n → Fin 128 → ℝ) (z g : Fin 128 → ℝ) (d : Fin 128) : ℝ :=
  g d * outS p vx d * (gateS z d * (1 + z d * (1 - gateS z d)))
@[inherit_doc outS] def dsS (p : Fin n → ℝ) (vx : Fin n → Fin 128 → ℝ) (z g : Fin 128 → ℝ) (k : Fin n) : ℝ :=
  p k * ((∑ d, pullS z g d * vx k d) - ∑ d, pullS z g d * outS p vx d)
@[inherit_doc outS] def duS (p : Fin n → ℝ) (kx vx : Fin n → Fin 128 → ℝ) (w z g : Fin 128 → ℝ) (d : Fin 128) : ℝ :=
  (∑ k, dsS p vx z g k * fac * kx k d) * w d
@[inherit_doc outS] def dqS (p : Fin n → ℝ) (kx vx : Fin n → Fin 128 → ℝ) (q w z g : Fin 128 → ℝ) (d : Fin 128) : ℝ :=
  rmsS q * (duS p kx vx w z g d - q d * rmsS q * ((∑ j, duS p kx vx w z g j * (q j * rmsS q)) / 128))

/-- A row of real numbers, and a block of them. -/
def up {ι : Type} (x : ι → ℝ) : ι → EReal := fun i => (x i : EReal)
@[inherit_doc up] def up2 {ι κ : Type} (x : ι → κ → ℝ) : ι → κ → EReal := fun i j => (x i j : EReal)

theorem meanS_pos (q : Fin 128 → ℝ) : 0 < meanS q :=
  add_pos_of_nonneg_of_pos (div_nonneg (Finset.sum_nonneg fun k _ => mul_self_nonneg _) (by norm_num)) eps_pos

theorem mean_up (q : Fin 128 → ℝ) : mean (up q) = (meanS q : EReal) := by
  unfold mean up meanS
  simp only [← EReal.coe_mul, ← coe_sum, width_eq, small_eq, div_real _ _ (by norm_num : (128 : ℝ) ≠ 0), ← EReal.coe_add]

theorem rms_up (q : Fin 128 → ℝ) : rms (up q) = (rmsS q : EReal) := by
  have h := meanS_pos q
  rw [rms, mean_up, Ideal.rsqrt_coe, if_neg h.not_gt, if_neg h.ne', rmsS]

theorem normed_up (q w : Fin 128 → ℝ) (d : Fin 128) : normed (up q) (up w) d = ((q d * rmsS q * w d : ℝ) : EReal) := by
  rw [normed, rms_up]; simp only [up, ← EReal.coe_mul]

theorem gate_up (z : Fin 128 → ℝ) (d : Fin 128) : gate (up z) d = (gateS z d : EReal) := by
  rw [gate, up, Ideal.logistic_coe, gateS]

theorem gateR_up (z : Fin 128 → ℝ) (d : Fin 128) : gateR (up z) d = (gateS z d : EReal) := by
  have h : (1 + Real.exp (-z d)) ≠ 0 := by positivity
  rw [gateR, up, ← EReal.coe_neg, Ideal.exp_coe, ← EReal.coe_one, ← EReal.coe_add, div_real _ _ h, gateS, one_div]

theorem pull_up (z g : Fin 128 → ℝ) (d : Fin 128) : pull (up z) (up g) d = (pullS z g d : EReal) := by
  rw [pull, gate_up]; simp only [up, ← EReal.coe_mul, pullS]

section Kernel

variable (a : Fin n → ℝ) (hE : ∑ k, a k ≠ 0) (kx vx : Fin n → Fin 128 → ℝ) (q w z g : Fin 128 → ℝ)
include hE

theorem weightK_up (k : Fin n) : weightK (up a) k = ((a k / ∑ j, a j : ℝ) : EReal) := by
  unfold weightK up
  rw [← coe_sum, ← EReal.coe_one, div_real _ _ hE, ← EReal.coe_mul, mul_one_div]

theorem outK_up (d : Fin 128) : outK (up a) (up2 vx) d = (outS (fun k => a k / ∑ j, a j) vx d : EReal) := by
  unfold outK outS
  simp only [weightK_up a hE, up2, ← EReal.coe_mul, ← coe_sum]

theorem dzK_up (d : Fin 128) : dzK (up a) (up2 vx) (up z) (up g) d = (dzS (fun k => a k / ∑ j, a j) vx z g d : EReal) := by
  unfold dzK dzS
  simp only [outK_up a hE, gate_up]
  simp only [up, ← EReal.coe_one, ← EReal.coe_sub, ← EReal.coe_mul, ← EReal.coe_add]

theorem dsK_up (k : Fin n) : dsK (up a) (up2 vx) (up z) (up g) k = (dsS (fun k => a k / ∑ j, a j) vx z g k : EReal) := by
  unfold dsK dsS
  simp only [outK_up a hE, weightK_up a hE, pull_up, up2, ← EReal.coe_mul, ← coe_sum, ← EReal.coe_sub]

theorem duK_up (d : Fin 128) : duK (up a) (up2 kx) (up2 vx) (up w) (up z) (up g) d = (duS (fun k => a k / ∑ j, a j) kx vx w z g d : EReal) := by
  unfold duK duS
  simp only [dsK_up a hE, factor_eq]
  simp only [up, up2, ← EReal.coe_mul, ← coe_sum]

theorem dqK_up (d : Fin 128) : dqK (up a) (up2 kx) (up2 vx) (up q) (up w) (up z) (up g) d = (dqS (fun k => a k / ∑ j, a j) kx vx q w z g d : EReal) := by
  unfold dqK dqS
  simp only [duK_up a hE, rms_up, width_eq]
  simp only [up, ← EReal.coe_mul, ← coe_sum, div_real _ _ (by norm_num : (128 : ℝ) ≠ 0), ← EReal.coe_sub]

end Kernel

section Reference

variable (v : Fin n → BitVec 1) (a : Fin n → ℝ) (hE : ∑ k, a k ≠ 0) (kx vx : Fin n → Fin 128 → ℝ) (q w z g : Fin 128 → ℝ)

theorem dpR_up (k : Fin n) : dpR (up2 vx) (up z) (up g) k = ((∑ d, pullS z g d * vx k d : ℝ) : EReal) := by
  unfold dpR pullS
  simp only [gateR_up]
  simp only [up, up2, ← EReal.coe_mul, ← coe_sum]

include hE

theorem outR_up (d : Fin 128) : outR (up a) (up2 vx) d = (outS (fun k => a k / ∑ j, a j) vx d : EReal) := by
  unfold outR outS
  simp only [up, up2, ← coe_sum, div_real _ _ hE, ← EReal.coe_mul]
  exact congrArg _ (Finset.sum_congr rfl fun k _ => mul_comm _ _)

theorem dzR_up (d : Fin 128) : dzR (up a) (up2 vx) (up z) (up g) d = (dzS (fun k => a k / ∑ j, a j) vx z g d : EReal) := by
  unfold dzR dzS
  simp only [outR_up a hE, gateR_up]
  simp only [up, ← EReal.coe_one, ← EReal.coe_sub, ← EReal.coe_mul, ← EReal.coe_add]
  exact congrArg _ (by ring)

theorem dsR_up (k : Fin n) : dsR (up a) (up2 vx) (up z) (up g) k = (dsS (fun k => a k / ∑ j, a j) vx z g k : EReal) := by
  unfold dsR
  simp only [dpR_up, Fin.sum_univ_one]
  simp only [up, ← coe_sum, ← EReal.coe_mul]
  rw [div_real _ _ hE, ← EReal.coe_one, div_real _ _ (mul_ne_zero hE hE)]
  simp only [← EReal.coe_mul, ← coe_sum, ← EReal.coe_neg, ← EReal.coe_add]
  refine congrArg _ ?_
  unfold dsS outS
  generalize hS : ∑ j, a j = E at hE ⊢
  have h1 : ∑ d, pullS z g d * ∑ k, a k / E * vx k d = ∑ j, (∑ d, pullS z g d * vx j d) * (1 / (E * E)) * a j * E := by
    simp only [Finset.mul_sum, Finset.sum_mul]
    rw [Finset.sum_comm]
    refine Finset.sum_congr rfl fun j _ => Finset.sum_congr rfl fun d _ => ?_
    field_simp
  rw [h1, ← Finset.sum_mul]
  generalize (∑ j, (∑ d, pullS z g d * vx j d) * (1 / (E * E)) * a j) = T
  field_simp
  ring

variable (hv : ∀ k, v k ≠ 1#1 → a k = 0)
include hv

theorem duR_up (d : Fin 128) : duR v (up a) (up2 kx) (up2 vx) (up w) (up z) (up g) d = (duS (fun k => a k / ∑ j, a j) kx vx w z g d : EReal) := by
  unfold duR duS
  have h : ∀ k, Scalar.select (v k) (dsR (up a) (up2 vx) (up z) (up g) k * factor * up2 kx k d) 0
      = ((dsS (fun k => a k / ∑ j, a j) vx z g k * fac * kx k d : ℝ) : EReal) := by
    intro k
    rw [dsR_up a hE, factor_eq]
    by_cases hk : v k = 1#1
    · rw [hk]
      show ((_ : ℝ) : EReal) * _ * ((_ : ℝ) : EReal) = _
      simp only [← EReal.coe_mul]
    · have h0 : dsS (fun k => a k / ∑ j, a j) vx z g k = 0 := by
        unfold dsS; beta_reduce; rw [hv k hk, zero_div, zero_mul]
      rw [ValueIdx.eq_zero_of_ne_one hk, h0]
      simp [Scalar.select]
  simp only [h]
  simp only [up, ← EReal.coe_mul, ← coe_sum]

theorem dqR_up (d : Fin 128) : dqR v (up a) (up2 kx) (up2 vx) (up q) (up w) (up z) (up g) d = (dqS (fun k => a k / ∑ j, a j) kx vx q w z g d : EReal) := by
  unfold dqR throughR
  simp only [duR_up v a hE kx vx w z g hv, Fin.sum_univ_one, rms_up, mean_up, half_eq, width_eq]
  rw [div_real _ _ (meanS_pos q).ne']
  simp only [up, ← EReal.coe_mul, ← coe_sum, div_real _ _ (by norm_num : (128 : ℝ) ≠ 0), ← EReal.coe_add]
  refine congrArg _ ?_
  unfold dqS
  generalize duS (fun k => a k / ∑ j, a j) kx vx w z g = u
  have hr : rmsS q / meanS q = rmsS q * rmsS q * rmsS q := by
    have h := meanS_pos q
    have h2 : rmsS q * rmsS q = (meanS q)⁻¹ := by
      rw [rmsS, ← mul_inv, Real.mul_self_sqrt h.le]
    rw [h2, div_eq_mul_inv, mul_comm]
  have hs : ∑ j, u j * (q j * rmsS q) = (∑ j, q j * u j) * rmsS q := by
    rw [Finset.sum_mul]
    exact Finset.sum_congr rfl fun j _ => by ring
  rw [hr, hs]
  ring

end Reference

end Cert.AttnRow

end
-- ==== Proof.Attn.Soft.lean ====
/- The weights of a row do not depend on the number taken off its scores, nor on keys that are masked. -/
module

public import proofs.«01_k».proof.Proof.Attn.Math

@[expose] public section

noncomputable section

namespace Cert.AttnRow

open Idealize.ShloMosaic

variable {n N : ℕ}

/-- The scores: a real number at the keys that count, minus infinity at the others. -/
def scores (v : Fin n → Prop) [DecidablePred v] (σ : Fin n → ℝ) (k : Fin n) : EReal := if v k then (σ k : EReal) else ⊥
/-- The exponentials of the scores less `M`. -/
def exps (v : Fin n → Prop) [DecidablePred v] (σ : Fin n → ℝ) (M : ℝ) (k : Fin n) : ℝ := if v k then Real.exp (σ k - M) else 0
/-- The weights. -/
def soft (v : Fin n → Prop) [DecidablePred v] (σ : Fin n → ℝ) (k : Fin n) : ℝ :=
  (if v k then Real.exp (σ k) else 0) / ∑ j, if v j then Real.exp (σ j) else 0

variable (v : Fin n → Prop) [DecidablePred v] (σ : Fin n → ℝ)

theorem top_scores {k0 : Fin n} (h0 : v k0) : ∃ M : ℝ, top (scores v σ) = (M : EReal) := by
  unfold top
  rw [lowest_eq]
  have hlt : Finset.fold max ⊥ (scores v σ) Finset.univ < ⊤ := by
    rw [Finset.fold_max_lt]
    refine ⟨bot_lt_top, fun k _ => ?_⟩
    unfold scores
    split_ifs
    · exact EReal.coe_lt_top _
    · exact bot_lt_top
  have hgt : ⊥ < Finset.fold max ⊥ (scores v σ) Finset.univ := by
    rw [Finset.lt_fold_max]
    refine Or.inr ⟨k0, Finset.mem_univ _, ?_⟩
    unfold scores
    rw [if_pos h0]
    exact EReal.bot_lt_coe _
  exact ⟨_, (EReal.coe_toReal hlt.ne hgt.ne').symm⟩

theorem expo_scores (M : ℝ) : expo (scores v σ) (M : EReal) = up (exps v σ M) := by
  funext k
  unfold expo scores up exps
  split_ifs
  · rw [← EReal.coe_sub, Ideal.exp_coe]
  · rw [EReal.bot_sub, Ideal.exp_bot, EReal.coe_zero]

theorem exps_eq (M : ℝ) (k : Fin n) : exps v σ M k = (if v k then Real.exp (σ k) else 0) * Real.exp (-M) := by
  unfold exps
  split_ifs
  · rw [← Real.exp_add, sub_eq_add_neg]
  · rw [zero_mul]

theorem total_pos {k0 : Fin n} (h0 : v k0) : 0 < ∑ j, if v j then Real.exp (σ j) else 0 := by
  refine Finset.sum_pos' (fun k _ => ?_) ⟨k0, Finset.mem_univ _, ?_⟩
  · split_ifs
    · exact (Real.exp_pos _).le
    · exact le_rfl
  · rw [if_pos h0]; exact Real.exp_pos _

theorem exps_ne (M : ℝ) {k0 : Fin n} (h0 : v k0) : ∑ k, exps v σ M k ≠ 0 := by
  simp only [exps_eq, ← Finset.sum_mul]
  exact mul_ne_zero (total_pos v σ h0).ne' (Real.exp_pos _).ne'

theorem exps_weight (M : ℝ) (k : Fin n) : exps v σ M k / ∑ j, exps v σ M j = soft v σ k := by
  simp only [exps_eq, ← Finset.sum_mul]
  rw [mul_div_mul_right _ _ (Real.exp_pos _).ne']
  rfl

/-- The kernel's row over real numbers. -/
theorem rowK {k0 : Fin n} (h0 : v k0) (kx vx : Fin n → Fin 128 → ℝ) (q w z g : Fin 128 → ℝ) (d : Fin 128) :
    dqK (expo (scores v σ) (top (scores v σ))) (up2 kx) (up2 vx) (up q) (up w) (up z) (up g) d = (dqS (soft v σ) kx vx q w z g d : EReal)
    ∧ dzK (expo (scores v σ) (top (scores v σ))) (up2 vx) (up z) (up g) d = (dzS (soft v σ) vx z g d : EReal) := by
  obtain ⟨M, hM⟩ := top_scores v σ h0
  have hp : (fun k => exps v σ M k / ∑ j, exps v σ M j) = soft v σ := funext (exps_weight v σ M)
  rw [hM, expo_scores, dqK_up _ (exps_ne v σ M h0), dzK_up _ (exps_ne v σ M h0), hp]
  exact ⟨rfl, rfl⟩

/-- The reference's row over real numbers. -/
theorem rowR {k0 : Fin n} (h0 : v k0) (b : Fin n → BitVec 1) (hb : ∀ k, v k → b k = 1#1) (kx vx : Fin n → Fin 128 → ℝ) (q w z g : Fin 128 → ℝ) (d : Fin 128) :
    dqR b (expo (scores v σ) (max (Ideal.ofBits .f32 0xFF800000#32 : EReal) (top (scores v σ)))) (up2 kx) (up2 vx) (up q) (up w) (up z) (up g) d = (dqS (soft v σ) kx vx q w z g d : EReal)
    ∧ dzR (expo (scores v σ) (max (Ideal.ofBits .f32 0xFF800000#32 : EReal) (top (scores v σ)))) (up2 vx) (up z) (up g) d = (dzS (soft v σ) vx z g d : EReal) := by
  obtain ⟨M, hM⟩ := top_scores v σ h0
  have hp : (fun k => exps v σ M k / ∑ j, exps v σ M j) = soft v σ := funext (exps_weight v σ M)
  have hz : ∀ k, b k ≠ 1#1 → exps v σ M k = 0 := by
    intro k hk
    unfold exps
    exact if_neg fun hvk => hk (hb k hvk)
  rw [lowest_eq, max_eq_right bot_le, hM, expo_scores, dqR_up b _ (exps_ne v σ M h0) _ _ _ _ _ _ hz, dzR_up _ (exps_ne v σ M h0), hp]
  exact ⟨rfl, rfl⟩

section Transfer

variable (V : Fin N → Prop) [DecidablePred V] (ς : Fin N → ℝ) (f : Fin n → Fin N) (hf : Function.Injective f)
  (hV : ∀ k, V (f k) ↔ v k) (hout : ∀ j, V j → j ∈ Set.range f) (hσ : ∀ k, v k → ς (f k) = σ k)
include hf hV hout hσ

theorem soft_at (k : Fin n) : soft V ς (f k) = soft v σ k := by
  unfold soft
  have hs : ∀ i, (if v i then Real.exp (σ i) else 0) = if V (f i) then Real.exp (ς (f i)) else 0 := by
    intro i
    by_cases hi : v i
    · rw [if_pos hi, if_pos ((hV i).2 hi), hσ i hi]
    · rw [if_neg hi, if_neg fun h => hi ((hV i).1 h)]
  rw [hs k]
  refine congrArg _ (Fintype.sum_of_injective f hf _ _ (fun j hj => if_neg fun h => hj (hout j h)) hs).symm

omit hf hV hσ in
theorem soft_off (j : Fin N) (hj : j ∉ Set.range f) : soft V ς j = 0 := by
  unfold soft
  rw [if_neg fun h => hj (hout j h), zero_div]

theorem sum_soft (F : Fin N → ℝ) : ∑ j, soft V ς j * F j = ∑ k, soft v σ k * F (f k) := by
  refine (Fintype.sum_of_injective f hf _ _ (fun j hj => ?_) fun k => ?_).symm
  · rw [soft_off V ς f hout j hj, zero_mul]
  · rw [soft_at v σ V ς f hf hV hout hσ]

variable (kx vx : Fin n → Fin 128 → ℝ) (KX VX : Fin N → Fin 128 → ℝ) (hk : ∀ k, KX (f k) = kx k) (hv : ∀ k, VX (f k) = vx k)
  (q w z g : Fin 128 → ℝ) (d : Fin 128)
include hv

theorem outS_at (d : Fin 128) : outS (soft V ς) VX d = outS (soft v σ) vx d := by
  unfold outS
  rw [sum_soft v σ V ς f hf hV hout hσ]
  simp only [hv]

theorem dzS_at : dzS (soft V ς) VX z g d = dzS (soft v σ) vx z g d := by
  unfold dzS
  rw [outS_at v σ V ς f hf hV hout hσ vx VX hv]

include hk

theorem duS_at (d : Fin 128) : duS (soft V ς) KX VX w z g d = duS (soft v σ) kx vx w z g d := by
  unfold duS dsS
  simp only [mul_assoc (soft _ _ _)]
  rw [sum_soft v σ V ς f hf hV hout hσ]
  simp only [hv, hk, outS_at v σ V ς f hf hV hout hσ vx VX hv]

theorem dqS_at : dqS (soft V ς) KX VX q w z g d = dqS (soft v σ) kx vx q w z g d := by
  unfold dqS
  simp only [duS_at v σ V ς f hf hV hout hσ kx vx KX VX hk hv]

end Transfer

end Cert.AttnRow

end
-- ==== Proof.Attn.TieReal.lean ====
/- The two rows of the attention's gradient over real arguments: the kernel's over 640 keys with a bias that masks, and the reference's over 576 keys with a selection. -/
module

public import proofs.«01_k».proof.Proof.Attn.Soft

@[expose] public section

set_option maxRecDepth 16384

noncomputable section

namespace Cert.AttnRow

open Idealize.ShloMosaic

variable (p : Fin 8192 → Fin 8192 → ℝ) (b : Fin 16 → Fin 513 → ℝ) (wq wk : Fin 128 → ℝ) (g : Fin 8192 → Fin 2048 → ℝ)

/-- The rows of a head over real numbers. -/
def qS (t : Fin 8192) (h : Fin 16) (d : Fin 128) : ℝ := p t ⟨h * 128 + d, by omega⟩
@[inherit_doc qS] def zS (t : Fin 8192) (h : Fin 16) (d : Fin 128) : ℝ := p t ⟨6144 + (h * 128 + d), by omega⟩
@[inherit_doc qS] def kS (t : Fin 8192) (h : Fin 16) (d : Fin 128) : ℝ := p t ⟨2048 + (h * 128 + d), by omega⟩
@[inherit_doc qS] def gS (t : Fin 8192) (h : Fin 16) (d : Fin 128) : ℝ := g t ⟨h * 128 + d, by omega⟩
@[inherit_doc qS] def keyS (h : Fin 16) (i : ℕ) (d : Fin 128) : ℝ :=
  if hp : 512 ≤ i ∧ i - 512 < 8192 then kS p ⟨i - 512, hp.2⟩ h d * rmsS (kS p ⟨i - 512, hp.2⟩ h) * wk d else 0
@[inherit_doc qS] def valS (h : Fin 16) (i : ℕ) (d : Fin 128) : ℝ :=
  if hp : 512 ≤ i ∧ i - 512 < 8192 then p ⟨i - 512, hp.2⟩ ⟨4096 + (h * 128 + d), by omega⟩ else 0

theorem keyAt_up (h : Fin 16) (i : ℕ) : keyAt (up2 p) (up wk) h i = up (keyS p wk h i) := by
  funext d
  unfold keyAt
  show _ = ((keyS p wk h i d : ℝ) : EReal)
  unfold keyS
  by_cases hp : 512 ≤ i ∧ i - 512 < 8192
  · rw [dif_pos hp, dif_pos hp]
    exact normed_up _ _ _
  · rw [dif_neg hp, dif_neg hp]
    exact EReal.coe_zero.symm

theorem valAt_up (h : Fin 16) (i : ℕ) : valAt (up2 p) h i = up (valS p h i) := by
  funext d
  unfold valAt
  show _ = ((valS p h i d : ℝ) : EReal)
  unfold valS
  by_cases hp : 512 ≤ i ∧ i - 512 < 8192
  · rw [dif_pos hp, dif_pos hp]
    rfl
  · rw [dif_neg hp, dif_neg hp]
    exact EReal.coe_zero.symm

/-- A score over real numbers. -/
def scoreS (q w kx : Fin 128 → ℝ) (β : ℝ) : ℝ := (∑ d, q d * rmsS q * w d * kx d) * fac + β

theorem score_up {n : ℕ} (q w : Fin 128 → ℝ) (kx : Fin n → Fin 128 → ℝ) (bb : Fin n → EReal) (k : Fin n) :
    score (up q) (up w) (up2 kx) bb k = (((∑ d, q d * rmsS q * w d * kx k d) * fac : ℝ) : EReal) + bb k := by
  unfold score
  rw [factor_eq]
  simp only [normed_up]
  show (∑ d, ((q d * rmsS q * w d : ℝ) : EReal) * ((kx k d : ℝ) : EReal)) * (fac : EReal) + bb k = _
  rw [EReal.coe_mul, coe_sum]
  simp only [EReal.coe_mul]

/-- Which of a row's 640 keys count, and their scores. -/
def v640 (T : Fin 8192) (k : Fin 640) : Prop := (64 * (T.val % 128 / 64) ≤ k.val ∧ k.val < 64 * (T.val % 128 / 64) + 576) ∧ 512 ≤ 128 * (T.val / 128) + k.val
instance (T : Fin 8192) : DecidablePred (v640 T) := fun _ => by unfold v640; infer_instance
@[inherit_doc v640] def s640 (T : Fin 8192) (h : Fin 16) (k : Fin 640) : ℝ :=
  scoreS (qS p T h) wq (keyS p wk h (128 * (T.val / 128) + k.val)) (b h ⟨min 512 (768 + T.val % 128 - k.val), by omega⟩)
/-- Which of a row's 576 keys count, and their scores. -/
def v576 (T : Fin 8192) (k : Fin 576) : Prop := 512 ≤ T.val / 64 * 64 + k.val
instance (T : Fin 8192) : DecidablePred (v576 T) := fun _ => by unfold v576; infer_instance
@[inherit_doc v576] def s576 (T : Fin 8192) (h : Fin 16) (k : Fin 576) : ℝ :=
  scoreS (qS p T h) wq (keyS p wk h (T.val / 64 * 64 + k.val)) (b h ⟨min 512 (768 + T.val % 64 - k.val), by omega⟩)

theorem scores640 (T : Fin 8192) (h : Fin 16) :
    score (up (qS p T h)) (up wq) (up2 fun k : Fin 640 => keyS p wk h (128 * (T.val / 128) + k.val))
      (fun k => if (64 * (T.val % 128 / 64) ≤ k.val ∧ k.val < 64 * (T.val % 128 / 64) + 576) ∧ 512 ≤ 128 * (T.val / 128) + k.val then
        ((b h ⟨min 512 (768 + T.val % 128 - k.val), by omega⟩ : ℝ) : EReal) else Ideal.ofBits .f32 0xFF800000#32)
      = scores (v640 T) (s640 p b wq wk T h) := by
  funext k
  rw [score_up]
  unfold scores
  by_cases hk : (64 * (T.val % 128 / 64) ≤ k.val ∧ k.val < 64 * (T.val % 128 / 64) + 576) ∧ 512 ≤ 128 * (T.val / 128) + k.val
  · rw [if_pos hk, if_pos (show v640 T k from hk), ← EReal.coe_add]
    rfl
  · rw [if_neg hk, if_neg (show ¬ v640 T k from hk), lowest_eq, EReal.add_bot]

theorem scores576 (T : Fin 8192) (h : Fin 16) :
    (fun m : Fin 576 => (Scalar.select (if 512 ≤ T.val / 64 * 64 + m.val then 1#1 else 0#1)
      (score (up (qS p T h)) (up wq) (up2 fun k : Fin 576 => keyS p wk h (T.val / 64 * 64 + k.val))
        (fun k => ((b h ⟨min 512 (768 + T.val % 64 - k.val), by omega⟩ : ℝ) : EReal)) m) (Ideal.ofBits .f32 0xFF800000#32) : EReal))
      = scores (v576 T) (s576 p b wq wk T h) := by
  funext k
  unfold scores
  by_cases hk : 512 ≤ T.val / 64 * 64 + k.val
  · rw [if_pos hk, if_pos (show v576 T k from hk), score_up, ← EReal.coe_add]
    rfl
  · rw [if_neg hk, if_neg (show ¬ v576 T k from hk), lowest_eq]
    rfl

/-- Where a row's 576 keys are among its 640. -/
def at640 (T : Fin 8192) (k : Fin 576) : Fin 640 := ⟨64 * (T.val % 128 / 64) + k.val, by omega⟩

theorem at640_inj (T : Fin 8192) : Function.Injective (at640 T) := fun a b e => by
  have := congrArg Fin.val e
  unfold at640 at this
  exact Fin.ext (by dsimp only at this; omega)

theorem at640_iff (T : Fin 8192) (k : Fin 576) : v640 T (at640 T k) ↔ v576 T k := by
  unfold v640 v576 at640
  dsimp only
  omega

theorem at640_out (T : Fin 8192) (j : Fin 640) (hj : v640 T j) : j ∈ Set.range (at640 T) := by
  unfold v640 at hj
  exact ⟨⟨j.val - 64 * (T.val % 128 / 64), by omega⟩, Fin.ext (by unfold at640; dsimp only; omega)⟩

theorem at640_row (T : Fin 8192) (k : Fin 576) : 128 * (T.val / 128) + (at640 T k).val = T.val / 64 * 64 + k.val := by
  unfold at640
  dsimp only
  omega

theorem at640_score (T : Fin 8192) (h : Fin 16) (k : Fin 576) : s640 p b wq wk T h (at640 T k) = s576 p b wq wk T h k := by
  unfold s640 s576
  rw [at640_row]
  have e : (⟨min 512 (768 + T.val % 128 - (at640 T k).val), by omega⟩ : Fin 513) = ⟨min 512 (768 + T.val % 64 - k.val), by omega⟩ := by
    refine Fin.ext ?_
    unfold at640
    dsimp only
    have : 768 + T.val % 128 - (64 * (T.val % 128 / 64) + k.val) = 768 + T.val % 64 - k.val := by omega
    rw [this]
  rw [e]

theorem some640 (T : Fin 8192) : v640 T (at640 T ⟨512, by decide⟩) := (at640_iff T _).2 (by unfold v576; dsimp only; omega)

/-- The row's two gradients over real numbers. -/
def rowS (a : Fin 2) (T : Fin 8192) (h : Fin 16) (d : Fin 128) : ℝ :=
  if a.val = 0 then dqS (soft (v576 T) (s576 p b wq wk T h)) (fun k => keyS p wk h (T.val / 64 * 64 + k.val)) (fun k => valS p h (T.val / 64 * 64 + k.val)) (qS p T h) wq (zS p T h) (gS g T h) d
  else dzS (soft (v576 T) (s576 p b wq wk T h)) (fun k => valS p h (T.val / 64 * 64 + k.val)) (zS p T h) (gS g T h) d

theorem row640 (T : Fin 8192) (h : Fin 16) (d : Fin 128) :
    dqK (expo (scores (v640 T) (s640 p b wq wk T h)) (top (scores (v640 T) (s640 p b wq wk T h)))) (up2 fun k : Fin 640 => keyS p wk h (128 * (T.val / 128) + k.val))
      (up2 fun k : Fin 640 => valS p h (128 * (T.val / 128) + k.val)) (up (qS p T h)) (up wq) (up (zS p T h)) (up (gS g T h)) d = (rowS p b wq wk g 0 T h d : EReal)
    ∧ dzK (expo (scores (v640 T) (s640 p b wq wk T h)) (top (scores (v640 T) (s640 p b wq wk T h))))
      (up2 fun k : Fin 640 => valS p h (128 * (T.val / 128) + k.val)) (up (zS p T h)) (up (gS g T h)) d = (rowS p b wq wk g 1 T h d : EReal) := by
  have hk : ∀ k, keyS p wk h (128 * (T.val / 128) + (at640 T k).val) = keyS p wk h (T.val / 64 * 64 + k.val) := fun k => by rw [at640_row]
  have hv : ∀ k, valS p h (128 * (T.val / 128) + (at640 T k).val) = valS p h (T.val / 64 * 64 + k.val) := fun k => by rw [at640_row]
  obtain ⟨e1, e2⟩ := rowK (v640 T) (s640 p b wq wk T h) (some640 T) (fun k : Fin 640 => keyS p wk h (128 * (T.val / 128) + k.val))
    (fun k : Fin 640 => valS p h (128 * (T.val / 128) + k.val)) (qS p T h) wq (zS p T h) (gS g T h) d
  constructor
  · rw [e1, dqS_at (v576 T) (s576 p b wq wk T h) (v640 T) (s640 p b wq wk T h) (at640 T) (at640_inj T) (at640_iff T) (at640_out T)
      (fun k _ => at640_score p b wq wk T h k) (fun k => keyS p wk h (T.val / 64 * 64 + k.val)) (fun k => valS p h (T.val / 64 * 64 + k.val)) _ _ hk hv]
    rfl
  · rw [e2, dzS_at (v576 T) (s576 p b wq wk T h) (v640 T) (s640 p b wq wk T h) (at640 T) (at640_inj T) (at640_iff T) (at640_out T)
      (fun k _ => at640_score p b wq wk T h k) (fun k => valS p h (T.val / 64 * 64 + k.val)) _ hv]
    rfl

theorem row576 (T : Fin 8192) (h : Fin 16) (d : Fin 128) (c : Fin 576 → BitVec 1) (hc : ∀ k, v576 T k → c k = 1#1) :
    dqR c (expo (scores (v576 T) (s576 p b wq wk T h)) (max (Ideal.ofBits .f32 0xFF800000#32 : EReal) (top (scores (v576 T) (s576 p b wq wk T h)))))
      (up2 fun k : Fin 576 => keyS p wk h (T.val / 64 * 64 + k.val))
      (up2 fun k : Fin 576 => valS p h (T.val / 64 * 64 + k.val)) (up (qS p T h)) (up wq) (up (zS p T h)) (up (gS g T h)) d = (rowS p b wq wk g 0 T h d : EReal)
    ∧ dzR (expo (scores (v576 T) (s576 p b wq wk T h)) (max (Ideal.ofBits .f32 0xFF800000#32 : EReal) (top (scores (v576 T) (s576 p b wq wk T h)))))
      (up2 fun k : Fin 576 => valS p h (T.val / 64 * 64 + k.val)) (up (zS p T h)) (up (gS g T h)) d = (rowS p b wq wk g 1 T h d : EReal) :=
  rowR (v576 T) (s576 p b wq wk T h) (k0 := ⟨512, by decide⟩) (by unfold v576; dsimp only; omega) c hc _ _ _ _ _ _ d

end Cert.AttnRow

end
-- ==== Proof.Attn.Pre.lean ====
/- What the precondition says: every entry of the five arguments is a real number. -/
module

public import proofs.«01_k».proof.Pre_finite
public import Idealize.ShloMosaic.Lib.ReduceAll
public import Idealize.ShloMosaic.Lib.Pointwise
public import Idealize.ShloMosaic.PureOps.Ideal

@[expose] public section

set_option maxRecDepth 16384

noncomputable section

namespace Cert.Pre_finite

open Idealize.ShloMosaic

theorem real_of_lt (x : EReal) (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  have h' := (Ideal.cmp_olt_eq_one _ _).1 h
  refine EReal.coe_toReal (fun e => ?_) (fun e => ?_) <;> subst e <;> simp at h'

theorem real_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1)
    (i : s.Idx) : (((x i : EReal).toReal : ℝ) : EReal) = x i :=
  haveI : Subsingleton S_.Idx := ⟨fun a b => funext fun k => k.elim0⟩
  real_of_lt _ (Host.reduce_andi_all _ _ h hu j e i)

instance facts : Facts where
  bcast_S_S8192x8192 := by decide
  reducesTo_S8192x8192_S_d0_1 := by decide
  h_S_ := by decide
  bcast_S_S1x16x513 := by decide
  reducesTo_S1x16x513_S_d0_1_2 := by decide
  bcast_S_S1x128 := by decide
  reducesTo_S1x128_S_d0_1 := by decide
  bcast_S_S8192x2048 := by decide
  reducesTo_S8192x2048_S_d0_1 := by decide

theorem real_args (a0 : FVec Ideal S8192x8192 .f32) (a1 : FVec Ideal S1x16x513 .f32) (a2 a3 : FVec Ideal S1x128 .f32) (a4 : FVec Ideal S8192x2048 .f32)
    (h : fn (F := Ideal) a0 a1 a2 a3 a4 = fun _ => 1#1) :
    (∀ i, (((a0 i : EReal).toReal : ℝ) : EReal) = a0 i) ∧ (∀ i, (((a1 i : EReal).toReal : ℝ) : EReal) = a1 i) ∧ (∀ i, (((a2 i : EReal).toReal : ℝ) : EReal) = a2 i)
    ∧ (∀ i, (((a3 i : EReal).toReal : ℝ) : EReal) = a3 i) ∧ (∀ i, (((a4 i : EReal).toReal : ℝ) : EReal) = a4 i) := by
  have h0 := congrFun h (Shape.Idx.first Facts.h_S_)
  unfold fn fn_part1 at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨real_of_all a0 _ _ _ _ e0, real_of_all a1 _ _ _ _ e1, real_of_all a2 _ _ _ _ e2, real_of_all a3 _ _ _ _ e3, real_of_all a4 _ _ _ _ e4⟩

end Cert.Pre_finite

end
-- ==== Proof.Attn.Tie.lean ====
/- The attention's backward call and its reference have one first result. -/
module

public import proofs.«01_k».proof.Proof.Attn.Value3
public import proofs.«01_k».proof.Proof.Attn.RefRow
public import proofs.«01_k».proof.Proof.Attn.TieReal
public import proofs.«01_k».proof.Proof.Attn.Pre
public import proofs.«01_k».proof.Proof.Gen.ReferenceIdeal.Run
public import proofs.«01_k».proof.Defs

@[expose] public section

set_option maxRecDepth 16384

noncomputable section

open Idealize.ShloMosaic Idealize.ShloMosaic.TcCoe Idealize.SL.Sem Idealize.ShloMosaic.StableHlo
open Cert.AttnRow hiding vAt

namespace Cert.KernelIdeal.Attn

open Cert.KernelIdeal Cert.KernelIdeal.Gen

variable (m : (ℓ : Loc nD τ sig) → Buf (Elt Ideal) ℓ) (c : Dev nD)
variable (p : Fin 8192 → Fin 8192 → ℝ) (b : Fin 16 → Fin 513 → ℝ) (wq wk : Fin 128 → ℝ) (g : Fin 8192 → Fin 2048 → ℝ)

/-- The kernel's rows over real arguments. -/
theorem kerOut_real (hP : KP m c = up2 p) (hB : KB m c = up2 b) (hQ : KQ m c = up wq) (hK : KK m c = up wk) (hG : KG m c = up2 g)
    (a : Fin 2) (T : Fin 8192) (h : Fin 16) (d : Fin 128) : kerOut m c a T h d = (rowS p b wq wk g a T h d : EReal) := by
  have eK : keyT m c T h = up2 fun k : Fin 640 => keyS p wk h (128 * (T.val / 128) + k.val) := by
    funext k; unfold keyT; rw [hP, hK, keyAt_up]; rfl
  have eV : valT m c T h = up2 fun k : Fin 640 => valS p h (128 * (T.val / 128) + k.val) := by
    funext k; unfold valT; rw [hP, valAt_up]; rfl
  have eS : score (qAt (KP m c) T h) (KQ m c) (keyT m c T h) (biasT m c T h) = scores (v640 T) (s640 p b wq wk T h) := by
    rw [eK, hP, hQ]
    unfold biasT
    rw [hB]
    exact scores640 p b wq wk T h
  unfold kerOut dqRow dzRow
  rw [eS, eK, eV, hP, hQ, hG]
  by_cases ha : a.val = 0
  · obtain rfl : a = 0 := Fin.ext ha
    rw [if_pos ha]
    exact (row640 p b wq wk g T h d).1
  · obtain rfl : a = 1 := Fin.ext (by have := a.isLt; show a.val = 1; omega)
    rw [if_neg ha]
    exact (row640 p b wq wk g T h d).2

end Cert.KernelIdeal.Attn

namespace Cert.ReferenceIdeal.Attn

open Cert.ReferenceIdeal Cert.ReferenceIdeal.Gen

variable (V : Valuation τ sig (Elt Ideal))
variable (p : Fin 8192 → Fin 8192 → ℝ) (b : Fin 16 → Fin 513 → ℝ) (wq wk : Fin 128 → ℝ) (g : Fin 8192 → Fin 2048 → ℝ)

/-- The reference's rows over real arguments. -/
theorem refOut_real (hP : P V = up2 p) (hB : B V = up2 b) (hQ : WQ V = up wq) (hK : WK V = up wk) (hG : G V = up2 g)
    (a : Fin 2) (T : Fin 8192) (h : Fin 16) (d : Fin 128) : refOut V a T h d = (rowS p b wq wk g a T h d : EReal) := by
  have eK : kT V T h = up2 fun k : Fin 576 => keyS p wk h (T.val / 64 * 64 + k.val) := by
    funext k; unfold kT; rw [hP, hK, keyAt_up]; rfl
  have eV : vT V T h = up2 fun k : Fin 576 => valS p h (T.val / 64 * 64 + k.val) := by
    funext k; unfold vT; rw [hP, valAt_up]; rfl
  have tT : (⟨(ch T).val * 64 + (pl T).val, by omega⟩ : Fin 8192) = T := Fin.ext (by show T.val / 64 * 64 + T.val % 64 = T.val; omega)
  have eS : scR V (ch T) h (pl T) = scores (v576 T) (s576 p b wq wk T h) := by
    unfold scR
    rw [tT, hP, hB, hQ, hK]
    have e1 : (fun m : Fin 576 => keyAt (up2 p) (up wk) h ((ch T).val * 64 + m.val)) = up2 fun k : Fin 576 => keyS p wk h (T.val / 64 * 64 + k.val) :=
      funext fun k => keyAt_up p wk h _
    rw [e1]
    exact scores576 p b wq wk T h
  have eE : eT V T h = expo (scores (v576 T) (s576 p b wq wk T h)) (max (Ideal.ofBits .f32 0xFF800000#32 : EReal) (top (scores (v576 T) (s576 p b wq wk T h)))) := by
    unfold Cert.ReferenceIdeal.Attn.eT eR
    rw [eS]
  unfold refOut
  rw [eE, eK, eV, hP, hQ, hG]
  by_cases ha : a.val < 1
  · obtain rfl : a = 0 := Fin.ext (by show a.val = 0; omega)
    rw [if_pos ha]
    exact (row576 p b wq wk g T h d (inT T) fun k hk => if_pos hk).1
  · obtain rfl : a = 1 := Fin.ext (by have := a.isLt; show a.val = 1; omega)
    rw [if_neg ha]
    exact (row576 p b wq wk g T h d (inT T) fun k hk => if_pos hk).2

end Cert.ReferenceIdeal.Attn

namespace Cert.Proof.AttnTie

theorem algebraic : Cert.algebraic_KernelIdeal_ReferenceIdeal_pre_finite := by
  intro m g m' g' hpre hargs
  refine ⟨fun c => Cert.KernelIdeal.Attn.result m c, ?_, ?_⟩
  · refine (θ_run _ _ _).mono (fun r h c => ?_) (Cert.KernelIdeal.Attn.run_main m g)
    exact ⟨((h.1 c).1 9).trans (Cert.KernelIdeal.Attn.final m c), Cert.KernelIdeal.Attn.kept m c r h⟩
  · refine (θ_run _ _ _).mono (fun r h c => ?_) (Cert.ReferenceIdeal.Value.run m' g')
    obtain ⟨h0, h1⟩ := h c
    refine ⟨h0.trans ?_, h1⟩
    obtain ⟨r0, r1, r2, r3, r4⟩ := Cert.Pre_finite.real_args _ _ _ _ _ (hpre c)
    obtain ⟨a0, a1, a2, a3, a4⟩ := hargs c
    have k0 : Cert.KernelIdeal.Attn.KP m c = up2 fun t j => (Cert.KernelIdeal.Attn.KP m c t j).toReal := funext fun t => funext fun j => (r0 _).symm
    have k1 : Cert.KernelIdeal.Attn.KB m c = up2 fun t j => (Cert.KernelIdeal.Attn.KB m c t j).toReal := funext fun t => funext fun j => (r1 _).symm
    have k2 : Cert.KernelIdeal.Attn.KQ m c = up fun j => (Cert.KernelIdeal.Attn.KQ m c j).toReal := funext fun j => (r2 _).symm
    have k3 : Cert.KernelIdeal.Attn.KK m c = up fun j => (Cert.KernelIdeal.Attn.KK m c j).toReal := funext fun j => (r3 _).symm
    have k4 : Cert.KernelIdeal.Attn.KG m c = up2 fun t j => (Cert.KernelIdeal.Attn.KG m c t j).toReal := funext fun t => funext fun j => (r4 _).symm
    have q0 : Cert.ReferenceIdeal.Attn.P (launchContents m' c) = Cert.KernelIdeal.Attn.KP m c := funext fun t => funext fun j => congrFun a0 _
    have q1 : Cert.ReferenceIdeal.Attn.B (launchContents m' c) = Cert.KernelIdeal.Attn.KB m c := funext fun t => funext fun j => congrFun a1 _
    have q2 : Cert.ReferenceIdeal.Attn.WQ (launchContents m' c) = Cert.KernelIdeal.Attn.KQ m c := funext fun j => congrFun a2 _
    have q3 : Cert.ReferenceIdeal.Attn.WK (launchContents m' c) = Cert.KernelIdeal.Attn.KK m c := funext fun j => congrFun a3 _
    have q4 : Cert.ReferenceIdeal.Attn.G (launchContents m' c) = Cert.KernelIdeal.Attn.KG m c := funext fun t => funext fun j => congrFun a4 _
    funext i
    rw [eq_ix3 i]
    have hi : (i 2).val < 2048 := (i 2).isLt
    have e2 : (i 2 : Fin 2048) = (⟨(⟨(i 2).val / 128, by omega⟩ : Fin 16).val * 128 + (⟨(i 2).val % 128, by omega⟩ : Fin 128).val, by dsimp only; omega⟩ : Fin 2048) :=
      Fin.ext (by dsimp only; omega)
    refine (congrArg _ (congrArg (fun e : Fin 2048 => ix3 (i 0) (i 1) e) e2)).trans ?_
    refine (Cert.ReferenceIdeal.Attn.ref_apply (launchContents m' c) (i 0) (i 1) _ _).trans ?_
    refine (Cert.ReferenceIdeal.Attn.refOut_real (launchContents m' c) _ _ _ _ _ (q0.trans k0) (q1.trans k1) (q2.trans k2) (q3.trans k3) (q4.trans k4) _ _ _ _).trans ?_
    exact (Cert.KernelIdeal.Attn.kerOut_real m c _ _ _ _ _ k0 k1 k2 k3 k4 _ _ _ _).symm

end Cert.Proof.AttnTie

end
-- ==== Proof.Products.Cols.lean ====
/- The gradient of attention's projected stream at its input: what the grid leaves in the result array. -/
module

public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

namespace Cert.Kernel2Ideal.Product

open Cert.Kernel2Ideal Cert.Kernel2Ideal.Gen
open Idealize.ShloMosaic Idealize.ShloMosaic.TcCoe Idealize.SL.Sem

variable (m : (ℓ : Loc nD τ sig) → Buf (Elt Ideal) ℓ) (ρ : Dev nD → PrngReg)

/-- One block's part of a product that contracts the columns of both operands. -/
def part (y : Vec Ideal S1x1024x2048 .bf16) (w : Vec Ideal S1024x2048 .bf16) (j : S1024x1024.Idx) : Elt Ideal .f32 :=
  ∑ k : Fin 2048, y (ix3 0 (j 0) k) * w (ix2 (j 1) k)

theorem pay1_apply (a : Vec Ideal S1024x1024 .f32) (y : Vec Ideal S1x1024x2048 .bf16) (w : Vec Ideal S1024x2048 .bf16) (j : S1024x1024.Idx) :
    k0_pay1 a y w j = a j + part y w j := by
  idx_vars j
  pointwise [k0_pay1, part]

theorem pay3_apply (a : Vec Ideal S1024x1024 .f32) (y : Vec Ideal S1x1024x2048 .bf16) (w : Vec Ideal S1024x2048 .bf16) (j : S1024x1024.Idx) :
    k0_pay3 a y w j = a j + part y w j := by
  idx_vars j
  pointwise [k0_pay3, part]

theorem pay2_apply (j : S1024x1024.Idx) : k0_pay2 (F := Ideal) j = 0 := by
  idx_vars j
  pointwise [k0_pay2]

/-- What one grid point adds to the accumulator: the first stack's two matrices, then the second's. -/
def term (c : Dev nD) (t : Fin cfg0.N) (j : S1024x1024.Idx) : Elt Ideal .f32 :=
  if t.val % 4 ≤ 1 then part (iblk m c 0 t) (iblk m c 2 t) j else part (iblk m c 1 t) (iblk m c 2 t) j

theorem acc_reset (c : Dev nD) (t : Fin cfg0.N) (h : t.val % 4 = 0) (j : S1024x1024.Idx) :
    (outsAt0 m c t.val t.isLt).2 j = 0 + term m c t j := by
  rw [outsAt0_A m c t h (by omega) (by omega) (by omega)]
  frame_out
  first | rw [pay1_apply, pay2_apply] | rw [pay3_apply, pay2_apply]
  rw [term, if_pos (by omega)]

theorem acc_step (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + term m c t j := by
  by_cases h1 : t.val % 4 ≤ 1
  · rw [outsAt0_B m c t h h1 (by omega) (by omega)]
    frame_out
    simp only [read_unread_whole]
    first | rw [pay1_apply] | rw [pay3_apply]
    rw [term, if_pos h1]
  · by_cases h3 : t.val % 4 = 3
    · rw [outsAt0_D m c t h h1 (by omega) h3]
      frame_out
      simp only [read_unread_whole]
      first | rw [pay1_apply] | rw [pay3_apply]
      rw [term, if_neg h1]
    · rw [outsAt0_C m c t h h1 (by omega) h3]
      frame_out
      simp only [read_unread_whole]
      first | rw [pay1_apply] | rw [pay3_apply]
      rw [term, if_neg h1]

theorem out_eq (c : Dev nD) (t : Fin cfg0.N) (h3 : t.val % 4 = 3) (j : S1024x1024.Idx) :
    (outsAt0 m c t.val t.isLt).1 j = (outsAt0 m c t.val t.isLt).2 j := by
  rw [outsAt0_D m c t (by omega) (by omega) (by omega) h3]
  frame_out

theorem idx0 : ∀ t : Fin cfg0.N, t.val % 4 ≤ 1 → win0_0.index t = ![t.val % 4, t.val / 8, 0] := by decide +kernel

theorem idx1 : ∀ t : Fin cfg0.N, ¬t.val % 4 ≤ 1 → win0_1.index t = ![t.val % 4 - 2, t.val / 8, 0] := by decide +kernel

/-- The column block of the weights that meets the `n`-th matrix of the two stacks. -/
def col (n : ℕ) : ℕ := if n % 4 = 0 then 0 else if n % 4 = 1 then 3 else if n % 4 = 2 then 1 else 2

theorem idx2 : ∀ t : Fin cfg0.N, win0_2.index t = ![t.val / 4 % 2, col t.val] := by decide +kernel

theorem idx3 : ∀ t : Fin cfg0.N, win0_3.index t = ![t.val / 8, t.val / 4 % 2] := by decide +kernel

/-- The product of one matrix of a stack with one column block of the weights. -/
def piece (y : Vec Ideal S2x8192x2048 .bf16) (w : Vec Ideal S2048x8192 .bf16) (g : Fin 2) (b : Fin 4) (r : Fin 8192) (i : Fin 2048) : Elt Ideal .f32 :=
  ∑ k : Fin 2048, y (ix3 g r k) * w (ix2 i ⟨b.val * 2048 + k.val, by omega⟩)

/-- The four products, in the order the grid takes them. -/
def product (w : Vec Ideal S2048x8192 .bf16) (p q : Vec Ideal S2x8192x2048 .bf16) : Vec Ideal S8192x2048 .f32 :=
  fun i => piece p w 0 0 (i 0) (i 1) + piece p w 1 3 (i 0) (i 1) + piece q w 0 1 (i 0) (i 1) + piece q w 1 2 (i 0) (i 1)

theorem iblk0 (c : Dev nD) (t : Fin cfg0.N) (h : t.val % 4 ≤ 1) (j : Fin 1024) (k : Fin 2048) (g : Fin 2) (r : Fin 8192)
    (hg : g.val = t.val % 4) (hr : r.val = t.val / 8 * 1024 + j.val) :
    iblk m c 0 t (ix3 0 j k) = m ((c : Thread nD τ).loc main_arg1) (ix3 g r k) := by
  blk_ext [iblk, V, idx0 t h]

theorem iblk1 (c : Dev nD) (t : Fin cfg0.N) (h : ¬t.val % 4 ≤ 1) (j : Fin 1024) (k : Fin 2048) (g : Fin 2) (r : Fin 8192)
    (hg : g.val = t.val % 4 - 2) (hr : r.val = t.val / 8 * 1024 + j.val) :
    iblk m c 1 t (ix3 0 j k) = m ((c : Thread nD τ).loc main_arg2) (ix3 g r k) := by
  blk_ext [iblk, V, idx1 t h]

theorem iblk2 (c : Dev nD) (t : Fin cfg0.N) (j : Fin 1024) (k : Fin 2048) (i : Fin 2048) (l : Fin 8192)
    (hi : i.val = t.val / 4 % 2 * 1024 + j.val) (hl : l.val = col t.val * 2048 + k.val) :
    iblk m c 2 t (ix2 j k) = m ((c : Thread nD τ).loc main_arg0) (ix2 i l) := by
  blk_ext [iblk, V, idx2 t]

theorem term_first (c : Dev nD) (t : Fin cfg0.N) (h : t.val % 4 ≤ 1) (j : S1024x1024.Idx) (g : Fin 2) (b : Fin 4) (r : Fin 8192) (i : Fin 2048)
    (hg : g.val = t.val % 4) (hb : b.val = col t.val) (hr : r.val = t.val / 8 * 1024 + (j 0).val) (hi : i.val = t.val / 4 % 2 * 1024 + (j 1).val) :
    term m c t j = piece (m ((c : Thread nD τ).loc main_arg1)) (m ((c : Thread nD τ).loc main_arg0)) g b r i := by
  rw [term, if_pos h]
  exact Finset.sum_congr rfl fun k _ => congrArg₂ (· * ·) (iblk0 m c t h (j 0) k g r hg hr)
    (iblk2 m c t (j 1) k i _ hi (by simp only [hb]))

theorem term_second (c : Dev nD) (t : Fin cfg0.N) (h : ¬t.val % 4 ≤ 1) (j : S1024x1024.Idx) (g : Fin 2) (b : Fin 4) (r : Fin 8192) (i : Fin 2048)
    (hg : g.val = t.val % 4 - 2) (hb : b.val = col t.val) (hr : r.val = t.val / 8 * 1024 + (j 0).val) (hi : i.val = t.val / 4 % 2 * 1024 + (j 1).val) :
    term m c t j = piece (m ((c : Thread nD τ).loc main_arg2)) (m ((c : Thread nD τ).loc main_arg0)) g b r i := by
  rw [term, if_neg h]
  exact Finset.sum_congr rfl fun k _ => congrArg₂ (· * ·) (iblk1 m c t h (j 0) k g r hg hr)
    (iblk2 m c t (j 1) k i _ hi (by simp only [hb]))

theorem col_run (a : ℕ) (s : Fin 4) : col (4 * a + s.val) = (![0, 3, 1, 2] : Fin 4 → ℕ) s := by
  have e : (4 * a + s.val) % 4 = s.val := by omega
  unfold col
  rw [e]
  revert s
  intro s _
  fin_cases s <;> rfl

theorem final (c : Dev nD) : (dats m 0 c).arrAt 3 cfg0.N
    = product (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  have h3 := (flush0_3 t).mp hf
  rw [out_eq m c t h3, Pipeline.eq_sum_fin_of_reset_step_apply_of_flush (fun n h => (outsAt0 m c n h).2) 4 (fun _ => 0)
    (term m c) (acc_reset m c) (acc_step m c) t h3, zero_add, Fin.sum_univ_four]
  obtain ⟨a, b, he, ha, hb⟩ : ∃ (a : Fin 8192) (b : Fin 2048),
      ((View.whole main_v0).slice (win0_3.rect t)).emb (ix2 y0 y1) = ix2 a b
      ∧ a.val = t.val / 8 * 1024 + y0.val ∧ b.val = t.val / 4 % 2 * 1024 + y1.val := by
    refine ⟨_, _, eq_ix2 _, ?_, ?_⟩
    · blk_simp [idx3 t]
    · blk_simp [idx3 t]
  rw [he]
  unfold product
  have hc := col_run (t.val / 4)
  refine congrArg₂ (· + ·) (congrArg₂ (· + ·) (congrArg₂ (· + ·) ?_ ?_) ?_) ?_
  · exact term_first m c _ (by simp) _ 0 0 a b (by simp) (hc 0).symm (by simp <;> omega) (by simp <;> omega)
  · exact term_first m c _ (by simp only [Fin.val_one]; omega) _ 1 3 a b (by simp <;> omega) (hc 1).symm (by simp <;> omega) (by simp <;> omega)
  · exact term_second m c _ (by simp <;> omega) _ 0 1 a b (by simp <;> omega) (hc 2).symm (by simp <;> omega) (by simp <;> omega)
  · exact term_second m c _ (by simp <;> omega) _ 1 2 a b (by simp <;> omega) (hc 3).symm (by simp <;> omega) (by simp <;> omega)

/-- The run, with its result and its arguments named. -/
theorem run : θ_run defs (onTc (τ := τ) (main (F := Ideal))) ⟨m, fun _ => 0, ρ⟩ fun r => ∀ c : Dev nD,
    r.2.mem ((c : Thread nD τ).loc main_v0)
        = product (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (run_main m ρ)
  exact ⟨((h c).1 3).trans (final m c),
    ((h c).1 2).trans (((dats m 0 c).arrAt_in 2 rfl _).trans ((A_eq m c 2).trans (V_main_arg0 m c))),
    ((h c).1 0).trans (((dats m 0 c).arrAt_in 0 rfl _).trans ((A_eq m c 0).trans (V_main_arg1 m c))),
    ((h c).1 1).trans (((dats m 0 c).arrAt_in 1 rfl _).trans ((A_eq m c 1).trans (V_main_arg2 m c)))⟩

end Cert.Kernel2Ideal.Product

end
-- ==== Proof.Products.ColsTie.lean ====
/- The gradient of attention's projected stream at its input: the grid's result is the plain product's. -/
module

public import proofs.«01_k».proof.Proof.Products.Cols
public import proofs.«01_k».proof.Proof.Gen.Reference2Ideal.Run
public import proofs.«01_k».proof.Defs

@[expose] public section

set_option maxRecDepth 16384

noncomputable section

namespace Cert.Kernel2Ideal.Product

open Idealize.ShloMosaic Idealize.ShloMosaic.TcCoe Idealize.SL.Sem

theorem swap_last (a b c d : EReal) : a + b + c + d = a + d + b + c := by ac_rfl

theorem algebraic : Cert.algebraic_Kernel2Ideal_Reference2Ideal := by
  intro m g m' g' _ hargs
  refine ⟨fun c => product (m ((c : Thread Cert.Kernel2Ideal.nD Cert.Kernel2Ideal.τ).loc Cert.Kernel2Ideal.main_arg0))
    (m ((c : Thread Cert.Kernel2Ideal.nD Cert.Kernel2Ideal.τ).loc Cert.Kernel2Ideal.main_arg1))
    (m ((c : Thread Cert.Kernel2Ideal.nD Cert.Kernel2Ideal.τ).loc Cert.Kernel2Ideal.main_arg2)), ?_, ?_⟩
  · exact run m g
  · refine (θ_run _ _ _).mono (fun r h c => ?_) (Cert.Reference2Ideal.Value.run m' g')
    obtain ⟨h0, h1⟩ := h c
    refine ⟨h0.trans ?_, h1⟩
    rw [(hargs c).1, (hargs c).2.1, (hargs c).2.2]
    funext i
    idx_vars i
    pointwise [product, piece]
    rw [← Fin.sum_mul_add_fin 4 2048, Fin.sum_univ_four]
    refine (congrArg₂ (· + ·) (congrArg₂ (· + ·) (congrArg₂ (· + ·) ?_ ?_) ?_) ?_).trans (swap_last _ _ _ _)
    all_goals
      refine Finset.sum_congr rfl fun k _ => ?_
      have hk := k.isLt
      simp only [Fin.val_zero, Fin.val_one, Fin.val_two, (rfl : ((3 : Fin 4) : ℕ) = 3)]
      refine congrArg₂ (· * ·) ?_ (by blk_ext [])
      split_ifs <;> first | (exfalso; omega) | blk_ext []

end Cert.Kernel2Ideal.Product

end
-- ==== Proof.Products.Slabs.lean ====
/- The weight gradient of attention's input projection: what the grid leaves in the result array. -/
module

public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

namespace Cert.Kernel3Ideal.Product

open Cert.Kernel3Ideal Cert.Kernel3Ideal.Gen
open Idealize.ShloMosaic Idealize.ShloMosaic.TcCoe Idealize.SL.Sem

variable (m : (ℓ : Loc nD τ sig) → Buf (Elt Ideal) ℓ)

/-- One block's part of a product that contracts the rows of both operands. -/
def part (x : Vec Ideal S2048x1024 .bf16) (y : Vec Ideal S1x2048x1024 .bf16) (j : S1024x1024.Idx) : Elt Ideal .f32 :=
  ∑ k : Fin 2048, x (ix2 k (j 0)) * y (ix3 0 k (j 1))

theorem pay1_apply (a : Vec Ideal S1024x1024 .f32) (x : Vec Ideal S2048x1024 .bf16) (y : Vec Ideal S1x2048x1024 .bf16) (j : S1024x1024.Idx) :
    k0_pay1 a x y j = a j + part x y j := by
  idx_vars j
  pointwise [k0_pay1, part]

theorem pay4_apply (a : Vec Ideal S1024x1024 .f32) (x : Vec Ideal S2048x1024 .bf16) (y : Vec Ideal S1x2048x1024 .bf16) (j : S1024x1024.Idx) :
    k0_pay4 a x y j = a j + part x y j := by
  idx_vars j
  pointwise [k0_pay4, part]

theorem pay3_apply (j : S1024x1024.Idx) : k0_pay3 (F := Ideal) j = 0 := by
  idx_vars j
  pointwise [k0_pay3]

theorem pay2_apply (a : Vec Ideal S1024x1024 .f32) (z : Fin 1) (i j : Fin 1024) : k0_pay2 a (ix3 z i j) = a (ix2 i j) := by
  pointwise [k0_pay2]

/-- What one grid point adds to the accumulator: the first stack feeds the first four column blocks, the second the rest. -/
def term (c : Dev nD) (t : Fin cfg0.N) (j : S1024x1024.Idx) : Elt Ideal .f32 :=
  if t.val / 4 % 8 ≤ 3 then part (iblk m c 0 t) (iblk m c 1 t) j else part (iblk m c 0 t) (iblk m c 2 t) j

theorem acc_reset (c : Dev nD) (t : Fin cfg0.N) (h : t.val % 4 = 0) (j : S1024x1024.Idx) :
    (outsAt0 m c t.val t.isLt).2 j = 0 + term m c t j := by
  by_cases h1 : t.val / 4 % 8 ≤ 3
  · rw [outsAt0_A m c t h h1 (by omega) (by omega)]
    frame_out
    first | rw [pay1_apply, pay3_apply] | rw [pay4_apply, pay3_apply]
    rw [term, if_pos h1]
  · rw [outsAt0_D m c t h h1 (by omega) (by omega)]
    frame_out
    first | rw [pay1_apply, pay3_apply] | rw [pay4_apply, pay3_apply]
    rw [term, if_neg h1]

theorem acc_step (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + term m c t j := by
  by_cases h1 : t.val / 4 % 8 ≤ 3 <;> by_cases h3 : t.val % 4 = 3
  · rw [outsAt0_C m c t h h1 (by omega) h3]
    frame_out
    simp only [read_unread_whole]
    first | rw [pay1_apply] | rw [pay4_apply]
    rw [term, if_pos h1]
  · rw [outsAt0_B m c t h h1 (by omega) h3]
    frame_out
    simp only [read_unread_whole]
    first | rw [pay1_apply] | rw [pay4_apply]
    rw [term, if_pos h1]
  · rw [outsAt0_F m c t h h1 (by omega) h3]
    frame_out
    simp only [read_unread_whole]
    first | rw [pay1_apply] | rw [pay4_apply]
    rw [term, if_neg h1]
  · rw [outsAt0_E m c t h h1 (by omega) h3]
    frame_out
    simp only [read_unread_whole]
    first | rw [pay1_apply] | rw [pay4_apply]
    rw [term, if_neg h1]

theorem out_eq (c : Dev nD) (t : Fin cfg0.N) (h3 : t.val % 4 = 3) (z : Fin 1) (i j : Fin 1024) :
    (outsAt0 m c t.val t.isLt).1 (ix3 z i j) = (outsAt0 m c t.val t.isLt).2 (ix2 i j) := by
  by_cases h1 : t.val / 4 % 8 ≤ 3
  · rw [outsAt0_C m c t (by omega) h1 (by omega) h3]
    frame_out
    rw [pay2_apply]
  · rw [outsAt0_F m c t (by omega) h1 (by omega) h3]
    frame_out
    rw [pay2_apply]

theorem idx0 : ∀ t : Fin cfg0.N, win0_0.index t = ![t.val % 4, t.val / 32] := by decide +kernel

theorem idx1 : ∀ t : Fin cfg0.N, t.val / 4 % 8 ≤ 3 → win0_1.index t = ![t.val / 4 % 8 / 2, t.val % 4, t.val / 4 % 2] := by decide +kernel

theorem idx2 : ∀ t : Fin cfg0.N, ¬t.val / 4 % 8 ≤ 3 → win0_2.index t = ![t.val / 4 % 8 / 2 - 2, t.val % 4, t.val / 4 % 2] := by
  decide +kernel

/-- The slab a column block of the two stacks belongs to: the first stack holds slabs 0 and 3, the second 1 and 2. -/
def slab (n : ℕ) : ℕ := if n / 4 % 8 / 2 = 0 then 0 else if n / 4 % 8 / 2 = 1 then 3 else if n / 4 % 8 / 2 = 2 then 1 else 2

theorem idx3 : ∀ t : Fin cfg0.N, win0_3.index t = ![slab t.val, t.val / 32, t.val / 4 % 2] := by decide +kernel

/-- Slab `s` of the four that the two stacks make up. -/
def slabs (p q : Vec Ideal S2x8192x2048 .bf16) (s : Fin 4) (k : Fin 8192) (j : Fin 2048) : Elt Ideal .bf16 :=
  if s.val = 0 then p (ix3 0 k j) else if s.val = 1 then q (ix3 0 k j) else if s.val = 2 then q (ix3 1 k j) else p (ix3 1 k j)

/-- The products of the whole columns. -/
def product (h : Vec Ideal S8192x2048 .bf16) (p q : Vec Ideal S2x8192x2048 .bf16) : Vec Ideal S4x2048x2048 .bf16 :=
  fun i => ∑ k : Fin 8192, h (ix2 k (i 1)) * slabs p q (i 0) k (i 2)

theorem iblk0 (c : Dev nD) (t : Fin cfg0.N) (k : Fin 2048) (j : Fin 1024) (r : Fin 8192) (i : Fin 2048)
    (hr : r.val = t.val % 4 * 2048 + k.val) (hi : i.val = t.val / 32 * 1024 + j.val) :
    iblk m c 0 t (ix2 k j) = m ((c : Thread nD τ).loc main_arg0) (ix2 r i) := by
  blk_ext [iblk, V, idx0 t]

theorem iblk1 (c : Dev nD) (t : Fin cfg0.N) (h : t.val / 4 % 8 ≤ 3) (k : Fin 2048) (j : Fin 1024) (g : Fin 2) (r : Fin 8192) (i : Fin 2048)
    (hg : g.val = t.val / 4 % 8 / 2) (hr : r.val = t.val % 4 * 2048 + k.val) (hi : i.val = t.val / 4 % 2 * 1024 + j.val) :
    iblk m c 1 t (ix3 0 k j) = m ((c : Thread nD τ).loc main_arg1) (ix3 g r i) := by
  blk_ext [iblk, V, idx1 t h]

theorem iblk2 (c : Dev nD) (t : Fin cfg0.N) (h : ¬t.val / 4 % 8 ≤ 3) (k : Fin 2048) (j : Fin 1024) (g : Fin 2) (r : Fin 8192) (i : Fin 2048)
    (hg : g.val = t.val / 4 % 8 / 2 - 2) (hr : r.val = t.val % 4 * 2048 + k.val) (hi : i.val = t.val / 4 % 2 * 1024 + j.val) :
    iblk m c 2 t (ix3 0 k j) = m ((c : Thread nD τ).loc main_arg2) (ix3 g r i) := by
  blk_ext [iblk, V, idx2 t h]

theorem slabs_first (p q : Vec Ideal S2x8192x2048 .bf16) (a : Fin 4) (n : ℕ) (ha : a.val = slab n) (h : n / 4 % 8 ≤ 3)
    (k : Fin 8192) (j : Fin 2048) (g : Fin 2) (hg : g.val = n / 4 % 8 / 2) : slabs p q a k j = p (ix3 g k j) := by
  unfold slab at ha
  by_cases h0 : n / 4 % 8 / 2 = 0
  · rw [if_pos h0] at ha
    obtain rfl : g = 0 := Fin.ext (by simp; omega)
    rw [slabs, if_pos ha]
  · rw [if_neg h0, if_pos (by omega)] at ha
    obtain rfl : g = 1 := Fin.ext (by simp; omega)
    rw [slabs, if_neg (by omega), if_neg (by omega), if_neg (by omega)]

theorem slabs_second (p q : Vec Ideal S2x8192x2048 .bf16) (a : Fin 4) (n : ℕ) (ha : a.val = slab n) (h : ¬n / 4 % 8 ≤ 3)
    (k : Fin 8192) (j : Fin 2048) (g : Fin 2) (hg : g.val = n / 4 % 8 / 2 - 2) : slabs p q a k j = q (ix3 g k j) := by
  unfold slab at ha
  rw [if_neg (by omega), if_neg (by omega)] at ha
  by_cases h0 : n / 4 % 8 / 2 = 2
  · rw [if_pos h0] at ha
    obtain rfl : g = 0 := Fin.ext (by simp; omega)
    rw [slabs, if_neg (by omega), if_pos ha]
  · rw [if_neg h0] at ha
    obtain rfl : g = 1 := Fin.ext (by simp; omega)
    rw [slabs, if_neg (by omega), if_neg (by omega), if_pos ha]

theorem final (c : Dev nD) : (dats m 0 c).arrAt 3 cfg0.N
    = product (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  have h3 := (flush0_3 t).mp hf
  rw [out_eq m c t h3, Pipeline.eq_sum_fin_of_reset_step_apply_of_flush (fun n h => (outsAt0 m c n h).2) 4 (fun _ => 0)
    (term m c) (acc_reset m c) (acc_step m c) t h3, zero_add]
  obtain ⟨a, b, d, he, ha, hb, hd⟩ : ∃ (a : Fin 4) (b d : Fin 2048),
      ((View.whole main_v0).slice (win0_3.rect t)).emb (ix3 y0 y1 y2) = ix3 a b d
      ∧ a.val = slab t.val ∧ b.val = t.val / 32 * 1024 + y1.val ∧ d.val = t.val / 4 % 2 * 1024 + y2.val := by
    refine ⟨_, _, _, eq_ix3 _, ?_, ?_, ?_⟩
    · blk_simp [idx3 t]
    · blk_simp [idx3 t]
    · blk_simp [idx3 t]
  rw [he]
  unfold product term
  by_cases h1 : t.val / 4 % 8 ≤ 3
  · have e1 : ∀ s : Fin 4, (4 * (t.val / 4) + s.val) / 4 % 8 ≤ 3 := fun s => by omega
    simp only [e1, if_true, part]
    refine Fin.sum_mul_add_congr fun s k hl => ?_
    exact congrArg₂ (· * ·) (iblk0 m c _ k y1 ⟨_, hl⟩ b (by simp only; omega) (by simp only; omega))
      ((iblk1 m c _ (e1 s) k y2 ⟨t.val / 4 % 8 / 2, by omega⟩ ⟨_, hl⟩ d (by simp only; omega) (by simp only; omega) (by simp only; omega)).trans
        (slabs_first _ _ a t.val ha h1 _ _ _ rfl).symm)
  · have e1 : ∀ s : Fin 4, ¬(4 * (t.val / 4) + s.val) / 4 % 8 ≤ 3 := fun s => by omega
    simp only [e1, if_false, part]
    refine Fin.sum_mul_add_congr fun s k hl => ?_
    exact congrArg₂ (· * ·) (iblk0 m c _ k y1 ⟨_, hl⟩ b (by simp only; omega) (by simp only; omega))
      ((iblk2 m c _ (e1 s) k y2 ⟨t.val / 4 % 8 / 2 - 2, by omega⟩ ⟨_, hl⟩ d (by simp only; omega) (by simp only; omega) (by simp only; omega)).trans
        (slabs_second _ _ a t.val ha h1 _ _ _ rfl).symm)

end Cert.Kernel3Ideal.Product

end
-- ==== Proof.Products.SlabsTie.lean ====
/- The weight gradient of attention's input projection: the grid's result is the plain product's. -/
module

public import proofs.«01_k».proof.Proof.Products.Slabs
public import proofs.«01_k».proof.Proof.Gen.Reference3Ideal.Run
public import proofs.«01_k».proof.Defs

@[expose] public section

set_option maxRecDepth 16384

noncomputable section

namespace Cert.Kernel3Ideal.Product

open Idealize.ShloMosaic Idealize.ShloMosaic.TcCoe Idealize.SL.Sem

theorem algebraic : Cert.algebraic_Kernel3Ideal_Reference3Ideal := by
  intro m g m' g' _ hargs
  refine ⟨fun c => product (m ((c : Thread Cert.Kernel3Ideal.nD Cert.Kernel3Ideal.τ).loc Cert.Kernel3Ideal.main_arg0))
    (m ((c : Thread Cert.Kernel3Ideal.nD Cert.Kernel3Ideal.τ).loc Cert.Kernel3Ideal.main_arg1))
    (m ((c : Thread Cert.Kernel3Ideal.nD Cert.Kernel3Ideal.τ).loc Cert.Kernel3Ideal.main_arg2)), ?_, ?_⟩
  · refine (θ_run _ _ _).mono (fun r h c => ?_) (Cert.Kernel3Ideal.Value.run_blocks m g)
    obtain ⟨h0, h1⟩ := h c
    exact ⟨h0.trans (final m c), h1⟩
  · refine (θ_run _ _ _).mono (fun r h c => ?_) (Cert.Reference3Ideal.Value.run m' g')
    obtain ⟨h0, h1⟩ := h c
    refine ⟨h0.trans ?_, h1⟩
    rw [(hargs c).1, (hargs c).2.1, (hargs c).2.2]
    funext i
    idx_vars i
    pointwise [product, slabs]
    refine Finset.sum_congr rfl fun x _ => ?_
    rw [mul_comm]
    congr 1
    rcases (by omega : i0.val = 0 ∨ i0.val = 1 ∨ i0.val = 2 ∨ i0.val = 3) with e | e | e | e
    · rw [dif_pos (by omega : i0.val * 2048 + i2.val < 2048),
        if_pos e]
      blk_ext []
    · rw [dif_neg (by omega : ¬i0.val * 2048 + i2.val < 2048),
        dif_pos (by omega : i0.val * 2048 + i2.val - 2048 < 2048),
        if_neg (by omega : ¬i0.val = 0),
        if_pos e]
      blk_ext []
    · rw [dif_neg (by omega : ¬i0.val * 2048 + i2.val < 2048),
        dif_neg (by omega : ¬i0.val * 2048 + i2.val - 2048 < 2048),
        dif_pos (by omega : i0.val * 2048 + i2.val - 2048 - 2048 < 2048),
        if_neg (by omega : ¬i0.val = 0),
        if_neg (by omega : ¬i0.val = 1),
        if_pos e]
      blk_ext []
    · rw [dif_neg (by omega : ¬i0.val * 2048 + i2.val < 2048),
        dif_neg (by omega : ¬i0.val * 2048 + i2.val - 2048 < 2048),
        dif_neg (by omega : ¬i0.val * 2048 + i2.val - 2048 - 2048 < 2048),
        if_neg (by omega : ¬i0.val = 0),
        if_neg (by omega : ¬i0.val = 1),
        if_neg (by omega : ¬i0.val = 2)]
      blk_ext []

end Cert.Kernel3Ideal.Product

end
-- ==== Proof.Products.Norm.lean ====
/- A row's norm and its derivative, over the extended reals. -/
module

public import Idealize.ShloMosaic.Lib.Pipeline.ValueKit

@[expose] public section

noncomputable section

namespace Cert.Norm

open Idealize.ShloMosaic

/-- The mean of the squares of a row, with the norm's small constant added. -/
def mean (x : Fin 2048 → EReal) : EReal :=
  Ideal.div (∑ k, x k * x k) (Ideal.ofBits .f32 1157627904#32) + Ideal.ofBits .f32 897988541#32

/-- What a row is multiplied by. -/
def scale (x : Fin 2048 → EReal) : EReal := Ideal.rsqrt (mean x)

/-- How the gradient `g` of the normed row reaches the mean of the squares. -/
def pull (x g : Fin 2048 → EReal) : EReal :=
  Ideal.div ((∑ k, x k * g k) * (Ideal.ofBits .f32 3204448256#32 * Ideal.div (scale x) (mean x))) (Ideal.ofBits .f32 1157627904#32)

/-- The gradient of a row, `h` being what reaches it beside the norm. -/
def back (x g h : Fin 2048 → EReal) (k : Fin 2048) : EReal := g k * scale x + x k * pull x g + pull x g * x k + h k

theorem last_first (a b c d : EReal) : d + a + b + c = a + b + c + d := by ac_rfl

end Cert.Norm

end
-- ==== Proof.Products.NormA.lean ====
/- The first layer's norm, backward. -/
module

public import proofs.«01_k».proof.Proof.Products.Norm
public import proofs.«01_k».proof.Proof.Gen.Kernel4Ideal.Value
public import proofs.«01_k».proof.Proof.Gen.Reference4Ideal.Run
public import proofs.«01_k».proof.Defs
public import Idealize.ShloMosaic.Lib.Pipeline.ValueKit
public import Idealize.ShloMosaic.Lib.Pipeline.ReadBack

@[expose] public section

set_option maxRecDepth 16384

noncomputable section

namespace Cert.Kernel4Ideal.Product

open Cert.Kernel4Ideal Cert.Kernel4Ideal.Gen Cert.Norm
open Idealize.ShloMosaic Idealize.ShloMosaic.TcCoe Idealize.SL.Sem

variable (m : (ℓ : Loc nD τ sig) → Buf (Elt Ideal) ℓ)

/-- Row `r` of the gradient of the normed stream: the wide product's and the narrow product's. -/
def rowDy (d : Vec Ideal S256x2048 .f32) (a : Vec Ideal S256x128 .bf16) (b : Vec Ideal S2048x128 .bf16) (r : Fin 256) (j : Fin 2048) : EReal :=
  d (ix2 r j) + ∑ z : Fin 128, a (ix2 r z) * b (ix2 j z)

/-- The gradient of row `r` of a block. -/
def dxBlock (d : Vec Ideal S256x2048 .f32) (a : Vec Ideal S256x128 .bf16) (b : Vec Ideal S2048x128 .bf16) (x : Vec Ideal S256x2048 .f32)
    (w : Vec Ideal S1x2048 .f32) (h : Vec Ideal S256x2048 .f32) (r : Fin 256) (k : Fin 2048) : EReal :=
  back (fun j => x (ix2 r j)) (fun j => rowDy d a b r j * w (ix2 0 j)) (fun j => h (ix2 r j)) k

theorem pay1_apply (d : Vec Ideal S256x2048 .f32) (a : Vec Ideal S256x128 .bf16) (b : Vec Ideal S2048x128 .bf16) (x : Vec Ideal S256x2048 .f32)
    (w : Vec Ideal S1x2048 .f32) (h : Vec Ideal S256x2048 .f32) (r : Fin 256) (k : Fin 2048) :
    k0_pay1 x (k0_pay10 d a b x w) (k0_pay11 d a b x w) h (ix2 r k)
      = dxBlock d a b x w h r k := by
  pointwise [k0_pay1, k0_pay10, k0_pay11, k0_pay9, k0_pay5, k0_pay6, k0_pay7, dxBlock, back, pull, scale, mean, rowDy]
  simp only [Fin.sum_univ_one]

theorem pay2_apply (d : Vec Ideal S256x2048 .f32) (a : Vec Ideal S256x128 .bf16) (b : Vec Ideal S2048x128 .bf16) (x : Vec Ideal S256x2048 .f32)
    (w : Vec Ideal S1x2048 .f32) (h : Vec Ideal S256x2048 .f32) (r : Fin 256) (k : Fin 2048) :
    k0_pay2 x (k0_pay10 d a b x w) (k0_pay11 d a b x w) h (ix2 r k)
      = dxBlock d a b x w h r k := by
  rw [← pay1_apply]
  pointwise [k0_pay2]

theorem pay3_apply (d : Vec Ideal S256x2048 .f32) (a : Vec Ideal S256x128 .bf16) (b : Vec Ideal S2048x128 .bf16) (x : Vec Ideal S256x2048 .f32)
    (o : Vec Ideal S1x2048 .f32) (z : Fin 1) (k : Fin 2048) :
    k0_pay3 (k0_pay8 d a b x) o (ix2 z k) = o (ix2 z k) + ∑ r : Fin 256, x (ix2 r k) * scale (fun j => x (ix2 r j)) * rowDy d a b r k := by
  pointwise [k0_pay3, k0_pay8, k0_pay5, k0_pay6, k0_pay7, scale, mean, rowDy]

theorem Vw (c : Dev nD) : V m c main_v2 = extractStridedSlice S1x2048 ![0, 0] (m ((c : Thread nD τ).loc main_arg1)) slices_S2x2048_S1x2048_0_0 := by
  simp only [V, hostOps0, hostOps0_1, hostOps0_2, List.flatten_cons, List.flatten_nil, List.append_nil, List.cons_append, List.nil_append]
  after_results_simp

theorem V1 (c : Dev nD) (z : Fin 1) (k : Fin 2048) : (V m c main_v2 (ix2 z k) : EReal) = m ((c : Thread nD τ).loc main_arg1) (ix2 0 k) := by
  rw [Vw]
  pointwise []

theorem Vab (c : Dev nD) : V m c main_v1 = pad S2048x128 ![0, 0] ![0, 96] ![0, 0]
    (extractStridedSlice S2048x32 ![0, 8192] (m ((c : Thread nD τ).loc main_arg2)) slices_S2048x8224_S2048x32_0_8192)
    (sitofp (F := Ideal) .bf16 (constantI S_ 32 0#32)) pads_S2048x32_S2048x128_000_0960 h_S_ := by
  simp only [V, hostOps0, hostOps0_1, hostOps0_2, List.flatten_cons, List.flatten_nil, List.append_nil, List.cons_append, List.nil_append]
  after_results_simp
  rfl

theorem V2 (c : Dev nD) (j : Fin 2048) (k : Fin 128) (h : k.val < 32) : (V m c main_v1 (ix2 j k) : EReal) = m ((c : Thread nD τ).loc main_arg2) (ix2 j ⟨8192 + k.val, by omega⟩) := by
  rw [Vab]
  pointwise []
  exact dif_pos h

theorem V3 (c : Dev nD) (j : Fin 2048) (k : Fin 128) (h : ¬k.val < 32) : (V m c main_v1 (ix2 j k) : EReal) = (0 : EReal) := by
  rw [Vab]
  pointwise []
  refine (dif_neg h).trans ?_
  simp [FloatOps.sitofp]

theorem idx0 : ∀ t : Fin cfg0.N, win0_0.index t = ![t.val, 0] := by decide +kernel

theorem idx1 : ∀ t : Fin cfg0.N, win0_1.index t = ![0, 0] := by decide +kernel

theorem idx2 : ∀ t : Fin cfg0.N, win0_2.index t = ![t.val, 0] := by decide +kernel

theorem idx3 : ∀ t : Fin cfg0.N, win0_3.index t = ![t.val, 0] := by decide +kernel

theorem idx4 : ∀ t : Fin cfg0.N, win0_4.index t = ![t.val, 0] := by decide +kernel

theorem idx5 : ∀ t : Fin cfg0.N, win0_5.index t = ![0, 0] := by decide +kernel

theorem idx6 : ∀ t : Fin cfg0.N, win0_6.index t = ![t.val, 0] := by decide +kernel

theorem idx7 : ∀ t : Fin cfg0.N, win0_7.index t = ![t.val, 0] := by decide +kernel

theorem idx8 : ∀ t : Fin cfg0.N, win0_8.index t = ![0, 0] := by decide +kernel

theorem iblk0 (c : Dev nD) (t : Fin cfg0.N) (r : Fin 256) (k : Fin 2048) (R : Fin 8192) (hR : R.val = t.val * 256 + r.val) :
    iblk m c 0 t (ix2 r k) = m ((c : Thread nD τ).loc main_arg0) (ix2 R k) := by
  rw [← V_main_arg0 m c]
  blk_ext [iblk, idx0 t]

theorem iblk1 (c : Dev nD) (t : Fin cfg0.N) (z : Fin 1) (k : Fin 2048) :
    iblk m c 1 t (ix2 z k) = m ((c : Thread nD τ).loc main_arg1) (ix2 0 k) := by
  rw [← V1 m c z]
  blk_ext [iblk, idx1 t]

theorem iblk2 (c : Dev nD) (t : Fin cfg0.N) (r : Fin 256) (k : Fin 2048) (R : Fin 8192) (hR : R.val = t.val * 256 + r.val) :
    iblk m c 2 t (ix2 r k) = m ((c : Thread nD τ).loc main_arg3) (ix2 R k) := by
  rw [← V_main_arg3 m c]
  blk_ext [iblk, idx2 t]

theorem iblk3 (c : Dev nD) (t : Fin cfg0.N) (r : Fin 256) (k : Fin 2048) (R : Fin 8192) (hR : R.val = t.val * 256 + r.val) :
    iblk m c 3 t (ix2 r k) = m ((c : Thread nD τ).loc main_arg5) (ix2 R k) := by
  rw [← V_main_arg5 m c]
  blk_ext [iblk, idx3 t]

theorem iblk4 (c : Dev nD) (t : Fin cfg0.N) (r : Fin 256) (k : Fin 128) (R : Fin 8192) (hR : R.val = t.val * 256 + r.val) :
    iblk m c 4 t (ix2 r k) = m ((c : Thread nD τ).loc main_arg4) (ix2 R k) := by
  rw [← V_main_arg4 m c]
  blk_ext [iblk, idx4 t]

theorem iblk5 (c : Dev nD) (t : Fin cfg0.N) (j : Fin 2048) (k : Fin 128) : iblk m c 5 t (ix2 j k) = V m c main_v1 (ix2 j k) := by
  blk_ext [iblk, idx5 t]

/-- The narrow product over 128 columns, of which the weights fill 32. -/
theorem narrow_sum (f : Fin 128 → EReal) (h : ∀ z : Fin 128, ¬z.val < 32 → f z = 0) : ∑ z, f z = ∑ z : Fin 32, f ⟨z.val, by omega⟩ := by
  refine (Fin.sum_univ_add (a := 32) (b := 96) f).trans ?_
  rw [Finset.sum_eq_zero (s := (Finset.univ : Finset (Fin 96))) fun z _ => h _ (by simp), add_zero]
  rfl

/-- Row `R` of the gradient of the normed stream. -/
def dyRow (d : Vec Ideal S8192x2048 .f32) (a : Vec Ideal S8192x128 .bf16) (b : Vec Ideal S2048x8224 .bf16) (R : Fin 8192) (j : Fin 2048) : EReal :=
  d (ix2 R j) + ∑ z : Fin 32, a (ix2 R ⟨z.val, by omega⟩) * b (ix2 j ⟨8192 + z.val, by omega⟩)

theorem rowDy_eq (c : Dev nD) (t : Fin cfg0.N) (r : Fin 256) (R : Fin 8192) (hR : R.val = t.val * 256 + r.val) (j : Fin 2048) :
    rowDy (iblk m c 2 t) (iblk m c 4 t) (iblk m c 5 t) r j = dyRow (m ((c : Thread nD τ).loc main_arg3)) (m ((c : Thread nD τ).loc main_arg4)) (m ((c : Thread nD τ).loc main_arg2)) R j := by
  unfold rowDy dyRow
  refine congrArg₂ (· + ·) (iblk2 m c t r j R hR) ?_
  rw [narrow_sum _ fun z hz => ?_]
  · refine Finset.sum_congr rfl fun z _ => congrArg₂ (· * ·) (iblk4 m c t r _ R hR) ?_
    exact (iblk5 m c t j _).trans (V2 m c j ⟨z.val, by omega⟩ z.isLt)
  · rw [(iblk5 m c t j z).trans (V3 m c j z hz)]
    exact mul_zero _

/-- The gradient of the stream. -/
def dx (x : Vec Ideal S8192x2048 .f32) (nw : Vec Ideal S2x2048 .f32) (b : Vec Ideal S2048x8224 .bf16) (d : Vec Ideal S8192x2048 .f32)
    (a : Vec Ideal S8192x128 .bf16) (h : Vec Ideal S8192x2048 .f32) (i : S8192x2048.Idx) : EReal :=
  back (fun j => x (ix2 (i 0) j)) (fun j => dyRow d a b (i 0) j * nw (ix2 0 j)) (fun j => h (ix2 (i 0) j)) (i 1)

/-- What row `R` adds to the gradient of the norm's weights. -/
def dwRow (x : Vec Ideal S8192x2048 .f32) (b : Vec Ideal S2048x8224 .bf16) (d : Vec Ideal S8192x2048 .f32) (a : Vec Ideal S8192x128 .bf16)
    (R : Fin 8192) (k : Fin 2048) : EReal :=
  x (ix2 R k) * scale (fun j => x (ix2 R j)) * dyRow d a b R k

theorem block_eq (c : Dev nD) (t : Fin cfg0.N) (r : Fin 256) (k : Fin 2048) (R : Fin 8192) (K : Fin 2048) (hR : R.val = t.val * 256 + r.val) (hK : K.val = k.val) :
    dxBlock (iblk m c 2 t) (iblk m c 4 t) (iblk m c 5 t) (iblk m c 0 t) (iblk m c 1 t) (iblk m c 3 t) r k = dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R K) := by
  obtain rfl : K = k := Fin.ext hK
  unfold dx dxBlock
  congr 1
  · funext j; exact iblk0 m c t r j R hR
  · funext j; exact congrArg₂ (· * ·) (rowDy_eq m c t r R hR j) (iblk1 m c t 0 j)
  · funext j; exact iblk3 m c t r j R hR

theorem out_first (c : Dev nD) (t : Fin cfg0.N) (r : Fin 256) (k : Fin 2048) :
    (outsAt0 m c t.val t.isLt).1 (ix2 r k) = dxBlock (iblk m c 2 t) (iblk m c 4 t) (iblk m c 5 t) (iblk m c 0 t) (iblk m c 1 t) (iblk m c 3 t) r k := by
  by_cases h : t.val % 32 = 0
  · rw [outsAt0_A m c t h]
    frame_out
    rw [pay1_apply]
  · rw [outsAt0_B m c t h]
    frame_out
    rw [pay1_apply]

theorem out_second (c : Dev nD) (t : Fin cfg0.N) (r : Fin 256) (k : Fin 2048) :
    (outsAt0 m c t.val t.isLt).2.1 (ix2 r k) = dxBlock (iblk m c 2 t) (iblk m c 4 t) (iblk m c 5 t) (iblk m c 0 t) (iblk m c 1 t) (iblk m c 3 t) r k := by
  by_cases h : t.val % 32 = 0
  · rw [outsAt0_A m c t h]
    frame_out
    rw [pay2_apply]
  · rw [outsAt0_B m c t h]
    frame_out
    rw [pay2_apply]

theorem final_dx (c : Dev nD) : (dats m 0 c).arrAt 6 cfg0.N = dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  idx_vars y
  rw [out_first m c t]
  obtain ⟨a, b, he, ha, hb⟩ : ∃ (a : Fin 8192) (b : Fin 2048),
      ((View.whole main_v3_0).slice (win0_6.rect t)).emb (ix2 y0 y1) = ix2 a b
      ∧ a.val = t.val * 256 + y0.val ∧ b.val = y1.val := by
    refine ⟨_, _, eq_ix2 _, ?_, ?_⟩
    · blk_simp [idx6 t]
    · blk_simp [idx6 t]
  rw [he]
  exact block_eq m c t y0 y1 a b ha hb

theorem final_dxb (c : Dev nD) : (dats m 0 c).arrAt 7 cfg0.N = dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  idx_vars y
  rw [out_second m c t]
  obtain ⟨a, b, he, ha, hb⟩ : ∃ (a : Fin 8192) (b : Fin 2048),
      ((View.whole main_v3_1).slice (win0_7.rect t)).emb (ix2 y0 y1) = ix2 a b
      ∧ a.val = t.val * 256 + y0.val ∧ b.val = y1.val := by
    refine ⟨_, _, eq_ix2 _, ?_, ?_⟩
    · blk_simp [idx7 t]
    · blk_simp [idx7 t]
  rw [he]
  exact block_eq m c t y0 y1 a b ha hb

/-- What row `r` of a block adds to the gradient of the norm's weights. -/
def partRow (x : Vec Ideal S256x2048 .f32) (d : Vec Ideal S256x2048 .f32) (a : Vec Ideal S256x128 .bf16) (b : Vec Ideal S2048x128 .bf16)
    (k : Fin 2048) (r : Fin 256) : EReal := x (ix2 r k) * scale (fun j => x (ix2 r j)) * rowDy d a b r k

/-- What the rows of a block add. -/
def part (x : Vec Ideal S256x2048 .f32) (d : Vec Ideal S256x2048 .f32) (a : Vec Ideal S256x128 .bf16) (b : Vec Ideal S2048x128 .bf16) (k : Fin 2048) : EReal :=
  ∑ r : Fin 256, partRow x d a b k r

theorem partRow_eq (c : Dev nD) (t : Fin cfg0.N) (r : Fin 256) (R : Fin 8192) (hR : R.val = t.val * 256 + r.val) (k : Fin 2048) :
    partRow (iblk m c 0 t) (iblk m c 2 t) (iblk m c 4 t) (iblk m c 5 t) k r
      = dwRow (m ((c : Thread nD τ).loc main_arg0)) (m ((c : Thread nD τ).loc main_arg2)) (m ((c : Thread nD τ).loc main_arg3))
        (m ((c : Thread nD τ).loc main_arg4)) R k := by
  unfold partRow dwRow
  exact congrArg₂ (· * ·) (congrArg₂ (· * ·) (iblk0 m c t r k R hR) (congrArg scale (funext fun j => iblk0 m c t r j R hR))) (rowDy_eq m c t r R hR k)

/-- What point `t` adds to the gradient of the norm's weights. -/
def term (c : Dev nD) (t : Fin cfg0.N) (i : S1x2048.Idx) : Elt Ideal .f32 :=
  part (iblk m c 0 t) (iblk m c 2 t) (iblk m c 4 t) (iblk m c 5 t) (i 1)

theorem pay4_apply (i : S1x2048.Idx) : k0_pay4 (F := Ideal) i = 0 := by
  idx_vars i
  pointwise [k0_pay4]

theorem acc_reset (c : Dev nD) (t : Fin cfg0.N) (h : t.val % 32 = 0) (i : S1x2048.Idx) :
    (outsAt0 m c t.val t.isLt).2.2 i = 0 + term m c t i := by
  rw [outsAt0_A m c t h]
  frame_out
  try simp only [read_unread_whole]
  idx_vars i
  rw [pay3_apply, pay4_apply]
  rfl

theorem acc_step (c : Dev nD) (t : Fin cfg0.N) (h : ¬t.val % 32 = 0) (i : S1x2048.Idx) :
    (outsAt0 m c t.val t.isLt).2.2 i
      = (outsAt0 m c (t.val - 1) (Nat.lt_of_le_of_lt (Nat.sub_le _ _) t.isLt)).2.2 i + term m c t i := by
  rw [outsAt0_B m c t h]
  frame_out
  try simp only [read_unread_whole]
  idx_vars i
  rw [pay3_apply]
  rfl

/-- The gradient of the norm's weights. -/
def dw (x : Vec Ideal S8192x2048 .f32) (b : Vec Ideal S2048x8224 .bf16) (d : Vec Ideal S8192x2048 .f32) (a : Vec Ideal S8192x128 .bf16)
    (i : S1x2048.Idx) : EReal := ∑ R : Fin 8192, dwRow x b d a R (i 1)

theorem final_dw (c : Dev nD) : (dats m 0 c).arrAt 8 cfg0.N = dw (m ((c : Thread nD τ).loc main_arg0)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  idx_vars y
  have h3 := (flush0_8 t).mp hf
  rw [Pipeline.eq_sum_fin_of_reset_step_apply_of_flush (fun n h => (outsAt0 m c n h).2.2) 32 (fun _ => 0)
    (term m c) (acc_reset m c) (acc_step m c) t h3, zero_add]
  obtain ⟨a, b, he, hb⟩ : ∃ (a : Fin 1) (b : Fin 2048),
      ((View.whole main_v3_2).slice (win0_8.rect t)).emb (ix2 y0 y1) = ix2 a b ∧ b.val = y1.val := by
    refine ⟨_, _, eq_ix2 _, ?_⟩
    blk_simp [idx8 t]
  rw [he]
  obtain rfl : b = y1 := Fin.ext hb
  unfold dw term part
  refine Fin.sum_mul_add_congr fun s r hl => ?_
  have ht : t.val < 32 := t.isLt
  exact partRow_eq m c _ r _ (by simp only; omega) b

end Cert.Kernel4Ideal.Product

end
-- ==== Proof.Products.NormATie.lean ====
/- The first layer's norm, backward: the grid's results are the plain derivative's. -/
module

public import proofs.«01_k».proof.Proof.Products.NormA
public import proofs.«01_k».proof.Proof.Gen.Reference4Ideal.Run
public import proofs.«01_k».proof.Defs

@[expose] public section

set_option maxRecDepth 16384

noncomputable section

namespace Cert.Kernel4Ideal.Product

open Cert.Kernel4Ideal Cert.Kernel4Ideal.Gen Cert.Norm
open Idealize.ShloMosaic Idealize.ShloMosaic.TcCoe Idealize.SL.Sem

theorem algebraic : Cert.algebraic_Kernel4Ideal_Reference4Ideal := by
  intro m g m' g' _ hargs
  refine ⟨fun c => dx (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)), fun c => dx (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)), fun c => dw (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)), ?_, ?_⟩
  · refine (θ_run _ _ _).mono (fun r h c => ?_) (Cert.Kernel4Ideal.Value.run_blocks m g)
    exact ⟨(h c).1.trans (final_dx m c), (h c).2.1.trans (final_dxb m c), (h c).2.2.1.trans (final_dw m c), (h c).2.2.2⟩
  · refine (θ_run _ _ _).mono (fun r h c => ?_) (Cert.Reference4Ideal.Value.run m' g')
    obtain ⟨h0, h1, h2, h3⟩ := h c
    obtain ⟨a0, a1, a2, a3, a4, a5⟩ := hargs c
    refine ⟨h0.trans ?_, h1.trans ?_, h2.trans ?_, h3⟩
    · unfold Cert.Reference4Ideal.Value.res_main_v45
      rw [a0, a1, a2, a3, a4, a5]
      funext i
      idx_vars i
      pointwise [dx, back, dyRow, scale, pull, mean]
      simp only [Fin.sum_univ_one]
      exact last_first _ _ _ _
    · unfold Cert.Reference4Ideal.Value.res_main_v46
      rw [a0, a1, a2, a3, a4, a5]
      funext i
      idx_vars i
      pointwise [dx, back, dyRow, scale, pull, mean]
      simp only [Fin.sum_univ_one]
      exact last_first _ _ _ _
    · rw [a0, a2, a3, a4]
      funext i
      idx_vars i
      pointwise [dw, dwRow, dyRow, scale, mean]
      simp only [Fin.sum_univ_one]

end Cert.Kernel4Ideal.Product

end
-- ==== Proof.Products.NormB.lean ====
/- The second layer's norm, backward. -/
module

public import proofs.«01_k».proof.Proof.Products.Norm
public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

namespace Cert.Kernel5Ideal.Product

open Cert.Kernel5Ideal Cert.Kernel5Ideal.Gen Cert.Norm
open Idealize.ShloMosaic Idealize.ShloMosaic.TcCoe Idealize.SL.Sem

variable (m : (ℓ : Loc nD τ sig) → Buf (Elt Ideal) ℓ)

/-- The gradient of row `r` of a block. -/
def dxBlock (d : Vec Ideal S256x2048 .f32) (x : Vec Ideal S256x2048 .f32) (w : Vec Ideal S1x2048 .f32) (h : Vec Ideal S256x2048 .f32) (r : Fin 256) (k : Fin 2048) : EReal :=
  back (fun j => x (ix2 r j)) (fun j => d (ix2 r j) * w (ix2 0 j)) (fun j => h (ix2 r j)) k

theorem pay1_apply (d : Vec Ideal S256x2048 .f32) (x : Vec Ideal S256x2048 .f32) (w : Vec Ideal S1x2048 .f32) (h : Vec Ideal S256x2048 .f32) (r : Fin 256) (k : Fin 2048) :
    k0_pay1 (k0_pay8 d x w) h (ix2 r k) = dxBlock d x w h r k := by
  pointwise [k0_pay1, k0_pay8, k0_pay5, k0_pay6, dxBlock, back, pull, scale, mean]
  simp only [Fin.sum_univ_one]

theorem pay2_apply (d : Vec Ideal S256x2048 .f32) (x : Vec Ideal S256x2048 .f32) (w : Vec Ideal S1x2048 .f32) (h : Vec Ideal S256x2048 .f32) (r : Fin 256) (k : Fin 2048) :
    k0_pay2 (k0_pay8 d x w) h (ix2 r k) = dxBlock d x w h r k := by
  rw [← pay1_apply]
  pointwise [k0_pay2]

/-- What row `r` of a block adds to the gradient of the norm's weights. -/
def partRow (x : Vec Ideal S256x2048 .f32) (d : Vec Ideal S256x2048 .f32) (k : Fin 2048) (r : Fin 256) : EReal :=
  x (ix2 r k) * scale (fun j => x (ix2 r j)) * d (ix2 r k)

/-- What the rows of a block add. -/
def part (x : Vec Ideal S256x2048 .f32) (d : Vec Ideal S256x2048 .f32) (k : Fin 2048) : EReal := ∑ r : Fin 256, partRow x d k r

theorem pay3_apply (d : Vec Ideal S256x2048 .f32) (x : Vec Ideal S256x2048 .f32) (o : Vec Ideal S1x2048 .f32) (z : Fin 1) (k : Fin 2048) :
    k0_pay3 (k0_pay7 d x) o (ix2 z k) = o (ix2 z k) + part x d k := by
  pointwise [k0_pay3, k0_pay7, k0_pay5, k0_pay6, part, partRow, scale, mean]

theorem pay4_apply (i : S1x2048.Idx) : k0_pay4 (F := Ideal) i = 0 := by
  idx_vars i
  pointwise [k0_pay4]

theorem Vw (c : Dev nD) : V m c main_v0 = extractStridedSlice S1x2048 ![1, 0] (m ((c : Thread nD τ).loc main_arg1)) slices_S2x2048_S1x2048_1_0 := by
  simp only [V, hostOps0]
  after_results_simp

theorem V1 (c : Dev nD) (z : Fin 1) (k : Fin 2048) : (V m c main_v0 (ix2 z k) : EReal) = (m ((c : Thread nD τ).loc main_arg1)) (ix2 1 k) := by
  rw [Vw]
  pointwise []

theorem idx0 : ∀ t : Fin cfg0.N, win0_0.index t = ![t.val, 0] := by decide +kernel

theorem idx1 : ∀ t : Fin cfg0.N, win0_1.index t = ![0, 0] := by decide +kernel

theorem idx2 : ∀ t : Fin cfg0.N, win0_2.index t = ![t.val, 0] := by decide +kernel

theorem idx3 : ∀ t : Fin cfg0.N, win0_3.index t = ![t.val, 0] := by decide +kernel

theorem idx4 : ∀ t : Fin cfg0.N, win0_4.index t = ![t.val, 0] := by decide +kernel

theorem idx5 : ∀ t : Fin cfg0.N, win0_5.index t = ![t.val, 0] := by decide +kernel

theorem idx6 : ∀ t : Fin cfg0.N, win0_6.index t = ![0, 0] := by decide +kernel

theorem iblk0 (c : Dev nD) (t : Fin cfg0.N) (r : Fin 256) (k : Fin 2048) (R : Fin 8192) (hR : R.val = t.val * 256 + r.val) :
    iblk m c 0 t (ix2 r k) = (m ((c : Thread nD τ).loc main_arg0)) (ix2 R k) := by
  rw [← V_main_arg0 m c]
  blk_ext [iblk, idx0 t]

theorem iblk2 (c : Dev nD) (t : Fin cfg0.N) (r : Fin 256) (k : Fin 2048) (R : Fin 8192) (hR : R.val = t.val * 256 + r.val) :
    iblk m c 2 t (ix2 r k) = (m ((c : Thread nD τ).loc main_arg2)) (ix2 R k) := by
  rw [← V_main_arg2 m c]
  blk_ext [iblk, idx2 t]

theorem iblk3 (c : Dev nD) (t : Fin cfg0.N) (r : Fin 256) (k : Fin 2048) (R : Fin 8192) (hR : R.val = t.val * 256 + r.val) :
    iblk m c 3 t (ix2 r k) = (m ((c : Thread nD τ).loc main_arg3)) (ix2 R k) := by
  rw [← V_main_arg3 m c]
  blk_ext [iblk, idx3 t]

theorem iblk1 (c : Dev nD) (t : Fin cfg0.N) (z : Fin 1) (k : Fin 2048) : iblk m c 1 t (ix2 z k) = (m ((c : Thread nD τ).loc main_arg1)) (ix2 1 k) := by
  rw [← V1 m c z]
  blk_ext [iblk, idx1 t]

/-- The gradient of the stream. -/
def dx (x : Vec Ideal S8192x2048 .f32) (nw : Vec Ideal S2x2048 .f32) (d h : Vec Ideal S8192x2048 .f32) (i : S8192x2048.Idx) : EReal :=
  back (fun j => x (ix2 (i 0) j)) (fun j => d (ix2 (i 0) j) * nw (ix2 1 j)) (fun j => h (ix2 (i 0) j)) (i 1)

/-- What row `R` adds to the gradient of the norm's weights. -/
def dwRow (x d : Vec Ideal S8192x2048 .f32) (R : Fin 8192) (k : Fin 2048) : EReal :=
  x (ix2 R k) * scale (fun j => x (ix2 R j)) * d (ix2 R k)

/-- The gradient of the norm's weights. -/
def dw (x d : Vec Ideal S8192x2048 .f32) (i : S1x2048.Idx) : EReal := ∑ R : Fin 8192, dwRow x d R (i 1)

theorem block_eq (c : Dev nD) (t : Fin cfg0.N) (r : Fin 256) (k : Fin 2048) (R : Fin 8192) (K : Fin 2048) (hR : R.val = t.val * 256 + r.val)
    (hK : K.val = k.val) :
    dxBlock (iblk m c 2 t) (iblk m c 0 t) (iblk m c 1 t) (iblk m c 3 t) r k = dx (m ((c : Thread nD τ).loc main_arg0)) (m ((c : Thread nD τ).loc main_arg1)) (m ((c : Thread nD τ).loc main_arg2)) (m ((c : Thread nD τ).loc main_arg3)) (ix2 R K) := by
  obtain rfl : K = k := Fin.ext hK
  unfold dx dxBlock
  congr 1
  · funext j; exact iblk0 m c t r j R hR
  · funext j; exact congrArg₂ (· * ·) (iblk2 m c t r j R hR) (iblk1 m c t 0 j)
  · funext j; exact iblk3 m c t r j R hR

theorem partRow_eq (c : Dev nD) (t : Fin cfg0.N) (r : Fin 256) (R : Fin 8192) (hR : R.val = t.val * 256 + r.val) (k : Fin 2048) :
    partRow (iblk m c 0 t) (iblk m c 2 t) k r = dwRow (m ((c : Thread nD τ).loc main_arg0)) (m ((c : Thread nD τ).loc main_arg2)) R k := by
  unfold partRow dwRow
  exact congrArg₂ (· * ·) (congrArg₂ (· * ·) (iblk0 m c t r k R hR) (congrArg scale (funext fun j => iblk0 m c t r j R hR))) (iblk2 m c t r k R hR)

/-- What point `t` adds to the gradient of the norm's weights. -/
def term (c : Dev nD) (t : Fin cfg0.N) (i : S1x2048.Idx) : Elt Ideal .f32 := part (iblk m c 0 t) (iblk m c 2 t) (i 1)

theorem out_first (c : Dev nD) (t : Fin cfg0.N) (r : Fin 256) (k : Fin 2048) :
    (outsAt0 m c t.val t.isLt).1 (ix2 r k) = dxBlock (iblk m c 2 t) (iblk m c 0 t) (iblk m c 1 t) (iblk m c 3 t) r k := by
  by_cases h : t.val % 32 = 0
  · rw [outsAt0_A m c t h]
    frame_out
    rw [pay1_apply]
  · rw [outsAt0_B m c t h]
    frame_out
    rw [pay1_apply]

theorem out_second (c : Dev nD) (t : Fin cfg0.N) (r : Fin 256) (k : Fin 2048) :
    (outsAt0 m c t.val t.isLt).2.1 (ix2 r k) = dxBlock (iblk m c 2 t) (iblk m c 0 t) (iblk m c 1 t) (iblk m c 3 t) r k := by
  by_cases h : t.val % 32 = 0
  · rw [outsAt0_A m c t h]
    frame_out
    rw [pay2_apply]
  · rw [outsAt0_B m c t h]
    frame_out
    rw [pay2_apply]

theorem final_dx (c : Dev nD) : (dats m 0 c).arrAt 4 cfg0.N = dx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  idx_vars y
  rw [out_first m c t]
  obtain ⟨a, b, he, ha, hb⟩ : ∃ (a : Fin 8192) (b : Fin 2048),
      ((View.whole main_v1_0).slice (win0_4.rect t)).emb (ix2 y0 y1) = ix2 a b
      ∧ a.val = t.val * 256 + y0.val ∧ b.val = y1.val := by
    refine ⟨_, _, eq_ix2 _, ?_, ?_⟩
    · blk_simp [idx4 t]
    · blk_simp [idx4 t]
  rw [he]
  exact block_eq m c t y0 y1 a b ha hb

theorem final_dxb (c : Dev nD) : (dats m 0 c).arrAt 5 cfg0.N = dx (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  rw [out_second m c t]
  obtain ⟨a, b, he, ha, hb⟩ : ∃ (a : Fin 8192) (b : Fin 2048),
      ((View.whole main_v1_1).slice (win0_5.rect t)).emb (ix2 y0 y1) = ix2 a b
      ∧ a.val = t.val * 256 + y0.val ∧ b.val = y1.val := by
    refine ⟨_, _, eq_ix2 _, ?_, ?_⟩
    · blk_simp [idx5 t]
    · blk_simp [idx5 t]
  rw [he]
  exact block_eq m c t y0 y1 a b ha hb

theorem acc_reset (c : Dev nD) (t : Fin cfg0.N) (h : t.val % 32 = 0) (i : S1x2048.Idx) :
    (outsAt0 m c t.val t.isLt).2.2 i = 0 + term m c t i := by
  rw [outsAt0_A m c t h]
  frame_out
  try simp only [read_unread_whole]
  idx_vars i
  rw [pay3_apply, pay4_apply]
  rfl

theorem acc_step (c : Dev nD) (t : Fin cfg0.N) (h : ¬t.val % 32 = 0) (i : S1x2048.Idx) :
    (outsAt0 m c t.val t.isLt).2.2 i
      = (outsAt0 m c (t.val - 1) (Nat.lt_of_le_of_lt (Nat.sub_le _ _) t.isLt)).2.2 i + term m c t i := by
  rw [outsAt0_B m c t h]
  frame_out
  try simp only [read_unread_whole]
  idx_vars i
  rw [pay3_apply]
  rfl

theorem final_dw (c : Dev nD) : (dats m 0 c).arrAt 6 cfg0.N = dw (m ((c : Thread nD τ).loc main_arg0)) (m ((c : Thread nD τ).loc main_arg2)) := by
  refine (dats m 0 c).arrAt_eq_of_covers 6 _ (by decide +kernel) fun t hf y => ?_
  blk_simp
  rw [after0_6]
  idx_vars y
  have h3 := (flush0_6 t).mp hf
  rw [Pipeline.eq_sum_fin_of_reset_step_apply_of_flush (fun n h => (outsAt0 m c n h).2.2) 32 (fun _ => 0)
    (term m c) (acc_reset m c) (acc_step m c) t h3, zero_add]
  obtain ⟨a, b, he, hb⟩ : ∃ (a : Fin 1) (b : Fin 2048),
      ((View.whole main_v1_2).slice (win0_6.rect t)).emb (ix2 y0 y1) = ix2 a b ∧ b.val = y1.val := by
    refine ⟨_, _, eq_ix2 _, ?_⟩
    blk_simp [idx6 t]
  rw [he]
  obtain rfl : b = y1 := Fin.ext hb
  unfold dw term part
  refine Fin.sum_mul_add_congr fun s r hl => ?_
  have ht : t.val < 32 := t.isLt
  exact partRow_eq m c _ r _ (by simp only; omega) b

end Cert.Kernel5Ideal.Product

end
-- ==== Proof.Products.NormBTie.lean ====
/- The second layer's norm, backward: the grid's results are the plain derivative's. -/
module

public import proofs.«01_k».proof.Proof.Products.NormB
public import proofs.«01_k».proof.Proof.Gen.Reference5Ideal.Run
public import proofs.«01_k».proof.Defs

@[expose] public section

set_option maxRecDepth 16384

noncomputable section

namespace Cert.Kernel5Ideal.Product

open Cert.Kernel5Ideal Cert.Kernel5Ideal.Gen Cert.Norm
open Idealize.ShloMosaic Idealize.ShloMosaic.TcCoe Idealize.SL.Sem

theorem algebraic : Cert.algebraic_Kernel5Ideal_Reference5Ideal := by
  intro m g m' g' _ hargs
  refine ⟨fun c => dx (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (m ((c : Thread Cert.Kernel5Ideal.nD Cert.Kernel5Ideal.τ).loc Cert.Kernel5Ideal.main_arg3)), fun c => dx (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (m ((c : Thread Cert.Kernel5Ideal.nD Cert.Kernel5Ideal.τ).loc Cert.Kernel5Ideal.main_arg3)), fun c => dw (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg2)), ?_, ?_⟩
  · refine (θ_run _ _ _).mono (fun r h c => ?_) (Cert.Kernel5Ideal.Value.run_blocks m g)
    exact ⟨(h c).1.trans (final_dx m c), (h c).2.1.trans (final_dxb m c), (h c).2.2.1.trans (final_dw m c), (h c).2.2.2⟩
  · refine (θ_run _ _ _).mono (fun r h c => ?_) (Cert.Reference5Ideal.Value.run m' g')
    obtain ⟨h0, h1, h2, h3⟩ := h c
    obtain ⟨a0, a1, a2, a3⟩ := hargs c
    refine ⟨h0.trans ?_, h1.trans ?_, h2.trans ?_, h3⟩
    · unfold Cert.Reference5Ideal.Value.res_main_v38
      rw [a0, a1, a2, a3]
      funext i
      idx_vars i
      pointwise [dx, back, scale, pull, mean]
      simp only [Fin.sum_univ_one]
      exact last_first _ _ _ _
    · unfold Cert.Reference5Ideal.Value.res_main_v39
      rw [a0, a1, a2, a3]
      funext i
      idx_vars i
      pointwise [dx, back, scale, pull, mean]
      simp only [Fin.sum_univ_one]
      exact last_first _ _ _ _
    · rw [a0, a2]
      funext i
      idx_vars i
      pointwise [dw, dwRow, scale, mean]
      simp only [Fin.sum_univ_one]

end Cert.Kernel5Ideal.Product

end
-- ==== Proof.Products.OutX.lean ====
/- The gradient of a mixer's output projection at its input. -/
module

public import proofs.«01_k».proof.Proof.Gen.Kernel6Ideal.Value
public import proofs.«01_k».proof.Proof.Gen.Reference6Ideal.Run
public import proofs.«01_k».proof.Defs
public import Idealize.ShloMosaic.Lib.Pipeline.ValueKit
public import Idealize.ShloMosaic.Lib.Pipeline.ReadBack

@[expose] public section

set_option maxRecDepth 16384

noncomputable section

namespace Cert.Kernel6Ideal.Product

open Cert.Kernel6Ideal Cert.Kernel6Ideal.Gen
open Idealize.ShloMosaic Idealize.ShloMosaic.TcCoe Idealize.SL.Sem

variable (m : (ℓ : Loc nD τ sig) → Buf (Elt Ideal) ℓ)

/-- One block of the product: both operands' columns are contracted. -/
def part (x : Vec Ideal S1024x2048 .bf16) (y : Vec Ideal S1024x2048 .bf16) (j : S1024x1024.Idx) : Elt Ideal .f32 :=
  ∑ k : Fin 2048, x (ix2 (j 0) k) * y (ix2 (j 1) k)

theorem pay2_apply (a : Vec Ideal S1024x1024 .f32) (x : Vec Ideal S1024x2048 .bf16) (y : Vec Ideal S1024x2048 .bf16) (j : S1024x1024.Idx) :
    k0_pay2 a x y j = a j + part x y j := by
  idx_vars j
  pointwise [k0_pay2, part]

theorem pay1_apply (j : S1024x1024.Idx) : k0_pay1 (F := Ideal) j = 0 := by
  idx_vars j
  pointwise [k0_pay1]

theorem out_eq (c : Dev nD) (t : Fin cfg0.N) (j : S1024x1024.Idx) :
    outsAt0 m c t j = part (iblk m c 0 t) (iblk m c 1 t) j := by
  rw [outsAt0]
  frame_out
  rw [pay2_apply, pay1_apply, zero_add]

theorem idx0 : ∀ t : Fin cfg0.N, win0_0.index t = ![t.val / 2, 0] := by decide +kernel

theorem idx1 : ∀ t : Fin cfg0.N, win0_1.index t = ![t.val % 2, 0] := by decide +kernel

theorem idx2 : ∀ t : Fin cfg0.N, win0_2.index t = ![t.val / 2, t.val % 2] := by decide +kernel

/-- The whole product. -/
def product (w : Vec Ideal S2048x2048 .bf16) (y : Vec Ideal S8192x2048 .bf16) : Vec Ideal S8192x2048 .f32 :=
  fun i => ∑ k : Fin 2048, y (ix2 (i 0) k) * w (ix2 (i 1) k)

theorem iblk0 (c : Dev nD) (t : Fin cfg0.N) (j : Fin 1024) (k : Fin 2048) (r : Fin 8192) (hr : r.val = t.val / 2 * 1024 + j.val) :
    iblk m c 0 t (ix2 j k) = m ((c : Thread nD τ).loc main_arg1) (ix2 r k) := by
  blk_ext [iblk, V, idx0 t]

theorem iblk1 (c : Dev nD) (t : Fin cfg0.N) (j : Fin 1024) (k : Fin 2048) (r : Fin 2048) (hr : r.val = t.val % 2 * 1024 + j.val) :
    iblk m c 1 t (ix2 j k) = m ((c : Thread nD τ).loc main_arg0) (ix2 r k) := by
  blk_ext [iblk, V, idx1 t]

theorem part_eq (c : Dev nD) (t : Fin cfg0.N) (y0 : Fin 1024) (y1 : Fin 1024) (a : Fin 8192) (b : Fin 2048)
    (ha : a.val = t.val / 2 * 1024 + y0.val) (hb : b.val = t.val % 2 * 1024 + y1.val) :
    part (iblk m c 0 t) (iblk m c 1 t) (ix2 y0 y1)
      = product (m ((c : Thread nD τ).loc main_arg0)) (m ((c : Thread nD τ).loc main_arg1)) (ix2 a b) := by
  unfold product part
  exact Finset.sum_congr rfl fun k _ => congrArg₂ (· * ·) (iblk0 m c t y0 k a ha) (iblk1 m c t y1 k b hb)

theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [out_eq m c t]
  obtain ⟨a, b, he, ha, hb⟩ : ∃ (a : Fin 8192) (b : Fin 2048),
      ((View.whole main_v0).slice (win0_2.rect t)).emb (ix2 y0 y1) = ix2 a b
      ∧ a.val = t.val / 2 * 1024 + y0.val ∧ b.val = t.val % 2 * 1024 + y1.val := by
    refine ⟨_, _, eq_ix2 _, ?_, ?_⟩
    · blk_simp [idx2 t]
    · blk_simp [idx2 t]
  rw [he]
  exact part_eq m c t y0 y1 a b ha hb

theorem algebraic : Cert.algebraic_Kernel6Ideal_Reference6Ideal := by
  intro m g m' g' _ hargs
  refine ⟨fun c => product (m ((c : Thread Cert.Kernel6Ideal.nD Cert.Kernel6Ideal.τ).loc Cert.Kernel6Ideal.main_arg0))
    (m ((c : Thread Cert.Kernel6Ideal.nD Cert.Kernel6Ideal.τ).loc Cert.Kernel6Ideal.main_arg1)), ?_, ?_⟩
  · refine (θ_run _ _ _).mono (fun r h c => ?_) (Cert.Kernel6Ideal.Value.run_blocks m g)
    exact ⟨(h c).1.trans (final m c), (h c).2⟩
  · refine (θ_run _ _ _).mono (fun r h c => ?_) (Cert.Reference6Ideal.Value.run m' g')
    obtain ⟨h0, h1⟩ := h c
    refine ⟨h0.trans ?_, h1⟩
    rw [(hargs c).1, (hargs c).2]
    funext i
    idx_vars i
    pointwise [product]

end Cert.Kernel6Ideal.Product

end
-- ==== Proof.Products.OutW.lean ====
/- The gradient of a mixer's output projection at its weights. -/
module

public import proofs.«01_k».proof.Proof.Gen.Kernel7Ideal.Value
public import proofs.«01_k».proof.Proof.Gen.Reference7Ideal.Run
public import proofs.«01_k».proof.Defs
public import Idealize.ShloMosaic.Lib.Pipeline.ValueKit
public import Idealize.ShloMosaic.Lib.Pipeline.ReadBack

@[expose] public section

set_option maxRecDepth 16384

noncomputable section

namespace Cert.Kernel7Ideal.Product

open Cert.Kernel7Ideal Cert.Kernel7Ideal.Gen
open Idealize.ShloMosaic Idealize.ShloMosaic.TcCoe Idealize.SL.Sem

variable (m : (ℓ : Loc nD τ sig) → Buf (Elt Ideal) ℓ)

/-- One block's part of the product: both operands' rows are contracted. -/
def part (x : Vec Ideal S2048x1024 .bf16) (y : Vec Ideal S2048x1024 .bf16) (j : S1024x1024.Idx) : Elt Ideal .f32 :=
  ∑ k : Fin 2048, x (ix2 k (j 0)) * y (ix2 k (j 1))

theorem pay2_apply (a : Vec Ideal S1024x1024 .f32) (x : Vec Ideal S2048x1024 .bf16) (y : Vec Ideal S2048x1024 .bf16) (j : S1024x1024.Idx) :
    k0_pay2 a x y j = a j + part x y j := by
  idx_vars j
  pointwise [k0_pay2, part]

theorem pay1_apply (j : S1024x1024.Idx) : k0_pay1 (F := Ideal) j = 0 := by
  idx_vars j
  pointwise [k0_pay1]

theorem pay3_apply (a : Vec Ideal S1024x1024 .f32) (j : S1024x1024.Idx) : k0_pay3 a j = a j := by
  idx_vars j
  pointwise [k0_pay3]

/-- What one grid point adds to the accumulator. -/
def term (c : Dev nD) (t : Fin cfg0.N) (j : S1024x1024.Idx) : Elt Ideal .f32 := part (iblk m c 0 t) (iblk m c 1 t) j

theorem acc_reset (c : Dev nD) (t : Fin cfg0.N) (h : t.val % 4 = 0) (j : S1024x1024.Idx) :
    (outsAt0 m c t.val t.isLt).2 j = 0 + term m c t j := by
  rw [outsAt0_A m c t h (by omega)]
  frame_out
  rw [pay2_apply, pay1_apply, term]

theorem acc_step (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + term m c t j := by
  by_cases h3 : t.val % 4 = 3
  · rw [outsAt0_C m c t h h3]
    frame_out
    simp only [read_unread_whole]
    rw [pay2_apply, term]
  · rw [outsAt0_B m c t h h3]
    frame_out
    simp only [read_unread_whole]
    rw [pay2_apply, term]

theorem out_eq (c : Dev nD) (t : Fin cfg0.N) (h3 : t.val % 4 = 3) (j : S1024x1024.Idx) :
    (outsAt0 m c t.val t.isLt).1 j = (outsAt0 m c t.val t.isLt).2 j := by
  rw [outsAt0_C m c t (by omega) h3]
  frame_out
  rw [pay3_apply]

theorem idx0 : ∀ t : Fin cfg0.N, win0_0.index t = ![t.val % 4, t.val / 8] := by decide +kernel

theorem idx1 : ∀ t : Fin cfg0.N, win0_1.index t = ![t.val % 4, t.val / 4 % 2] := by decide +kernel

theorem idx2 : ∀ t : Fin cfg0.N, win0_2.index t = ![t.val / 8, t.val / 4 % 2] := by decide +kernel

/-- The whole product. -/
def product (x : Vec Ideal S8192x2048 .bf16) (y : Vec Ideal S8192x2048 .bf16) : Vec Ideal S2048x2048 .bf16 :=
  fun i => ∑ k : Fin 8192, x (ix2 k (i 0)) * y (ix2 k (i 1))

theorem iblk0 (c : Dev nD) (t : Fin cfg0.N) (k : Fin 2048) (j : Fin 1024) (r : Fin 8192) (i : Fin 2048)
    (hr : r.val = t.val % 4 * 2048 + k.val) (hi : i.val = t.val / 8 * 1024 + j.val) :
    iblk m c 0 t (ix2 k j) = m ((c : Thread nD τ).loc main_arg0) (ix2 r i) := by
  blk_ext [iblk, V, idx0 t]

theorem iblk1 (c : Dev nD) (t : Fin cfg0.N) (k : Fin 2048) (j : Fin 1024) (r : Fin 8192) (i : Fin 2048)
    (hr : r.val = t.val % 4 * 2048 + k.val) (hi : i.val = t.val / 4 % 2 * 1024 + j.val) :
    iblk m c 1 t (ix2 k j) = m ((c : Thread nD τ).loc main_arg1) (ix2 r i) := by
  blk_ext [iblk, V, idx1 t]

theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  idx_vars y
  have h3 := (flush0_2 t).mp hf
  rw [out_eq m c t h3, Pipeline.eq_sum_fin_of_reset_step_apply_of_flush (fun n h => (outsAt0 m c n h).2) 4 (fun _ => 0)
    (term m c) (acc_reset m c) (acc_step m c) t h3, zero_add]
  obtain ⟨a, b, he, ha, hb⟩ : ∃ (a b : Fin 2048),
      ((View.whole main_v0).slice (win0_2.rect t)).emb (ix2 y0 y1) = ix2 a b
      ∧ a.val = t.val / 8 * 1024 + y0.val ∧ b.val = t.val / 4 % 2 * 1024 + y1.val := by
    refine ⟨_, _, eq_ix2 _, ?_, ?_⟩
    · blk_simp [idx2 t]
    · blk_simp [idx2 t]
  rw [he]
  unfold product term part
  refine Fin.sum_mul_add_congr fun s k hl => ?_
  exact congrArg₂ (· * ·) (iblk0 m c _ k y0 ⟨_, hl⟩ a (by simp only; omega) (by simp only; omega))
    (iblk1 m c _ k y1 ⟨_, hl⟩ b (by simp only; omega) (by simp only; omega))

theorem algebraic : Cert.algebraic_Kernel7Ideal_Reference7Ideal := by
  intro m g m' g' _ hargs
  refine ⟨fun c => product (m ((c : Thread Cert.Kernel7Ideal.nD Cert.Kernel7Ideal.τ).loc Cert.Kernel7Ideal.main_arg0))
    (m ((c : Thread Cert.Kernel7Ideal.nD Cert.Kernel7Ideal.τ).loc Cert.Kernel7Ideal.main_arg1)), ?_, ?_⟩
  · refine (θ_run _ _ _).mono (fun r h c => ?_) (Cert.Kernel7Ideal.Value.run_blocks m g)
    exact ⟨(h c).1.trans (final m c), (h c).2⟩
  · refine (θ_run _ _ _).mono (fun r h c => ?_) (Cert.Reference7Ideal.Value.run m' g')
    obtain ⟨h0, h1⟩ := h c
    refine ⟨h0.trans ?_, h1⟩
    rw [(hargs c).1, (hargs c).2]
    funext i
    idx_vars i
    pointwise [product]
    exact Finset.sum_congr rfl fun _ _ => mul_comm _ _

end Cert.Kernel7Ideal.Product

end
-- ==== Proof.Products.InB.lean ====
/- The attention's input projection, forward. -/
module

public import proofs.«01_k».proof.Proof.Gen.Kernel8Ideal.Value
public import proofs.«01_k».proof.Proof.Gen.Reference8Ideal.Run
public import proofs.«01_k».proof.Defs
public import Idealize.ShloMosaic.Lib.Pipeline.ValueKit
public import Idealize.ShloMosaic.Lib.Pipeline.ReadBack

@[expose] public section

set_option maxRecDepth 16384

noncomputable section

namespace Cert.Kernel8Ideal.Product

open Cert.Kernel8Ideal Cert.Kernel8Ideal.Gen
open Idealize.ShloMosaic Idealize.ShloMosaic.TcCoe Idealize.SL.Sem

variable (m : (ℓ : Loc nD τ sig) → Buf (Elt Ideal) ℓ)

/-- One block of the product. -/
def part (x : Vec Ideal S1024x2048 .bf16) (y : Vec Ideal S2048x1024 .bf16) (j : S1024x1024.Idx) : Elt Ideal .f32 :=
  ∑ k : Fin 2048, x (ix2 (j 0) k) * y (ix2 k (j 1))

theorem pay2_apply (a : Vec Ideal S1024x1024 .f32) (x : Vec Ideal S1024x2048 .bf16) (y : Vec Ideal S2048x1024 .bf16) (j : S1024x1024.Idx) :
    k0_pay2 a x y j = a j + part x y j := by
  idx_vars j
  pointwise [k0_pay2, part]

theorem pay1_apply (j : S1024x1024.Idx) : k0_pay1 (F := Ideal) j = 0 := by
  idx_vars j
  pointwise [k0_pay1]

theorem out_eq (c : Dev nD) (t : Fin cfg0.N) (j : S1024x1024.Idx) :
    outsAt0 m c t j = part (iblk m c 0 t) (iblk m c 1 t) j := by
  unfold outsAt0 out0_A_2
  frame_out
  rw [pay2_apply, pay1_apply, zero_add]

theorem idx0 : ∀ t : Fin cfg0.N, win0_0.index t = ![t.val / 8, 0] := by decide +kernel

theorem idx1 : ∀ t : Fin cfg0.N, win0_1.index t = ![0, t.val % 8] := by decide +kernel

theorem idx2 : ∀ t : Fin cfg0.N, win0_2.index t = ![t.val / 8, t.val % 8] := by decide +kernel

/-- The whole product. -/
def product (x : Vec Ideal S8192x2048 .bf16) (w : Vec Ideal S2048x8192 .bf16) : Vec Ideal S8192x8192 .f32 :=
  fun i => ∑ k : Fin 2048, x (ix2 (i 0) k) * w (ix2 k (i 1))

theorem iblk0 (c : Dev nD) (t : Fin cfg0.N) (j : Fin 1024) (k : Fin 2048) (r : Fin 8192) (hr : r.val = t.val / 8 * 1024 + j.val) :
    iblk m c 0 t (ix2 j k) = m ((c : Thread nD τ).loc main_arg0) (ix2 r k) := by
  blk_ext [iblk, V, idx0 t]

theorem iblk1 (c : Dev nD) (t : Fin cfg0.N) (k : Fin 2048) (j : Fin 1024) (r : Fin 8192) (hr : r.val = t.val % 8 * 1024 + j.val) :
    iblk m c 1 t (ix2 k j) = m ((c : Thread nD τ).loc main_arg1) (ix2 k r) := by
  blk_ext [iblk, V, idx1 t]

theorem part_eq (c : Dev nD) (t : Fin cfg0.N) (y0 : Fin 1024) (y1 : Fin 1024) (a : Fin 8192) (b : Fin 8192)
    (ha : a.val = t.val / 8 * 1024 + y0.val) (hb : b.val = t.val % 8 * 1024 + y1.val) :
    part (iblk m c 0 t) (iblk m c 1 t) (ix2 y0 y1)
      = product (m ((c : Thread nD τ).loc main_arg0)) (m ((c : Thread nD τ).loc main_arg1)) (ix2 a b) := by
  unfold product part
  exact Finset.sum_congr rfl fun k _ => congrArg₂ (· * ·) (iblk0 m c t y0 k a ha) (iblk1 m c t k y1 _ hb)

theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [out_eq m c t]
  obtain ⟨a, b, he, ha, hb⟩ : ∃ (a b : Fin 8192),
      ((View.whole main_v0).slice (win0_2.rect t)).emb (ix2 y0 y1) = ix2 a b
      ∧ a.val = t.val / 8 * 1024 + y0.val ∧ b.val = t.val % 8 * 1024 + y1.val := by
    refine ⟨_, _, eq_ix2 _, ?_, ?_⟩
    · blk_simp [idx2 t]
    · blk_simp [idx2 t]
  rw [he]
  exact part_eq m c t y0 y1 a b ha hb

theorem algebraic : Cert.algebraic_Kernel8Ideal_Reference8Ideal := by
  intro m g m' g' _ hargs
  refine ⟨fun c => product (m ((c : Thread Cert.Kernel8Ideal.nD Cert.Kernel8Ideal.τ).loc Cert.Kernel8Ideal.main_arg0))
    (m ((c : Thread Cert.Kernel8Ideal.nD Cert.Kernel8Ideal.τ).loc Cert.Kernel8Ideal.main_arg1)), ?_, ?_⟩
  · refine (θ_run _ _ _).mono (fun r h c => ?_) (Cert.Kernel8Ideal.Value.run_blocks m g)
    exact ⟨(h c).1.trans (final m c), (h c).2⟩
  · refine (θ_run _ _ _).mono (fun r h c => ?_) (Cert.Reference8Ideal.Value.run m' g')
    obtain ⟨h0, h1⟩ := h c
    refine ⟨h0.trans ?_, h1⟩
    rw [(hargs c).1, (hargs c).2]
    funext i
    idx_vars i
    pointwise [product]

end Cert.Kernel8Ideal.Product

end
-- ==== Proof.Products.InA.lean ====
/- The DeltaNet's input projection, forward: the columns of q, k, v and z. -/
module

public import proofs.«01_k».proof.Proof.Gen.Kernel9Ideal.Value
public import proofs.«01_k».proof.Proof.Gen.Reference9Ideal.Run
public import proofs.«01_k».proof.Defs
public import Idealize.ShloMosaic.Lib.Pipeline.ValueKit
public import Idealize.ShloMosaic.Lib.Pipeline.ReadBack

@[expose] public section

set_option maxRecDepth 16384

noncomputable section

namespace Cert.Kernel9Ideal.Product

open Cert.Kernel9Ideal Cert.Kernel9Ideal.Gen
open Idealize.ShloMosaic Idealize.ShloMosaic.TcCoe Idealize.SL.Sem

variable (m : (ℓ : Loc nD τ sig) → Buf (Elt Ideal) ℓ)

/-- One block of the product. -/
def part (x : Vec Ideal S1024x2048 .bf16) (y : Vec Ideal S2048x1024 .bf16) (j : S1024x1024.Idx) : Elt Ideal .f32 :=
  ∑ k : Fin 2048, x (ix2 (j 0) k) * y (ix2 k (j 1))

theorem pay2_apply (a : Vec Ideal S1024x1024 .f32) (x : Vec Ideal S1024x2048 .bf16) (y : Vec Ideal S2048x1024 .bf16) (j : S1024x1024.Idx) :
    k0_pay2 a x y j = a j + part x y j := by
  idx_vars j
  pointwise [k0_pay2, part]

theorem pay1_apply (j : S1024x1024.Idx) : k0_pay1 (F := Ideal) j = 0 := by
  idx_vars j
  pointwise [k0_pay1]

theorem out_eq (c : Dev nD) (t : Fin cfg0.N) (j : S1024x1024.Idx) :
    outsAt0 m c t j = part (iblk m c 0 t) (X0_1 m c t) j := by
  unfold outsAt0 out0_A_2
  frame_out
  rw [pay2_apply, pay1_apply, zero_add]

theorem idx0 : ∀ t : Fin cfg0.N, win0_0.index t = ![t.val / 8, 0] := by decide +kernel

theorem idx1 : ∀ t : Fin cfg0.N, win0_1.index t = ![0, t.val % 8] := by decide +kernel

theorem idx2 : ∀ t : Fin cfg0.N, win0_2.index t = ![t.val / 8, t.val % 8] := by decide +kernel

/-- A column of q, k, v and z as a column of the whole weight. -/
def wide (j : Fin 8192) : Fin 8224 := ⟨j.val, Nat.lt_of_lt_of_le j.isLt (by decide)⟩

/-- The whole product. -/
def product (x : Vec Ideal S8192x2048 .bf16) (w : Vec Ideal S2048x8224 .bf16) : Vec Ideal S8192x8192 .f32 :=
  fun i => ∑ k : Fin 2048, x (ix2 (i 0) k) * w (ix2 k (wide (i 1)))

theorem iblk0 (c : Dev nD) (t : Fin cfg0.N) (j : Fin 1024) (k : Fin 2048) (r : Fin 8192) (hr : r.val = t.val / 8 * 1024 + j.val) :
    iblk m c 0 t (ix2 j k) = m ((c : Thread nD τ).loc main_arg0) (ix2 r k) := by
  blk_ext [iblk, V, idx0 t]

theorem iblk1 (c : Dev nD) (t : Fin cfg0.N) (k : Fin 2048) (j : Fin 1024) (r : Fin 8224) (hr : r.val = t.val % 8 * 1024 + j.val) :
    X0_1 m c t (ix2 k j) = m ((c : Thread nD τ).loc main_arg1) (ix2 k r) := by
  unfold X0_1 Pipeline.Window.fill
  rw [dif_pos (moved0_1 t _)]
  blk_ext [iblk, V, idx1 t]

theorem part_eq (c : Dev nD) (t : Fin cfg0.N) (y0 : Fin 1024) (y1 : Fin 1024) (a : Fin 8192) (b : Fin 8192)
    (ha : a.val = t.val / 8 * 1024 + y0.val) (hb : b.val = t.val % 8 * 1024 + y1.val) :
    part (iblk m c 0 t) (X0_1 m c t) (ix2 y0 y1)
      = product (m ((c : Thread nD τ).loc main_arg0)) (m ((c : Thread nD τ).loc main_arg1)) (ix2 a b) := by
  unfold product part
  exact Finset.sum_congr rfl fun k _ => congrArg₂ (· * ·) (iblk0 m c t y0 k a ha) (iblk1 m c t k y1 _ hb)

theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [out_eq m c t]
  obtain ⟨a, b, he, ha, hb⟩ : ∃ (a b : Fin 8192),
      ((View.whole main_v0).slice (win0_2.rect t)).emb (ix2 y0 y1) = ix2 a b
      ∧ a.val = t.val / 8 * 1024 + y0.val ∧ b.val = t.val % 8 * 1024 + y1.val := by
    refine ⟨_, _, eq_ix2 _, ?_, ?_⟩
    · blk_simp [idx2 t]
    · blk_simp [idx2 t]
  rw [he]
  exact part_eq m c t y0 y1 a b ha hb

theorem algebraic : Cert.algebraic_Kernel9Ideal_Reference9Ideal := by
  intro m g m' g' _ hargs
  refine ⟨fun c => product (m ((c : Thread Cert.Kernel9Ideal.nD Cert.Kernel9Ideal.τ).loc Cert.Kernel9Ideal.main_arg0))
    (m ((c : Thread Cert.Kernel9Ideal.nD Cert.Kernel9Ideal.τ).loc Cert.Kernel9Ideal.main_arg1)), ?_, ?_⟩
  · refine (θ_run _ _ _).mono (fun r h c => ?_) (Cert.Kernel9Ideal.Value.run_blocks m g)
    exact ⟨(h c).1.trans (final m c), (h c).2⟩
  · refine (θ_run _ _ _).mono (fun r h c => ?_) (Cert.Reference9Ideal.Value.run m' g')
    obtain ⟨h0, h1⟩ := h c
    refine ⟨h0.trans ?_, h1⟩
    rw [(hargs c).1, (hargs c).2]
    funext i
    idx_vars i
    pointwise [product]
    rfl

end Cert.Kernel9Ideal.Product

end
-- ==== Proof.Products.NormF.lean ====
/- The first layer's norm and the narrow projections, forward. -/
module

public import proofs.«01_k».proof.Proof.Products.Norm
public import proofs.«01_k».proof.Proof.Gen.Kernel10Ideal.Value
public import proofs.«01_k».proof.Proof.Gen.Reference10Ideal.Run
public import proofs.«01_k».proof.Defs
public import Idealize.ShloMosaic.Lib.Pipeline.ValueKit
public import Idealize.ShloMosaic.Lib.Pipeline.ReadBack

@[expose] public section

set_option maxRecDepth 16384

noncomputable section

namespace Cert.Kernel10Ideal.Product

open Cert.Kernel10Ideal Cert.Kernel10Ideal.Gen Cert.Norm
open Idealize.ShloMosaic Idealize.ShloMosaic.TcCoe Idealize.SL.Sem

variable (m : (ℓ : Loc nD τ sig) → Buf (Elt Ideal) ℓ)

/-- Row `r` of a block, normed. -/
def normed (x : Vec Ideal S512x2048 .f32) (w : Vec Ideal S1x2048 .f32) (r : Fin 512) (k : Fin 2048) : EReal :=
  x (ix2 r k) * scale (fun j => x (ix2 r j)) * w (ix2 0 k)

theorem pay1_apply (x : Vec Ideal S512x2048 .f32) (w : Vec Ideal S1x2048 .f32) (r : Fin 512) (k : Fin 2048) :
    k0_pay1 x w (ix2 r k) = normed x w r k := by
  pointwise [k0_pay1, normed, scale, mean]

/-- A row of a block against the narrow weights. -/
def narrow (x : Vec Ideal S512x2048 .f32) (w : Vec Ideal S1x2048 .f32) (b : Vec Ideal S2048x128 .bf16) (r : Fin 512) (z : Fin 128) : EReal :=
  ∑ k : Fin 2048, normed x w r k * b (ix2 k z)

theorem pay2_apply (x : Vec Ideal S512x2048 .f32) (w : Vec Ideal S1x2048 .f32) (b : Vec Ideal S2048x128 .bf16) (r : Fin 512) (z : Fin 128) :
    k0_pay2 x w b (ix2 r z) = narrow x w b r z := by
  pointwise [k0_pay2, k0_pay1, narrow, normed, scale, mean]

theorem Vw (c : Dev nD) : V m c main_v2 = extractStridedSlice S1x2048 ![0, 0] (m ((c : Thread nD τ).loc main_arg1)) slices_S2x2048_S1x2048_0_0 := by
  simp only [V, hostOps0, hostOps0_1, hostOps0_2, List.flatten_cons, List.flatten_nil, List.append_nil, List.cons_append, List.nil_append]
  after_results_simp

theorem V1 (c : Dev nD) (z : Fin 1) (k : Fin 2048) : (V m c main_v2 (ix2 z k) : EReal) = m ((c : Thread nD τ).loc main_arg1) (ix2 0 k) := by
  rw [Vw]
  pointwise []

theorem Vab (c : Dev nD) : V m c main_v1 = pad S2048x128 ![0, 0] ![0, 96] ![0, 0]
    (extractStridedSlice S2048x32 ![0, 8192] (m ((c : Thread nD τ).loc main_arg2)) slices_S2048x8224_S2048x32_0_8192)
    (sitofp (F := Ideal) .bf16 (constantI S_ 32 0#32)) pads_S2048x32_S2048x128_000_0960 h_S_ := by
  simp only [V, hostOps0, hostOps0_1, hostOps0_2, List.flatten_cons, List.flatten_nil, List.append_nil, List.cons_append, List.nil_append]
  after_results_simp
  rfl

theorem V2 (c : Dev nD) (j : Fin 2048) (k : Fin 128) (h : k.val < 32) : (V m c main_v1 (ix2 j k) : EReal) = m ((c : Thread nD τ).loc main_arg2) (ix2 j ⟨8192 + k.val, by omega⟩) := by
  rw [Vab]
  pointwise []
  exact dif_pos h

theorem V3 (c : Dev nD) (j : Fin 2048) (k : Fin 128) (h : ¬k.val < 32) : (V m c main_v1 (ix2 j k) : EReal) = (0 : EReal) := by
  rw [Vab]
  pointwise []
  refine (dif_neg h).trans ?_
  simp [FloatOps.sitofp]

theorem idx0 : ∀ t : Fin cfg0.N, win0_0.index t = ![t.val, 0] := by decide +kernel

theorem idx1 : ∀ t : Fin cfg0.N, win0_1.index t = ![0, 0] := by decide +kernel

theorem idx2 : ∀ t : Fin cfg0.N, win0_2.index t = ![0, 0] := by decide +kernel

theorem idx3 : ∀ t : Fin cfg0.N, win0_3.index t = ![t.val, 0] := by decide +kernel

theorem idx4 : ∀ t : Fin cfg0.N, win0_4.index t = ![t.val, 0] := by decide +kernel

theorem iblk0 (c : Dev nD) (t : Fin cfg0.N) (r : Fin 512) (k : Fin 2048) (R : Fin 8192) (hR : R.val = t.val * 512 + r.val) :
    iblk m c 0 t (ix2 r k) = (m ((c : Thread nD τ).loc main_arg0)) (ix2 R k) := by
  rw [← V_main_arg0 m c]
  blk_ext [iblk, idx0 t]

theorem iblk1 (c : Dev nD) (t : Fin cfg0.N) (z : Fin 1) (k : Fin 2048) : iblk m c 1 t (ix2 z k) = (m ((c : Thread nD τ).loc main_arg1)) (ix2 0 k) := by
  rw [← V1 m c z]
  blk_ext [iblk, idx1 t]

theorem iblk2 (c : Dev nD) (t : Fin cfg0.N) (j : Fin 2048) (k : Fin 128) : iblk m c 2 t (ix2 j k) = V m c main_v1 (ix2 j k) := by
  blk_ext [iblk, idx2 t]

/-- The normed stream. -/
def hn (x : Vec Ideal S8192x2048 .f32) (nw : Vec Ideal S2x2048 .f32) (i : S8192x2048.Idx) : EReal :=
  x (ix2 (i 0) (i 1)) * scale (fun j => x (ix2 (i 0) j)) * nw (ix2 0 (i 1))

/-- The narrow projections of the normed stream, filled up to 128 columns with zeros. -/
def ab (x : Vec Ideal S8192x2048 .f32) (nw : Vec Ideal S2x2048 .f32) (b : Vec Ideal S2048x8224 .bf16) (i : S8192x128.Idx) : EReal :=
  if h : (i 1).val < 32 then ∑ k : Fin 2048, hn x nw (ix2 (i 0) k) * b (ix2 k ⟨8192 + (i 1).val, by omega⟩) else 0

theorem normed_eq (c : Dev nD) (t : Fin cfg0.N) (r : Fin 512) (k : Fin 2048) (R : Fin 8192) (hR : R.val = t.val * 512 + r.val) :
    normed (iblk m c 0 t) (iblk m c 1 t) r k = hn (m ((c : Thread nD τ).loc main_arg0)) (m ((c : Thread nD τ).loc main_arg1)) (ix2 R k) := by
  unfold normed hn
  exact congrArg₂ (· * ·) (congrArg₂ (· * ·) (iblk0 m c t r k R hR) (congrArg scale (funext fun j => iblk0 m c t r j R hR))) (iblk1 m c t 0 k)

theorem narrow_eq (c : Dev nD) (t : Fin cfg0.N) (r : Fin 512) (z : Fin 128) (R : Fin 8192) (hR : R.val = t.val * 512 + r.val) :
    narrow (iblk m c 0 t) (iblk m c 1 t) (iblk m c 2 t) r z = ab (m ((c : Thread nD τ).loc main_arg0)) (m ((c : Thread nD τ).loc main_arg1)) (m ((c : Thread nD τ).loc main_arg2)) (ix2 R z) := by
  unfold narrow ab
  by_cases h : z.val < 32
  · refine Eq.trans ?_ (dif_pos h).symm
    exact Finset.sum_congr rfl fun k _ => congrArg₂ (· * ·) (normed_eq m c t r k R hR) ((iblk2 m c t k z).trans (V2 m c k z h))
  · refine Eq.trans ?_ (dif_neg h).symm
    refine Finset.sum_eq_zero fun k _ => ?_
    rw [(iblk2 m c t k z).trans (V3 m c k z h)]
    exact mul_zero _

theorem final_hn (c : Dev nD) : (dats m 0 c).arrAt 3 cfg0.N = hn (m ((c : Thread nD τ).loc main_arg0)) (m ((c : Thread nD τ).loc main_arg1)) := by
  refine (dats m 0 c).arrAt_eq_of_covers 3 _ (by decide +kernel) fun t hf y => ?_
  blk_simp
  rw [after0_3]
  frame_out
  idx_vars y
  obtain ⟨a, b, he, ha, hb⟩ : ∃ (a : Fin 8192) (b : Fin 2048),
      ((View.whole main_v3_0).slice (win0_3.rect t)).emb (ix2 y0 y1) = ix2 a b
      ∧ a.val = t.val * 512 + y0.val ∧ b.val = y1.val := by
    refine ⟨_, _, eq_ix2 _, ?_, ?_⟩
    · blk_simp [idx3 t]
    · blk_simp [idx3 t]
  rw [he]
  obtain rfl : b = y1 := Fin.ext hb
  exact (pay1_apply _ _ _ _).trans (normed_eq m c t y0 b a ha)

theorem final_ab (c : Dev nD) : (dats m 0 c).arrAt 4 cfg0.N = ab (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  idx_vars y
  obtain ⟨a, b, he, ha, hb⟩ : ∃ (a : Fin 8192) (b : Fin 128),
      ((View.whole main_v3_1).slice (win0_4.rect t)).emb (ix2 y0 y1) = ix2 a b
      ∧ a.val = t.val * 512 + y0.val ∧ b.val = y1.val := by
    refine ⟨_, _, eq_ix2 _, ?_, ?_⟩
    · blk_simp [idx4 t]
    · blk_simp [idx4 t]
  rw [he]
  obtain rfl : b = y1 := Fin.ext hb
  exact (pay2_apply _ _ _ _ _).trans (narrow_eq m c t y0 b a ha)

theorem algebraic : Cert.algebraic_Kernel10Ideal_Reference10Ideal := by
  intro m g m' g' _ hargs
  refine ⟨fun c => hn (m ((c : Thread Cert.Kernel10Ideal.nD Cert.Kernel10Ideal.τ).loc Cert.Kernel10Ideal.main_arg0)) (m ((c : Thread Cert.Kernel10Ideal.nD Cert.Kernel10Ideal.τ).loc Cert.Kernel10Ideal.main_arg1)), fun c => ab (m ((c : Thread Cert.Kernel10Ideal.nD Cert.Kernel10Ideal.τ).loc Cert.Kernel10Ideal.main_arg0)) (m ((c : Thread Cert.Kernel10Ideal.nD Cert.Kernel10Ideal.τ).loc Cert.Kernel10Ideal.main_arg1)) (m ((c : Thread Cert.Kernel10Ideal.nD Cert.Kernel10Ideal.τ).loc Cert.Kernel10Ideal.main_arg2)), ?_, ?_⟩
  · refine (θ_run _ _ _).mono (fun r h c => ?_) (Cert.Kernel10Ideal.Value.run_blocks m g)
    exact ⟨(h c).1.trans (final_hn m c), (h c).2.1.trans (final_ab m c), (h c).2.2⟩
  · refine (θ_run _ _ _).mono (fun r h c => ?_) (Cert.Reference10Ideal.Value.run m' g')
    obtain ⟨h0, h1, h3⟩ := h c
    obtain ⟨a0, a1, a2⟩ := hargs c
    refine ⟨h0.trans ?_, h1.trans ?_, h3⟩
    · rw [a0, a1]
      funext i
      idx_vars i
      pointwise [hn, scale, mean]
    · rw [a0, a1, a2]
      funext i
      idx_vars i
      pointwise [ab, hn, scale, mean]
      by_cases h : i1.val < 32
      · rw [dif_pos h, dif_pos h]
      · rw [dif_neg h, dif_neg h]
        simp [FloatOps.sitofp]

end Cert.Kernel10Ideal.Product

end
-- ==== Proof.Products.OutNorm.lean ====
/- The DeltaNet's output projection with the residual, and the norm after it, forward. -/
module

public import proofs.«01_k».proof.Proof.Products.Norm
public import proofs.«01_k».proof.Proof.Gen.Kernel11Ideal.Value
public import proofs.«01_k».proof.Proof.Gen.Reference11Ideal.Run
public import proofs.«01_k».proof.Defs
public import Idealize.ShloMosaic.Lib.Pipeline.ValueKit
public import Idealize.ShloMosaic.Lib.Pipeline.ReadBack

@[expose] public section

set_option maxRecDepth 16384

noncomputable section

namespace Cert.Kernel11Ideal.Product

open Cert.Kernel11Ideal Cert.Kernel11Ideal.Gen Cert.Norm
open Idealize.ShloMosaic Idealize.ShloMosaic.TcCoe Idealize.SL.Sem

variable (m : (ℓ : Loc nD τ sig) → Buf (Elt Ideal) ℓ)

/-- Row `r` of a block of the stream after the projection. -/
def stream (o : Vec Ideal S512x2048 .bf16) (w : Vec Ideal S2048x2048 .bf16) (x : Vec Ideal S512x2048 .f32) (r : Fin 512) (k : Fin 2048) : EReal :=
  (∑ j : Fin 2048, o (ix2 r j) * w (ix2 j k)) + x (ix2 r k)

theorem pay1_apply (o : Vec Ideal S512x2048 .bf16) (w : Vec Ideal S2048x2048 .bf16) (x : Vec Ideal S512x2048 .f32) (r : Fin 512) (k : Fin 2048) :
    k0_pay1 o w x (ix2 r k) = stream o w x r k := by
  pointwise [k0_pay1, stream]

/-- The row normed. -/
def normed (o : Vec Ideal S512x2048 .bf16) (w : Vec Ideal S2048x2048 .bf16) (x : Vec Ideal S512x2048 .f32) (nw : Vec Ideal S1x2048 .f32)
    (r : Fin 512) (k : Fin 2048) : EReal := stream o w x r k * scale (stream o w x r) * nw (ix2 0 k)

theorem pay2_apply (o : Vec Ideal S512x2048 .bf16) (w : Vec Ideal S2048x2048 .bf16) (x : Vec Ideal S512x2048 .f32) (nw : Vec Ideal S1x2048 .f32)
    (r : Fin 512) (k : Fin 2048) : k0_pay2 o w x nw (ix2 r k) = normed o w x nw r k := by
  pointwise [k0_pay2, k0_pay1, normed, stream, scale, mean]

theorem Vw (c : Dev nD) : V m c main_v0 = extractStridedSlice S1x2048 ![1, 0] (m ((c : Thread nD τ).loc main_arg3)) slices_S2x2048_S1x2048_1_0 := by
  simp only [V, hostOps0]
  after_results_simp

theorem V1 (c : Dev nD) (z : Fin 1) (k : Fin 2048) : (V m c main_v0 (ix2 z k) : EReal) = (m ((c : Thread nD τ).loc main_arg3)) (ix2 1 k) := by
  rw [Vw]
  pointwise []

theorem idx0 : ∀ t : Fin cfg0.N, win0_0.index t = ![t.val, 0] := by decide +kernel

theorem idx1 : ∀ t : Fin cfg0.N, win0_1.index t = ![0, 0] := by decide +kernel

theorem idx2 : ∀ t : Fin cfg0.N, win0_2.index t = ![t.val, 0] := by decide +kernel

theorem idx3 : ∀ t : Fin cfg0.N, win0_3.index t = ![0, 0] := by decide +kernel

theorem idx4 : ∀ t : Fin cfg0.N, win0_4.index t = ![t.val, 0] := by decide +kernel

theorem idx5 : ∀ t : Fin cfg0.N, win0_5.index t = ![t.val, 0] := by decide +kernel

theorem iblk0 (c : Dev nD) (t : Fin cfg0.N) (r : Fin 512) (k : Fin 2048) (R : Fin 8192) (hR : R.val = t.val * 512 + r.val) :
    iblk m c 0 t (ix2 r k) = (m ((c : Thread nD τ).loc main_arg0)) (ix2 R k) := by
  rw [← V_main_arg0 m c]
  blk_ext [iblk, idx0 t]

theorem iblk1 (c : Dev nD) (t : Fin cfg0.N) (j k : Fin 2048) : iblk m c 1 t (ix2 j k) = (m ((c : Thread nD τ).loc main_arg1)) (ix2 j k) := by
  rw [← V_main_arg1 m c]
  blk_ext [iblk, idx1 t]

theorem iblk2 (c : Dev nD) (t : Fin cfg0.N) (r : Fin 512) (k : Fin 2048) (R : Fin 8192) (hR : R.val = t.val * 512 + r.val) :
    iblk m c 2 t (ix2 r k) = (m ((c : Thread nD τ).loc main_arg2)) (ix2 R k) := by
  rw [← V_main_arg2 m c]
  blk_ext [iblk, idx2 t]

theorem iblk3 (c : Dev nD) (t : Fin cfg0.N) (z : Fin 1) (k : Fin 2048) : iblk m c 3 t (ix2 z k) = (m ((c : Thread nD τ).loc main_arg3)) (ix2 1 k) := by
  rw [← V1 m c z]
  blk_ext [iblk, idx3 t]

/-- The stream after the projection. -/
def hs (o : Vec Ideal S8192x2048 .bf16) (w : Vec Ideal S2048x2048 .bf16) (x : Vec Ideal S8192x2048 .f32) (i : S8192x2048.Idx) : EReal :=
  x (ix2 (i 0) (i 1)) + ∑ j : Fin 2048, o (ix2 (i 0) j) * w (ix2 j (i 1))

/-- The stream normed. -/
def hn (o : Vec Ideal S8192x2048 .bf16) (w : Vec Ideal S2048x2048 .bf16) (x : Vec Ideal S8192x2048 .f32) (nw : Vec Ideal S2x2048 .f32)
    (i : S8192x2048.Idx) : EReal := hs o w x i * scale (fun j => hs o w x (ix2 (i 0) j)) * nw (ix2 1 (i 1))

theorem stream_eq (c : Dev nD) (t : Fin cfg0.N) (r : Fin 512) (k : Fin 2048) (R : Fin 8192) (hR : R.val = t.val * 512 + r.val) :
    stream (iblk m c 0 t) (iblk m c 1 t) (iblk m c 2 t) r k = hs (m ((c : Thread nD τ).loc main_arg0)) (m ((c : Thread nD τ).loc main_arg1)) (m ((c : Thread nD τ).loc main_arg2)) (ix2 R k) := by
  unfold stream hs
  refine (add_comm _ _).trans ?_
  exact congrArg₂ (· + ·) (iblk2 m c t r k R hR) (Finset.sum_congr rfl fun j _ => congrArg₂ (· * ·) (iblk0 m c t r j R hR) (iblk1 m c t j k))

theorem normed_eq (c : Dev nD) (t : Fin cfg0.N) (r : Fin 512) (k : Fin 2048) (R : Fin 8192) (hR : R.val = t.val * 512 + r.val) :
    normed (iblk m c 0 t) (iblk m c 1 t) (iblk m c 2 t) (iblk m c 3 t) r k = hn (m ((c : Thread nD τ).loc main_arg0)) (m ((c : Thread nD τ).loc main_arg1)) (m ((c : Thread nD τ).loc main_arg2)) (m ((c : Thread nD τ).loc main_arg3)) (ix2 R k) := by
  unfold normed hn
  exact congrArg₂ (· * ·) (congrArg₂ (· * ·) (stream_eq m c t r k R hR) (congrArg scale (funext fun j => stream_eq m c t r j R hR))) (iblk3 m c t 0 k)

theorem final_hs (c : Dev nD) : (dats m 0 c).arrAt 4 cfg0.N = hs (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  idx_vars y
  obtain ⟨a, b, he, ha, hb⟩ : ∃ (a : Fin 8192) (b : Fin 2048),
      ((View.whole main_v1_0).slice (win0_4.rect t)).emb (ix2 y0 y1) = ix2 a b
      ∧ a.val = t.val * 512 + y0.val ∧ b.val = y1.val := by
    refine ⟨_, _, eq_ix2 _, ?_, ?_⟩
    · blk_simp [idx4 t]
    · blk_simp [idx4 t]
  rw [he]
  obtain rfl : b = y1 := Fin.ext hb
  exact (pay1_apply _ _ _ _ _).trans (stream_eq m c t y0 b a ha)

theorem final_hn (c : Dev nD) : (dats m 0 c).arrAt 5 cfg0.N = hn (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  obtain ⟨a, b, he, ha, hb⟩ : ∃ (a : Fin 8192) (b : Fin 2048),
      ((View.whole main_v1_1).slice (win0_5.rect t)).emb (ix2 y0 y1) = ix2 a b
      ∧ a.val = t.val * 512 + y0.val ∧ b.val = y1.val := by
    refine ⟨_, _, eq_ix2 _, ?_, ?_⟩
    · blk_simp [idx5 t]
    · blk_simp [idx5 t]
  rw [he]
  obtain rfl : b = y1 := Fin.ext hb
  exact (pay2_apply _ _ _ _ _ _).trans (normed_eq m c t y0 b a ha)

theorem algebraic : Cert.algebraic_Kernel11Ideal_Reference11Ideal := by
  intro m g m' g' _ hargs
  refine ⟨fun c => hs (m ((c : Thread Cert.Kernel11Ideal.nD Cert.Kernel11Ideal.τ).loc Cert.Kernel11Ideal.main_arg0)) (m ((c : Thread Cert.Kernel11Ideal.nD Cert.Kernel11Ideal.τ).loc Cert.Kernel11Ideal.main_arg1)) (m ((c : Thread Cert.Kernel11Ideal.nD Cert.Kernel11Ideal.τ).loc Cert.Kernel11Ideal.main_arg2)), fun c => hn (m ((c : Thread Cert.Kernel11Ideal.nD Cert.Kernel11Ideal.τ).loc Cert.Kernel11Ideal.main_arg0)) (m ((c : Thread Cert.Kernel11Ideal.nD Cert.Kernel11Ideal.τ).loc Cert.Kernel11Ideal.main_arg1)) (m ((c : Thread Cert.Kernel11Ideal.nD Cert.Kernel11Ideal.τ).loc Cert.Kernel11Ideal.main_arg2)) (m ((c : Thread Cert.Kernel11Ideal.nD Cert.Kernel11Ideal.τ).loc Cert.Kernel11Ideal.main_arg3)), ?_, ?_⟩
  · refine (θ_run _ _ _).mono (fun r h c => ?_) (Cert.Kernel11Ideal.Value.run_blocks m g)
    exact ⟨(h c).1.trans (final_hs m c), (h c).2.1.trans (final_hn m c), (h c).2.2⟩
  · refine (θ_run _ _ _).mono (fun r h c => ?_) (Cert.Reference11Ideal.Value.run m' g')
    obtain ⟨h0, h1, h3⟩ := h c
    obtain ⟨a0, a1, a2, a3⟩ := hargs c
    refine ⟨h0.trans ?_, h1.trans ?_, h3⟩
    · rw [a0, a1, a2]
      funext i
      idx_vars i
      pointwise [hs]
    · rw [a0, a1, a2, a3]
      funext i
      idx_vars i
      pointwise [hn, hs, scale, mean]

end Cert.Kernel11Ideal.Product

end
-- ==== Proof.Products.Optimiser.lean ====
/- The optimiser's step of an output projection's rows. -/
module

public import proofs.«01_k».proof.Proof.Gen.Kernel12Ideal.Value
public import proofs.«01_k».proof.Proof.Gen.Reference12Ideal.Run
public import proofs.«01_k».proof.Defs
public import Idealize.ShloMosaic.Lib.Pipeline.ValueKit
public import Idealize.ShloMosaic.Lib.Pipeline.ReadBack

@[expose] public section

set_option maxRecDepth 16384

noncomputable section

namespace Cert.Kernel12Ideal.Step

open Cert.Kernel12Ideal Cert.Kernel12Ideal.Gen
open Idealize.ShloMosaic Idealize.ShloMosaic.TcCoe Idealize.SL.Sem

variable (m : (ℓ : Loc nD τ sig) → Buf (Elt Ideal) ℓ)

/-- The new first moment of an entry, from the old one and the gradient. -/
def first (u g : EReal) : EReal := Ideal.ofBits .f32 0x3F666666#32 * u + Ideal.ofBits .f32 0x3DCCCCCD#32 * g

/-- The new second moment. -/
def second (u g : EReal) : EReal := Ideal.ofBits .f32 0x3F7FBE77#32 * u + Ideal.ofBits .f32 0x3A83126F#32 * (g * g)

/-- The change of the weight `w`, from the two new moments. -/
def change (w a b : EReal) : EReal :=
  Ideal.ofBits .f32 0xBA83126F#32 * (Ideal.div (Ideal.div a (Ideal.ofBits .f32 0x3F26BD02#32))
    (Ideal.sqrt (Ideal.div b (Ideal.ofBits .f32 0x3C231ACC#32)) + Ideal.ofBits .f32 0x322BCC77#32) + Ideal.ofBits .f32 0x3C23D70A#32 * w)

section

variable (x y w u v : Vec Ideal S128x2048 .f32) (r : Fin 128) (k : Fin 2048)

theorem pay1_apply : k0_pay1 x y (ix2 r k) = x (ix2 r k) + y (ix2 r k) := by
  pointwise [k0_pay1]

theorem pay2_apply : k0_pay2 x y u (ix2 r k) = first (u (ix2 r k)) (x (ix2 r k) + y (ix2 r k)) := by
  pointwise [k0_pay2, k0_pay1, first]

theorem pay3_apply : k0_pay3 x y v (ix2 r k) = second (v (ix2 r k)) (x (ix2 r k) + y (ix2 r k)) := by
  pointwise [k0_pay3, k0_pay1, second]

theorem pay4_apply : k0_pay4 x y w u v (ix2 r k)
    = change (w (ix2 r k)) (first (u (ix2 r k)) (x (ix2 r k) + y (ix2 r k))) (second (v (ix2 r k)) (x (ix2 r k) + y (ix2 r k))) := by
  pointwise [k0_pay4, k0_pay3, k0_pay2, k0_pay1, change, second, first]

end

theorem idx0 : ∀ t : Fin cfg0.N, win0_0.index t = ![t.val, 0] := by decide +kernel

theorem idx1 : ∀ t : Fin cfg0.N, win0_1.index t = ![t.val, 0] := by decide +kernel

theorem idx2 : ∀ t : Fin cfg0.N, win0_2.index t = ![t.val, 0] := by decide +kernel

theorem idx3 : ∀ t : Fin cfg0.N, win0_3.index t = ![t.val, 0] := by decide +kernel

theorem idx4 : ∀ t : Fin cfg0.N, win0_4.index t = ![t.val, 0] := by decide +kernel

theorem idx5 : ∀ t : Fin cfg0.N, win0_5.index t = ![t.val, 0] := by decide +kernel

theorem idx6 : ∀ t : Fin cfg0.N, win0_6.index t = ![t.val, 0] := by decide +kernel

theorem idx7 : ∀ t : Fin cfg0.N, win0_7.index t = ![t.val, 0] := by decide +kernel

theorem idx8 : ∀ t : Fin cfg0.N, win0_8.index t = ![t.val, 0] := by decide +kernel

theorem iblk0 (c : Dev nD) (t : Fin cfg0.N) (r : Fin 128) (k : Fin 2048) (R : Fin 512) (hR : R.val = t.val * 128 + r.val) :
    iblk m c 0 t (ix2 r k) = (m ((c : Thread nD τ).loc main_arg0)) (ix2 R k) := by
  rw [← V_main_arg0 m c]
  blk_ext [iblk, idx0 t]

theorem iblk1 (c : Dev nD) (t : Fin cfg0.N) (r : Fin 128) (k : Fin 2048) (R : Fin 512) (hR : R.val = t.val * 128 + r.val) :
    iblk m c 1 t (ix2 r k) = (m ((c : Thread nD τ).loc main_arg1)) (ix2 R k) := by
  rw [← V_main_arg1 m c]
  blk_ext [iblk, idx1 t]

theorem iblk2 (c : Dev nD) (t : Fin cfg0.N) (r : Fin 128) (k : Fin 2048) (R : Fin 512) (hR : R.val = t.val * 128 + r.val) :
    iblk m c 2 t (ix2 r k) = (m ((c : Thread nD τ).loc main_arg2)) (ix2 R k) := by
  rw [← V_main_arg2 m c]
  blk_ext [iblk, idx2 t]

theorem iblk3 (c : Dev nD) (t : Fin cfg0.N) (r : Fin 128) (k : Fin 2048) (R : Fin 512) (hR : R.val = t.val * 128 + r.val) :
    iblk m c 3 t (ix2 r k) = (m ((c : Thread nD τ).loc main_arg3)) (ix2 R k) := by
  rw [← V_main_arg3 m c]
  blk_ext [iblk, idx3 t]

theorem iblk4 (c : Dev nD) (t : Fin cfg0.N) (r : Fin 128) (k : Fin 2048) (R : Fin 512) (hR : R.val = t.val * 128 + r.val) :
    iblk m c 4 t (ix2 r k) = (m ((c : Thread nD τ).loc main_arg4)) (ix2 R k) := by
  rw [← V_main_arg4 m c]
  blk_ext [iblk, idx4 t]

/-- The gradient, the sum of the two parts. -/
def grad (x y : Vec Ideal S512x2048 .f32) (i : S512x2048.Idx) : EReal := x i + y i

/-- The new first moments. -/
def newM (u x y : Vec Ideal S512x2048 .f32) (i : S512x2048.Idx) : EReal := first (u i) (grad x y i)

/-- The new second moments. -/
def newV (v x y : Vec Ideal S512x2048 .f32) (i : S512x2048.Idx) : EReal := second (v i) (grad x y i)

/-- The changes of the weights. -/
def delta (w u v x y : Vec Ideal S512x2048 .f32) (i : S512x2048.Idx) : EReal := change (w i) (newM u x y i) (newV v x y i)

theorem final_grad (c : Dev nD) : (dats m 0 c).arrAt 5 cfg0.N = grad (m ((c : Thread nD τ).loc main_arg3)) (m ((c : Thread nD τ).loc main_arg4)) := by
  refine (dats m 0 c).arrAt_eq_of_covers 5 _ (by decide +kernel) fun t hf y => ?_
  blk_simp
  rw [after0_5]
  frame_out
  idx_vars y
  obtain ⟨a, b, he, ha, hb⟩ : ∃ (a : Fin 512) (b : Fin 2048),
      ((View.whole main_v0_0).slice (win0_5.rect t)).emb (ix2 y0 y1) = ix2 a b
      ∧ a.val = t.val * 128 + y0.val ∧ b.val = y1.val := by
    refine ⟨_, _, eq_ix2 _, ?_, ?_⟩
    · blk_simp [idx5 t]
    · blk_simp [idx5 t]
  rw [he]
  obtain rfl : b = y1 := Fin.ext hb
  refine (pay1_apply _ _ _ _).trans ?_
  rw [iblk3 m c t y0 b a ha, iblk4 m c t y0 b a ha]
  rfl

theorem final_delta (c : Dev nD) : (dats m 0 c).arrAt 6 cfg0.N = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  idx_vars y
  obtain ⟨a, b, he, ha, hb⟩ : ∃ (a : Fin 512) (b : Fin 2048),
      ((View.whole main_v0_1).slice (win0_6.rect t)).emb (ix2 y0 y1) = ix2 a b
      ∧ a.val = t.val * 128 + y0.val ∧ b.val = y1.val := by
    refine ⟨_, _, eq_ix2 _, ?_, ?_⟩
    · blk_simp [idx6 t]
    · blk_simp [idx6 t]
  rw [he]
  obtain rfl : b = y1 := Fin.ext hb
  refine (pay4_apply _ _ _ _ _ _ _).trans ?_
  rw [iblk0 m c t y0 b a ha, iblk1 m c t y0 b a ha, iblk2 m c t y0 b a ha, iblk3 m c t y0 b a ha, iblk4 m c t y0 b a ha]
  rfl

theorem final_newM (c : Dev nD) : (dats m 0 c).arrAt 7 cfg0.N = newM (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  frame_out
  idx_vars y
  obtain ⟨a, b, he, ha, hb⟩ : ∃ (a : Fin 512) (b : Fin 2048),
      ((View.whole main_v0_2).slice (win0_7.rect t)).emb (ix2 y0 y1) = ix2 a b
      ∧ a.val = t.val * 128 + y0.val ∧ b.val = y1.val := by
    refine ⟨_, _, eq_ix2 _, ?_, ?_⟩
    · blk_simp [idx7 t]
    · blk_simp [idx7 t]
  rw [he]
  obtain rfl : b = y1 := Fin.ext hb
  refine (pay2_apply _ _ _ _ _).trans ?_
  rw [iblk1 m c t y0 b a ha, iblk3 m c t y0 b a ha, iblk4 m c t y0 b a ha]
  rfl

theorem final_newV (c : Dev nD) : (dats m 0 c).arrAt 8 cfg0.N = newV (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  frame_out
  idx_vars y
  obtain ⟨a, b, he, ha, hb⟩ : ∃ (a : Fin 512) (b : Fin 2048),
      ((View.whole main_v0_3).slice (win0_8.rect t)).emb (ix2 y0 y1) = ix2 a b
      ∧ a.val = t.val * 128 + y0.val ∧ b.val = y1.val := by
    refine ⟨_, _, eq_ix2 _, ?_, ?_⟩
    · blk_simp [idx8 t]
    · blk_simp [idx8 t]
  rw [he]
  obtain rfl : b = y1 := Fin.ext hb
  refine (pay3_apply _ _ _ _ _).trans ?_
  rw [iblk2 m c t y0 b a ha, iblk3 m c t y0 b a ha, iblk4 m c t y0 b a ha]
  rfl

theorem algebraic : Cert.algebraic_Kernel12Ideal_Reference12Ideal := by
  intro m g m' g' _ hargs
  refine ⟨fun c => grad (m ((c : Thread Cert.Kernel12Ideal.nD Cert.Kernel12Ideal.τ).loc Cert.Kernel12Ideal.main_arg3)) (m ((c : Thread Cert.Kernel12Ideal.nD Cert.Kernel12Ideal.τ).loc Cert.Kernel12Ideal.main_arg4)),
    fun c => delta (m ((c : Thread Cert.Kernel12Ideal.nD Cert.Kernel12Ideal.τ).loc Cert.Kernel12Ideal.main_arg0)) (m ((c : Thread Cert.Kernel12Ideal.nD Cert.Kernel12Ideal.τ).loc Cert.Kernel12Ideal.main_arg1)) (m ((c : Thread Cert.Kernel12Ideal.nD Cert.Kernel12Ideal.τ).loc Cert.Kernel12Ideal.main_arg2)) (m ((c : Thread Cert.Kernel12Ideal.nD Cert.Kernel12Ideal.τ).loc Cert.Kernel12Ideal.main_arg3)) (m ((c : Thread Cert.Kernel12Ideal.nD Cert.Kernel12Ideal.τ).loc Cert.Kernel12Ideal.main_arg4)),
    fun c => newM (m ((c : Thread Cert.Kernel12Ideal.nD Cert.Kernel12Ideal.τ).loc Cert.Kernel12Ideal.main_arg1)) (m ((c : Thread Cert.Kernel12Ideal.nD Cert.Kernel12Ideal.τ).loc Cert.Kernel12Ideal.main_arg3)) (m ((c : Thread Cert.Kernel12Ideal.nD Cert.Kernel12Ideal.τ).loc Cert.Kernel12Ideal.main_arg4)),
    fun c => newV (m ((c : Thread Cert.Kernel12Ideal.nD Cert.Kernel12Ideal.τ).loc Cert.Kernel12Ideal.main_arg2)) (m ((c : Thread Cert.Kernel12Ideal.nD Cert.Kernel12Ideal.τ).loc Cert.Kernel12Ideal.main_arg3)) (m ((c : Thread Cert.Kernel12Ideal.nD Cert.Kernel12Ideal.τ).loc Cert.Kernel12Ideal.main_arg4)), ?_, ?_⟩
  · refine (θ_run _ _ _).mono (fun r h c => ?_) (Cert.Kernel12Ideal.Value.run_blocks m g)
    exact ⟨(h c).1.trans (final_grad m c), (h c).2.1.trans (final_delta m c), (h c).2.2.1.trans (final_newM m c),
      (h c).2.2.2.1.trans (final_newV m c), (h c).2.2.2.2⟩
  · refine (θ_run _ _ _).mono (fun r h c => ?_) (Cert.Reference12Ideal.Value.run m' g')
    obtain ⟨h0, h1, h2, h3, h4⟩ := h c
    obtain ⟨a0, a1, a2, a3, a4⟩ := hargs c
    rw [a3, a4] at h0
    rw [a0, a1, a2, a3, a4] at h1
    rw [a1, a3, a4] at h2
    rw [a2, a3, a4] at h3
    refine ⟨h0.trans ?_, h1.trans ?_, h2.trans ?_, h3.trans ?_, h4⟩
    · funext i
      pointwise [grad]
    · funext i
      pointwise [delta, newM, newV, grad, change, first, second]
    · funext i
      pointwise [newM, grad, first]
    · funext i
      pointwise [newV, grad, second]

end Cert.Kernel12Ideal.Step

end
-- ==== Proof.Products.Loss.lean ====
/- The attention's output projection with the residual, the loss, and the loss's gradient. -/
module

public import proofs.«01_k».proof.Proof.Gen.Kernel13Ideal.Frame
public import proofs.«01_k».proof.Proof.Gen.Reference13Ideal.Run
public import proofs.«01_k».proof.Defs
public import Idealize.ShloMosaic.Lib.Pipeline.ValueKit
public import Idealize.ShloMosaic.Lib.Pipeline.ReadBack

@[expose] public section

set_option maxRecDepth 16384

noncomputable section

namespace Cert.Kernel13Ideal.Loss

open Cert.Kernel13Ideal Cert.Kernel13Ideal.Gen
open Idealize.ShloMosaic Idealize.ShloMosaic.TcCoe Idealize.SL.Sem Idealize.ShloMosaic.StableHlo

theorem two_eq : Ideal.ofBits .f32 0x40000000#32 = ((2 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem width_eq : Ideal.ofBits .f32 0x45000000#32 = ((2048 : ℝ) : EReal) := by
  simp [Ideal.ofBits, Ideal.ieee, -EReal.coe_mul]; norm_num
theorem inv_eq : Ideal.ofBits .f32 0x3A000000#32 = ((1 / 2048 : ℝ) : EReal) := by
  simp [Ideal.ofBits, Ideal.ieee, -EReal.coe_mul]; norm_num
theorem halfInv_eq : Ideal.ofBits .f32 0x39800000#32 = ((1 / 4096 : ℝ) : EReal) := by
  simp [Ideal.ofBits, Ideal.ieee, -EReal.coe_mul]; norm_num

theorem ofBits_one_f32 : Ideal.ofBits .f32 0x3F800000#32 = 1 := by
  simp [Ideal.ofBits, Ideal.ieee, -EReal.coe_mul]; norm_num

theorem sq_nonneg (e : EReal) : 0 ≤ e * e := by
  rcases le_total 0 e with h | h
  · exact mul_nonneg h h
  · rw [← neg_mul_neg]
    exact mul_nonneg (EReal.neg_nonneg.mpr h) (EReal.neg_nonneg.mpr h)

/-- A factor goes out of a sum of nonnegative terms. -/
theorem sum_mul_of_nonneg {n : ℕ} (f : Fin n → EReal) (h : ∀ i, 0 ≤ f i) (a : EReal) : ∑ i, f i * a = (∑ i, f i) * a := by
  classical
  refine Finset.induction_on (motive := fun s => ∑ i ∈ s, f i * a = (∑ i ∈ s, f i) * a) Finset.univ (by simp) fun b s hb ih => ?_
  rw [Finset.sum_insert hb, Finset.sum_insert hb, ih, EReal.right_distrib_of_nonneg (h b) (Finset.sum_nonneg fun i _ => h i)]

/-- The gradient's two forms. -/
theorem grad_form (e : EReal) : e * Ideal.ofBits .f32 0x3A000000#32
    = Ideal.div (Ideal.ofBits .f32 0x3F000000#32 * Ideal.ofBits .f32 0x3F800000#32) (Ideal.ofBits .f32 0x45000000#32)
      * (Ideal.ofBits .f32 0x40000000#32 * e) := by
  rw [width_eq, Ideal.div_coe (by norm_num), ofBits_one_f32, mul_one, half_eq, two_eq, inv_eq, ← mul_assoc, ← EReal.coe_mul, ← EReal.coe_mul, mul_comm e]
  norm_num

/-- The loss's two forms. -/
theorem loss_form {n : ℕ} (f : Fin n → EReal) (h : ∀ i, 0 ≤ f i) : Ideal.ofBits .f32 0x39800000#32 * ∑ i, f i
    = Ideal.ofBits .f32 0x3F000000#32 * ∑ i, Ideal.div (f i) (Ideal.ofBits .f32 0x45000000#32) := by
  rw [width_eq, half_eq, halfInv_eq]
  simp only [Ideal.div_coe (show (2048 : ℝ) ≠ 0 by norm_num)]
  rw [sum_mul_of_nonneg f h, mul_comm (∑ i, f i), ← mul_assoc, ← EReal.coe_mul]
  norm_num

variable (m : (ℓ : Loc nD τ sig) → Buf (Elt Ideal) ℓ)

/-- The error of a block's entry. -/
def errBlock (o : Vec Ideal S512x2048 .bf16) (w : Vec Ideal S2048x1024 .bf16) (x y : Vec Ideal S512x1024 .f32) (r : Fin 512) (k : Fin 1024) : EReal :=
  (∑ j : Fin 2048, o (ix2 r j) * w (ix2 j k)) + x (ix2 r k) - y (ix2 r k)

section

variable (o : Vec Ideal S512x2048 .bf16) (w : Vec Ideal S2048x1024 .bf16) (x y : Vec Ideal S512x1024 .f32) (r : Fin 512) (k : Fin 1024)

theorem pay1_apply (i : S1x1024.Idx) : k0_pay1 (F := Ideal) i = 0 := by
  idx_vars i
  pointwise [k0_pay1]

theorem pay2_apply : k0_pay2 o w x y (ix2 r k) = errBlock o w x y r k := by
  pointwise [k0_pay2, errBlock]

theorem pay3_apply : k0_pay3 o w x y (ix2 r k) = errBlock o w x y r k * Ideal.ofBits .f32 0x3A000000#32 := by
  pointwise [k0_pay3, k0_pay2, errBlock]

theorem pay4_apply : k0_pay4 o w x y (ix2 r k) = errBlock o w x y r k * Ideal.ofBits .f32 0x3A000000#32 := by
  pointwise [k0_pay4, k0_pay3, k0_pay2, errBlock]

/-- What a block adds to the sum of the squares of column `k`. -/
def part : EReal := ∑ r : Fin 512, errBlock o w x y r k * errBlock o w x y r k

theorem pay5_apply (a : Vec Ideal S1x1024 .f32) (z : Fin 1) : k0_pay5 o w x y a (ix2 z k) = a (ix2 z k) + part o w x y k := by
  pointwise [k0_pay5, k0_pay2, part, errBlock]

end

theorem idx0 : ∀ t : Fin cfg0.N, win0_0.index t = ![t.val % 16, 0] := by decide +kernel

theorem idx1 : ∀ t : Fin cfg0.N, win0_1.index t = ![0, t.val / 16] := by decide +kernel

theorem idx2 : ∀ t : Fin cfg0.N, win0_2.index t = ![t.val % 16, t.val / 16] := by decide +kernel

theorem idx3 : ∀ t : Fin cfg0.N, win0_3.index t = ![t.val % 16, t.val / 16] := by decide +kernel

theorem idx4 : ∀ t : Fin cfg0.N, win0_4.index t = ![t.val % 16, t.val / 16] := by decide +kernel

theorem idx5 : ∀ t : Fin cfg0.N, win0_5.index t = ![t.val % 16, t.val / 16] := by decide +kernel

theorem idx6 : ∀ t : Fin cfg0.N, win0_6.index t = ![0, t.val / 16] := by decide +kernel

theorem iblk0 (c : Dev nD) (t : Fin cfg0.N) (r : Fin 512) (k : Fin 2048) (R : Fin 8192) (hR : R.val = t.val % 16 * 512 + r.val) :
    iblk m c 0 t (ix2 r k) = (m ((c : Thread nD τ).loc main_arg0)) (ix2 R k) := by
  rw [← V_main_arg0 m c]
  blk_ext [iblk, idx0 t]

theorem iblk1 (c : Dev nD) (t : Fin cfg0.N) (j : Fin 2048) (k : Fin 1024) (K : Fin 2048) (hK : K.val = t.val / 16 * 1024 + k.val) :
    iblk m c 1 t (ix2 j k) = (m ((c : Thread nD τ).loc main_arg1)) (ix2 j K) := by
  rw [← V_main_arg1 m c]
  blk_ext [iblk, idx1 t]

theorem iblk2 (c : Dev nD) (t : Fin cfg0.N) (r : Fin 512) (k : Fin 1024) (R : Fin 8192) (K : Fin 2048)
    (hR : R.val = t.val % 16 * 512 + r.val) (hK : K.val = t.val / 16 * 1024 + k.val) :
    iblk m c 2 t (ix2 r k) = (m ((c : Thread nD τ).loc main_arg2)) (ix2 R K) := by
  rw [← V_main_arg2 m c]
  blk_ext [iblk, idx2 t]

theorem iblk3 (c : Dev nD) (t : Fin cfg0.N) (r : Fin 512) (k : Fin 1024) (R : Fin 8192) (K : Fin 2048)
    (hR : R.val = t.val % 16 * 512 + r.val) (hK : K.val = t.val / 16 * 1024 + k.val) :
    iblk m c 3 t (ix2 r k) = (m ((c : Thread nD τ).loc main_arg3)) (ix2 R K) := by
  rw [← V_main_arg3 m c]
  blk_ext [iblk, idx3 t]

section

variable (o : Vec Ideal S8192x2048 .bf16) (w : Vec Ideal S2048x2048 .bf16) (x y : Vec Ideal S8192x2048 .f32)

/-- The error of an entry. -/
def err (R : Fin 8192) (K : Fin 2048) : EReal := x (ix2 R K) + (∑ j : Fin 2048, o (ix2 R j) * w (ix2 j K)) - y (ix2 R K)

/-- The gradient of the loss. -/
def dh (i : S8192x2048.Idx) : EReal := err o w x y (i 0) (i 1) * Ideal.ofBits .f32 0x3A000000#32

/-- The sums of the squares of the columns. -/
def cols (i : S1x2048.Idx) : EReal := ∑ R : Fin 8192, err o w x y R (i 1) * err o w x y R (i 1)

/-- The loss. -/
def loss (_ : S_.Idx) : EReal := Ideal.ofBits .f32 0x3F000000#32
  * ∑ R : Fin 8192, Ideal.div (∑ K : Fin 2048, err o w x y R K * err o w x y R K) (Ideal.ofBits .f32 0x45000000#32)

end

theorem err_eq (c : Dev nD) (t : Fin cfg0.N) (r : Fin 512) (k : Fin 1024) (R : Fin 8192) (K : Fin 2048)
    (hR : R.val = t.val % 16 * 512 + r.val) (hK : K.val = t.val / 16 * 1024 + k.val) :
    errBlock (iblk m c 0 t) (iblk m c 1 t) (iblk m c 2 t) (iblk m c 3 t) r k = err (m ((c : Thread nD τ).loc main_arg0)) (m ((c : Thread nD τ).loc main_arg1)) (m ((c : Thread nD τ).loc main_arg2)) (m ((c : Thread nD τ).loc main_arg3)) R K := by
  unfold errBlock err
  refine congrArg₂ (· - ·) ((add_comm _ _).trans ?_) (iblk3 m c t r k R K hR hK)
  exact congrArg₂ (· + ·) (iblk2 m c t r k R K hR hK)
    (Finset.sum_congr rfl fun j _ => congrArg₂ (· * ·) (iblk0 m c t r j R hR) (iblk1 m c t j k K hK))

/-- What point `t` adds to the sums of the squares. -/
def term (c : Dev nD) (t : Fin cfg0.N) (i : S1x1024.Idx) : Elt Ideal .f32 :=
  part (iblk m c 0 t) (iblk m c 1 t) (iblk m c 2 t) (iblk m c 3 t) (i 1)

theorem out_first (c : Dev nD) (t : Fin cfg0.N) (r : Fin 512) (k : Fin 1024) : (outsAt0 m c t.val t.isLt).1 (ix2 r k)
    = errBlock (iblk m c 0 t) (iblk m c 1 t) (iblk m c 2 t) (iblk m c 3 t) r k * Ideal.ofBits .f32 0x3A000000#32 := by
  by_cases h : t.val % 16 = 0
  · rw [outsAt0_A m c t h]
    frame_out
    rw [pay3_apply]
  · rw [outsAt0_B m c t h]
    frame_out
    rw [pay3_apply]

theorem out_second (c : Dev nD) (t : Fin cfg0.N) (r : Fin 512) (k : Fin 1024) : (outsAt0 m c t.val t.isLt).2.1 (ix2 r k)
    = errBlock (iblk m c 0 t) (iblk m c 1 t) (iblk m c 2 t) (iblk m c 3 t) r k * Ideal.ofBits .f32 0x3A000000#32 := by
  by_cases h : t.val % 16 = 0
  · rw [outsAt0_A m c t h]
    frame_out
    rw [pay4_apply]
  · rw [outsAt0_B m c t h]
    frame_out
    rw [pay4_apply]

theorem acc_reset (c : Dev nD) (t : Fin cfg0.N) (h : t.val % 16 = 0) (i : S1x1024.Idx) :
    (outsAt0 m c t.val t.isLt).2.2 i = 0 + term m c t i := by
  rw [outsAt0_A m c t h]
  frame_out
  try simp only [read_unread_whole]
  idx_vars i
  rw [pay5_apply, pay1_apply]
  rfl

theorem acc_step (c : Dev nD) (t : Fin cfg0.N) (h : ¬t.val % 16 = 0) (i : S1x1024.Idx) :
    (outsAt0 m c t.val t.isLt).2.2 i
      = (outsAt0 m c (t.val - 1) (Nat.lt_of_le_of_lt (Nat.sub_le _ _) t.isLt)).2.2 i + term m c t i := by
  rw [outsAt0_B m c t h]
  frame_out
  try simp only [read_unread_whole]
  idx_vars i
  rw [pay5_apply]
  rfl

theorem final_dh (c : Dev nD) : (dats m 0 c).arrAt 4 cfg0.N = dh (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  idx_vars y
  rw [out_first m c t]
  obtain ⟨a, b, he, ha, hb⟩ : ∃ (a : Fin 8192) (b : Fin 2048),
      ((View.whole main_v0_0).slice (win0_4.rect t)).emb (ix2 y0 y1) = ix2 a b
      ∧ a.val = t.val % 16 * 512 + y0.val ∧ b.val = t.val / 16 * 1024 + y1.val := by
    refine ⟨_, _, eq_ix2 _, ?_, ?_⟩
    · blk_simp [idx4 t]
    · blk_simp [idx4 t]
  rw [he]
  exact congrArg (· * _) (err_eq m c t y0 y1 a b ha hb)

theorem final_dhb (c : Dev nD) : (dats m 0 c).arrAt 5 cfg0.N = dh (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  rw [out_second m c t]
  obtain ⟨a, b, he, ha, hb⟩ : ∃ (a : Fin 8192) (b : Fin 2048),
      ((View.whole main_v0_1).slice (win0_5.rect t)).emb (ix2 y0 y1) = ix2 a b
      ∧ a.val = t.val % 16 * 512 + y0.val ∧ b.val = t.val / 16 * 1024 + y1.val := by
    refine ⟨_, _, eq_ix2 _, ?_, ?_⟩
    · blk_simp [idx5 t]
    · blk_simp [idx5 t]
  rw [he]
  exact congrArg (· * _) (err_eq m c t y0 y1 a b ha hb)

theorem final_cols (c : Dev nD) : (dats m 0 c).arrAt 6 cfg0.N = cols (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  idx_vars y
  have h3 := (flush0_6 t).mp hf
  rw [Pipeline.eq_sum_fin_of_reset_step_apply_of_flush (fun n h => (outsAt0 m c n h).2.2) 16 (fun _ => 0)
    (term m c) (acc_reset m c) (acc_step m c) t h3, zero_add]
  obtain ⟨a, b, he, hb⟩ : ∃ (a : Fin 1) (b : Fin 2048),
      ((View.whole main_v0_2).slice (win0_6.rect t)).emb (ix2 y0 y1) = ix2 a b ∧ b.val = t.val / 16 * 1024 + y1.val := by
    refine ⟨_, _, eq_ix2 _, ?_⟩
    blk_simp [idx6 t]
  rw [he]
  unfold cols term part
  have ht : t.val < 32 := t.isLt
  refine Fin.sum_mul_add_congr fun s r hl => ?_
  exact congrArg (fun e : EReal => e * e) (err_eq m c _ r y1 ⟨_, hl⟩ b (by simp only; omega) (by simp only; omega))

theorem tail_eq (c : Dev nD) : Pipeline.afterTail₀ cfgs (dats m) 0 (V0 m) [hostOps1] c main_v2 = loss (m ((c : Thread nD τ).loc main_arg0)) (m ((c : Thread nD τ).loc main_arg1)) (m ((c : Thread nD τ).loc main_arg2)) (m ((c : Thread nD τ).loc main_arg3)) := by
  have h6 := (Pipeline.withArrays_arr (cfgs 0).spec winFacts0.arr_inj c (V0 m c) (fun w => (dats m 0 c).arrAt w (cfgs 0).N) 6).trans (final_cols m c)
  unfold Pipeline.afterTail₀
  show StableHlo.after hostOps1 _ _ = _
  revert h6
  generalize Pipeline.withArrays (cfgs 0).spec c (V0 m c) (fun w => (dats m 0 c).arrAt w (cfgs 0).N) = V
  intro h6
  have h6 : V (Proc.devRef .tc main_v0_2) = _ := h6
  after_results_simp
  rw [h6]
  funext i
  refine Eq.trans ?_ (loss_form _ fun R => Finset.sum_nonneg fun K _ => sq_nonneg _)
  rw [Finset.sum_comm]
  pointwise [cols]
  exact congrArg _ (Fin.sum_univ_one _)

theorem algebraic : Cert.algebraic_Kernel13Ideal_Reference13Ideal := by
  intro m g m' g' _ hargs
  refine ⟨fun c => loss (m ((c : Thread Cert.Kernel13Ideal.nD Cert.Kernel13Ideal.τ).loc Cert.Kernel13Ideal.main_arg0)) (m ((c : Thread Cert.Kernel13Ideal.nD Cert.Kernel13Ideal.τ).loc Cert.Kernel13Ideal.main_arg1)) (m ((c : Thread Cert.Kernel13Ideal.nD Cert.Kernel13Ideal.τ).loc Cert.Kernel13Ideal.main_arg2)) (m ((c : Thread Cert.Kernel13Ideal.nD Cert.Kernel13Ideal.τ).loc Cert.Kernel13Ideal.main_arg3)),
    fun c => dh (m ((c : Thread Cert.Kernel13Ideal.nD Cert.Kernel13Ideal.τ).loc Cert.Kernel13Ideal.main_arg0)) (m ((c : Thread Cert.Kernel13Ideal.nD Cert.Kernel13Ideal.τ).loc Cert.Kernel13Ideal.main_arg1)) (m ((c : Thread Cert.Kernel13Ideal.nD Cert.Kernel13Ideal.τ).loc Cert.Kernel13Ideal.main_arg2)) (m ((c : Thread Cert.Kernel13Ideal.nD Cert.Kernel13Ideal.τ).loc Cert.Kernel13Ideal.main_arg3)),
    fun c => dh (m ((c : Thread Cert.Kernel13Ideal.nD Cert.Kernel13Ideal.τ).loc Cert.Kernel13Ideal.main_arg0)) (m ((c : Thread Cert.Kernel13Ideal.nD Cert.Kernel13Ideal.τ).loc Cert.Kernel13Ideal.main_arg1)) (m ((c : Thread Cert.Kernel13Ideal.nD Cert.Kernel13Ideal.τ).loc Cert.Kernel13Ideal.main_arg2)) (m ((c : Thread Cert.Kernel13Ideal.nD Cert.Kernel13Ideal.τ).loc Cert.Kernel13Ideal.main_arg3)), ?_, ?_⟩
  · refine (θ_run _ _ _).mono (fun r h c => ?_) (θ_run_and (Cert.Kernel13Ideal.Gen.run_main m g) (Cert.Kernel13Ideal.Gen.unchanged m g))
    obtain ⟨h, hk⟩ := h
    exact ⟨((h c).2 main_v2 (Pipeline.mem_restRefs_of main_v2 (by decide) (by decide))).trans (tail_eq m c),
      ((h c).1 4).trans (final_dh m c), ((h c).1 5).trans (final_dhb m c), hk c⟩
  · refine (θ_run _ _ _).mono (fun r h c => ?_) (Cert.Reference13Ideal.Value.run m' g')
    obtain ⟨h0, h1, h2, h4⟩ := h c
    obtain ⟨a0, a1, a2, a3⟩ := hargs c
    rw [a0, a1, a2, a3] at h0 h1 h2
    refine ⟨h0.trans ?_, h1.trans ?_, h2.trans ?_, h4⟩
    · funext i
      pointwise [loss, err]
    · funext i
      idx_vars i
      refine Eq.trans ?_ (grad_form _).symm
      pointwise [dh, err]
    · funext i
      idx_vars i
      refine Eq.trans ?_ (grad_form _).symm
      pointwise [dh, err]

end Cert.Kernel13Ideal.Loss

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Attn.Run
public import proofs.«01_k».proof.Proof.Attn.Same
public import proofs.«01_k».proof.Proof.Attn.Tie
public import proofs.«01_k».proof.Proof.Products.ColsTie
public import proofs.«01_k».proof.Proof.Products.SlabsTie
public import proofs.«01_k».proof.Proof.Products.NormATie
public import proofs.«01_k».proof.Proof.Products.NormBTie
public import proofs.«01_k».proof.Proof.Products.OutX
public import proofs.«01_k».proof.Proof.Products.OutW
public import proofs.«01_k».proof.Proof.Products.InB
public import proofs.«01_k».proof.Proof.Products.InA
public import proofs.«01_k».proof.Proof.Products.NormF
public import proofs.«01_k».proof.Proof.Products.OutNorm
public import proofs.«01_k».proof.Proof.Products.Optimiser
public import proofs.«01_k».proof.Proof.Products.Loss
public import Idealize.ShloMosaic.Adequacy
public import Idealize.ShloMosaic.Init
public import Idealize.ShloMosaic.Lib.Quiescent

@[expose] public section

noncomputable section

namespace Cert.Proof

open Idealize.ShloMosaic Idealize.SL.Sem

/-- The ideal kernel's frame: the run over the extended reals. -/
theorem frame_kernelIdeal : Cert.quiescent_KernelIdeal := fun m ρ _ =>
  Cert.KernelIdeal.Attn.frame_any (F := Ideal) m ρ

/-- The kernel's frame: the two programs have one text, so the same run over the machine's words. -/
theorem frame_kernel : Cert.quiescent_Kernel := fun m ρ _ => Cert.KernelIdeal.Attn.frame_bits m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_reference10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem frame_reference11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

theorem frame_reference12 : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem frame_reference13 : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.facts,
    frame_kernel, frame_kernelIdeal, fun m ρ _ => frame_kernelIdeal m ρ trivial, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    trivial, Cert.Proof.AttnTie.algebraic,
    trivial, Cert.Kernel2Ideal.Product.algebraic,
    trivial, Cert.Kernel3Ideal.Product.algebraic,
    trivial, Cert.Kernel4Ideal.Product.algebraic,
    trivial, Cert.Kernel5Ideal.Product.algebraic,
    trivial, Cert.Kernel6Ideal.Product.algebraic,
    trivial, Cert.Kernel7Ideal.Product.algebraic,
    trivial, Cert.Kernel8Ideal.Product.algebraic,
    trivial, Cert.Kernel9Ideal.Product.algebraic,
    trivial, Cert.Kernel10Ideal.Product.algebraic,
    trivial, Cert.Kernel11Ideal.Product.algebraic,
    trivial, Cert.Kernel12Ideal.Step.algebraic,
    trivial, Cert.Kernel13Ideal.Loss.algebraic⟩

end Cert.Proof

end
